-- ==== Defs.lean ====
def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WMix (m : (ℓ : Loc Cert.WMix.nD Cert.WMix.τ Cert.WMix.sig) → Buf (Elt Bits) ℓ) : Prop :=
  True

def Pre_WMixIdeal (m : (ℓ : Loc Cert.WMixIdeal.nD Cert.WMixIdeal.τ Cert.WMixIdeal.sig) → Buf (Elt Ideal) ℓ) : Prop :=
  True

def Pre_WMixRefIdeal (m : (ℓ : Loc Cert.WMixRefIdeal.nD Cert.WMixRefIdeal.τ Cert.WMixRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_UpLast (m : (ℓ : Loc Cert.UpLast.nD Cert.UpLast.τ Cert.UpLast.sig) → Buf (Elt Bits) ℓ) : Prop :=
  True

def Pre_UpLastIdeal (m : (ℓ : Loc Cert.UpLastIdeal.nD Cert.UpLastIdeal.τ Cert.UpLastIdeal.sig) → Buf (Elt Ideal) ℓ) : Prop :=
  True

def Pre_UpLastRefIdeal (m : (ℓ : Loc Cert.UpLastRefIdeal.nD Cert.UpLastRefIdeal.τ Cert.UpLastRefIdeal.sig) → Buf (Elt Ideal) ℓ) : Prop :=
  True

def Pre_FfSkip (m : (ℓ : Loc Cert.FfSkip.nD Cert.FfSkip.τ Cert.FfSkip.sig) → Buf (Elt Bits) ℓ) : Prop :=
  True

def Pre_FfSkipIdeal (m : (ℓ : Loc Cert.FfSkipIdeal.nD Cert.FfSkipIdeal.τ Cert.FfSkipIdeal.sig) → Buf (Elt Ideal) ℓ) : Prop :=
  True

def Pre_FfSkipRefIdeal (m : (ℓ : Loc Cert.FfSkipRefIdeal.nD Cert.FfSkipRefIdeal.τ Cert.FfSkipRefIdeal.sig) → Buf (Elt Ideal) ℓ) : Prop :=
  True

def Pre_InLat (m : (ℓ : Loc Cert.InLat.nD Cert.InLat.τ Cert.InLat.sig) → Buf (Elt Bits) ℓ) : Prop :=
  True

def Pre_InLatIdeal (m : (ℓ : Loc Cert.InLatIdeal.nD Cert.InLatIdeal.τ Cert.InLatIdeal.sig) → Buf (Elt Ideal) ℓ) : Prop :=
  True

def Pre_InLatRefIdeal (m : (ℓ : Loc Cert.InLatRefIdeal.nD Cert.InLatRefIdeal.τ Cert.InLatRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpRefIdeal (m : (ℓ : Loc Cert.AdUpRefIdeal.nD Cert.AdUpRefIdeal.τ Cert.AdUpRefIdeal.sig) → Buf (Elt Ideal) ℓ) : Prop :=
  True

def Pre_AdMix (m : (ℓ : Loc Cert.AdMix.nD Cert.AdMix.τ Cert.AdMix.sig) → Buf (Elt Bits) ℓ) : Prop :=
  True

def Pre_AdMixIdeal (m : (ℓ : Loc Cert.AdMixIdeal.nD Cert.AdMixIdeal.τ Cert.AdMixIdeal.sig) → Buf (Elt Ideal) ℓ) : Prop :=
  True

def Pre_AdMixRefIdeal (m : (ℓ : Loc Cert.AdMixRefIdeal.nD Cert.AdMixRefIdeal.τ Cert.AdMixRefIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownRefIdeal (m : (ℓ : Loc Cert.AdDownRefIdeal.nD Cert.AdDownRefIdeal.τ Cert.AdDownRefIdeal.sig) → Buf (Elt Ideal) ℓ) : Prop :=
  True

def Pre_AdRep (m : (ℓ : Loc Cert.AdRep.nD Cert.AdRep.τ Cert.AdRep.sig) → Buf (Elt Bits) ℓ) : Prop :=
  True

def Pre_AdRepIdeal (m : (ℓ : Loc Cert.AdRepIdeal.nD Cert.AdRepIdeal.τ Cert.AdRepIdeal.sig) → Buf (Elt Ideal) ℓ) : Prop :=
  True

def Pre_AdRepRefIdeal (m : (ℓ : Loc Cert.AdRepRefIdeal.nD Cert.AdRepRefIdeal.τ Cert.AdRepRefIdeal.sig) → Buf (Elt Ideal) ℓ) : Prop :=
  True

def Pre_AdConv (m : (ℓ : Loc Cert.AdConv.nD Cert.AdConv.τ Cert.AdConv.sig) → Buf (Elt Bits) ℓ) : Prop :=
  True

def Pre_AdConvIdeal (m : (ℓ : Loc Cert.AdConvIdeal.nD Cert.AdConvIdeal.τ Cert.AdConvIdeal.sig) → Buf (Elt Ideal) ℓ) : Prop :=
  True

def Pre_AdConvRefIdeal (m : (ℓ : Loc Cert.AdConvRefIdeal.nD Cert.AdConvRefIdeal.τ Cert.AdConvRefIdeal.sig) → Buf (Elt Ideal) ℓ) : Prop :=
  True

def Pre_AdBias (m : (ℓ : Loc Cert.AdBias.nD Cert.AdBias.τ Cert.AdBias.sig) → Buf (Elt Bits) ℓ) : Prop :=
  True

def Pre_AdBiasIdeal (m : (ℓ : Loc Cert.AdBiasIdeal.nD Cert.AdBiasIdeal.τ Cert.AdBiasIdeal.sig) → Buf (Elt Ideal) ℓ) : Prop :=
  True

def Pre_AdBiasRefIdeal (m : (ℓ : Loc Cert.AdBiasRefIdeal.nD Cert.AdBiasRefIdeal.τ Cert.AdBiasRefIdeal.sig) → Buf (Elt Ideal) ℓ) : Prop :=
  True

def Pre_AdMod (m : (ℓ : Loc Cert.AdMod.nD Cert.AdMod.τ Cert.AdMod.sig) → Buf (Elt Bits) ℓ) : Prop :=
  True

def Pre_AdModIdeal (m : (ℓ : Loc Cert.AdModIdeal.nD Cert.AdModIdeal.τ Cert.AdModIdeal.sig) → Buf (Elt Ideal) ℓ) : Prop :=
  True

def Pre_AdModRefIdeal (m : (ℓ : Loc Cert.AdModRefIdeal.nD Cert.AdModRefIdeal.τ Cert.AdModRefIdeal.sig) → Buf (Elt Ideal) ℓ) : Prop :=
  True

def Pre_AdCtx (m : (ℓ : Loc Cert.AdCtx.nD Cert.AdCtx.τ Cert.AdCtx.sig) → Buf (Elt Bits) ℓ) : Prop :=
  True

def Pre_AdCtxIdeal (m : (ℓ : Loc Cert.AdCtxIdeal.nD Cert.AdCtxIdeal.τ Cert.AdCtxIdeal.sig) → Buf (Elt Ideal) ℓ) : Prop :=
  True

def Pre_AdCtxRefIdeal (m : (ℓ : Loc Cert.AdCtxRefIdeal.nD Cert.AdCtxRefIdeal.τ Cert.AdCtxRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_LbFwd (m : (ℓ : Loc Cert.LbFwd.nD Cert.LbFwd.τ Cert.LbFwd.sig) → Buf (Elt Bits) ℓ) : Prop :=
  True

def Pre_LbFwdIdeal (m : (ℓ : Loc Cert.LbFwdIdeal.nD Cert.LbFwdIdeal.τ Cert.LbFwdIdeal.sig) → Buf (Elt Ideal) ℓ) : Prop :=
  True

def Pre_LbFwdRefIdeal (m : (ℓ : Loc Cert.LbFwdRefIdeal.nD Cert.LbFwdRefIdeal.τ Cert.LbFwdRefIdeal.sig) → Buf (Elt Ideal) ℓ) : Prop :=
  True

def Pre_LbBwd (m : (ℓ : Loc Cert.LbBwd.nD Cert.LbBwd.τ Cert.LbBwd.sig) → Buf (Elt Bits) ℓ) : Prop :=
  True

def Pre_LbBwdIdeal (m : (ℓ : Loc Cert.LbBwdIdeal.nD Cert.LbBwdIdeal.τ Cert.LbBwdIdeal.sig) → Buf (Elt Ideal) ℓ) : Prop :=
  True

def Pre_LbBwdIdeal_finite [hPre_finite : Cert.Pre_finite.Facts] (m : (ℓ : Loc Cert.LbBwdIdeal.nD Cert.LbBwdIdeal.τ Cert.LbBwdIdeal.sig) → Buf (Elt Ideal) ℓ) : Prop :=
  ∀ c : Dev Cert.LbBwdIdeal.nD,
    (Cert.Pre_finite.fn (F := Ideal) (m ((c.tc : Thread Cert.LbBwdIdeal.nD Cert.LbBwdIdeal.τ).loc Cert.LbBwdIdeal.main_arg0)) (m ((c.tc : Thread Cert.LbBwdIdeal.nD Cert.LbBwdIdeal.τ).loc Cert.LbBwdIdeal.main_arg1))) = (fun _ => 1#1)

def Pre_LbBwdRefIdeal (m : (ℓ : Loc Cert.LbBwdRefIdeal.nD Cert.LbBwdRefIdeal.τ Cert.LbBwdRefIdeal.sig) → Buf (Elt Ideal) ℓ) : Prop :=
  True

def Pre_LbBwdRefIdeal_finite [hPre_finite : Cert.Pre_finite.Facts] (m : (ℓ : Loc Cert.LbBwdRefIdeal.nD Cert.LbBwdRefIdeal.τ Cert.LbBwdRefIdeal.sig) → Buf (Elt Ideal) ℓ) : Prop :=
  ∀ c : Dev Cert.LbBwdRefIdeal.nD,
    (Cert.Pre_finite.fn (F := Ideal) (m ((c.tc : Thread Cert.LbBwdRefIdeal.nD Cert.LbBwdRefIdeal.τ).loc Cert.LbBwdRefIdeal.main_arg0)) (m ((c.tc : Thread Cert.LbBwdRefIdeal.nD Cert.LbBwdRefIdeal.τ).loc Cert.LbBwdRefIdeal.main_arg1))) = (fun _ => 1#1)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WMix [hWMix : Cert.WMix.Facts] : Prop :=
  ∀ (m : (ℓ : Loc Cert.WMix.nD Cert.WMix.τ Cert.WMix.sig) → Buf (Elt Bits) ℓ) (g : Dev Cert.WMix.nD → PrngReg), Pre_WMix m →
    θ_run (Cert.WMix.defs (F := Bits)) (onTc (τ := Cert.WMix.τ) (Cert.WMix.main (F := Bits))) ⟨m, fun _ => 0, g⟩ (fun r => (∀ c : Dev Cert.WMix.nD,
      r.2.mem ((c.tc : Thread Cert.WMix.nD Cert.WMix.τ).loc Cert.WMix.main_arg0) = m ((c.tc : Thread Cert.WMix.nD Cert.WMix.τ).loc Cert.WMix.main_arg0)
      ∧ r.2.mem ((c.tc : Thread Cert.WMix.nD Cert.WMix.τ).loc Cert.WMix.main_arg1) = m ((c.tc : Thread Cert.WMix.nD Cert.WMix.τ).loc Cert.WMix.main_arg1))
      ∧ r.2.sem = fun _ => 0)

def quiescent_WMixIdeal [hWMixIdeal : Cert.WMixIdeal.Facts] : Prop :=
  ∀ (m : (ℓ : Loc Cert.WMixIdeal.nD Cert.WMixIdeal.τ Cert.WMixIdeal.sig) → Buf (Elt Ideal) ℓ) (g : Dev Cert.WMixIdeal.nD → PrngReg), Pre_WMixIdeal m →
    θ_run (Cert.WMixIdeal.defs (F := Ideal)) (onTc (τ := Cert.WMixIdeal.τ) (Cert.WMixIdeal.main (F := Ideal))) ⟨m, fun _ => 0, g⟩ (fun r => (∀ c : Dev Cert.WMixIdeal.nD,
      r.2.mem ((c.tc : Thread Cert.WMixIdeal.nD Cert.WMixIdeal.τ).loc Cert.WMixIdeal.main_arg0) = m ((c.tc : Thread Cert.WMixIdeal.nD Cert.WMixIdeal.τ).loc Cert.WMixIdeal.main_arg0)
      ∧ r.2.mem ((c.tc : Thread Cert.WMixIdeal.nD Cert.WMixIdeal.τ).loc Cert.WMixIdeal.main_arg1) = m ((c.tc : Thread Cert.WMixIdeal.nD Cert.WMixIdeal.τ).loc Cert.WMixIdeal.main_arg1))
      ∧ r.2.sem = fun _ => 0)

def quiescent_WMixRefIdeal [hWMixRefIdeal : Cert.WMixRefIdeal.Facts] : Prop :=
  ∀ (m : (ℓ : Loc Cert.WMixRefIdeal.nD Cert.WMixRefIdeal.τ Cert.WMixRefIdeal.sig) → Buf (Elt Ideal) ℓ) (g : Dev Cert.WMixRefIdeal.nD → PrngReg), Pre_WMixRefIdeal m →
    θ_run (Cert.WMixRefIdeal.defs (F := Ideal)) (onTc (τ := Cert.WMixRefIdeal.τ) (Cert.WMixRefIdeal.main (F := Ideal))) ⟨m, fun _ => 0, g⟩ (fun r => (∀ c : Dev Cert.WMixRefIdeal.nD,
      r.2.mem ((c.tc : Thread Cert.WMixRefIdeal.nD Cert.WMixRefIdeal.τ).loc Cert.WMixRefIdeal.main_arg0) = m ((c.tc : Thread Cert.WMixRefIdeal.nD Cert.WMixRefIdeal.τ).loc Cert.WMixRefIdeal.main_arg0)
      ∧ r.2.mem ((c.tc : Thread Cert.WMixRefIdeal.nD Cert.WMixRefIdeal.τ).loc Cert.WMixRefIdeal.main_arg1) = m ((c.tc : Thread Cert.WMixRefIdeal.nD Cert.WMixRefIdeal.τ).loc Cert.WMixRefIdeal.main_arg1))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1)
      ∧ r.2.mem ((c.tc : Thread Cert.FfUp.nD Cert.FfUp.τ).loc Cert.FfUp.main_arg2) = m ((c.tc : Thread Cert.FfUp.nD Cert.FfUp.τ).loc Cert.FfUp.main_arg2)
      ∧ r.2.mem ((c.tc : Thread Cert.FfUp.nD Cert.FfUp.τ).loc Cert.FfUp.main_arg3) = m ((c.tc : Thread Cert.FfUp.nD Cert.FfUp.τ).loc Cert.FfUp.main_arg3)
      ∧ r.2.mem ((c.tc : Thread Cert.FfUp.nD Cert.FfUp.τ).loc Cert.FfUp.main_arg4) = m ((c.tc : Thread Cert.FfUp.nD Cert.FfUp.τ).loc Cert.FfUp.main_arg4)
      ∧ r.2.mem ((c.tc : Thread Cert.FfUp.nD Cert.FfUp.τ).loc Cert.FfUp.main_arg5) = m ((c.tc : Thread Cert.FfUp.nD Cert.FfUp.τ).loc Cert.FfUp.main_arg5)
      ∧ r.2.mem ((c.tc : Thread Cert.FfUp.nD Cert.FfUp.τ).loc Cert.FfUp.main_arg6) = m ((c.tc : Thread Cert.FfUp.nD Cert.FfUp.τ).loc Cert.FfUp.main_arg6))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
      ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2)
      ∧ r.2.mem ((c.tc : Thread Cert.FfUpIdeal.nD Cert.FfUpIdeal.τ).loc Cert.FfUpIdeal.main_arg3) = m ((c.tc : Thread Cert.FfUpIdeal.nD Cert.FfUpIdeal.τ).loc Cert.FfUpIdeal.main_arg3)
      ∧ r.2.mem ((c.tc : Thread Cert.FfUpIdeal.nD Cert.FfUpIdeal.τ).loc Cert.FfUpIdeal.main_arg4) = m ((c.tc : Thread Cert.FfUpIdeal.nD Cert.FfUpIdeal.τ).loc Cert.FfUpIdeal.main_arg4)
      ∧ r.2.mem ((c.tc : Thread Cert.FfUpIdeal.nD Cert.FfUpIdeal.τ).loc Cert.FfUpIdeal.main_arg5) = m ((c.tc : Thread Cert.FfUpIdeal.nD Cert.FfUpIdeal.τ).loc Cert.FfUpIdeal.main_arg5)
      ∧ r.2.mem ((c.tc : Thread Cert.FfUpIdeal.nD Cert.FfUpIdeal.τ).loc Cert.FfUpIdeal.main_arg6) = m ((c.tc : Thread Cert.FfUpIdeal.nD Cert.FfUpIdeal.τ).loc Cert.FfUpIdeal.main_arg6))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1)
      ∧ r.2.mem ((c.tc : Thread Cert.FfUpRefIdeal.nD Cert.FfUpRefIdeal.τ).loc Cert.FfUpRefIdeal.main_arg2) = m ((c.tc : Thread Cert.FfUpRefIdeal.nD Cert.FfUpRefIdeal.τ).loc Cert.FfUpRefIdeal.main_arg2)
      ∧ r.2.mem ((c.tc : Thread Cert.FfUpRefIdeal.nD Cert.FfUpRefIdeal.τ).loc Cert.FfUpRefIdeal.main_arg3) = m ((c.tc : Thread Cert.FfUpRefIdeal.nD Cert.FfUpRefIdeal.τ).loc Cert.FfUpRefIdeal.main_arg3)
      ∧ r.2.mem ((c.tc : Thread Cert.FfUpRefIdeal.nD Cert.FfUpRefIdeal.τ).loc Cert.FfUpRefIdeal.main_arg4) = m ((c.tc : Thread Cert.FfUpRefIdeal.nD Cert.FfUpRefIdeal.τ).loc Cert.FfUpRefIdeal.main_arg4)
      ∧ r.2.mem ((c.tc : Thread Cert.FfUpRefIdeal.nD Cert.FfUpRefIdeal.τ).loc Cert.FfUpRefIdeal.main_arg5) = m ((c.tc : Thread Cert.FfUpRefIdeal.nD Cert.FfUpRefIdeal.τ).loc Cert.FfUpRefIdeal.main_arg5)
      ∧ r.2.mem ((c.tc : Thread Cert.FfUpRefIdeal.nD Cert.FfUpRefIdeal.τ).loc Cert.FfUpRefIdeal.main_arg6) = m ((c.tc : Thread Cert.FfUpRefIdeal.nD Cert.FfUpRefIdeal.τ).loc Cert.FfUpRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2)
      ∧ r.2.mem ((c.tc : Thread Cert.UpFwd.nD Cert.UpFwd.τ).loc Cert.UpFwd.main_arg3) = m ((c.tc : Thread Cert.UpFwd.nD Cert.UpFwd.τ).loc Cert.UpFwd.main_arg3)
      ∧ r.2.mem ((c.tc : Thread Cert.UpFwd.nD Cert.UpFwd.τ).loc Cert.UpFwd.main_arg4) = m ((c.tc : Thread Cert.UpFwd.nD Cert.UpFwd.τ).loc Cert.UpFwd.main_arg4))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
      ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3)
      ∧ r.2.mem ((c.tc : Thread Cert.UpFwdIdeal.nD Cert.UpFwdIdeal.τ).loc Cert.UpFwdIdeal.main_arg4) = m ((c.tc : Thread Cert.UpFwdIdeal.nD Cert.UpFwdIdeal.τ).loc Cert.UpFwdIdeal.main_arg4))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2)
      ∧ r.2.mem ((c.tc : Thread Cert.UpFwdRefIdeal.nD Cert.UpFwdRefIdeal.τ).loc Cert.UpFwdRefIdeal.main_arg3) = m ((c.tc : Thread Cert.UpFwdRefIdeal.nD Cert.UpFwdRefIdeal.τ).loc Cert.UpFwdRefIdeal.main_arg3)
      ∧ r.2.mem ((c.tc : Thread Cert.UpFwdRefIdeal.nD Cert.UpFwdRefIdeal.τ).loc Cert.UpFwdRefIdeal.main_arg4) = m ((c.tc : Thread Cert.UpFwdRefIdeal.nD Cert.UpFwdRefIdeal.τ).loc Cert.UpFwdRefIdeal.main_arg4))
      ∧ r.2.sem = fun _ => 0)

def quiescent_UpLast [hUpLast : Cert.UpLast.Facts] : Prop :=
  ∀ (m : (ℓ : Loc Cert.UpLast.nD Cert.UpLast.τ Cert.UpLast.sig) → Buf (Elt Bits) ℓ) (g : Dev Cert.UpLast.nD → PrngReg), Pre_UpLast m →
    θ_run (Cert.UpLast.defs (F := Bits)) (onTc (τ := Cert.UpLast.τ) (Cert.UpLast.main (F := Bits))) ⟨m, fun _ => 0, g⟩ (fun r => (∀ c : Dev Cert.UpLast.nD,
      r.2.mem ((c.tc : Thread Cert.UpLast.nD Cert.UpLast.τ).loc Cert.UpLast.main_arg0) = m ((c.tc : Thread Cert.UpLast.nD Cert.UpLast.τ).loc Cert.UpLast.main_arg0)
      ∧ r.2.mem ((c.tc : Thread Cert.UpLast.nD Cert.UpLast.τ).loc Cert.UpLast.main_arg1) = m ((c.tc : Thread Cert.UpLast.nD Cert.UpLast.τ).loc Cert.UpLast.main_arg1)
      ∧ r.2.mem ((c.tc : Thread Cert.UpLast.nD Cert.UpLast.τ).loc Cert.UpLast.main_arg2) = m ((c.tc : Thread Cert.UpLast.nD Cert.UpLast.τ).loc Cert.UpLast.main_arg2)
      ∧ r.2.mem ((c.tc : Thread Cert.UpLast.nD Cert.UpLast.τ).loc Cert.UpLast.main_arg3) = m ((c.tc : Thread Cert.UpLast.nD Cert.UpLast.τ).loc Cert.UpLast.main_arg3)
      ∧ r.2.mem ((c.tc : Thread Cert.UpLast.nD Cert.UpLast.τ).loc Cert.UpLast.main_arg4) = m ((c.tc : Thread Cert.UpLast.nD Cert.UpLast.τ).loc Cert.UpLast.main_arg4))
      ∧ r.2.sem = fun _ => 0)

def quiescent_UpLastIdeal [hUpLastIdeal : Cert.UpLastIdeal.Facts] : Prop :=
  ∀ (m : (ℓ : Loc Cert.UpLastIdeal.nD Cert.UpLastIdeal.τ Cert.UpLastIdeal.sig) → Buf (Elt Ideal) ℓ) (g : Dev Cert.UpLastIdeal.nD → PrngReg), Pre_UpLastIdeal m →
    θ_run (Cert.UpLastIdeal.defs (F := Ideal)) (onTc (τ := Cert.UpLastIdeal.τ) (Cert.UpLastIdeal.main (F := Ideal))) ⟨m, fun _ => 0, g⟩ (fun r => (∀ c : Dev Cert.UpLastIdeal.nD,
      r.2.mem ((c.tc : Thread Cert.UpLastIdeal.nD Cert.UpLastIdeal.τ).loc Cert.UpLastIdeal.main_arg0) = m ((c.tc : Thread Cert.UpLastIdeal.nD Cert.UpLastIdeal.τ).loc Cert.UpLastIdeal.main_arg0)
      ∧ r.2.mem ((c.tc : Thread Cert.UpLastIdeal.nD Cert.UpLastIdeal.τ).loc Cert.UpLastIdeal.main_arg1) = m ((c.tc : Thread Cert.UpLastIdeal.nD Cert.UpLastIdeal.τ).loc Cert.UpLastIdeal.main_arg1)
      ∧ r.2.mem ((c.tc : Thread Cert.UpLastIdeal.nD Cert.UpLastIdeal.τ).loc Cert.UpLastIdeal.main_arg2) = m ((c.tc : Thread Cert.UpLastIdeal.nD Cert.UpLastIdeal.τ).loc Cert.UpLastIdeal.main_arg2)
      ∧ r.2.mem ((c.tc : Thread Cert.UpLastIdeal.nD Cert.UpLastIdeal.τ).loc Cert.UpLastIdeal.main_arg3) = m ((c.tc : Thread Cert.UpLastIdeal.nD Cert.UpLastIdeal.τ).loc Cert.UpLastIdeal.main_arg3)
      ∧ r.2.mem ((c.tc : Thread Cert.UpLastIdeal.nD Cert.UpLastIdeal.τ).loc Cert.UpLastIdeal.main_arg4) = m ((c.tc : Thread Cert.UpLastIdeal.nD Cert.UpLastIdeal.τ).loc Cert.UpLastIdeal.main_arg4))
      ∧ r.2.sem = fun _ => 0)

def quiescent_UpLastRefIdeal [hUpLastRefIdeal : Cert.UpLastRefIdeal.Facts] : Prop :=
  ∀ (m : (ℓ : Loc Cert.UpLastRefIdeal.nD Cert.UpLastRefIdeal.τ Cert.UpLastRefIdeal.sig) → Buf (Elt Ideal) ℓ) (g : Dev Cert.UpLastRefIdeal.nD → PrngReg), Pre_UpLastRefIdeal m →
    θ_run (Cert.UpLastRefIdeal.defs (F := Ideal)) (onTc (τ := Cert.UpLastRefIdeal.τ) (Cert.UpLastRefIdeal.main (F := Ideal))) ⟨m, fun _ => 0, g⟩ (fun r => (∀ c : Dev Cert.UpLastRefIdeal.nD,
      r.2.mem ((c.tc : Thread Cert.UpLastRefIdeal.nD Cert.UpLastRefIdeal.τ).loc Cert.UpLastRefIdeal.main_arg0) = m ((c.tc : Thread Cert.UpLastRefIdeal.nD Cert.UpLastRefIdeal.τ).loc Cert.UpLastRefIdeal.main_arg0)
      ∧ r.2.mem ((c.tc : Thread Cert.UpLastRefIdeal.nD Cert.UpLastRefIdeal.τ).loc Cert.UpLastRefIdeal.main_arg1) = m ((c.tc : Thread Cert.UpLastRefIdeal.nD Cert.UpLastRefIdeal.τ).loc Cert.UpLastRefIdeal.main_arg1)
      ∧ r.2.mem ((c.tc : Thread Cert.UpLastRefIdeal.nD Cert.UpLastRefIdeal.τ).loc Cert.UpLastRefIdeal.main_arg2) = m ((c.tc : Thread Cert.UpLastRefIdeal.nD Cert.UpLastRefIdeal.τ).loc Cert.UpLastRefIdeal.main_arg2)
      ∧ r.2.mem ((c.tc : Thread Cert.UpLastRefIdeal.nD Cert.UpLastRefIdeal.τ).loc Cert.UpLastRefIdeal.main_arg3) = m ((c.tc : Thread Cert.UpLastRefIdeal.nD Cert.UpLastRefIdeal.τ).loc Cert.UpLastRefIdeal.main_arg3)
      ∧ r.2.mem ((c.tc : Thread Cert.UpLastRefIdeal.nD Cert.UpLastRefIdeal.τ).loc Cert.UpLastRefIdeal.main_arg4) = m ((c.tc : Thread Cert.UpLastRefIdeal.nD Cert.UpLastRefIdeal.τ).loc Cert.UpLastRefIdeal.main_arg4))
      ∧ r.2.sem = fun _ => 0)

def quiescent_FfSkip [hFfSkip : Cert.FfSkip.Facts] : Prop :=
  ∀ (m : (ℓ : Loc Cert.FfSkip.nD Cert.FfSkip.τ Cert.FfSkip.sig) → Buf (Elt Bits) ℓ) (g : Dev Cert.FfSkip.nD → PrngReg), Pre_FfSkip m →
    θ_run (Cert.FfSkip.defs (F := Bits)) (onTc (τ := Cert.FfSkip.τ) (Cert.FfSkip.main (F := Bits))) ⟨m, fun _ => 0, g⟩ (fun r => (∀ c : Dev Cert.FfSkip.nD,
      r.2.mem ((c.tc : Thread Cert.FfSkip.nD Cert.FfSkip.τ).loc Cert.FfSkip.main_arg0) = m ((c.tc : Thread Cert.FfSkip.nD Cert.FfSkip.τ).loc Cert.FfSkip.main_arg0)
      ∧ r.2.mem ((c.tc : Thread Cert.FfSkip.nD Cert.FfSkip.τ).loc Cert.FfSkip.main_arg1) = m ((c.tc : Thread Cert.FfSkip.nD Cert.FfSkip.τ).loc Cert.FfSkip.main_arg1)
      ∧ r.2.mem ((c.tc : Thread Cert.FfSkip.nD Cert.FfSkip.τ).loc Cert.FfSkip.main_arg2) = m ((c.tc : Thread Cert.FfSkip.nD Cert.FfSkip.τ).loc Cert.FfSkip.main_arg2)
      ∧ r.2.mem ((c.tc : Thread Cert.FfSkip.nD Cert.FfSkip.τ).loc Cert.FfSkip.main_arg3) = m ((c.tc : Thread Cert.FfSkip.nD Cert.FfSkip.τ).loc Cert.FfSkip.main_arg3)
      ∧ r.2.mem ((c.tc : Thread Cert.FfSkip.nD Cert.FfSkip.τ).loc Cert.FfSkip.main_arg4) = m ((c.tc : Thread Cert.FfSkip.nD Cert.FfSkip.τ).loc Cert.FfSkip.main_arg4)
      ∧ r.2.mem ((c.tc : Thread Cert.FfSkip.nD Cert.FfSkip.τ).loc Cert.FfSkip.main_arg5) = m ((c.tc : Thread Cert.FfSkip.nD Cert.FfSkip.τ).loc Cert.FfSkip.main_arg5)
      ∧ r.2.mem ((c.tc : Thread Cert.FfSkip.nD Cert.FfSkip.τ).loc Cert.FfSkip.main_arg6) = m ((c.tc : Thread Cert.FfSkip.nD Cert.FfSkip.τ).loc Cert.FfSkip.main_arg6))
      ∧ r.2.sem = fun _ => 0)

def quiescent_FfSkipIdeal [hFfSkipIdeal : Cert.FfSkipIdeal.Facts] : Prop :=
  ∀ (m : (ℓ : Loc Cert.FfSkipIdeal.nD Cert.FfSkipIdeal.τ Cert.FfSkipIdeal.sig) → Buf (Elt Ideal) ℓ) (g : Dev Cert.FfSkipIdeal.nD → PrngReg), Pre_FfSkipIdeal m →
    θ_run (Cert.FfSkipIdeal.defs (F := Ideal)) (onTc (τ := Cert.FfSkipIdeal.τ) (Cert.FfSkipIdeal.main (F := Ideal))) ⟨m, fun _ => 0, g⟩ (fun r => (∀ c : Dev Cert.FfSkipIdeal.nD,
      r.2.mem ((c.tc : Thread Cert.FfSkipIdeal.nD Cert.FfSkipIdeal.τ).loc Cert.FfSkipIdeal.main_arg0) = m ((c.tc : Thread Cert.FfSkipIdeal.nD Cert.FfSkipIdeal.τ).loc Cert.FfSkipIdeal.main_arg0)
      ∧ r.2.mem ((c.tc : Thread Cert.FfSkipIdeal.nD Cert.FfSkipIdeal.τ).loc Cert.FfSkipIdeal.main_arg1) = m ((c.tc : Thread Cert.FfSkipIdeal.nD Cert.FfSkipIdeal.τ).loc Cert.FfSkipIdeal.main_arg1)
      ∧ r.2.mem ((c.tc : Thread Cert.FfSkipIdeal.nD Cert.FfSkipIdeal.τ).loc Cert.FfSkipIdeal.main_arg2) = m ((c.tc : Thread Cert.FfSkipIdeal.nD Cert.FfSkipIdeal.τ).loc Cert.FfSkipIdeal.main_arg2)
      ∧ r.2.mem ((c.tc : Thread Cert.FfSkipIdeal.nD Cert.FfSkipIdeal.τ).loc Cert.FfSkipIdeal.main_arg3) = m ((c.tc : Thread Cert.FfSkipIdeal.nD Cert.FfSkipIdeal.τ).loc Cert.FfSkipIdeal.main_arg3)
      ∧ r.2.mem ((c.tc : Thread Cert.FfSkipIdeal.nD Cert.FfSkipIdeal.τ).loc Cert.FfSkipIdeal.main_arg4) = m ((c.tc : Thread Cert.FfSkipIdeal.nD Cert.FfSkipIdeal.τ).loc Cert.FfSkipIdeal.main_arg4)
      ∧ r.2.mem ((c.tc : Thread Cert.FfSkipIdeal.nD Cert.FfSkipIdeal.τ).loc Cert.FfSkipIdeal.main_arg5) = m ((c.tc : Thread Cert.FfSkipIdeal.nD Cert.FfSkipIdeal.τ).loc Cert.FfSkipIdeal.main_arg5)
      ∧ r.2.mem ((c.tc : Thread Cert.FfSkipIdeal.nD Cert.FfSkipIdeal.τ).loc Cert.FfSkipIdeal.main_arg6) = m ((c.tc : Thread Cert.FfSkipIdeal.nD Cert.FfSkipIdeal.τ).loc Cert.FfSkipIdeal.main_arg6))
      ∧ r.2.sem = fun _ => 0)

def quiescent_FfSkipRefIdeal [hFfSkipRefIdeal : Cert.FfSkipRefIdeal.Facts] : Prop :=
  ∀ (m : (ℓ : Loc Cert.FfSkipRefIdeal.nD Cert.FfSkipRefIdeal.τ Cert.FfSkipRefIdeal.sig) → Buf (Elt Ideal) ℓ) (g : Dev Cert.FfSkipRefIdeal.nD → PrngReg), Pre_FfSkipRefIdeal m →
    θ_run (Cert.FfSkipRefIdeal.defs (F := Ideal)) (onTc (τ := Cert.FfSkipRefIdeal.τ) (Cert.FfSkipRefIdeal.main (F := Ideal))) ⟨m, fun _ => 0, g⟩ (fun r => (∀ c : Dev Cert.FfSkipRefIdeal.nD,
      r.2.mem ((c.tc : Thread Cert.FfSkipRefIdeal.nD Cert.FfSkipRefIdeal.τ).loc Cert.FfSkipRefIdeal.main_arg0) = m ((c.tc : Thread Cert.FfSkipRefIdeal.nD Cert.FfSkipRefIdeal.τ).loc Cert.FfSkipRefIdeal.main_arg0)
      ∧ r.2.mem ((c.tc : Thread Cert.FfSkipRefIdeal.nD Cert.FfSkipRefIdeal.τ).loc Cert.FfSkipRefIdeal.main_arg1) = m ((c.tc : Thread Cert.FfSkipRefIdeal.nD Cert.FfSkipRefIdeal.τ).loc Cert.FfSkipRefIdeal.main_arg1)
      ∧ r.2.mem ((c.tc : Thread Cert.FfSkipRefIdeal.nD Cert.FfSkipRefIdeal.τ).loc Cert.FfSkipRefIdeal.main_arg2) = m ((c.tc : Thread Cert.FfSkipRefIdeal.nD Cert.FfSkipRefIdeal.τ).loc Cert.FfSkipRefIdeal.main_arg2)
      ∧ r.2.mem ((c.tc : Thread Cert.FfSkipRefIdeal.nD Cert.FfSkipRefIdeal.τ).loc Cert.FfSkipRefIdeal.main_arg3) = m ((c.tc : Thread Cert.FfSkipRefIdeal.nD Cert.FfSkipRefIdeal.τ).loc Cert.FfSkipRefIdeal.main_arg3)
      ∧ r.2.mem ((c.tc : Thread Cert.FfSkipRefIdeal.nD Cert.FfSkipRefIdeal.τ).loc Cert.FfSkipRefIdeal.main_arg4) = m ((c.tc : Thread Cert.FfSkipRefIdeal.nD Cert.FfSkipRefIdeal.τ).loc Cert.FfSkipRefIdeal.main_arg4)
      ∧ r.2.mem ((c.tc : Thread Cert.FfSkipRefIdeal.nD Cert.FfSkipRefIdeal.τ).loc Cert.FfSkipRefIdeal.main_arg5) = m ((c.tc : Thread Cert.FfSkipRefIdeal.nD Cert.FfSkipRefIdeal.τ).loc Cert.FfSkipRefIdeal.main_arg5)
      ∧ r.2.mem ((c.tc : Thread Cert.FfSkipRefIdeal.nD Cert.FfSkipRefIdeal.τ).loc Cert.FfSkipRefIdeal.main_arg6) = m ((c.tc : Thread Cert.FfSkipRefIdeal.nD Cert.FfSkipRefIdeal.τ).loc Cert.FfSkipRefIdeal.main_arg6))
      ∧ r.2.sem = fun _ => 0)

def quiescent_InLat [hInLat : Cert.InLat.Facts] : Prop :=
  ∀ (m : (ℓ : Loc Cert.InLat.nD Cert.InLat.τ Cert.InLat.sig) → Buf (Elt Bits) ℓ) (g : Dev Cert.InLat.nD → PrngReg), Pre_InLat m →
    θ_run (Cert.InLat.defs (F := Bits)) (onTc (τ := Cert.InLat.τ) (Cert.InLat.main (F := Bits))) ⟨m, fun _ => 0, g⟩ (fun r => (∀ c : Dev Cert.InLat.nD,
      r.2.mem ((c.tc : Thread Cert.InLat.nD Cert.InLat.τ).loc Cert.InLat.main_arg0) = m ((c.tc : Thread Cert.InLat.nD Cert.InLat.τ).loc Cert.InLat.main_arg0)
      ∧ r.2.mem ((c.tc : Thread Cert.InLat.nD Cert.InLat.τ).loc Cert.InLat.main_arg1) = m ((c.tc : Thread Cert.InLat.nD Cert.InLat.τ).loc Cert.InLat.main_arg1)
      ∧ r.2.mem ((c.tc : Thread Cert.InLat.nD Cert.InLat.τ).loc Cert.InLat.main_arg2) = m ((c.tc : Thread Cert.InLat.nD Cert.InLat.τ).loc Cert.InLat.main_arg2)
      ∧ r.2.mem ((c.tc : Thread Cert.InLat.nD Cert.InLat.τ).loc Cert.InLat.main_arg3) = m ((c.tc : Thread Cert.InLat.nD Cert.InLat.τ).loc Cert.InLat.main_arg3)
      ∧ r.2.mem ((c.tc : Thread Cert.InLat.nD Cert.InLat.τ).loc Cert.InLat.main_arg4) = m ((c.tc : Thread Cert.InLat.nD Cert.InLat.τ).loc Cert.InLat.main_arg4)
      ∧ r.2.mem ((c.tc : Thread Cert.InLat.nD Cert.InLat.τ).loc Cert.InLat.main_arg5) = m ((c.tc : Thread Cert.InLat.nD Cert.InLat.τ).loc Cert.InLat.main_arg5)
      ∧ r.2.mem ((c.tc : Thread Cert.InLat.nD Cert.InLat.τ).loc Cert.InLat.main_arg6) = m ((c.tc : Thread Cert.InLat.nD Cert.InLat.τ).loc Cert.InLat.main_arg6))
      ∧ r.2.sem = fun _ => 0)

def quiescent_InLatIdeal [hInLatIdeal : Cert.InLatIdeal.Facts] : Prop :=
  ∀ (m : (ℓ : Loc Cert.InLatIdeal.nD Cert.InLatIdeal.τ Cert.InLatIdeal.sig) → Buf (Elt Ideal) ℓ) (g : Dev Cert.InLatIdeal.nD → PrngReg), Pre_InLatIdeal m →
    θ_run (Cert.InLatIdeal.defs (F := Ideal)) (onTc (τ := Cert.InLatIdeal.τ) (Cert.InLatIdeal.main (F := Ideal))) ⟨m, fun _ => 0, g⟩ (fun r => (∀ c : Dev Cert.InLatIdeal.nD,
      r.2.mem ((c.tc : Thread Cert.InLatIdeal.nD Cert.InLatIdeal.τ).loc Cert.InLatIdeal.main_arg0) = m ((c.tc : Thread Cert.InLatIdeal.nD Cert.InLatIdeal.τ).loc Cert.InLatIdeal.main_arg0)
      ∧ r.2.mem ((c.tc : Thread Cert.InLatIdeal.nD Cert.InLatIdeal.τ).loc Cert.InLatIdeal.main_arg1) = m ((c.tc : Thread Cert.InLatIdeal.nD Cert.InLatIdeal.τ).loc Cert.InLatIdeal.main_arg1)
      ∧ r.2.mem ((c.tc : Thread Cert.InLatIdeal.nD Cert.InLatIdeal.τ).loc Cert.InLatIdeal.main_arg2) = m ((c.tc : Thread Cert.InLatIdeal.nD Cert.InLatIdeal.τ).loc Cert.InLatIdeal.main_arg2)
      ∧ r.2.mem ((c.tc : Thread Cert.InLatIdeal.nD Cert.InLatIdeal.τ).loc Cert.InLatIdeal.main_arg3) = m ((c.tc : Thread Cert.InLatIdeal.nD Cert.InLatIdeal.τ).loc Cert.InLatIdeal.main_arg3)
      ∧ r.2.mem ((c.tc : Thread Cert.InLatIdeal.nD Cert.InLatIdeal.τ).loc Cert.InLatIdeal.main_arg4) = m ((c.tc : Thread Cert.InLatIdeal.nD Cert.InLatIdeal.τ).loc Cert.InLatIdeal.main_arg4)
      ∧ r.2.mem ((c.tc : Thread Cert.InLatIdeal.nD Cert.InLatIdeal.τ).loc Cert.InLatIdeal.main_arg5) = m ((c.tc : Thread Cert.InLatIdeal.nD Cert.InLatIdeal.τ).loc Cert.InLatIdeal.main_arg5)
      ∧ r.2.mem ((c.tc : Thread Cert.InLatIdeal.nD Cert.InLatIdeal.τ).loc Cert.InLatIdeal.main_arg6) = m ((c.tc : Thread Cert.InLatIdeal.nD Cert.InLatIdeal.τ).loc Cert.InLatIdeal.main_arg6))
      ∧ r.2.sem = fun _ => 0)

def quiescent_InLatRefIdeal [hInLatRefIdeal : Cert.InLatRefIdeal.Facts] : Prop :=
  ∀ (m : (ℓ : Loc Cert.InLatRefIdeal.nD Cert.InLatRefIdeal.τ Cert.InLatRefIdeal.sig) → Buf (Elt Ideal) ℓ) (g : Dev Cert.InLatRefIdeal.nD → PrngReg), Pre_InLatRefIdeal m →
    θ_run (Cert.InLatRefIdeal.defs (F := Ideal)) (onTc (τ := Cert.InLatRefIdeal.τ) (Cert.InLatRefIdeal.main (F := Ideal))) ⟨m, fun _ => 0, g⟩ (fun r => (∀ c : Dev Cert.InLatRefIdeal.nD,
      r.2.mem ((c.tc : Thread Cert.InLatRefIdeal.nD Cert.InLatRefIdeal.τ).loc Cert.InLatRefIdeal.main_arg0) = m ((c.tc : Thread Cert.InLatRefIdeal.nD Cert.InLatRefIdeal.τ).loc Cert.InLatRefIdeal.main_arg0)
      ∧ r.2.mem ((c.tc : Thread Cert.InLatRefIdeal.nD Cert.InLatRefIdeal.τ).loc Cert.InLatRefIdeal.main_arg1) = m ((c.tc : Thread Cert.InLatRefIdeal.nD Cert.InLatRefIdeal.τ).loc Cert.InLatRefIdeal.main_arg1)
      ∧ r.2.mem ((c.tc : Thread Cert.InLatRefIdeal.nD Cert.InLatRefIdeal.τ).loc Cert.InLatRefIdeal.main_arg2) = m ((c.tc : Thread Cert.InLatRefIdeal.nD Cert.InLatRefIdeal.τ).loc Cert.InLatRefIdeal.main_arg2)
      ∧ r.2.mem ((c.tc : Thread Cert.InLatRefIdeal.nD Cert.InLatRefIdeal.τ).loc Cert.InLatRefIdeal.main_arg3) = m ((c.tc : Thread Cert.InLatRefIdeal.nD Cert.InLatRefIdeal.τ).loc Cert.InLatRefIdeal.main_arg3)
      ∧ r.2.mem ((c.tc : Thread Cert.InLatRefIdeal.nD Cert.InLatRefIdeal.τ).loc Cert.InLatRefIdeal.main_arg4) = m ((c.tc : Thread Cert.InLatRefIdeal.nD Cert.InLatRefIdeal.τ).loc Cert.InLatRefIdeal.main_arg4)
      ∧ r.2.mem ((c.tc : Thread Cert.InLatRefIdeal.nD Cert.InLatRefIdeal.τ).loc Cert.InLatRefIdeal.main_arg5) = m ((c.tc : Thread Cert.InLatRefIdeal.nD Cert.InLatRefIdeal.τ).loc Cert.InLatRefIdeal.main_arg5)
      ∧ r.2.mem ((c.tc : Thread Cert.InLatRefIdeal.nD Cert.InLatRefIdeal.τ).loc Cert.InLatRefIdeal.main_arg6) = m ((c.tc : Thread Cert.InLatRefIdeal.nD Cert.InLatRefIdeal.τ).loc Cert.InLatRefIdeal.main_arg6))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ r.2.sem = fun _ => 0)

def quiescent_AdUpRefIdeal [hAdUpRefIdeal : Cert.AdUpRefIdeal.Facts] : Prop :=
  ∀ (m : (ℓ : Loc Cert.AdUpRefIdeal.nD Cert.AdUpRefIdeal.τ Cert.AdUpRefIdeal.sig) → Buf (Elt Ideal) ℓ) (g : Dev Cert.AdUpRefIdeal.nD → PrngReg), Pre_AdUpRefIdeal m →
    θ_run (Cert.AdUpRefIdeal.defs (F := Ideal)) (onTc (τ := Cert.AdUpRefIdeal.τ) (Cert.AdUpRefIdeal.main (F := Ideal))) ⟨m, fun _ => 0, g⟩ (fun r => (∀ c : Dev Cert.AdUpRefIdeal.nD,
      r.2.mem ((c.tc : Thread Cert.AdUpRefIdeal.nD Cert.AdUpRefIdeal.τ).loc Cert.AdUpRefIdeal.main_arg0) = m ((c.tc : Thread Cert.AdUpRefIdeal.nD Cert.AdUpRefIdeal.τ).loc Cert.AdUpRefIdeal.main_arg0)
      ∧ r.2.mem ((c.tc : Thread Cert.AdUpRefIdeal.nD Cert.AdUpRefIdeal.τ).loc Cert.AdUpRefIdeal.main_arg1) = m ((c.tc : Thread Cert.AdUpRefIdeal.nD Cert.AdUpRefIdeal.τ).loc Cert.AdUpRefIdeal.main_arg1)
      ∧ r.2.mem ((c.tc : Thread Cert.AdUpRefIdeal.nD Cert.AdUpRefIdeal.τ).loc Cert.AdUpRefIdeal.main_arg2) = m ((c.tc : Thread Cert.AdUpRefIdeal.nD Cert.AdUpRefIdeal.τ).loc Cert.AdUpRefIdeal.main_arg2)
      ∧ r.2.mem ((c.tc : Thread Cert.AdUpRefIdeal.nD Cert.AdUpRefIdeal.τ).loc Cert.AdUpRefIdeal.main_arg3) = m ((c.tc : Thread Cert.AdUpRefIdeal.nD Cert.AdUpRefIdeal.τ).loc Cert.AdUpRefIdeal.main_arg3))
      ∧ r.2.sem = fun _ => 0)

def quiescent_AdMix [hAdMix : Cert.AdMix.Facts] : Prop :=
  ∀ (m : (ℓ : Loc Cert.AdMix.nD Cert.AdMix.τ Cert.AdMix.sig) → Buf (Elt Bits) ℓ) (g : Dev Cert.AdMix.nD → PrngReg), Pre_AdMix m →
    θ_run (Cert.AdMix.defs (F := Bits)) (onTc (τ := Cert.AdMix.τ) (Cert.AdMix.main (F := Bits))) ⟨m, fun _ => 0, g⟩ (fun r => (∀ c : Dev Cert.AdMix.nD,
      r.2.mem ((c.tc : Thread Cert.AdMix.nD Cert.AdMix.τ).loc Cert.AdMix.main_arg0) = m ((c.tc : Thread Cert.AdMix.nD Cert.AdMix.τ).loc Cert.AdMix.main_arg0)
      ∧ r.2.mem ((c.tc : Thread Cert.AdMix.nD Cert.AdMix.τ).loc Cert.AdMix.main_arg1) = m ((c.tc : Thread Cert.AdMix.nD Cert.AdMix.τ).loc Cert.AdMix.main_arg1)
      ∧ r.2.mem ((c.tc : Thread Cert.AdMix.nD Cert.AdMix.τ).loc Cert.AdMix.main_arg2) = m ((c.tc : Thread Cert.AdMix.nD Cert.AdMix.τ).loc Cert.AdMix.main_arg2)
      ∧ r.2.mem ((c.tc : Thread Cert.AdMix.nD Cert.AdMix.τ).loc Cert.AdMix.main_arg3) = m ((c.tc : Thread Cert.AdMix.nD Cert.AdMix.τ).loc Cert.AdMix.main_arg3))
      ∧ r.2.sem = fun _ => 0)

def quiescent_AdMixIdeal [hAdMixIdeal : Cert.AdMixIdeal.Facts] : Prop :=
  ∀ (m : (ℓ : Loc Cert.AdMixIdeal.nD Cert.AdMixIdeal.τ Cert.AdMixIdeal.sig) → Buf (Elt Ideal) ℓ) (g : Dev Cert.AdMixIdeal.nD → PrngReg), Pre_AdMixIdeal m →
    θ_run (Cert.AdMixIdeal.defs (F := Ideal)) (onTc (τ := Cert.AdMixIdeal.τ) (Cert.AdMixIdeal.main (F := Ideal))) ⟨m, fun _ => 0, g⟩ (fun r => (∀ c : Dev Cert.AdMixIdeal.nD,
      r.2.mem ((c.tc : Thread Cert.AdMixIdeal.nD Cert.AdMixIdeal.τ).loc Cert.AdMixIdeal.main_arg0) = m ((c.tc : Thread Cert.AdMixIdeal.nD Cert.AdMixIdeal.τ).loc Cert.AdMixIdeal.main_arg0)
      ∧ r.2.mem ((c.tc : Thread Cert.AdMixIdeal.nD Cert.AdMixIdeal.τ).loc Cert.AdMixIdeal.main_arg1) = m ((c.tc : Thread Cert.AdMixIdeal.nD Cert.AdMixIdeal.τ).loc Cert.AdMixIdeal.main_arg1)
      ∧ r.2.mem ((c.tc : Thread Cert.AdMixIdeal.nD Cert.AdMixIdeal.τ).loc Cert.AdMixIdeal.main_arg2) = m ((c.tc : Thread Cert.AdMixIdeal.nD Cert.AdMixIdeal.τ).loc Cert.AdMixIdeal.main_arg2)
      ∧ r.2.mem ((c.tc : Thread Cert.AdMixIdeal.nD Cert.AdMixIdeal.τ).loc Cert.AdMixIdeal.main_arg3) = m ((c.tc : Thread Cert.AdMixIdeal.nD Cert.AdMixIdeal.τ).loc Cert.AdMixIdeal.main_arg3))
      ∧ r.2.sem = fun _ => 0)

def quiescent_AdMixRefIdeal [hAdMixRefIdeal : Cert.AdMixRefIdeal.Facts] : Prop :=
  ∀ (m : (ℓ : Loc Cert.AdMixRefIdeal.nD Cert.AdMixRefIdeal.τ Cert.AdMixRefIdeal.sig) → Buf (Elt Ideal) ℓ) (g : Dev Cert.AdMixRefIdeal.nD → PrngReg), Pre_AdMixRefIdeal m →
    θ_run (Cert.AdMixRefIdeal.defs (F := Ideal)) (onTc (τ := Cert.AdMixRefIdeal.τ) (Cert.AdMixRefIdeal.main (F := Ideal))) ⟨m, fun _ => 0, g⟩ (fun r => (∀ c : Dev Cert.AdMixRefIdeal.nD,
      r.2.mem ((c.tc : Thread Cert.AdMixRefIdeal.nD Cert.AdMixRefIdeal.τ).loc Cert.AdMixRefIdeal.main_arg0) = m ((c.tc : Thread Cert.AdMixRefIdeal.nD Cert.AdMixRefIdeal.τ).loc Cert.AdMixRefIdeal.main_arg0)
      ∧ r.2.mem ((c.tc : Thread Cert.AdMixRefIdeal.nD Cert.AdMixRefIdeal.τ).loc Cert.AdMixRefIdeal.main_arg1) = m ((c.tc : Thread Cert.AdMixRefIdeal.nD Cert.AdMixRefIdeal.τ).loc Cert.AdMixRefIdeal.main_arg1)
      ∧ r.2.mem ((c.tc : Thread Cert.AdMixRefIdeal.nD Cert.AdMixRefIdeal.τ).loc Cert.AdMixRefIdeal.main_arg2) = m ((c.tc : Thread Cert.AdMixRefIdeal.nD Cert.AdMixRefIdeal.τ).loc Cert.AdMixRefIdeal.main_arg2)
      ∧ r.2.mem ((c.tc : Thread Cert.AdMixRefIdeal.nD Cert.AdMixRefIdeal.τ).loc Cert.AdMixRefIdeal.main_arg3) = m ((c.tc : Thread Cert.AdMixRefIdeal.nD Cert.AdMixRefIdeal.τ).loc Cert.AdMixRefIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_AdDownRefIdeal [hAdDownRefIdeal : Cert.AdDownRefIdeal.Facts] : Prop :=
  ∀ (m : (ℓ : Loc Cert.AdDownRefIdeal.nD Cert.AdDownRefIdeal.τ Cert.AdDownRefIdeal.sig) → Buf (Elt Ideal) ℓ) (g : Dev Cert.AdDownRefIdeal.nD → PrngReg), Pre_AdDownRefIdeal m →
    θ_run (Cert.AdDownRefIdeal.defs (F := Ideal)) (onTc (τ := Cert.AdDownRefIdeal.τ) (Cert.AdDownRefIdeal.main (F := Ideal))) ⟨m, fun _ => 0, g⟩ (fun r => (∀ c : Dev Cert.AdDownRefIdeal.nD,
      r.2.mem ((c.tc : Thread Cert.AdDownRefIdeal.nD Cert.AdDownRefIdeal.τ).loc Cert.AdDownRefIdeal.main_arg0) = m ((c.tc : Thread Cert.AdDownRefIdeal.nD Cert.AdDownRefIdeal.τ).loc Cert.AdDownRefIdeal.main_arg0)
      ∧ r.2.mem ((c.tc : Thread Cert.AdDownRefIdeal.nD Cert.AdDownRefIdeal.τ).loc Cert.AdDownRefIdeal.main_arg1) = m ((c.tc : Thread Cert.AdDownRefIdeal.nD Cert.AdDownRefIdeal.τ).loc Cert.AdDownRefIdeal.main_arg1)
      ∧ r.2.mem ((c.tc : Thread Cert.AdDownRefIdeal.nD Cert.AdDownRefIdeal.τ).loc Cert.AdDownRefIdeal.main_arg2) = m ((c.tc : Thread Cert.AdDownRefIdeal.nD Cert.AdDownRefIdeal.τ).loc Cert.AdDownRefIdeal.main_arg2)
      ∧ r.2.mem ((c.tc : Thread Cert.AdDownRefIdeal.nD Cert.AdDownRefIdeal.τ).loc Cert.AdDownRefIdeal.main_arg3) = m ((c.tc : Thread Cert.AdDownRefIdeal.nD Cert.AdDownRefIdeal.τ).loc Cert.AdDownRefIdeal.main_arg3))
      ∧ r.2.sem = fun _ => 0)

def quiescent_AdRep [hAdRep : Cert.AdRep.Facts] : Prop :=
  ∀ (m : (ℓ : Loc Cert.AdRep.nD Cert.AdRep.τ Cert.AdRep.sig) → Buf (Elt Bits) ℓ) (g : Dev Cert.AdRep.nD → PrngReg), Pre_AdRep m →
    θ_run (Cert.AdRep.defs (F := Bits)) (onTc (τ := Cert.AdRep.τ) (Cert.AdRep.main (F := Bits))) ⟨m, fun _ => 0, g⟩ (fun r => (∀ c : Dev Cert.AdRep.nD,
      r.2.mem ((c.tc : Thread Cert.AdRep.nD Cert.AdRep.τ).loc Cert.AdRep.main_arg0) = m ((c.tc : Thread Cert.AdRep.nD Cert.AdRep.τ).loc Cert.AdRep.main_arg0)
      ∧ r.2.mem ((c.tc : Thread Cert.AdRep.nD Cert.AdRep.τ).loc Cert.AdRep.main_arg1) = m ((c.tc : Thread Cert.AdRep.nD Cert.AdRep.τ).loc Cert.AdRep.main_arg1)
      ∧ r.2.mem ((c.tc : Thread Cert.AdRep.nD Cert.AdRep.τ).loc Cert.AdRep.main_arg2) = m ((c.tc : Thread Cert.AdRep.nD Cert.AdRep.τ).loc Cert.AdRep.main_arg2)
      ∧ r.2.mem ((c.tc : Thread Cert.AdRep.nD Cert.AdRep.τ).loc Cert.AdRep.main_arg3) = m ((c.tc : Thread Cert.AdRep.nD Cert.AdRep.τ).loc Cert.AdRep.main_arg3))
      ∧ r.2.sem = fun _ => 0)

def quiescent_AdRepIdeal [hAdRepIdeal : Cert.AdRepIdeal.Facts] : Prop :=
  ∀ (m : (ℓ : Loc Cert.AdRepIdeal.nD Cert.AdRepIdeal.τ Cert.AdRepIdeal.sig) → Buf (Elt Ideal) ℓ) (g : Dev Cert.AdRepIdeal.nD → PrngReg), Pre_AdRepIdeal m →
    θ_run (Cert.AdRepIdeal.defs (F := Ideal)) (onTc (τ := Cert.AdRepIdeal.τ) (Cert.AdRepIdeal.main (F := Ideal))) ⟨m, fun _ => 0, g⟩ (fun r => (∀ c : Dev Cert.AdRepIdeal.nD,
      r.2.mem ((c.tc : Thread Cert.AdRepIdeal.nD Cert.AdRepIdeal.τ).loc Cert.AdRepIdeal.main_arg0) = m ((c.tc : Thread Cert.AdRepIdeal.nD Cert.AdRepIdeal.τ).loc Cert.AdRepIdeal.main_arg0)
      ∧ r.2.mem ((c.tc : Thread Cert.AdRepIdeal.nD Cert.AdRepIdeal.τ).loc Cert.AdRepIdeal.main_arg1) = m ((c.tc : Thread Cert.AdRepIdeal.nD Cert.AdRepIdeal.τ).loc Cert.AdRepIdeal.main_arg1)
      ∧ r.2.mem ((c.tc : Thread Cert.AdRepIdeal.nD Cert.AdRepIdeal.τ).loc Cert.AdRepIdeal.main_arg2) = m ((c.tc : Thread Cert.AdRepIdeal.nD Cert.AdRepIdeal.τ).loc Cert.AdRepIdeal.main_arg2)
      ∧ r.2.mem ((c.tc : Thread Cert.AdRepIdeal.nD Cert.AdRepIdeal.τ).loc Cert.AdRepIdeal.main_arg3) = m ((c.tc : Thread Cert.AdRepIdeal.nD Cert.AdRepIdeal.τ).loc Cert.AdRepIdeal.main_arg3))
      ∧ r.2.sem = fun _ => 0)

def quiescent_AdRepRefIdeal [hAdRepRefIdeal : Cert.AdRepRefIdeal.Facts] : Prop :=
  ∀ (m : (ℓ : Loc Cert.AdRepRefIdeal.nD Cert.AdRepRefIdeal.τ Cert.AdRepRefIdeal.sig) → Buf (Elt Ideal) ℓ) (g : Dev Cert.AdRepRefIdeal.nD → PrngReg), Pre_AdRepRefIdeal m →
    θ_run (Cert.AdRepRefIdeal.defs (F := Ideal)) (onTc (τ := Cert.AdRepRefIdeal.τ) (Cert.AdRepRefIdeal.main (F := Ideal))) ⟨m, fun _ => 0, g⟩ (fun r => (∀ c : Dev Cert.AdRepRefIdeal.nD,
      r.2.mem ((c.tc : Thread Cert.AdRepRefIdeal.nD Cert.AdRepRefIdeal.τ).loc Cert.AdRepRefIdeal.main_arg0) = m ((c.tc : Thread Cert.AdRepRefIdeal.nD Cert.AdRepRefIdeal.τ).loc Cert.AdRepRefIdeal.main_arg0)
      ∧ r.2.mem ((c.tc : Thread Cert.AdRepRefIdeal.nD Cert.AdRepRefIdeal.τ).loc Cert.AdRepRefIdeal.main_arg1) = m ((c.tc : Thread Cert.AdRepRefIdeal.nD Cert.AdRepRefIdeal.τ).loc Cert.AdRepRefIdeal.main_arg1)
      ∧ r.2.mem ((c.tc : Thread Cert.AdRepRefIdeal.nD Cert.AdRepRefIdeal.τ).loc Cert.AdRepRefIdeal.main_arg2) = m ((c.tc : Thread Cert.AdRepRefIdeal.nD Cert.AdRepRefIdeal.τ).loc Cert.AdRepRefIdeal.main_arg2)
      ∧ r.2.mem ((c.tc : Thread Cert.AdRepRefIdeal.nD Cert.AdRepRefIdeal.τ).loc Cert.AdRepRefIdeal.main_arg3) = m ((c.tc : Thread Cert.AdRepRefIdeal.nD Cert.AdRepRefIdeal.τ).loc Cert.AdRepRefIdeal.main_arg3))
      ∧ r.2.sem = fun _ => 0)

def quiescent_AdConv [hAdConv : Cert.AdConv.Facts] : Prop :=
  ∀ (m : (ℓ : Loc Cert.AdConv.nD Cert.AdConv.τ Cert.AdConv.sig) → Buf (Elt Bits) ℓ) (g : Dev Cert.AdConv.nD → PrngReg), Pre_AdConv m →
    θ_run (Cert.AdConv.defs (F := Bits)) (onTc (τ := Cert.AdConv.τ) (Cert.AdConv.main (F := Bits))) ⟨m, fun _ => 0, g⟩ (fun r => (∀ c : Dev Cert.AdConv.nD,
      r.2.mem ((c.tc : Thread Cert.AdConv.nD Cert.AdConv.τ).loc Cert.AdConv.main_arg0) = m ((c.tc : Thread Cert.AdConv.nD Cert.AdConv.τ).loc Cert.AdConv.main_arg0)
      ∧ r.2.mem ((c.tc : Thread Cert.AdConv.nD Cert.AdConv.τ).loc Cert.AdConv.main_arg1) = m ((c.tc : Thread Cert.AdConv.nD Cert.AdConv.τ).loc Cert.AdConv.main_arg1)
      ∧ r.2.mem ((c.tc : Thread Cert.AdConv.nD Cert.AdConv.τ).loc Cert.AdConv.main_arg2) = m ((c.tc : Thread Cert.AdConv.nD Cert.AdConv.τ).loc Cert.AdConv.main_arg2)
      ∧ r.2.mem ((c.tc : Thread Cert.AdConv.nD Cert.AdConv.τ).loc Cert.AdConv.main_arg3) = m ((c.tc : Thread Cert.AdConv.nD Cert.AdConv.τ).loc Cert.AdConv.main_arg3))
      ∧ r.2.sem = fun _ => 0)

def quiescent_AdConvIdeal [hAdConvIdeal : Cert.AdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg), Pre_AdConvIdeal m →
    θ_run (Cert.AdConvIdeal.defs (F := Ideal)) (onTc (τ := Cert.AdConvIdeal.τ) (Cert.AdConvIdeal.main (F := Ideal))) ⟨m, fun _ => 0, g⟩ (fun r => (∀ c : Dev Cert.AdConvIdeal.nD,
      r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
      ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
      ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
      ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ r.2.sem = fun _ => 0)

def quiescent_AdConvRefIdeal [hAdConvRefIdeal : Cert.AdConvRefIdeal.Facts] : Prop :=
  ∀ (m : (ℓ : Loc Cert.AdConvRefIdeal.nD Cert.AdConvRefIdeal.τ Cert.AdConvRefIdeal.sig) → Buf (Elt Ideal) ℓ) (g : Dev Cert.AdConvRefIdeal.nD → PrngReg), Pre_AdConvRefIdeal m →
    θ_run (Cert.AdConvRefIdeal.defs (F := Ideal)) (onTc (τ := Cert.AdConvRefIdeal.τ) (Cert.AdConvRefIdeal.main (F := Ideal))) ⟨m, fun _ => 0, g⟩ (fun r => (∀ c : Dev Cert.AdConvRefIdeal.nD,
      r.2.mem ((c.tc : Thread Cert.AdConvRefIdeal.nD Cert.AdConvRefIdeal.τ).loc Cert.AdConvRefIdeal.main_arg0) = m ((c.tc : Thread Cert.AdConvRefIdeal.nD Cert.AdConvRefIdeal.τ).loc Cert.AdConvRefIdeal.main_arg0)
      ∧ r.2.mem ((c.tc : Thread Cert.AdConvRefIdeal.nD Cert.AdConvRefIdeal.τ).loc Cert.AdConvRefIdeal.main_arg1) = m ((c.tc : Thread Cert.AdConvRefIdeal.nD Cert.AdConvRefIdeal.τ).loc Cert.AdConvRefIdeal.main_arg1)
      ∧ r.2.mem ((c.tc : Thread Cert.AdConvRefIdeal.nD Cert.AdConvRefIdeal.τ).loc Cert.AdConvRefIdeal.main_arg2) = m ((c.tc : Thread Cert.AdConvRefIdeal.nD Cert.AdConvRefIdeal.τ).loc Cert.AdConvRefIdeal.main_arg2)
      ∧ r.2.mem ((c.tc : Thread Cert.AdConvRefIdeal.nD Cert.AdConvRefIdeal.τ).loc Cert.AdConvRefIdeal.main_arg3) = m ((c.tc : Thread Cert.AdConvRefIdeal.nD Cert.AdConvRefIdeal.τ).loc Cert.AdConvRefIdeal.main_arg3))
      ∧ r.2.sem = fun _ => 0)

def quiescent_AdBias [hAdBias : Cert.AdBias.Facts] : Prop :=
  ∀ (m : (ℓ : Loc Cert.AdBias.nD Cert.AdBias.τ Cert.AdBias.sig) → Buf (Elt Bits) ℓ) (g : Dev Cert.AdBias.nD → PrngReg), Pre_AdBias m →
    θ_run (Cert.AdBias.defs (F := Bits)) (onTc (τ := Cert.AdBias.τ) (Cert.AdBias.main (F := Bits))) ⟨m, fun _ => 0, g⟩ (fun r => (∀ c : Dev Cert.AdBias.nD,
      r.2.mem ((c.tc : Thread Cert.AdBias.nD Cert.AdBias.τ).loc Cert.AdBias.main_arg0) = m ((c.tc : Thread Cert.AdBias.nD Cert.AdBias.τ).loc Cert.AdBias.main_arg0)
      ∧ r.2.mem ((c.tc : Thread Cert.AdBias.nD Cert.AdBias.τ).loc Cert.AdBias.main_arg1) = m ((c.tc : Thread Cert.AdBias.nD Cert.AdBias.τ).loc Cert.AdBias.main_arg1)
      ∧ r.2.mem ((c.tc : Thread Cert.AdBias.nD Cert.AdBias.τ).loc Cert.AdBias.main_arg2) = m ((c.tc : Thread Cert.AdBias.nD Cert.AdBias.τ).loc Cert.AdBias.main_arg2)
      ∧ r.2.mem ((c.tc : Thread Cert.AdBias.nD Cert.AdBias.τ).loc Cert.AdBias.main_arg3) = m ((c.tc : Thread Cert.AdBias.nD Cert.AdBias.τ).loc Cert.AdBias.main_arg3))
      ∧ r.2.sem = fun _ => 0)

def quiescent_AdBiasIdeal [hAdBiasIdeal : Cert.AdBiasIdeal.Facts] : Prop :=
  ∀ (m : (ℓ : Loc Cert.AdBiasIdeal.nD Cert.AdBiasIdeal.τ Cert.AdBiasIdeal.sig) → Buf (Elt Ideal) ℓ) (g : Dev Cert.AdBiasIdeal.nD → PrngReg), Pre_AdBiasIdeal m →
    θ_run (Cert.AdBiasIdeal.defs (F := Ideal)) (onTc (τ := Cert.AdBiasIdeal.τ) (Cert.AdBiasIdeal.main (F := Ideal))) ⟨m, fun _ => 0, g⟩ (fun r => (∀ c : Dev Cert.AdBiasIdeal.nD,
      r.2.mem ((c.tc : Thread Cert.AdBiasIdeal.nD Cert.AdBiasIdeal.τ).loc Cert.AdBiasIdeal.main_arg0) = m ((c.tc : Thread Cert.AdBiasIdeal.nD Cert.AdBiasIdeal.τ).loc Cert.AdBiasIdeal.main_arg0)
      ∧ r.2.mem ((c.tc : Thread Cert.AdBiasIdeal.nD Cert.AdBiasIdeal.τ).loc Cert.AdBiasIdeal.main_arg1) = m ((c.tc : Thread Cert.AdBiasIdeal.nD Cert.AdBiasIdeal.τ).loc Cert.AdBiasIdeal.main_arg1)
      ∧ r.2.mem ((c.tc : Thread Cert.AdBiasIdeal.nD Cert.AdBiasIdeal.τ).loc Cert.AdBiasIdeal.main_arg2) = m ((c.tc : Thread Cert.AdBiasIdeal.nD Cert.AdBiasIdeal.τ).loc Cert.AdBiasIdeal.main_arg2)
      ∧ r.2.mem ((c.tc : Thread Cert.AdBiasIdeal.nD Cert.AdBiasIdeal.τ).loc Cert.AdBiasIdeal.main_arg3) = m ((c.tc : Thread Cert.AdBiasIdeal.nD Cert.AdBiasIdeal.τ).loc Cert.AdBiasIdeal.main_arg3))
      ∧ r.2.sem = fun _ => 0)

def quiescent_AdBiasRefIdeal [hAdBiasRefIdeal : Cert.AdBiasRefIdeal.Facts] : Prop :=
  ∀ (m : (ℓ : Loc Cert.AdBiasRefIdeal.nD Cert.AdBiasRefIdeal.τ Cert.AdBiasRefIdeal.sig) → Buf (Elt Ideal) ℓ) (g : Dev Cert.AdBiasRefIdeal.nD → PrngReg), Pre_AdBiasRefIdeal m →
    θ_run (Cert.AdBiasRefIdeal.defs (F := Ideal)) (onTc (τ := Cert.AdBiasRefIdeal.τ) (Cert.AdBiasRefIdeal.main (F := Ideal))) ⟨m, fun _ => 0, g⟩ (fun r => (∀ c : Dev Cert.AdBiasRefIdeal.nD,
      r.2.mem ((c.tc : Thread Cert.AdBiasRefIdeal.nD Cert.AdBiasRefIdeal.τ).loc Cert.AdBiasRefIdeal.main_arg0) = m ((c.tc : Thread Cert.AdBiasRefIdeal.nD Cert.AdBiasRefIdeal.τ).loc Cert.AdBiasRefIdeal.main_arg0)
      ∧ r.2.mem ((c.tc : Thread Cert.AdBiasRefIdeal.nD Cert.AdBiasRefIdeal.τ).loc Cert.AdBiasRefIdeal.main_arg1) = m ((c.tc : Thread Cert.AdBiasRefIdeal.nD Cert.AdBiasRefIdeal.τ).loc Cert.AdBiasRefIdeal.main_arg1)
      ∧ r.2.mem ((c.tc : Thread Cert.AdBiasRefIdeal.nD Cert.AdBiasRefIdeal.τ).loc Cert.AdBiasRefIdeal.main_arg2) = m ((c.tc : Thread Cert.AdBiasRefIdeal.nD Cert.AdBiasRefIdeal.τ).loc Cert.AdBiasRefIdeal.main_arg2)
      ∧ r.2.mem ((c.tc : Thread Cert.AdBiasRefIdeal.nD Cert.AdBiasRefIdeal.τ).loc Cert.AdBiasRefIdeal.main_arg3) = m ((c.tc : Thread Cert.AdBiasRefIdeal.nD Cert.AdBiasRefIdeal.τ).loc Cert.AdBiasRefIdeal.main_arg3))
      ∧ r.2.sem = fun _ => 0)

def quiescent_AdMod [hAdMod : Cert.AdMod.Facts] : Prop :=
  ∀ (m : (ℓ : Loc Cert.AdMod.nD Cert.AdMod.τ Cert.AdMod.sig) → Buf (Elt Bits) ℓ) (g : Dev Cert.AdMod.nD → PrngReg), Pre_AdMod m →
    θ_run (Cert.AdMod.defs (F := Bits)) (onTc (τ := Cert.AdMod.τ) (Cert.AdMod.main (F := Bits))) ⟨m, fun _ => 0, g⟩ (fun r => (∀ c : Dev Cert.AdMod.nD,
      r.2.mem ((c.tc : Thread Cert.AdMod.nD Cert.AdMod.τ).loc Cert.AdMod.main_arg0) = m ((c.tc : Thread Cert.AdMod.nD Cert.AdMod.τ).loc Cert.AdMod.main_arg0)
      ∧ r.2.mem ((c.tc : Thread Cert.AdMod.nD Cert.AdMod.τ).loc Cert.AdMod.main_arg1) = m ((c.tc : Thread Cert.AdMod.nD Cert.AdMod.τ).loc Cert.AdMod.main_arg1)
      ∧ r.2.mem ((c.tc : Thread Cert.AdMod.nD Cert.AdMod.τ).loc Cert.AdMod.main_arg2) = m ((c.tc : Thread Cert.AdMod.nD Cert.AdMod.τ).loc Cert.AdMod.main_arg2)
      ∧ r.2.mem ((c.tc : Thread Cert.AdMod.nD Cert.AdMod.τ).loc Cert.AdMod.main_arg3) = m ((c.tc : Thread Cert.AdMod.nD Cert.AdMod.τ).loc Cert.AdMod.main_arg3))
      ∧ r.2.sem = fun _ => 0)

def quiescent_AdModIdeal [hAdModIdeal : Cert.AdModIdeal.Facts] : Prop :=
  ∀ (m : (ℓ : Loc Cert.AdModIdeal.nD Cert.AdModIdeal.τ Cert.AdModIdeal.sig) → Buf (Elt Ideal) ℓ) (g : Dev Cert.AdModIdeal.nD → PrngReg), Pre_AdModIdeal m →
    θ_run (Cert.AdModIdeal.defs (F := Ideal)) (onTc (τ := Cert.AdModIdeal.τ) (Cert.AdModIdeal.main (F := Ideal))) ⟨m, fun _ => 0, g⟩ (fun r => (∀ c : Dev Cert.AdModIdeal.nD,
      r.2.mem ((c.tc : Thread Cert.AdModIdeal.nD Cert.AdModIdeal.τ).loc Cert.AdModIdeal.main_arg0) = m ((c.tc : Thread Cert.AdModIdeal.nD Cert.AdModIdeal.τ).loc Cert.AdModIdeal.main_arg0)
      ∧ r.2.mem ((c.tc : Thread Cert.AdModIdeal.nD Cert.AdModIdeal.τ).loc Cert.AdModIdeal.main_arg1) = m ((c.tc : Thread Cert.AdModIdeal.nD Cert.AdModIdeal.τ).loc Cert.AdModIdeal.main_arg1)
      ∧ r.2.mem ((c.tc : Thread Cert.AdModIdeal.nD Cert.AdModIdeal.τ).loc Cert.AdModIdeal.main_arg2) = m ((c.tc : Thread Cert.AdModIdeal.nD Cert.AdModIdeal.τ).loc Cert.AdModIdeal.main_arg2)
      ∧ r.2.mem ((c.tc : Thread Cert.AdModIdeal.nD Cert.AdModIdeal.τ).loc Cert.AdModIdeal.main_arg3) = m ((c.tc : Thread Cert.AdModIdeal.nD Cert.AdModIdeal.τ).loc Cert.AdModIdeal.main_arg3))
      ∧ r.2.sem = fun _ => 0)

def quiescent_AdModRefIdeal [hAdModRefIdeal : Cert.AdModRefIdeal.Facts] : Prop :=
  ∀ (m : (ℓ : Loc Cert.AdModRefIdeal.nD Cert.AdModRefIdeal.τ Cert.AdModRefIdeal.sig) → Buf (Elt Ideal) ℓ) (g : Dev Cert.AdModRefIdeal.nD → PrngReg), Pre_AdModRefIdeal m →
    θ_run (Cert.AdModRefIdeal.defs (F := Ideal)) (onTc (τ := Cert.AdModRefIdeal.τ) (Cert.AdModRefIdeal.main (F := Ideal))) ⟨m, fun _ => 0, g⟩ (fun r => (∀ c : Dev Cert.AdModRefIdeal.nD,
      r.2.mem ((c.tc : Thread Cert.AdModRefIdeal.nD Cert.AdModRefIdeal.τ).loc Cert.AdModRefIdeal.main_arg0) = m ((c.tc : Thread Cert.AdModRefIdeal.nD Cert.AdModRefIdeal.τ).loc Cert.AdModRefIdeal.main_arg0)
      ∧ r.2.mem ((c.tc : Thread Cert.AdModRefIdeal.nD Cert.AdModRefIdeal.τ).loc Cert.AdModRefIdeal.main_arg1) = m ((c.tc : Thread Cert.AdModRefIdeal.nD Cert.AdModRefIdeal.τ).loc Cert.AdModRefIdeal.main_arg1)
      ∧ r.2.mem ((c.tc : Thread Cert.AdModRefIdeal.nD Cert.AdModRefIdeal.τ).loc Cert.AdModRefIdeal.main_arg2) = m ((c.tc : Thread Cert.AdModRefIdeal.nD Cert.AdModRefIdeal.τ).loc Cert.AdModRefIdeal.main_arg2)
      ∧ r.2.mem ((c.tc : Thread Cert.AdModRefIdeal.nD Cert.AdModRefIdeal.τ).loc Cert.AdModRefIdeal.main_arg3) = m ((c.tc : Thread Cert.AdModRefIdeal.nD Cert.AdModRefIdeal.τ).loc Cert.AdModRefIdeal.main_arg3))
      ∧ r.2.sem = fun _ => 0)

def quiescent_AdCtx [hAdCtx : Cert.AdCtx.Facts] : Prop :=
  ∀ (m : (ℓ : Loc Cert.AdCtx.nD Cert.AdCtx.τ Cert.AdCtx.sig) → Buf (Elt Bits) ℓ) (g : Dev Cert.AdCtx.nD → PrngReg), Pre_AdCtx m →
    θ_run (Cert.AdCtx.defs (F := Bits)) (onTc (τ := Cert.AdCtx.τ) (Cert.AdCtx.main (F := Bits))) ⟨m, fun _ => 0, g⟩ (fun r => (∀ c : Dev Cert.AdCtx.nD,
      r.2.mem ((c.tc : Thread Cert.AdCtx.nD Cert.AdCtx.τ).loc Cert.AdCtx.main_arg0) = m ((c.tc : Thread Cert.AdCtx.nD Cert.AdCtx.τ).loc Cert.AdCtx.main_arg0)
      ∧ r.2.mem ((c.tc : Thread Cert.AdCtx.nD Cert.AdCtx.τ).loc Cert.AdCtx.main_arg1) = m ((c.tc : Thread Cert.AdCtx.nD Cert.AdCtx.τ).loc Cert.AdCtx.main_arg1)
      ∧ r.2.mem ((c.tc : Thread Cert.AdCtx.nD Cert.AdCtx.τ).loc Cert.AdCtx.main_arg2) = m ((c.tc : Thread Cert.AdCtx.nD Cert.AdCtx.τ).loc Cert.AdCtx.main_arg2)
      ∧ r.2.mem ((c.tc : Thread Cert.AdCtx.nD Cert.AdCtx.τ).loc Cert.AdCtx.main_arg3) = m ((c.tc : Thread Cert.AdCtx.nD Cert.AdCtx.τ).loc Cert.AdCtx.main_arg3))
      ∧ r.2.sem = fun _ => 0)

def quiescent_AdCtxIdeal [hAdCtxIdeal : Cert.AdCtxIdeal.Facts] : Prop :=
  ∀ (m : (ℓ : Loc Cert.AdCtxIdeal.nD Cert.AdCtxIdeal.τ Cert.AdCtxIdeal.sig) → Buf (Elt Ideal) ℓ) (g : Dev Cert.AdCtxIdeal.nD → PrngReg), Pre_AdCtxIdeal m →
    θ_run (Cert.AdCtxIdeal.defs (F := Ideal)) (onTc (τ := Cert.AdCtxIdeal.τ) (Cert.AdCtxIdeal.main (F := Ideal))) ⟨m, fun _ => 0, g⟩ (fun r => (∀ c : Dev Cert.AdCtxIdeal.nD,
      r.2.mem ((c.tc : Thread Cert.AdCtxIdeal.nD Cert.AdCtxIdeal.τ).loc Cert.AdCtxIdeal.main_arg0) = m ((c.tc : Thread Cert.AdCtxIdeal.nD Cert.AdCtxIdeal.τ).loc Cert.AdCtxIdeal.main_arg0)
      ∧ r.2.mem ((c.tc : Thread Cert.AdCtxIdeal.nD Cert.AdCtxIdeal.τ).loc Cert.AdCtxIdeal.main_arg1) = m ((c.tc : Thread Cert.AdCtxIdeal.nD Cert.AdCtxIdeal.τ).loc Cert.AdCtxIdeal.main_arg1)
      ∧ r.2.mem ((c.tc : Thread Cert.AdCtxIdeal.nD Cert.AdCtxIdeal.τ).loc Cert.AdCtxIdeal.main_arg2) = m ((c.tc : Thread Cert.AdCtxIdeal.nD Cert.AdCtxIdeal.τ).loc Cert.AdCtxIdeal.main_arg2)
      ∧ r.2.mem ((c.tc : Thread Cert.AdCtxIdeal.nD Cert.AdCtxIdeal.τ).loc Cert.AdCtxIdeal.main_arg3) = m ((c.tc : Thread Cert.AdCtxIdeal.nD Cert.AdCtxIdeal.τ).loc Cert.AdCtxIdeal.main_arg3))
      ∧ r.2.sem = fun _ => 0)

def quiescent_AdCtxRefIdeal [hAdCtxRefIdeal : Cert.AdCtxRefIdeal.Facts] : Prop :=
  ∀ (m : (ℓ : Loc Cert.AdCtxRefIdeal.nD Cert.AdCtxRefIdeal.τ Cert.AdCtxRefIdeal.sig) → Buf (Elt Ideal) ℓ) (g : Dev Cert.AdCtxRefIdeal.nD → PrngReg), Pre_AdCtxRefIdeal m →
    θ_run (Cert.AdCtxRefIdeal.defs (F := Ideal)) (onTc (τ := Cert.AdCtxRefIdeal.τ) (Cert.AdCtxRefIdeal.main (F := Ideal))) ⟨m, fun _ => 0, g⟩ (fun r => (∀ c : Dev Cert.AdCtxRefIdeal.nD,
      r.2.mem ((c.tc : Thread Cert.AdCtxRefIdeal.nD Cert.AdCtxRefIdeal.τ).loc Cert.AdCtxRefIdeal.main_arg0) = m ((c.tc : Thread Cert.AdCtxRefIdeal.nD Cert.AdCtxRefIdeal.τ).loc Cert.AdCtxRefIdeal.main_arg0)
      ∧ r.2.mem ((c.tc : Thread Cert.AdCtxRefIdeal.nD Cert.AdCtxRefIdeal.τ).loc Cert.AdCtxRefIdeal.main_arg1) = m ((c.tc : Thread Cert.AdCtxRefIdeal.nD Cert.AdCtxRefIdeal.τ).loc Cert.AdCtxRefIdeal.main_arg1)
      ∧ r.2.mem ((c.tc : Thread Cert.AdCtxRefIdeal.nD Cert.AdCtxRefIdeal.τ).loc Cert.AdCtxRefIdeal.main_arg2) = m ((c.tc : Thread Cert.AdCtxRefIdeal.nD Cert.AdCtxRefIdeal.τ).loc Cert.AdCtxRefIdeal.main_arg2)
      ∧ r.2.mem ((c.tc : Thread Cert.AdCtxRefIdeal.nD Cert.AdCtxRefIdeal.τ).loc Cert.AdCtxRefIdeal.main_arg3) = m ((c.tc : Thread Cert.AdCtxRefIdeal.nD Cert.AdCtxRefIdeal.τ).loc Cert.AdCtxRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2)
      ∧ r.2.mem ((c.tc : Thread Cert.AdaFwd.nD Cert.AdaFwd.τ).loc Cert.AdaFwd.main_arg3) = m ((c.tc : Thread Cert.AdaFwd.nD Cert.AdaFwd.τ).loc Cert.AdaFwd.main_arg3))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2)
      ∧ r.2.mem ((c.tc : Thread Cert.AdaFwdIdeal.nD Cert.AdaFwdIdeal.τ).loc Cert.AdaFwdIdeal.main_arg3) = m ((c.tc : Thread Cert.AdaFwdIdeal.nD Cert.AdaFwdIdeal.τ).loc Cert.AdaFwdIdeal.main_arg3))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2)
      ∧ r.2.mem ((c.tc : Thread Cert.AdaFwdRefIdeal.nD Cert.AdaFwdRefIdeal.τ).loc Cert.AdaFwdRefIdeal.main_arg3) = m ((c.tc : Thread Cert.AdaFwdRefIdeal.nD Cert.AdaFwdRefIdeal.τ).loc Cert.AdaFwdRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4)
      ∧ r.2.mem ((c.tc : Thread Cert.AdaBwd.nD Cert.AdaBwd.τ).loc Cert.AdaBwd.main_arg5) = m ((c.tc : Thread Cert.AdaBwd.nD Cert.AdaBwd.τ).loc Cert.AdaBwd.main_arg5))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4)
      ∧ r.2.mem ((c.tc : Thread Cert.AdaBwdIdeal.nD Cert.AdaBwdIdeal.τ).loc Cert.AdaBwdIdeal.main_arg5) = m ((c.tc : Thread Cert.AdaBwdIdeal.nD Cert.AdaBwdIdeal.τ).loc Cert.AdaBwdIdeal.main_arg5))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4)
      ∧ r.2.mem ((c.tc : Thread Cert.AdaBwdRefIdeal.nD Cert.AdaBwdRefIdeal.τ).loc Cert.AdaBwdRefIdeal.main_arg5) = m ((c.tc : Thread Cert.AdaBwdRefIdeal.nD Cert.AdaBwdRefIdeal.τ).loc Cert.AdaBwdRefIdeal.main_arg5))
      ∧ r.2.sem = fun _ => 0)

def quiescent_LbFwd [hLbFwd : Cert.LbFwd.Facts] : Prop :=
  ∀ (m : (ℓ : Loc Cert.LbFwd.nD Cert.LbFwd.τ Cert.LbFwd.sig) → Buf (Elt Bits) ℓ) (g : Dev Cert.LbFwd.nD → PrngReg), Pre_LbFwd m →
    θ_run (Cert.LbFwd.defs (F := Bits)) (onTc (τ := Cert.LbFwd.τ) (Cert.LbFwd.main (F := Bits))) ⟨m, fun _ => 0, g⟩ (fun r => (∀ c : Dev Cert.LbFwd.nD,
      r.2.mem ((c.tc : Thread Cert.LbFwd.nD Cert.LbFwd.τ).loc Cert.LbFwd.main_arg0) = m ((c.tc : Thread Cert.LbFwd.nD Cert.LbFwd.τ).loc Cert.LbFwd.main_arg0))
      ∧ r.2.sem = fun _ => 0)

def quiescent_LbFwdIdeal [hLbFwdIdeal : Cert.LbFwdIdeal.Facts] : Prop :=
  ∀ (m : (ℓ : Loc Cert.LbFwdIdeal.nD Cert.LbFwdIdeal.τ Cert.LbFwdIdeal.sig) → Buf (Elt Ideal) ℓ) (g : Dev Cert.LbFwdIdeal.nD → PrngReg), Pre_LbFwdIdeal m →
    θ_run (Cert.LbFwdIdeal.defs (F := Ideal)) (onTc (τ := Cert.LbFwdIdeal.τ) (Cert.LbFwdIdeal.main (F := Ideal))) ⟨m, fun _ => 0, g⟩ (fun r => (∀ c : Dev Cert.LbFwdIdeal.nD,
      r.2.mem ((c.tc : Thread Cert.LbFwdIdeal.nD Cert.LbFwdIdeal.τ).loc Cert.LbFwdIdeal.main_arg0) = m ((c.tc : Thread Cert.LbFwdIdeal.nD Cert.LbFwdIdeal.τ).loc Cert.LbFwdIdeal.main_arg0))
      ∧ r.2.sem = fun _ => 0)

def quiescent_LbFwdRefIdeal [hLbFwdRefIdeal : Cert.LbFwdRefIdeal.Facts] : Prop :=
  ∀ (m : (ℓ : Loc Cert.LbFwdRefIdeal.nD Cert.LbFwdRefIdeal.τ Cert.LbFwdRefIdeal.sig) → Buf (Elt Ideal) ℓ) (g : Dev Cert.LbFwdRefIdeal.nD → PrngReg), Pre_LbFwdRefIdeal m →
    θ_run (Cert.LbFwdRefIdeal.defs (F := Ideal)) (onTc (τ := Cert.LbFwdRefIdeal.τ) (Cert.LbFwdRefIdeal.main (F := Ideal))) ⟨m, fun _ => 0, g⟩ (fun r => (∀ c : Dev Cert.LbFwdRefIdeal.nD,
      r.2.mem ((c.tc : Thread Cert.LbFwdRefIdeal.nD Cert.LbFwdRefIdeal.τ).loc Cert.LbFwdRefIdeal.main_arg0) = m ((c.tc : Thread Cert.LbFwdRefIdeal.nD Cert.LbFwdRefIdeal.τ).loc Cert.LbFwdRefIdeal.main_arg0))
      ∧ r.2.sem = fun _ => 0)

def quiescent_LbBwd [hLbBwd : Cert.LbBwd.Facts] : Prop :=
  ∀ (m : (ℓ : Loc Cert.LbBwd.nD Cert.LbBwd.τ Cert.LbBwd.sig) → Buf (Elt Bits) ℓ) (g : Dev Cert.LbBwd.nD → PrngReg), Pre_LbBwd m →
    θ_run (Cert.LbBwd.defs (F := Bits)) (onTc (τ := Cert.LbBwd.τ) (Cert.LbBwd.main (F := Bits))) ⟨m, fun _ => 0, g⟩ (fun r => (∀ c : Dev Cert.LbBwd.nD,
      r.2.mem ((c.tc : Thread Cert.LbBwd.nD Cert.LbBwd.τ).loc Cert.LbBwd.main_arg0) = m ((c.tc : Thread Cert.LbBwd.nD Cert.LbBwd.τ).loc Cert.LbBwd.main_arg0)
      ∧ r.2.mem ((c.tc : Thread Cert.LbBwd.nD Cert.LbBwd.τ).loc Cert.LbBwd.main_arg1) = m ((c.tc : Thread Cert.LbBwd.nD Cert.LbBwd.τ).loc Cert.LbBwd.main_arg1))
      ∧ r.2.sem = fun _ => 0)

def quiescent_LbBwdIdeal [hLbBwdIdeal : Cert.LbBwdIdeal.Facts] : Prop :=
  ∀ (m : (ℓ : Loc Cert.LbBwdIdeal.nD Cert.LbBwdIdeal.τ Cert.LbBwdIdeal.sig) → Buf (Elt Ideal) ℓ) (g : Dev Cert.LbBwdIdeal.nD → PrngReg), Pre_LbBwdIdeal m →
    θ_run (Cert.LbBwdIdeal.defs (F := Ideal)) (onTc (τ := Cert.LbBwdIdeal.τ) (Cert.LbBwdIdeal.main (F := Ideal))) ⟨m, fun _ => 0, g⟩ (fun r => (∀ c : Dev Cert.LbBwdIdeal.nD,
      r.2.mem ((c.tc : Thread Cert.LbBwdIdeal.nD Cert.LbBwdIdeal.τ).loc Cert.LbBwdIdeal.main_arg0) = m ((c.tc : Thread Cert.LbBwdIdeal.nD Cert.LbBwdIdeal.τ).loc Cert.LbBwdIdeal.main_arg0)
      ∧ r.2.mem ((c.tc : Thread Cert.LbBwdIdeal.nD Cert.LbBwdIdeal.τ).loc Cert.LbBwdIdeal.main_arg1) = m ((c.tc : Thread Cert.LbBwdIdeal.nD Cert.LbBwdIdeal.τ).loc Cert.LbBwdIdeal.main_arg1))
      ∧ r.2.sem = fun _ => 0)

def quiescent_LbBwdIdeal_pre_finite [hLbBwdIdeal : Cert.LbBwdIdeal.Facts] [hPre_finite : Cert.Pre_finite.Facts] : Prop :=
  ∀ (m : (ℓ : Loc Cert.LbBwdIdeal.nD Cert.LbBwdIdeal.τ Cert.LbBwdIdeal.sig) → Buf (Elt Ideal) ℓ) (g : Dev Cert.LbBwdIdeal.nD → PrngReg), Pre_LbBwdIdeal_finite m →
    θ_run (Cert.LbBwdIdeal.defs (F := Ideal)) (onTc (τ := Cert.LbBwdIdeal.τ) (Cert.LbBwdIdeal.main (F := Ideal))) ⟨m, fun _ => 0, g⟩ (fun r => (∀ c : Dev Cert.LbBwdIdeal.nD,
      r.2.mem ((c.tc : Thread Cert.LbBwdIdeal.nD Cert.LbBwdIdeal.τ).loc Cert.LbBwdIdeal.main_arg0) = m ((c.tc : Thread Cert.LbBwdIdeal.nD Cert.LbBwdIdeal.τ).loc Cert.LbBwdIdeal.main_arg0)
      ∧ r.2.mem ((c.tc : Thread Cert.LbBwdIdeal.nD Cert.LbBwdIdeal.τ).loc Cert.LbBwdIdeal.main_arg1) = m ((c.tc : Thread Cert.LbBwdIdeal.nD Cert.LbBwdIdeal.τ).loc Cert.LbBwdIdeal.main_arg1))
      ∧ r.2.sem = fun _ => 0)

def quiescent_LbBwdRefIdeal [hLbBwdRefIdeal : Cert.LbBwdRefIdeal.Facts] : Prop :=
  ∀ (m : (ℓ : Loc Cert.LbBwdRefIdeal.nD Cert.LbBwdRefIdeal.τ Cert.LbBwdRefIdeal.sig) → Buf (Elt Ideal) ℓ) (g : Dev Cert.LbBwdRefIdeal.nD → PrngReg), Pre_LbBwdRefIdeal m →
    θ_run (Cert.LbBwdRefIdeal.defs (F := Ideal)) (onTc (τ := Cert.LbBwdRefIdeal.τ) (Cert.LbBwdRefIdeal.main (F := Ideal))) ⟨m, fun _ => 0, g⟩ (fun r => (∀ c : Dev Cert.LbBwdRefIdeal.nD,
      r.2.mem ((c.tc : Thread Cert.LbBwdRefIdeal.nD Cert.LbBwdRefIdeal.τ).loc Cert.LbBwdRefIdeal.main_arg0) = m ((c.tc : Thread Cert.LbBwdRefIdeal.nD Cert.LbBwdRefIdeal.τ).loc Cert.LbBwdRefIdeal.main_arg0)
      ∧ r.2.mem ((c.tc : Thread Cert.LbBwdRefIdeal.nD Cert.LbBwdRefIdeal.τ).loc Cert.LbBwdRefIdeal.main_arg1) = m ((c.tc : Thread Cert.LbBwdRefIdeal.nD Cert.LbBwdRefIdeal.τ).loc Cert.LbBwdRefIdeal.main_arg1))
      ∧ r.2.sem = fun _ => 0)

def quiescent_LbBwdRefIdeal_pre_finite [hLbBwdRefIdeal : Cert.LbBwdRefIdeal.Facts] [hPre_finite : Cert.Pre_finite.Facts] : Prop :=
  ∀ (m : (ℓ : Loc Cert.LbBwdRefIdeal.nD Cert.LbBwdRefIdeal.τ Cert.LbBwdRefIdeal.sig) → Buf (Elt Ideal) ℓ) (g : Dev Cert.LbBwdRefIdeal.nD → PrngReg), Pre_LbBwdRefIdeal_finite m →
    θ_run (Cert.LbBwdRefIdeal.defs (F := Ideal)) (onTc (τ := Cert.LbBwdRefIdeal.τ) (Cert.LbBwdRefIdeal.main (F := Ideal))) ⟨m, fun _ => 0, g⟩ (fun r => (∀ c : Dev Cert.LbBwdRefIdeal.nD,
      r.2.mem ((c.tc : Thread Cert.LbBwdRefIdeal.nD Cert.LbBwdRefIdeal.τ).loc Cert.LbBwdRefIdeal.main_arg0) = m ((c.tc : Thread Cert.LbBwdRefIdeal.nD Cert.LbBwdRefIdeal.τ).loc Cert.LbBwdRefIdeal.main_arg0)
      ∧ r.2.mem ((c.tc : Thread Cert.LbBwdRefIdeal.nD Cert.LbBwdRefIdeal.τ).loc Cert.LbBwdRefIdeal.main_arg1) = m ((c.tc : Thread Cert.LbBwdRefIdeal.nD Cert.LbBwdRefIdeal.τ).loc Cert.LbBwdRefIdeal.main_arg1))
      ∧ r.2.sem = fun _ => 0)

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v1)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v1) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v6) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v3)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v3) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v6) = v0 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v2)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v2) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v5) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WMix_WMixIdeal : Prop :=
  True

def algebraic_WMixIdeal_WMixRefIdeal [hWMixIdeal : Cert.WMixIdeal.Facts] [hWMixRefIdeal : Cert.WMixRefIdeal.Facts] : Prop :=
  ∀ (m : (ℓ : Loc Cert.WMixIdeal.nD Cert.WMixIdeal.τ Cert.WMixIdeal.sig) → Buf (Elt Ideal) ℓ) (g : Dev Cert.WMixIdeal.nD → PrngReg)
    (m' : (ℓ : Loc Cert.WMixRefIdeal.nD Cert.WMixRefIdeal.τ Cert.WMixRefIdeal.sig) → Buf (Elt Ideal) ℓ) (g' : Dev Cert.WMixRefIdeal.nD → PrngReg), Pre_WMixIdeal m →
    (∀ c : Dev Cert.WMixIdeal.nD,
      m' ((c.tc : Thread Cert.WMixRefIdeal.nD Cert.WMixRefIdeal.τ).loc Cert.WMixRefIdeal.main_arg0) = m ((c.tc : Thread Cert.WMixIdeal.nD Cert.WMixIdeal.τ).loc Cert.WMixIdeal.main_arg0)
      ∧ m' ((c.tc : Thread Cert.WMixRefIdeal.nD Cert.WMixRefIdeal.τ).loc Cert.WMixRefIdeal.main_arg1) = m ((c.tc : Thread Cert.WMixIdeal.nD Cert.WMixIdeal.τ).loc Cert.WMixIdeal.main_arg1)) →
    ∃ (v0 : (c : Dev Cert.WMixIdeal.nD) → Buf (Elt Ideal) ((c.tc : Thread Cert.WMixIdeal.nD Cert.WMixIdeal.τ).loc Cert.WMixIdeal.main_v1)),
      θ_run (Cert.WMixIdeal.defs (F := Ideal)) (onTc (τ := Cert.WMixIdeal.τ) (Cert.WMixIdeal.main (F := Ideal))) ⟨m, fun _ => 0, g⟩ (fun r => ∀ c : Dev Cert.WMixIdeal.nD,
          r.2.mem ((c.tc : Thread Cert.WMixIdeal.nD Cert.WMixIdeal.τ).loc Cert.WMixIdeal.main_v1) = v0 c
          ∧ r.2.mem ((c.tc : Thread Cert.WMixIdeal.nD Cert.WMixIdeal.τ).loc Cert.WMixIdeal.main_arg0) = m ((c.tc : Thread Cert.WMixIdeal.nD Cert.WMixIdeal.τ).loc Cert.WMixIdeal.main_arg0)
          ∧ r.2.mem ((c.tc : Thread Cert.WMixIdeal.nD Cert.WMixIdeal.τ).loc Cert.WMixIdeal.main_arg1) = m ((c.tc : Thread Cert.WMixIdeal.nD Cert.WMixIdeal.τ).loc Cert.WMixIdeal.main_arg1))
      ∧ θ_run (Cert.WMixRefIdeal.defs (F := Ideal)) (onTc (τ := Cert.WMixRefIdeal.τ) (Cert.WMixRefIdeal.main (F := Ideal))) ⟨m', fun _ => 0, g'⟩ (fun r => ∀ c : Dev Cert.WMixRefIdeal.nD,
          r.2.mem ((c.tc : Thread Cert.WMixRefIdeal.nD Cert.WMixRefIdeal.τ).loc Cert.WMixRefIdeal.main_v5) = v0 c
          ∧ r.2.mem ((c.tc : Thread Cert.WMixRefIdeal.nD Cert.WMixRefIdeal.τ).loc Cert.WMixRefIdeal.main_arg0) = m' ((c.tc : Thread Cert.WMixRefIdeal.nD Cert.WMixRefIdeal.τ).loc Cert.WMixRefIdeal.main_arg0)
          ∧ r.2.mem ((c.tc : Thread Cert.WMixRefIdeal.nD Cert.WMixRefIdeal.τ).loc Cert.WMixRefIdeal.main_arg1) = m' ((c.tc : Thread Cert.WMixRefIdeal.nD Cert.WMixRefIdeal.τ).loc Cert.WMixRefIdeal.main_arg1))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)
      ∧ m' ((c.tc : Thread Cert.FfUpRefIdeal.nD Cert.FfUpRefIdeal.τ).loc Cert.FfUpRefIdeal.main_arg2) = m ((c.tc : Thread Cert.FfUpIdeal.nD Cert.FfUpIdeal.τ).loc Cert.FfUpIdeal.main_arg2)
      ∧ m' ((c.tc : Thread Cert.FfUpRefIdeal.nD Cert.FfUpRefIdeal.τ).loc Cert.FfUpRefIdeal.main_arg3) = m ((c.tc : Thread Cert.FfUpIdeal.nD Cert.FfUpIdeal.τ).loc Cert.FfUpIdeal.main_arg3)
      ∧ m' ((c.tc : Thread Cert.FfUpRefIdeal.nD Cert.FfUpRefIdeal.τ).loc Cert.FfUpRefIdeal.main_arg4) = m ((c.tc : Thread Cert.FfUpIdeal.nD Cert.FfUpIdeal.τ).loc Cert.FfUpIdeal.main_arg4)
      ∧ m' ((c.tc : Thread Cert.FfUpRefIdeal.nD Cert.FfUpRefIdeal.τ).loc Cert.FfUpRefIdeal.main_arg5) = m ((c.tc : Thread Cert.FfUpIdeal.nD Cert.FfUpIdeal.τ).loc Cert.FfUpIdeal.main_arg5)
      ∧ m' ((c.tc : Thread Cert.FfUpRefIdeal.nD Cert.FfUpRefIdeal.τ).loc Cert.FfUpRefIdeal.main_arg6) = m ((c.tc : Thread Cert.FfUpIdeal.nD Cert.FfUpIdeal.τ).loc Cert.FfUpIdeal.main_arg6)) →
    ∃ (v0 : (c : Dev Cert.FfUpIdeal.nD) → Buf (Elt Ideal) ((c.tc : Thread Cert.FfUpIdeal.nD Cert.FfUpIdeal.τ).loc Cert.FfUpIdeal.main_v10_0)) (v1 : (c : Dev Cert.FfUpIdeal.nD) → Buf (Elt Ideal) ((c.tc : Thread Cert.FfUpIdeal.nD Cert.FfUpIdeal.τ).loc Cert.FfUpIdeal.main_v10_1)) (v2 : (c : Dev Cert.FfUpIdeal.nD) → Buf (Elt Ideal) ((c.tc : Thread Cert.FfUpIdeal.nD Cert.FfUpIdeal.τ).loc Cert.FfUpIdeal.main_v10_2)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v10_0) = v0 c
          ∧ r.2.mem ((c.tc : Thread Cert.FfUpIdeal.nD Cert.FfUpIdeal.τ).loc Cert.FfUpIdeal.main_v10_1) = v1 c
          ∧ r.2.mem ((c.tc : Thread Cert.FfUpIdeal.nD Cert.FfUpIdeal.τ).loc Cert.FfUpIdeal.main_v10_2) = v2 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
          ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2)
          ∧ r.2.mem ((c.tc : Thread Cert.FfUpIdeal.nD Cert.FfUpIdeal.τ).loc Cert.FfUpIdeal.main_arg3) = m ((c.tc : Thread Cert.FfUpIdeal.nD Cert.FfUpIdeal.τ).loc Cert.FfUpIdeal.main_arg3)
          ∧ r.2.mem ((c.tc : Thread Cert.FfUpIdeal.nD Cert.FfUpIdeal.τ).loc Cert.FfUpIdeal.main_arg4) = m ((c.tc : Thread Cert.FfUpIdeal.nD Cert.FfUpIdeal.τ).loc Cert.FfUpIdeal.main_arg4)
          ∧ r.2.mem ((c.tc : Thread Cert.FfUpIdeal.nD Cert.FfUpIdeal.τ).loc Cert.FfUpIdeal.main_arg5) = m ((c.tc : Thread Cert.FfUpIdeal.nD Cert.FfUpIdeal.τ).loc Cert.FfUpIdeal.main_arg5)
          ∧ r.2.mem ((c.tc : Thread Cert.FfUpIdeal.nD Cert.FfUpIdeal.τ).loc Cert.FfUpIdeal.main_arg6) = m ((c.tc : Thread Cert.FfUpIdeal.nD Cert.FfUpIdeal.τ).loc Cert.FfUpIdeal.main_arg6))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v81) = v0 c
          ∧ r.2.mem ((c.tc : Thread Cert.FfUpRefIdeal.nD Cert.FfUpRefIdeal.τ).loc Cert.FfUpRefIdeal.main_v82) = v1 c
          ∧ r.2.mem ((c.tc : Thread Cert.FfUpRefIdeal.nD Cert.FfUpRefIdeal.τ).loc Cert.FfUpRefIdeal.main_v83) = v2 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1)
          ∧ r.2.mem ((c.tc : Thread Cert.FfUpRefIdeal.nD Cert.FfUpRefIdeal.τ).loc Cert.FfUpRefIdeal.main_arg2) = m' ((c.tc : Thread Cert.FfUpRefIdeal.nD Cert.FfUpRefIdeal.τ).loc Cert.FfUpRefIdeal.main_arg2)
          ∧ r.2.mem ((c.tc : Thread Cert.FfUpRefIdeal.nD Cert.FfUpRefIdeal.τ).loc Cert.FfUpRefIdeal.main_arg3) = m' ((c.tc : Thread Cert.FfUpRefIdeal.nD Cert.FfUpRefIdeal.τ).loc Cert.FfUpRefIdeal.main_arg3)
          ∧ r.2.mem ((c.tc : Thread Cert.FfUpRefIdeal.nD Cert.FfUpRefIdeal.τ).loc Cert.FfUpRefIdeal.main_arg4) = m' ((c.tc : Thread Cert.FfUpRefIdeal.nD Cert.FfUpRefIdeal.τ).loc Cert.FfUpRefIdeal.main_arg4)
          ∧ r.2.mem ((c.tc : Thread Cert.FfUpRefIdeal.nD Cert.FfUpRefIdeal.τ).loc Cert.FfUpRefIdeal.main_arg5) = m' ((c.tc : Thread Cert.FfUpRefIdeal.nD Cert.FfUpRefIdeal.τ).loc Cert.FfUpRefIdeal.main_arg5)
          ∧ r.2.mem ((c.tc : Thread Cert.FfUpRefIdeal.nD Cert.FfUpRefIdeal.τ).loc Cert.FfUpRefIdeal.main_arg6) = m' ((c.tc : Thread Cert.FfUpRefIdeal.nD Cert.FfUpRefIdeal.τ).loc Cert.FfUpRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v81) = v0 c
          ∧ r.2.mem ((c.tc : Thread Cert.InProjRefIdeal.nD Cert.InProjRefIdeal.τ).loc Cert.InProjRefIdeal.main_v82) = v1 c
          ∧ r.2.mem ((c.tc : Thread Cert.InProjRefIdeal.nD Cert.InProjRefIdeal.τ).loc Cert.InProjRefIdeal.main_v83) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)) →
    ∃ (v0 : (c : Dev Cert.InFwdIdeal.nD) → Buf (Elt Ideal) ((c.tc : Thread Cert.InFwdIdeal.nD Cert.InFwdIdeal.τ).loc Cert.InFwdIdeal.main_v8_0)) (v1 : (c : Dev Cert.InFwdIdeal.nD) → Buf (Elt Ideal) ((c.tc : Thread Cert.InFwdIdeal.nD Cert.InFwdIdeal.τ).loc Cert.InFwdIdeal.main_v8_1)) (v2 : (c : Dev Cert.InFwdIdeal.nD) → Buf (Elt Ideal) ((c.tc : Thread Cert.InFwdIdeal.nD Cert.InFwdIdeal.τ).loc Cert.InFwdIdeal.main_v8_2)) (v3 : (c : Dev Cert.InFwdIdeal.nD) → Buf (Elt Ideal) ((c.tc : Thread Cert.InFwdIdeal.nD Cert.InFwdIdeal.τ).loc Cert.InFwdIdeal.main_v8_3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v8_0) = v0 c
          ∧ r.2.mem ((c.tc : Thread Cert.InFwdIdeal.nD Cert.InFwdIdeal.τ).loc Cert.InFwdIdeal.main_v8_1) = v1 c
          ∧ r.2.mem ((c.tc : Thread Cert.InFwdIdeal.nD Cert.InFwdIdeal.τ).loc Cert.InFwdIdeal.main_v8_2) = v2 c
          ∧ r.2.mem ((c.tc : Thread Cert.InFwdIdeal.nD Cert.InFwdIdeal.τ).loc Cert.InFwdIdeal.main_v8_3) = v3 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v37) = v0 c
          ∧ r.2.mem ((c.tc : Thread Cert.InFwdRefIdeal.nD Cert.InFwdRefIdeal.τ).loc Cert.InFwdRefIdeal.main_v39) = v1 c
          ∧ r.2.mem ((c.tc : Thread Cert.InFwdRefIdeal.nD Cert.InFwdRefIdeal.τ).loc Cert.InFwdRefIdeal.main_v41) = v2 c
          ∧ r.2.mem ((c.tc : Thread Cert.InFwdRefIdeal.nD Cert.InFwdRefIdeal.τ).loc Cert.InFwdRefIdeal.main_v43) = v3 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)
      ∧ m' ((c.tc : Thread Cert.UpFwdRefIdeal.nD Cert.UpFwdRefIdeal.τ).loc Cert.UpFwdRefIdeal.main_arg3) = m ((c.tc : Thread Cert.UpFwdIdeal.nD Cert.UpFwdIdeal.τ).loc Cert.UpFwdIdeal.main_arg3)
      ∧ m' ((c.tc : Thread Cert.UpFwdRefIdeal.nD Cert.UpFwdRefIdeal.τ).loc Cert.UpFwdRefIdeal.main_arg4) = m ((c.tc : Thread Cert.UpFwdIdeal.nD Cert.UpFwdIdeal.τ).loc Cert.UpFwdIdeal.main_arg4)) →
    ∃ (v0 : (c : Dev Cert.UpFwdIdeal.nD) → Buf (Elt Ideal) ((c.tc : Thread Cert.UpFwdIdeal.nD Cert.UpFwdIdeal.τ).loc Cert.UpFwdIdeal.main_v8_0)) (v1 : (c : Dev Cert.UpFwdIdeal.nD) → Buf (Elt Ideal) ((c.tc : Thread Cert.UpFwdIdeal.nD Cert.UpFwdIdeal.τ).loc Cert.UpFwdIdeal.main_v8_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v8_0) = v0 c
          ∧ r.2.mem ((c.tc : Thread Cert.UpFwdIdeal.nD Cert.UpFwdIdeal.τ).loc Cert.UpFwdIdeal.main_v8_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
          ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3)
          ∧ r.2.mem ((c.tc : Thread Cert.UpFwdIdeal.nD Cert.UpFwdIdeal.τ).loc Cert.UpFwdIdeal.main_arg4) = m ((c.tc : Thread Cert.UpFwdIdeal.nD Cert.UpFwdIdeal.τ).loc Cert.UpFwdIdeal.main_arg4))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v38) = v0 c
          ∧ r.2.mem ((c.tc : Thread Cert.UpFwdRefIdeal.nD Cert.UpFwdRefIdeal.τ).loc Cert.UpFwdRefIdeal.main_v40) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2)
          ∧ r.2.mem ((c.tc : Thread Cert.UpFwdRefIdeal.nD Cert.UpFwdRefIdeal.τ).loc Cert.UpFwdRefIdeal.main_arg3) = m' ((c.tc : Thread Cert.UpFwdRefIdeal.nD Cert.UpFwdRefIdeal.τ).loc Cert.UpFwdRefIdeal.main_arg3)
          ∧ r.2.mem ((c.tc : Thread Cert.UpFwdRefIdeal.nD Cert.UpFwdRefIdeal.τ).loc Cert.UpFwdRefIdeal.main_arg4) = m' ((c.tc : Thread Cert.UpFwdRefIdeal.nD Cert.UpFwdRefIdeal.τ).loc Cert.UpFwdRefIdeal.main_arg4))

def preserves_UpLast_UpLastIdeal : Prop :=
  True

def algebraic_UpLastIdeal_UpLastRefIdeal [hUpLastIdeal : Cert.UpLastIdeal.Facts] [hUpLastRefIdeal : Cert.UpLastRefIdeal.Facts] : Prop :=
  ∀ (m : (ℓ : Loc Cert.UpLastIdeal.nD Cert.UpLastIdeal.τ Cert.UpLastIdeal.sig) → Buf (Elt Ideal) ℓ) (g : Dev Cert.UpLastIdeal.nD → PrngReg)
    (m' : (ℓ : Loc Cert.UpLastRefIdeal.nD Cert.UpLastRefIdeal.τ Cert.UpLastRefIdeal.sig) → Buf (Elt Ideal) ℓ) (g' : Dev Cert.UpLastRefIdeal.nD → PrngReg), Pre_UpLastIdeal m →
    (∀ c : Dev Cert.UpLastIdeal.nD,
      m' ((c.tc : Thread Cert.UpLastRefIdeal.nD Cert.UpLastRefIdeal.τ).loc Cert.UpLastRefIdeal.main_arg0) = m ((c.tc : Thread Cert.UpLastIdeal.nD Cert.UpLastIdeal.τ).loc Cert.UpLastIdeal.main_arg0)
      ∧ m' ((c.tc : Thread Cert.UpLastRefIdeal.nD Cert.UpLastRefIdeal.τ).loc Cert.UpLastRefIdeal.main_arg1) = m ((c.tc : Thread Cert.UpLastIdeal.nD Cert.UpLastIdeal.τ).loc Cert.UpLastIdeal.main_arg1)
      ∧ m' ((c.tc : Thread Cert.UpLastRefIdeal.nD Cert.UpLastRefIdeal.τ).loc Cert.UpLastRefIdeal.main_arg2) = m ((c.tc : Thread Cert.UpLastIdeal.nD Cert.UpLastIdeal.τ).loc Cert.UpLastIdeal.main_arg2)
      ∧ m' ((c.tc : Thread Cert.UpLastRefIdeal.nD Cert.UpLastRefIdeal.τ).loc Cert.UpLastRefIdeal.main_arg3) = m ((c.tc : Thread Cert.UpLastIdeal.nD Cert.UpLastIdeal.τ).loc Cert.UpLastIdeal.main_arg3)
      ∧ m' ((c.tc : Thread Cert.UpLastRefIdeal.nD Cert.UpLastRefIdeal.τ).loc Cert.UpLastRefIdeal.main_arg4) = m ((c.tc : Thread Cert.UpLastIdeal.nD Cert.UpLastIdeal.τ).loc Cert.UpLastIdeal.main_arg4)) →
    ∃ (v0 : (c : Dev Cert.UpLastIdeal.nD) → Buf (Elt Ideal) ((c.tc : Thread Cert.UpLastIdeal.nD Cert.UpLastIdeal.τ).loc Cert.UpLastIdeal.main_v8_0)) (v1 : (c : Dev Cert.UpLastIdeal.nD) → Buf (Elt Ideal) ((c.tc : Thread Cert.UpLastIdeal.nD Cert.UpLastIdeal.τ).loc Cert.UpLastIdeal.main_v8_1)),
      θ_run (Cert.UpLastIdeal.defs (F := Ideal)) (onTc (τ := Cert.UpLastIdeal.τ) (Cert.UpLastIdeal.main (F := Ideal))) ⟨m, fun _ => 0, g⟩ (fun r => ∀ c : Dev Cert.UpLastIdeal.nD,
          r.2.mem ((c.tc : Thread Cert.UpLastIdeal.nD Cert.UpLastIdeal.τ).loc Cert.UpLastIdeal.main_v8_0) = v0 c
          ∧ r.2.mem ((c.tc : Thread Cert.UpLastIdeal.nD Cert.UpLastIdeal.τ).loc Cert.UpLastIdeal.main_v8_1) = v1 c
          ∧ r.2.mem ((c.tc : Thread Cert.UpLastIdeal.nD Cert.UpLastIdeal.τ).loc Cert.UpLastIdeal.main_arg0) = m ((c.tc : Thread Cert.UpLastIdeal.nD Cert.UpLastIdeal.τ).loc Cert.UpLastIdeal.main_arg0)
          ∧ r.2.mem ((c.tc : Thread Cert.UpLastIdeal.nD Cert.UpLastIdeal.τ).loc Cert.UpLastIdeal.main_arg1) = m ((c.tc : Thread Cert.UpLastIdeal.nD Cert.UpLastIdeal.τ).loc Cert.UpLastIdeal.main_arg1)
          ∧ r.2.mem ((c.tc : Thread Cert.UpLastIdeal.nD Cert.UpLastIdeal.τ).loc Cert.UpLastIdeal.main_arg2) = m ((c.tc : Thread Cert.UpLastIdeal.nD Cert.UpLastIdeal.τ).loc Cert.UpLastIdeal.main_arg2)
          ∧ r.2.mem ((c.tc : Thread Cert.UpLastIdeal.nD Cert.UpLastIdeal.τ).loc Cert.UpLastIdeal.main_arg3) = m ((c.tc : Thread Cert.UpLastIdeal.nD Cert.UpLastIdeal.τ).loc Cert.UpLastIdeal.main_arg3)
          ∧ r.2.mem ((c.tc : Thread Cert.UpLastIdeal.nD Cert.UpLastIdeal.τ).loc Cert.UpLastIdeal.main_arg4) = m ((c.tc : Thread Cert.UpLastIdeal.nD Cert.UpLastIdeal.τ).loc Cert.UpLastIdeal.main_arg4))
      ∧ θ_run (Cert.UpLastRefIdeal.defs (F := Ideal)) (onTc (τ := Cert.UpLastRefIdeal.τ) (Cert.UpLastRefIdeal.main (F := Ideal))) ⟨m', fun _ => 0, g'⟩ (fun r => ∀ c : Dev Cert.UpLastRefIdeal.nD,
          r.2.mem ((c.tc : Thread Cert.UpLastRefIdeal.nD Cert.UpLastRefIdeal.τ).loc Cert.UpLastRefIdeal.main_v33) = v0 c
          ∧ r.2.mem ((c.tc : Thread Cert.UpLastRefIdeal.nD Cert.UpLastRefIdeal.τ).loc Cert.UpLastRefIdeal.main_v35) = v1 c
          ∧ r.2.mem ((c.tc : Thread Cert.UpLastRefIdeal.nD Cert.UpLastRefIdeal.τ).loc Cert.UpLastRefIdeal.main_arg0) = m' ((c.tc : Thread Cert.UpLastRefIdeal.nD Cert.UpLastRefIdeal.τ).loc Cert.UpLastRefIdeal.main_arg0)
          ∧ r.2.mem ((c.tc : Thread Cert.UpLastRefIdeal.nD Cert.UpLastRefIdeal.τ).loc Cert.UpLastRefIdeal.main_arg1) = m' ((c.tc : Thread Cert.UpLastRefIdeal.nD Cert.UpLastRefIdeal.τ).loc Cert.UpLastRefIdeal.main_arg1)
          ∧ r.2.mem ((c.tc : Thread Cert.UpLastRefIdeal.nD Cert.UpLastRefIdeal.τ).loc Cert.UpLastRefIdeal.main_arg2) = m' ((c.tc : Thread Cert.UpLastRefIdeal.nD Cert.UpLastRefIdeal.τ).loc Cert.UpLastRefIdeal.main_arg2)
          ∧ r.2.mem ((c.tc : Thread Cert.UpLastRefIdeal.nD Cert.UpLastRefIdeal.τ).loc Cert.UpLastRefIdeal.main_arg3) = m' ((c.tc : Thread Cert.UpLastRefIdeal.nD Cert.UpLastRefIdeal.τ).loc Cert.UpLastRefIdeal.main_arg3)
          ∧ r.2.mem ((c.tc : Thread Cert.UpLastRefIdeal.nD Cert.UpLastRefIdeal.τ).loc Cert.UpLastRefIdeal.main_arg4) = m' ((c.tc : Thread Cert.UpLastRefIdeal.nD Cert.UpLastRefIdeal.τ).loc Cert.UpLastRefIdeal.main_arg4))

def preserves_FfSkip_FfSkipIdeal : Prop :=
  True

def algebraic_FfSkipIdeal_FfSkipRefIdeal [hFfSkipIdeal : Cert.FfSkipIdeal.Facts] [hFfSkipRefIdeal : Cert.FfSkipRefIdeal.Facts] : Prop :=
  ∀ (m : (ℓ : Loc Cert.FfSkipIdeal.nD Cert.FfSkipIdeal.τ Cert.FfSkipIdeal.sig) → Buf (Elt Ideal) ℓ) (g : Dev Cert.FfSkipIdeal.nD → PrngReg)
    (m' : (ℓ : Loc Cert.FfSkipRefIdeal.nD Cert.FfSkipRefIdeal.τ Cert.FfSkipRefIdeal.sig) → Buf (Elt Ideal) ℓ) (g' : Dev Cert.FfSkipRefIdeal.nD → PrngReg), Pre_FfSkipIdeal m →
    (∀ c : Dev Cert.FfSkipIdeal.nD,
      m' ((c.tc : Thread Cert.FfSkipRefIdeal.nD Cert.FfSkipRefIdeal.τ).loc Cert.FfSkipRefIdeal.main_arg0) = m ((c.tc : Thread Cert.FfSkipIdeal.nD Cert.FfSkipIdeal.τ).loc Cert.FfSkipIdeal.main_arg0)
      ∧ m' ((c.tc : Thread Cert.FfSkipRefIdeal.nD Cert.FfSkipRefIdeal.τ).loc Cert.FfSkipRefIdeal.main_arg1) = m ((c.tc : Thread Cert.FfSkipIdeal.nD Cert.FfSkipIdeal.τ).loc Cert.FfSkipIdeal.main_arg1)
      ∧ m' ((c.tc : Thread Cert.FfSkipRefIdeal.nD Cert.FfSkipRefIdeal.τ).loc Cert.FfSkipRefIdeal.main_arg2) = m ((c.tc : Thread Cert.FfSkipIdeal.nD Cert.FfSkipIdeal.τ).loc Cert.FfSkipIdeal.main_arg2)
      ∧ m' ((c.tc : Thread Cert.FfSkipRefIdeal.nD Cert.FfSkipRefIdeal.τ).loc Cert.FfSkipRefIdeal.main_arg3) = m ((c.tc : Thread Cert.FfSkipIdeal.nD Cert.FfSkipIdeal.τ).loc Cert.FfSkipIdeal.main_arg3)
      ∧ m' ((c.tc : Thread Cert.FfSkipRefIdeal.nD Cert.FfSkipRefIdeal.τ).loc Cert.FfSkipRefIdeal.main_arg4) = m ((c.tc : Thread Cert.FfSkipIdeal.nD Cert.FfSkipIdeal.τ).loc Cert.FfSkipIdeal.main_arg4)
      ∧ m' ((c.tc : Thread Cert.FfSkipRefIdeal.nD Cert.FfSkipRefIdeal.τ).loc Cert.FfSkipRefIdeal.main_arg5) = m ((c.tc : Thread Cert.FfSkipIdeal.nD Cert.FfSkipIdeal.τ).loc Cert.FfSkipIdeal.main_arg5)
      ∧ m' ((c.tc : Thread Cert.FfSkipRefIdeal.nD Cert.FfSkipRefIdeal.τ).loc Cert.FfSkipRefIdeal.main_arg6) = m ((c.tc : Thread Cert.FfSkipIdeal.nD Cert.FfSkipIdeal.τ).loc Cert.FfSkipIdeal.main_arg6)) →
    ∃ (v0 : (c : Dev Cert.FfSkipIdeal.nD) → Buf (Elt Ideal) ((c.tc : Thread Cert.FfSkipIdeal.nD Cert.FfSkipIdeal.τ).loc Cert.FfSkipIdeal.main_v10_0)) (v1 : (c : Dev Cert.FfSkipIdeal.nD) → Buf (Elt Ideal) ((c.tc : Thread Cert.FfSkipIdeal.nD Cert.FfSkipIdeal.τ).loc Cert.FfSkipIdeal.main_v10_1)) (v2 : (c : Dev Cert.FfSkipIdeal.nD) → Buf (Elt Ideal) ((c.tc : Thread Cert.FfSkipIdeal.nD Cert.FfSkipIdeal.τ).loc Cert.FfSkipIdeal.main_v10_2)),
      θ_run (Cert.FfSkipIdeal.defs (F := Ideal)) (onTc (τ := Cert.FfSkipIdeal.τ) (Cert.FfSkipIdeal.main (F := Ideal))) ⟨m, fun _ => 0, g⟩ (fun r => ∀ c : Dev Cert.FfSkipIdeal.nD,
          r.2.mem ((c.tc : Thread Cert.FfSkipIdeal.nD Cert.FfSkipIdeal.τ).loc Cert.FfSkipIdeal.main_v10_0) = v0 c
          ∧ r.2.mem ((c.tc : Thread Cert.FfSkipIdeal.nD Cert.FfSkipIdeal.τ).loc Cert.FfSkipIdeal.main_v10_1) = v1 c
          ∧ r.2.mem ((c.tc : Thread Cert.FfSkipIdeal.nD Cert.FfSkipIdeal.τ).loc Cert.FfSkipIdeal.main_v10_2) = v2 c
          ∧ r.2.mem ((c.tc : Thread Cert.FfSkipIdeal.nD Cert.FfSkipIdeal.τ).loc Cert.FfSkipIdeal.main_arg0) = m ((c.tc : Thread Cert.FfSkipIdeal.nD Cert.FfSkipIdeal.τ).loc Cert.FfSkipIdeal.main_arg0)
          ∧ r.2.mem ((c.tc : Thread Cert.FfSkipIdeal.nD Cert.FfSkipIdeal.τ).loc Cert.FfSkipIdeal.main_arg1) = m ((c.tc : Thread Cert.FfSkipIdeal.nD Cert.FfSkipIdeal.τ).loc Cert.FfSkipIdeal.main_arg1)
          ∧ r.2.mem ((c.tc : Thread Cert.FfSkipIdeal.nD Cert.FfSkipIdeal.τ).loc Cert.FfSkipIdeal.main_arg2) = m ((c.tc : Thread Cert.FfSkipIdeal.nD Cert.FfSkipIdeal.τ).loc Cert.FfSkipIdeal.main_arg2)
          ∧ r.2.mem ((c.tc : Thread Cert.FfSkipIdeal.nD Cert.FfSkipIdeal.τ).loc Cert.FfSkipIdeal.main_arg3) = m ((c.tc : Thread Cert.FfSkipIdeal.nD Cert.FfSkipIdeal.τ).loc Cert.FfSkipIdeal.main_arg3)
          ∧ r.2.mem ((c.tc : Thread Cert.FfSkipIdeal.nD Cert.FfSkipIdeal.τ).loc Cert.FfSkipIdeal.main_arg4) = m ((c.tc : Thread Cert.FfSkipIdeal.nD Cert.FfSkipIdeal.τ).loc Cert.FfSkipIdeal.main_arg4)
          ∧ r.2.mem ((c.tc : Thread Cert.FfSkipIdeal.nD Cert.FfSkipIdeal.τ).loc Cert.FfSkipIdeal.main_arg5) = m ((c.tc : Thread Cert.FfSkipIdeal.nD Cert.FfSkipIdeal.τ).loc Cert.FfSkipIdeal.main_arg5)
          ∧ r.2.mem ((c.tc : Thread Cert.FfSkipIdeal.nD Cert.FfSkipIdeal.τ).loc Cert.FfSkipIdeal.main_arg6) = m ((c.tc : Thread Cert.FfSkipIdeal.nD Cert.FfSkipIdeal.τ).loc Cert.FfSkipIdeal.main_arg6))
      ∧ θ_run (Cert.FfSkipRefIdeal.defs (F := Ideal)) (onTc (τ := Cert.FfSkipRefIdeal.τ) (Cert.FfSkipRefIdeal.main (F := Ideal))) ⟨m', fun _ => 0, g'⟩ (fun r => ∀ c : Dev Cert.FfSkipRefIdeal.nD,
          r.2.mem ((c.tc : Thread Cert.FfSkipRefIdeal.nD Cert.FfSkipRefIdeal.τ).loc Cert.FfSkipRefIdeal.main_v68) = v0 c
          ∧ r.2.mem ((c.tc : Thread Cert.FfSkipRefIdeal.nD Cert.FfSkipRefIdeal.τ).loc Cert.FfSkipRefIdeal.main_v76) = v1 c
          ∧ r.2.mem ((c.tc : Thread Cert.FfSkipRefIdeal.nD Cert.FfSkipRefIdeal.τ).loc Cert.FfSkipRefIdeal.main_v77) = v2 c
          ∧ r.2.mem ((c.tc : Thread Cert.FfSkipRefIdeal.nD Cert.FfSkipRefIdeal.τ).loc Cert.FfSkipRefIdeal.main_arg0) = m' ((c.tc : Thread Cert.FfSkipRefIdeal.nD Cert.FfSkipRefIdeal.τ).loc Cert.FfSkipRefIdeal.main_arg0)
          ∧ r.2.mem ((c.tc : Thread Cert.FfSkipRefIdeal.nD Cert.FfSkipRefIdeal.τ).loc Cert.FfSkipRefIdeal.main_arg1) = m' ((c.tc : Thread Cert.FfSkipRefIdeal.nD Cert.FfSkipRefIdeal.τ).loc Cert.FfSkipRefIdeal.main_arg1)
          ∧ r.2.mem ((c.tc : Thread Cert.FfSkipRefIdeal.nD Cert.FfSkipRefIdeal.τ).loc Cert.FfSkipRefIdeal.main_arg2) = m' ((c.tc : Thread Cert.FfSkipRefIdeal.nD Cert.FfSkipRefIdeal.τ).loc Cert.FfSkipRefIdeal.main_arg2)
          ∧ r.2.mem ((c.tc : Thread Cert.FfSkipRefIdeal.nD Cert.FfSkipRefIdeal.τ).loc Cert.FfSkipRefIdeal.main_arg3) = m' ((c.tc : Thread Cert.FfSkipRefIdeal.nD Cert.FfSkipRefIdeal.τ).loc Cert.FfSkipRefIdeal.main_arg3)
          ∧ r.2.mem ((c.tc : Thread Cert.FfSkipRefIdeal.nD Cert.FfSkipRefIdeal.τ).loc Cert.FfSkipRefIdeal.main_arg4) = m' ((c.tc : Thread Cert.FfSkipRefIdeal.nD Cert.FfSkipRefIdeal.τ).loc Cert.FfSkipRefIdeal.main_arg4)
          ∧ r.2.mem ((c.tc : Thread Cert.FfSkipRefIdeal.nD Cert.FfSkipRefIdeal.τ).loc Cert.FfSkipRefIdeal.main_arg5) = m' ((c.tc : Thread Cert.FfSkipRefIdeal.nD Cert.FfSkipRefIdeal.τ).loc Cert.FfSkipRefIdeal.main_arg5)
          ∧ r.2.mem ((c.tc : Thread Cert.FfSkipRefIdeal.nD Cert.FfSkipRefIdeal.τ).loc Cert.FfSkipRefIdeal.main_arg6) = m' ((c.tc : Thread Cert.FfSkipRefIdeal.nD Cert.FfSkipRefIdeal.τ).loc Cert.FfSkipRefIdeal.main_arg6))

def preserves_InLat_InLatIdeal : Prop :=
  True

def algebraic_InLatIdeal_InLatRefIdeal [hInLatIdeal : Cert.InLatIdeal.Facts] [hInLatRefIdeal : Cert.InLatRefIdeal.Facts] : Prop :=
  ∀ (m : (ℓ : Loc Cert.InLatIdeal.nD Cert.InLatIdeal.τ Cert.InLatIdeal.sig) → Buf (Elt Ideal) ℓ) (g : Dev Cert.InLatIdeal.nD → PrngReg)
    (m' : (ℓ : Loc Cert.InLatRefIdeal.nD Cert.InLatRefIdeal.τ Cert.InLatRefIdeal.sig) → Buf (Elt Ideal) ℓ) (g' : Dev Cert.InLatRefIdeal.nD → PrngReg), Pre_InLatIdeal m →
    (∀ c : Dev Cert.InLatIdeal.nD,
      m' ((c.tc : Thread Cert.InLatRefIdeal.nD Cert.InLatRefIdeal.τ).loc Cert.InLatRefIdeal.main_arg0) = m ((c.tc : Thread Cert.InLatIdeal.nD Cert.InLatIdeal.τ).loc Cert.InLatIdeal.main_arg0)
      ∧ m' ((c.tc : Thread Cert.InLatRefIdeal.nD Cert.InLatRefIdeal.τ).loc Cert.InLatRefIdeal.main_arg1) = m ((c.tc : Thread Cert.InLatIdeal.nD Cert.InLatIdeal.τ).loc Cert.InLatIdeal.main_arg1)
      ∧ m' ((c.tc : Thread Cert.InLatRefIdeal.nD Cert.InLatRefIdeal.τ).loc Cert.InLatRefIdeal.main_arg2) = m ((c.tc : Thread Cert.InLatIdeal.nD Cert.InLatIdeal.τ).loc Cert.InLatIdeal.main_arg2)
      ∧ m' ((c.tc : Thread Cert.InLatRefIdeal.nD Cert.InLatRefIdeal.τ).loc Cert.InLatRefIdeal.main_arg3) = m ((c.tc : Thread Cert.InLatIdeal.nD Cert.InLatIdeal.τ).loc Cert.InLatIdeal.main_arg3)
      ∧ m' ((c.tc : Thread Cert.InLatRefIdeal.nD Cert.InLatRefIdeal.τ).loc Cert.InLatRefIdeal.main_arg4) = m ((c.tc : Thread Cert.InLatIdeal.nD Cert.InLatIdeal.τ).loc Cert.InLatIdeal.main_arg4)
      ∧ m' ((c.tc : Thread Cert.InLatRefIdeal.nD Cert.InLatRefIdeal.τ).loc Cert.InLatRefIdeal.main_arg5) = m ((c.tc : Thread Cert.InLatIdeal.nD Cert.InLatIdeal.τ).loc Cert.InLatIdeal.main_arg5)
      ∧ m' ((c.tc : Thread Cert.InLatRefIdeal.nD Cert.InLatRefIdeal.τ).loc Cert.InLatRefIdeal.main_arg6) = m ((c.tc : Thread Cert.InLatIdeal.nD Cert.InLatIdeal.τ).loc Cert.InLatIdeal.main_arg6)) →
    ∃ (v0 : (c : Dev Cert.InLatIdeal.nD) → Buf (Elt Ideal) ((c.tc : Thread Cert.InLatIdeal.nD Cert.InLatIdeal.τ).loc Cert.InLatIdeal.main_v8_0)) (v1 : (c : Dev Cert.InLatIdeal.nD) → Buf (Elt Ideal) ((c.tc : Thread Cert.InLatIdeal.nD Cert.InLatIdeal.τ).loc Cert.InLatIdeal.main_v8_1)) (v2 : (c : Dev Cert.InLatIdeal.nD) → Buf (Elt Ideal) ((c.tc : Thread Cert.InLatIdeal.nD Cert.InLatIdeal.τ).loc Cert.InLatIdeal.main_v8_2)),
      θ_run (Cert.InLatIdeal.defs (F := Ideal)) (onTc (τ := Cert.InLatIdeal.τ) (Cert.InLatIdeal.main (F := Ideal))) ⟨m, fun _ => 0, g⟩ (fun r => ∀ c : Dev Cert.InLatIdeal.nD,
          r.2.mem ((c.tc : Thread Cert.InLatIdeal.nD Cert.InLatIdeal.τ).loc Cert.InLatIdeal.main_v8_0) = v0 c
          ∧ r.2.mem ((c.tc : Thread Cert.InLatIdeal.nD Cert.InLatIdeal.τ).loc Cert.InLatIdeal.main_v8_1) = v1 c
          ∧ r.2.mem ((c.tc : Thread Cert.InLatIdeal.nD Cert.InLatIdeal.τ).loc Cert.InLatIdeal.main_v8_2) = v2 c
          ∧ r.2.mem ((c.tc : Thread Cert.InLatIdeal.nD Cert.InLatIdeal.τ).loc Cert.InLatIdeal.main_arg0) = m ((c.tc : Thread Cert.InLatIdeal.nD Cert.InLatIdeal.τ).loc Cert.InLatIdeal.main_arg0)
          ∧ r.2.mem ((c.tc : Thread Cert.InLatIdeal.nD Cert.InLatIdeal.τ).loc Cert.InLatIdeal.main_arg1) = m ((c.tc : Thread Cert.InLatIdeal.nD Cert.InLatIdeal.τ).loc Cert.InLatIdeal.main_arg1)
          ∧ r.2.mem ((c.tc : Thread Cert.InLatIdeal.nD Cert.InLatIdeal.τ).loc Cert.InLatIdeal.main_arg2) = m ((c.tc : Thread Cert.InLatIdeal.nD Cert.InLatIdeal.τ).loc Cert.InLatIdeal.main_arg2)
          ∧ r.2.mem ((c.tc : Thread Cert.InLatIdeal.nD Cert.InLatIdeal.τ).loc Cert.InLatIdeal.main_arg3) = m ((c.tc : Thread Cert.InLatIdeal.nD Cert.InLatIdeal.τ).loc Cert.InLatIdeal.main_arg3)
          ∧ r.2.mem ((c.tc : Thread Cert.InLatIdeal.nD Cert.InLatIdeal.τ).loc Cert.InLatIdeal.main_arg4) = m ((c.tc : Thread Cert.InLatIdeal.nD Cert.InLatIdeal.τ).loc Cert.InLatIdeal.main_arg4)
          ∧ r.2.mem ((c.tc : Thread Cert.InLatIdeal.nD Cert.InLatIdeal.τ).loc Cert.InLatIdeal.main_arg5) = m ((c.tc : Thread Cert.InLatIdeal.nD Cert.InLatIdeal.τ).loc Cert.InLatIdeal.main_arg5)
          ∧ r.2.mem ((c.tc : Thread Cert.InLatIdeal.nD Cert.InLatIdeal.τ).loc Cert.InLatIdeal.main_arg6) = m ((c.tc : Thread Cert.InLatIdeal.nD Cert.InLatIdeal.τ).loc Cert.InLatIdeal.main_arg6))
      ∧ θ_run (Cert.InLatRefIdeal.defs (F := Ideal)) (onTc (τ := Cert.InLatRefIdeal.τ) (Cert.InLatRefIdeal.main (F := Ideal))) ⟨m', fun _ => 0, g'⟩ (fun r => ∀ c : Dev Cert.InLatRefIdeal.nD,
          r.2.mem ((c.tc : Thread Cert.InLatRefIdeal.nD Cert.InLatRefIdeal.τ).loc Cert.InLatRefIdeal.main_v84) = v0 c
          ∧ r.2.mem ((c.tc : Thread Cert.InLatRefIdeal.nD Cert.InLatRefIdeal.τ).loc Cert.InLatRefIdeal.main_v82) = v1 c
          ∧ r.2.mem ((c.tc : Thread Cert.InLatRefIdeal.nD Cert.InLatRefIdeal.τ).loc Cert.InLatRefIdeal.main_v83) = v2 c
          ∧ r.2.mem ((c.tc : Thread Cert.InLatRefIdeal.nD Cert.InLatRefIdeal.τ).loc Cert.InLatRefIdeal.main_arg0) = m' ((c.tc : Thread Cert.InLatRefIdeal.nD Cert.InLatRefIdeal.τ).loc Cert.InLatRefIdeal.main_arg0)
          ∧ r.2.mem ((c.tc : Thread Cert.InLatRefIdeal.nD Cert.InLatRefIdeal.τ).loc Cert.InLatRefIdeal.main_arg1) = m' ((c.tc : Thread Cert.InLatRefIdeal.nD Cert.InLatRefIdeal.τ).loc Cert.InLatRefIdeal.main_arg1)
          ∧ r.2.mem ((c.tc : Thread Cert.InLatRefIdeal.nD Cert.InLatRefIdeal.τ).loc Cert.InLatRefIdeal.main_arg2) = m' ((c.tc : Thread Cert.InLatRefIdeal.nD Cert.InLatRefIdeal.τ).loc Cert.InLatRefIdeal.main_arg2)
          ∧ r.2.mem ((c.tc : Thread Cert.InLatRefIdeal.nD Cert.InLatRefIdeal.τ).loc Cert.InLatRefIdeal.main_arg3) = m' ((c.tc : Thread Cert.InLatRefIdeal.nD Cert.InLatRefIdeal.τ).loc Cert.InLatRefIdeal.main_arg3)
          ∧ r.2.mem ((c.tc : Thread Cert.InLatRefIdeal.nD Cert.InLatRefIdeal.τ).loc Cert.InLatRefIdeal.main_arg4) = m' ((c.tc : Thread Cert.InLatRefIdeal.nD Cert.InLatRefIdeal.τ).loc Cert.InLatRefIdeal.main_arg4)
          ∧ r.2.mem ((c.tc : Thread Cert.InLatRefIdeal.nD Cert.InLatRefIdeal.τ).loc Cert.InLatRefIdeal.main_arg5) = m' ((c.tc : Thread Cert.InLatRefIdeal.nD Cert.InLatRefIdeal.τ).loc Cert.InLatRefIdeal.main_arg5)
          ∧ r.2.mem ((c.tc : Thread Cert.InLatRefIdeal.nD Cert.InLatRefIdeal.τ).loc Cert.InLatRefIdeal.main_arg6) = m' ((c.tc : Thread Cert.InLatRefIdeal.nD Cert.InLatRefIdeal.τ).loc Cert.InLatRefIdeal.main_arg6))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v1) = v0 c
          ∧ r.2.mem ((c.tc : Thread Cert.AdInRefIdeal.nD Cert.AdInRefIdeal.τ).loc Cert.AdInRefIdeal.main_v25) = v1 c
          ∧ r.2.mem ((c.tc : Thread Cert.AdInRefIdeal.nD Cert.AdInRefIdeal.τ).loc Cert.AdInRefIdeal.main_v6) = v2 c
          ∧ r.2.mem ((c.tc : Thread Cert.AdInRefIdeal.nD Cert.AdInRefIdeal.τ).loc Cert.AdInRefIdeal.main_v12) = v3 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdUp_AdUpIdeal : Prop :=
  True

def algebraic_AdUpIdeal_AdUpRefIdeal [hAdUpIdeal : Cert.AdUpIdeal.Facts] [hAdUpRefIdeal : Cert.AdUpRefIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpRefIdeal.nD Cert.AdUpRefIdeal.τ Cert.AdUpRefIdeal.sig) → Buf (Elt Ideal) ℓ) (g' : Dev Cert.AdUpRefIdeal.nD → PrngReg), Pre_AdUpIdeal m →
    (∀ c : Dev Cert.AdUpIdeal.nD,
      m' ((c.tc : Thread Cert.AdUpRefIdeal.nD Cert.AdUpRefIdeal.τ).loc Cert.AdUpRefIdeal.main_arg0) = m ((c.tc : Thread Cert.AdUpIdeal.nD Cert.AdUpIdeal.τ).loc Cert.AdUpIdeal.main_arg0)
      ∧ m' ((c.tc : Thread Cert.AdUpRefIdeal.nD Cert.AdUpRefIdeal.τ).loc Cert.AdUpRefIdeal.main_arg1) = m ((c.tc : Thread Cert.AdUpIdeal.nD Cert.AdUpIdeal.τ).loc Cert.AdUpIdeal.main_arg1)
      ∧ m' ((c.tc : Thread Cert.AdUpRefIdeal.nD Cert.AdUpRefIdeal.τ).loc Cert.AdUpRefIdeal.main_arg2) = m ((c.tc : Thread Cert.AdUpIdeal.nD Cert.AdUpIdeal.τ).loc Cert.AdUpIdeal.main_arg2)
      ∧ m' ((c.tc : Thread Cert.AdUpRefIdeal.nD Cert.AdUpRefIdeal.τ).loc Cert.AdUpRefIdeal.main_arg3) = m ((c.tc : Thread Cert.AdUpIdeal.nD Cert.AdUpIdeal.τ).loc Cert.AdUpIdeal.main_arg3)) →
    ∃ (v0 : (c : Dev Cert.AdUpIdeal.nD) → Buf (Elt Ideal) ((c.tc : Thread Cert.AdUpIdeal.nD Cert.AdUpIdeal.τ).loc Cert.AdUpIdeal.main_v0_0)) (v1 : (c : Dev Cert.AdUpIdeal.nD) → Buf (Elt Ideal) ((c.tc : Thread Cert.AdUpIdeal.nD Cert.AdUpIdeal.τ).loc Cert.AdUpIdeal.main_v0_1)) (v2 : (c : Dev Cert.AdUpIdeal.nD) → Buf (Elt Ideal) ((c.tc : Thread Cert.AdUpIdeal.nD Cert.AdUpIdeal.τ).loc Cert.AdUpIdeal.main_v0_2)) (v3 : (c : Dev Cert.AdUpIdeal.nD) → Buf (Elt Ideal) ((c.tc : Thread Cert.AdUpIdeal.nD Cert.AdUpIdeal.τ).loc Cert.AdUpIdeal.main_v0_3)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v0_0) = v0 c
          ∧ r.2.mem ((c.tc : Thread Cert.AdUpIdeal.nD Cert.AdUpIdeal.τ).loc Cert.AdUpIdeal.main_v0_1) = v1 c
          ∧ r.2.mem ((c.tc : Thread Cert.AdUpIdeal.nD Cert.AdUpIdeal.τ).loc Cert.AdUpIdeal.main_v0_2) = v2 c
          ∧ r.2.mem ((c.tc : Thread Cert.AdUpIdeal.nD Cert.AdUpIdeal.τ).loc Cert.AdUpIdeal.main_v0_3) = v3 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ θ_run (Cert.AdUpRefIdeal.defs (F := Ideal)) (onTc (τ := Cert.AdUpRefIdeal.τ) (Cert.AdUpRefIdeal.main (F := Ideal))) ⟨m', fun _ => 0, g'⟩ (fun r => ∀ c : Dev Cert.AdUpRefIdeal.nD,
          r.2.mem ((c.tc : Thread Cert.AdUpRefIdeal.nD Cert.AdUpRefIdeal.τ).loc Cert.AdUpRefIdeal.main_v1) = v0 c
          ∧ r.2.mem ((c.tc : Thread Cert.AdUpRefIdeal.nD Cert.AdUpRefIdeal.τ).loc Cert.AdUpRefIdeal.main_v25) = v1 c
          ∧ r.2.mem ((c.tc : Thread Cert.AdUpRefIdeal.nD Cert.AdUpRefIdeal.τ).loc Cert.AdUpRefIdeal.main_v6) = v2 c
          ∧ r.2.mem ((c.tc : Thread Cert.AdUpRefIdeal.nD Cert.AdUpRefIdeal.τ).loc Cert.AdUpRefIdeal.main_v12) = v3 c
          ∧ r.2.mem ((c.tc : Thread Cert.AdUpRefIdeal.nD Cert.AdUpRefIdeal.τ).loc Cert.AdUpRefIdeal.main_arg0) = m' ((c.tc : Thread Cert.AdUpRefIdeal.nD Cert.AdUpRefIdeal.τ).loc Cert.AdUpRefIdeal.main_arg0)
          ∧ r.2.mem ((c.tc : Thread Cert.AdUpRefIdeal.nD Cert.AdUpRefIdeal.τ).loc Cert.AdUpRefIdeal.main_arg1) = m' ((c.tc : Thread Cert.AdUpRefIdeal.nD Cert.AdUpRefIdeal.τ).loc Cert.AdUpRefIdeal.main_arg1)
          ∧ r.2.mem ((c.tc : Thread Cert.AdUpRefIdeal.nD Cert.AdUpRefIdeal.τ).loc Cert.AdUpRefIdeal.main_arg2) = m' ((c.tc : Thread Cert.AdUpRefIdeal.nD Cert.AdUpRefIdeal.τ).loc Cert.AdUpRefIdeal.main_arg2)
          ∧ r.2.mem ((c.tc : Thread Cert.AdUpRefIdeal.nD Cert.AdUpRefIdeal.τ).loc Cert.AdUpRefIdeal.main_arg3) = m' ((c.tc : Thread Cert.AdUpRefIdeal.nD Cert.AdUpRefIdeal.τ).loc Cert.AdUpRefIdeal.main_arg3))

def preserves_AdMix_AdMixIdeal : Prop :=
  True

def algebraic_AdMixIdeal_AdMixRefIdeal [hAdMixIdeal : Cert.AdMixIdeal.Facts] [hAdMixRefIdeal : Cert.AdMixRefIdeal.Facts] : Prop :=
  ∀ (m : (ℓ : Loc Cert.AdMixIdeal.nD Cert.AdMixIdeal.τ Cert.AdMixIdeal.sig) → Buf (Elt Ideal) ℓ) (g : Dev Cert.AdMixIdeal.nD → PrngReg)
    (m' : (ℓ : Loc Cert.AdMixRefIdeal.nD Cert.AdMixRefIdeal.τ Cert.AdMixRefIdeal.sig) → Buf (Elt Ideal) ℓ) (g' : Dev Cert.AdMixRefIdeal.nD → PrngReg), Pre_AdMixIdeal m →
    (∀ c : Dev Cert.AdMixIdeal.nD,
      m' ((c.tc : Thread Cert.AdMixRefIdeal.nD Cert.AdMixRefIdeal.τ).loc Cert.AdMixRefIdeal.main_arg0) = m ((c.tc : Thread Cert.AdMixIdeal.nD Cert.AdMixIdeal.τ).loc Cert.AdMixIdeal.main_arg0)
      ∧ m' ((c.tc : Thread Cert.AdMixRefIdeal.nD Cert.AdMixRefIdeal.τ).loc Cert.AdMixRefIdeal.main_arg1) = m ((c.tc : Thread Cert.AdMixIdeal.nD Cert.AdMixIdeal.τ).loc Cert.AdMixIdeal.main_arg1)
      ∧ m' ((c.tc : Thread Cert.AdMixRefIdeal.nD Cert.AdMixRefIdeal.τ).loc Cert.AdMixRefIdeal.main_arg2) = m ((c.tc : Thread Cert.AdMixIdeal.nD Cert.AdMixIdeal.τ).loc Cert.AdMixIdeal.main_arg2)
      ∧ m' ((c.tc : Thread Cert.AdMixRefIdeal.nD Cert.AdMixRefIdeal.τ).loc Cert.AdMixRefIdeal.main_arg3) = m ((c.tc : Thread Cert.AdMixIdeal.nD Cert.AdMixIdeal.τ).loc Cert.AdMixIdeal.main_arg3)) →
    ∃ (v0 : (c : Dev Cert.AdMixIdeal.nD) → Buf (Elt Ideal) ((c.tc : Thread Cert.AdMixIdeal.nD Cert.AdMixIdeal.τ).loc Cert.AdMixIdeal.main_v0_0)) (v1 : (c : Dev Cert.AdMixIdeal.nD) → Buf (Elt Ideal) ((c.tc : Thread Cert.AdMixIdeal.nD Cert.AdMixIdeal.τ).loc Cert.AdMixIdeal.main_v0_1)) (v2 : (c : Dev Cert.AdMixIdeal.nD) → Buf (Elt Ideal) ((c.tc : Thread Cert.AdMixIdeal.nD Cert.AdMixIdeal.τ).loc Cert.AdMixIdeal.main_v0_2)) (v3 : (c : Dev Cert.AdMixIdeal.nD) → Buf (Elt Ideal) ((c.tc : Thread Cert.AdMixIdeal.nD Cert.AdMixIdeal.τ).loc Cert.AdMixIdeal.main_v0_3)),
      θ_run (Cert.AdMixIdeal.defs (F := Ideal)) (onTc (τ := Cert.AdMixIdeal.τ) (Cert.AdMixIdeal.main (F := Ideal))) ⟨m, fun _ => 0, g⟩ (fun r => ∀ c : Dev Cert.AdMixIdeal.nD,
          r.2.mem ((c.tc : Thread Cert.AdMixIdeal.nD Cert.AdMixIdeal.τ).loc Cert.AdMixIdeal.main_v0_0) = v0 c
          ∧ r.2.mem ((c.tc : Thread Cert.AdMixIdeal.nD Cert.AdMixIdeal.τ).loc Cert.AdMixIdeal.main_v0_1) = v1 c
          ∧ r.2.mem ((c.tc : Thread Cert.AdMixIdeal.nD Cert.AdMixIdeal.τ).loc Cert.AdMixIdeal.main_v0_2) = v2 c
          ∧ r.2.mem ((c.tc : Thread Cert.AdMixIdeal.nD Cert.AdMixIdeal.τ).loc Cert.AdMixIdeal.main_v0_3) = v3 c
          ∧ r.2.mem ((c.tc : Thread Cert.AdMixIdeal.nD Cert.AdMixIdeal.τ).loc Cert.AdMixIdeal.main_arg0) = m ((c.tc : Thread Cert.AdMixIdeal.nD Cert.AdMixIdeal.τ).loc Cert.AdMixIdeal.main_arg0)
          ∧ r.2.mem ((c.tc : Thread Cert.AdMixIdeal.nD Cert.AdMixIdeal.τ).loc Cert.AdMixIdeal.main_arg1) = m ((c.tc : Thread Cert.AdMixIdeal.nD Cert.AdMixIdeal.τ).loc Cert.AdMixIdeal.main_arg1)
          ∧ r.2.mem ((c.tc : Thread Cert.AdMixIdeal.nD Cert.AdMixIdeal.τ).loc Cert.AdMixIdeal.main_arg2) = m ((c.tc : Thread Cert.AdMixIdeal.nD Cert.AdMixIdeal.τ).loc Cert.AdMixIdeal.main_arg2)
          ∧ r.2.mem ((c.tc : Thread Cert.AdMixIdeal.nD Cert.AdMixIdeal.τ).loc Cert.AdMixIdeal.main_arg3) = m ((c.tc : Thread Cert.AdMixIdeal.nD Cert.AdMixIdeal.τ).loc Cert.AdMixIdeal.main_arg3))
      ∧ θ_run (Cert.AdMixRefIdeal.defs (F := Ideal)) (onTc (τ := Cert.AdMixRefIdeal.τ) (Cert.AdMixRefIdeal.main (F := Ideal))) ⟨m', fun _ => 0, g'⟩ (fun r => ∀ c : Dev Cert.AdMixRefIdeal.nD,
          r.2.mem ((c.tc : Thread Cert.AdMixRefIdeal.nD Cert.AdMixRefIdeal.τ).loc Cert.AdMixRefIdeal.main_v1) = v0 c
          ∧ r.2.mem ((c.tc : Thread Cert.AdMixRefIdeal.nD Cert.AdMixRefIdeal.τ).loc Cert.AdMixRefIdeal.main_v25) = v1 c
          ∧ r.2.mem ((c.tc : Thread Cert.AdMixRefIdeal.nD Cert.AdMixRefIdeal.τ).loc Cert.AdMixRefIdeal.main_v6) = v2 c
          ∧ r.2.mem ((c.tc : Thread Cert.AdMixRefIdeal.nD Cert.AdMixRefIdeal.τ).loc Cert.AdMixRefIdeal.main_v12) = v3 c
          ∧ r.2.mem ((c.tc : Thread Cert.AdMixRefIdeal.nD Cert.AdMixRefIdeal.τ).loc Cert.AdMixRefIdeal.main_arg0) = m' ((c.tc : Thread Cert.AdMixRefIdeal.nD Cert.AdMixRefIdeal.τ).loc Cert.AdMixRefIdeal.main_arg0)
          ∧ r.2.mem ((c.tc : Thread Cert.AdMixRefIdeal.nD Cert.AdMixRefIdeal.τ).loc Cert.AdMixRefIdeal.main_arg1) = m' ((c.tc : Thread Cert.AdMixRefIdeal.nD Cert.AdMixRefIdeal.τ).loc Cert.AdMixRefIdeal.main_arg1)
          ∧ r.2.mem ((c.tc : Thread Cert.AdMixRefIdeal.nD Cert.AdMixRefIdeal.τ).loc Cert.AdMixRefIdeal.main_arg2) = m' ((c.tc : Thread Cert.AdMixRefIdeal.nD Cert.AdMixRefIdeal.τ).loc Cert.AdMixRefIdeal.main_arg2)
          ∧ r.2.mem ((c.tc : Thread Cert.AdMixRefIdeal.nD Cert.AdMixRefIdeal.τ).loc Cert.AdMixRefIdeal.main_arg3) = m' ((c.tc : Thread Cert.AdMixRefIdeal.nD Cert.AdMixRefIdeal.τ).loc Cert.AdMixRefIdeal.main_arg3))

def preserves_AdDown_AdDownIdeal : Prop :=
  True

def algebraic_AdDownIdeal_AdDownRefIdeal [hAdDownIdeal : Cert.AdDownIdeal.Facts] [hAdDownRefIdeal : Cert.AdDownRefIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownRefIdeal.nD Cert.AdDownRefIdeal.τ Cert.AdDownRefIdeal.sig) → Buf (Elt Ideal) ℓ) (g' : Dev Cert.AdDownRefIdeal.nD → PrngReg), Pre_AdDownIdeal m →
    (∀ c : Dev Cert.AdDownIdeal.nD,
      m' ((c.tc : Thread Cert.AdDownRefIdeal.nD Cert.AdDownRefIdeal.τ).loc Cert.AdDownRefIdeal.main_arg0) = m ((c.tc : Thread Cert.AdDownIdeal.nD Cert.AdDownIdeal.τ).loc Cert.AdDownIdeal.main_arg0)
      ∧ m' ((c.tc : Thread Cert.AdDownRefIdeal.nD Cert.AdDownRefIdeal.τ).loc Cert.AdDownRefIdeal.main_arg1) = m ((c.tc : Thread Cert.AdDownIdeal.nD Cert.AdDownIdeal.τ).loc Cert.AdDownIdeal.main_arg1)
      ∧ m' ((c.tc : Thread Cert.AdDownRefIdeal.nD Cert.AdDownRefIdeal.τ).loc Cert.AdDownRefIdeal.main_arg2) = m ((c.tc : Thread Cert.AdDownIdeal.nD Cert.AdDownIdeal.τ).loc Cert.AdDownIdeal.main_arg2)
      ∧ m' ((c.tc : Thread Cert.AdDownRefIdeal.nD Cert.AdDownRefIdeal.τ).loc Cert.AdDownRefIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v0_0)) (v1 : (c : Dev Cert.AdDownIdeal.nD) → Buf (Elt Ideal) ((c.tc : Thread Cert.AdDownIdeal.nD Cert.AdDownIdeal.τ).loc Cert.AdDownIdeal.main_v0_1)) (v2 : (c : Dev Cert.AdDownIdeal.nD) → Buf (Elt Ideal) ((c.tc : Thread Cert.AdDownIdeal.nD Cert.AdDownIdeal.τ).loc Cert.AdDownIdeal.main_v0_2)) (v3 : (c : Dev Cert.AdDownIdeal.nD) → Buf (Elt Ideal) ((c.tc : Thread Cert.AdDownIdeal.nD Cert.AdDownIdeal.τ).loc Cert.AdDownIdeal.main_v0_3)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v0_0) = v0 c
          ∧ r.2.mem ((c.tc : Thread Cert.AdDownIdeal.nD Cert.AdDownIdeal.τ).loc Cert.AdDownIdeal.main_v0_1) = v1 c
          ∧ r.2.mem ((c.tc : Thread Cert.AdDownIdeal.nD Cert.AdDownIdeal.τ).loc Cert.AdDownIdeal.main_v0_2) = v2 c
          ∧ r.2.mem ((c.tc : Thread Cert.AdDownIdeal.nD Cert.AdDownIdeal.τ).loc Cert.AdDownIdeal.main_v0_3) = v3 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.AdDownRefIdeal.defs (F := Ideal)) (onTc (τ := Cert.AdDownRefIdeal.τ) (Cert.AdDownRefIdeal.main (F := Ideal))) ⟨m', fun _ => 0, g'⟩ (fun r => ∀ c : Dev Cert.AdDownRefIdeal.nD,
          r.2.mem ((c.tc : Thread Cert.AdDownRefIdeal.nD Cert.AdDownRefIdeal.τ).loc Cert.AdDownRefIdeal.main_v1) = v0 c
          ∧ r.2.mem ((c.tc : Thread Cert.AdDownRefIdeal.nD Cert.AdDownRefIdeal.τ).loc Cert.AdDownRefIdeal.main_v25) = v1 c
          ∧ r.2.mem ((c.tc : Thread Cert.AdDownRefIdeal.nD Cert.AdDownRefIdeal.τ).loc Cert.AdDownRefIdeal.main_v6) = v2 c
          ∧ r.2.mem ((c.tc : Thread Cert.AdDownRefIdeal.nD Cert.AdDownRefIdeal.τ).loc Cert.AdDownRefIdeal.main_v12) = v3 c
          ∧ r.2.mem ((c.tc : Thread Cert.AdDownRefIdeal.nD Cert.AdDownRefIdeal.τ).loc Cert.AdDownRefIdeal.main_arg0) = m' ((c.tc : Thread Cert.AdDownRefIdeal.nD Cert.AdDownRefIdeal.τ).loc Cert.AdDownRefIdeal.main_arg0)
          ∧ r.2.mem ((c.tc : Thread Cert.AdDownRefIdeal.nD Cert.AdDownRefIdeal.τ).loc Cert.AdDownRefIdeal.main_arg1) = m' ((c.tc : Thread Cert.AdDownRefIdeal.nD Cert.AdDownRefIdeal.τ).loc Cert.AdDownRefIdeal.main_arg1)
          ∧ r.2.mem ((c.tc : Thread Cert.AdDownRefIdeal.nD Cert.AdDownRefIdeal.τ).loc Cert.AdDownRefIdeal.main_arg2) = m' ((c.tc : Thread Cert.AdDownRefIdeal.nD Cert.AdDownRefIdeal.τ).loc Cert.AdDownRefIdeal.main_arg2)
          ∧ r.2.mem ((c.tc : Thread Cert.AdDownRefIdeal.nD Cert.AdDownRefIdeal.τ).loc Cert.AdDownRefIdeal.main_arg3) = m' ((c.tc : Thread Cert.AdDownRefIdeal.nD Cert.AdDownRefIdeal.τ).loc Cert.AdDownRefIdeal.main_arg3))

def preserves_AdRep_AdRepIdeal : Prop :=
  True

def algebraic_AdRepIdeal_AdRepRefIdeal [hAdRepIdeal : Cert.AdRepIdeal.Facts] [hAdRepRefIdeal : Cert.AdRepRefIdeal.Facts] : Prop :=
  ∀ (m : (ℓ : Loc Cert.AdRepIdeal.nD Cert.AdRepIdeal.τ Cert.AdRepIdeal.sig) → Buf (Elt Ideal) ℓ) (g : Dev Cert.AdRepIdeal.nD → PrngReg)
    (m' : (ℓ : Loc Cert.AdRepRefIdeal.nD Cert.AdRepRefIdeal.τ Cert.AdRepRefIdeal.sig) → Buf (Elt Ideal) ℓ) (g' : Dev Cert.AdRepRefIdeal.nD → PrngReg), Pre_AdRepIdeal m →
    (∀ c : Dev Cert.AdRepIdeal.nD,
      m' ((c.tc : Thread Cert.AdRepRefIdeal.nD Cert.AdRepRefIdeal.τ).loc Cert.AdRepRefIdeal.main_arg0) = m ((c.tc : Thread Cert.AdRepIdeal.nD Cert.AdRepIdeal.τ).loc Cert.AdRepIdeal.main_arg0)
      ∧ m' ((c.tc : Thread Cert.AdRepRefIdeal.nD Cert.AdRepRefIdeal.τ).loc Cert.AdRepRefIdeal.main_arg1) = m ((c.tc : Thread Cert.AdRepIdeal.nD Cert.AdRepIdeal.τ).loc Cert.AdRepIdeal.main_arg1)
      ∧ m' ((c.tc : Thread Cert.AdRepRefIdeal.nD Cert.AdRepRefIdeal.τ).loc Cert.AdRepRefIdeal.main_arg2) = m ((c.tc : Thread Cert.AdRepIdeal.nD Cert.AdRepIdeal.τ).loc Cert.AdRepIdeal.main_arg2)
      ∧ m' ((c.tc : Thread Cert.AdRepRefIdeal.nD Cert.AdRepRefIdeal.τ).loc Cert.AdRepRefIdeal.main_arg3) = m ((c.tc : Thread Cert.AdRepIdeal.nD Cert.AdRepIdeal.τ).loc Cert.AdRepIdeal.main_arg3)) →
    ∃ (v0 : (c : Dev Cert.AdRepIdeal.nD) → Buf (Elt Ideal) ((c.tc : Thread Cert.AdRepIdeal.nD Cert.AdRepIdeal.τ).loc Cert.AdRepIdeal.main_v0_0)) (v1 : (c : Dev Cert.AdRepIdeal.nD) → Buf (Elt Ideal) ((c.tc : Thread Cert.AdRepIdeal.nD Cert.AdRepIdeal.τ).loc Cert.AdRepIdeal.main_v0_1)) (v2 : (c : Dev Cert.AdRepIdeal.nD) → Buf (Elt Ideal) ((c.tc : Thread Cert.AdRepIdeal.nD Cert.AdRepIdeal.τ).loc Cert.AdRepIdeal.main_v0_2)) (v3 : (c : Dev Cert.AdRepIdeal.nD) → Buf (Elt Ideal) ((c.tc : Thread Cert.AdRepIdeal.nD Cert.AdRepIdeal.τ).loc Cert.AdRepIdeal.main_v0_3)),
      θ_run (Cert.AdRepIdeal.defs (F := Ideal)) (onTc (τ := Cert.AdRepIdeal.τ) (Cert.AdRepIdeal.main (F := Ideal))) ⟨m, fun _ => 0, g⟩ (fun r => ∀ c : Dev Cert.AdRepIdeal.nD,
          r.2.mem ((c.tc : Thread Cert.AdRepIdeal.nD Cert.AdRepIdeal.τ).loc Cert.AdRepIdeal.main_v0_0) = v0 c
          ∧ r.2.mem ((c.tc : Thread Cert.AdRepIdeal.nD Cert.AdRepIdeal.τ).loc Cert.AdRepIdeal.main_v0_1) = v1 c
          ∧ r.2.mem ((c.tc : Thread Cert.AdRepIdeal.nD Cert.AdRepIdeal.τ).loc Cert.AdRepIdeal.main_v0_2) = v2 c
          ∧ r.2.mem ((c.tc : Thread Cert.AdRepIdeal.nD Cert.AdRepIdeal.τ).loc Cert.AdRepIdeal.main_v0_3) = v3 c
          ∧ r.2.mem ((c.tc : Thread Cert.AdRepIdeal.nD Cert.AdRepIdeal.τ).loc Cert.AdRepIdeal.main_arg0) = m ((c.tc : Thread Cert.AdRepIdeal.nD Cert.AdRepIdeal.τ).loc Cert.AdRepIdeal.main_arg0)
          ∧ r.2.mem ((c.tc : Thread Cert.AdRepIdeal.nD Cert.AdRepIdeal.τ).loc Cert.AdRepIdeal.main_arg1) = m ((c.tc : Thread Cert.AdRepIdeal.nD Cert.AdRepIdeal.τ).loc Cert.AdRepIdeal.main_arg1)
          ∧ r.2.mem ((c.tc : Thread Cert.AdRepIdeal.nD Cert.AdRepIdeal.τ).loc Cert.AdRepIdeal.main_arg2) = m ((c.tc : Thread Cert.AdRepIdeal.nD Cert.AdRepIdeal.τ).loc Cert.AdRepIdeal.main_arg2)
          ∧ r.2.mem ((c.tc : Thread Cert.AdRepIdeal.nD Cert.AdRepIdeal.τ).loc Cert.AdRepIdeal.main_arg3) = m ((c.tc : Thread Cert.AdRepIdeal.nD Cert.AdRepIdeal.τ).loc Cert.AdRepIdeal.main_arg3))
      ∧ θ_run (Cert.AdRepRefIdeal.defs (F := Ideal)) (onTc (τ := Cert.AdRepRefIdeal.τ) (Cert.AdRepRefIdeal.main (F := Ideal))) ⟨m', fun _ => 0, g'⟩ (fun r => ∀ c : Dev Cert.AdRepRefIdeal.nD,
          r.2.mem ((c.tc : Thread Cert.AdRepRefIdeal.nD Cert.AdRepRefIdeal.τ).loc Cert.AdRepRefIdeal.main_v1) = v0 c
          ∧ r.2.mem ((c.tc : Thread Cert.AdRepRefIdeal.nD Cert.AdRepRefIdeal.τ).loc Cert.AdRepRefIdeal.main_v25) = v1 c
          ∧ r.2.mem ((c.tc : Thread Cert.AdRepRefIdeal.nD Cert.AdRepRefIdeal.τ).loc Cert.AdRepRefIdeal.main_v6) = v2 c
          ∧ r.2.mem ((c.tc : Thread Cert.AdRepRefIdeal.nD Cert.AdRepRefIdeal.τ).loc Cert.AdRepRefIdeal.main_v12) = v3 c
          ∧ r.2.mem ((c.tc : Thread Cert.AdRepRefIdeal.nD Cert.AdRepRefIdeal.τ).loc Cert.AdRepRefIdeal.main_arg0) = m' ((c.tc : Thread Cert.AdRepRefIdeal.nD Cert.AdRepRefIdeal.τ).loc Cert.AdRepRefIdeal.main_arg0)
          ∧ r.2.mem ((c.tc : Thread Cert.AdRepRefIdeal.nD Cert.AdRepRefIdeal.τ).loc Cert.AdRepRefIdeal.main_arg1) = m' ((c.tc : Thread Cert.AdRepRefIdeal.nD Cert.AdRepRefIdeal.τ).loc Cert.AdRepRefIdeal.main_arg1)
          ∧ r.2.mem ((c.tc : Thread Cert.AdRepRefIdeal.nD Cert.AdRepRefIdeal.τ).loc Cert.AdRepRefIdeal.main_arg2) = m' ((c.tc : Thread Cert.AdRepRefIdeal.nD Cert.AdRepRefIdeal.τ).loc Cert.AdRepRefIdeal.main_arg2)
          ∧ r.2.mem ((c.tc : Thread Cert.AdRepRefIdeal.nD Cert.AdRepRefIdeal.τ).loc Cert.AdRepRefIdeal.main_arg3) = m' ((c.tc : Thread Cert.AdRepRefIdeal.nD Cert.AdRepRefIdeal.τ).loc Cert.AdRepRefIdeal.main_arg3))

def preserves_AdConv_AdConvIdeal : Prop :=
  True

def algebraic_AdConvIdeal_AdConvRefIdeal [hAdConvIdeal : Cert.AdConvIdeal.Facts] [hAdConvRefIdeal : Cert.AdConvRefIdeal.Facts] : Prop :=
  ∀ (m : (ℓ : Loc Cert.AdConvIdeal.nD Cert.AdConvIdeal.τ Cert.AdConvIdeal.sig) → Buf (Elt Ideal) ℓ) (g : Dev Cert.AdConvIdeal.nD → PrngReg)
    (m' : (ℓ : Loc Cert.AdConvRefIdeal.nD Cert.AdConvRefIdeal.τ Cert.AdConvRefIdeal.sig) → Buf (Elt Ideal) ℓ) (g' : Dev Cert.AdConvRefIdeal.nD → PrngReg), Pre_AdConvIdeal m →
    (∀ c : Dev Cert.AdConvIdeal.nD,
      m' ((c.tc : Thread Cert.AdConvRefIdeal.nD Cert.AdConvRefIdeal.τ).loc Cert.AdConvRefIdeal.main_arg0) = m ((c.tc : Thread Cert.AdConvIdeal.nD Cert.AdConvIdeal.τ).loc Cert.AdConvIdeal.main_arg0)
      ∧ m' ((c.tc : Thread Cert.AdConvRefIdeal.nD Cert.AdConvRefIdeal.τ).loc Cert.AdConvRefIdeal.main_arg1) = m ((c.tc : Thread Cert.AdConvIdeal.nD Cert.AdConvIdeal.τ).loc Cert.AdConvIdeal.main_arg1)
      ∧ m' ((c.tc : Thread Cert.AdConvRefIdeal.nD Cert.AdConvRefIdeal.τ).loc Cert.AdConvRefIdeal.main_arg2) = m ((c.tc : Thread Cert.AdConvIdeal.nD Cert.AdConvIdeal.τ).loc Cert.AdConvIdeal.main_arg2)
      ∧ m' ((c.tc : Thread Cert.AdConvRefIdeal.nD Cert.AdConvRefIdeal.τ).loc Cert.AdConvRefIdeal.main_arg3) = m ((c.tc : Thread Cert.AdConvIdeal.nD Cert.AdConvIdeal.τ).loc Cert.AdConvIdeal.main_arg3)) →
    ∃ (v0 : (c : Dev Cert.AdConvIdeal.nD) → Buf (Elt Ideal) ((c.tc : Thread Cert.AdConvIdeal.nD Cert.AdConvIdeal.τ).loc Cert.AdConvIdeal.main_v0_0)) (v1 : (c : Dev Cert.AdConvIdeal.nD) → Buf (Elt Ideal) ((c.tc : Thread Cert.AdConvIdeal.nD Cert.AdConvIdeal.τ).loc Cert.AdConvIdeal.main_v0_1)) (v2 : (c : Dev Cert.AdConvIdeal.nD) → Buf (Elt Ideal) ((c.tc : Thread Cert.AdConvIdeal.nD Cert.AdConvIdeal.τ).loc Cert.AdConvIdeal.main_v0_2)) (v3 : (c : Dev Cert.AdConvIdeal.nD) → Buf (Elt Ideal) ((c.tc : Thread Cert.AdConvIdeal.nD Cert.AdConvIdeal.τ).loc Cert.AdConvIdeal.main_v0_3)),
      θ_run (Cert.AdConvIdeal.defs (F := Ideal)) (onTc (τ := Cert.AdConvIdeal.τ) (Cert.AdConvIdeal.main (F := Ideal))) ⟨m, fun _ => 0, g⟩ (fun r => ∀ c : Dev Cert.AdConvIdeal.nD,
          r.2.mem ((c.tc : Thread Cert.AdConvIdeal.nD Cert.AdConvIdeal.τ).loc Cert.AdConvIdeal.main_v0_0) = v0 c
          ∧ r.2.mem ((c.tc : Thread Cert.AdConvIdeal.nD Cert.AdConvIdeal.τ).loc Cert.AdConvIdeal.main_v0_1) = v1 c
          ∧ r.2.mem ((c.tc : Thread Cert.AdConvIdeal.nD Cert.AdConvIdeal.τ).loc Cert.AdConvIdeal.main_v0_2) = v2 c
          ∧ r.2.mem ((c.tc : Thread Cert.AdConvIdeal.nD Cert.AdConvIdeal.τ).loc Cert.AdConvIdeal.main_v0_3) = v3 c
          ∧ r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
          ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
          ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
          ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ θ_run (Cert.AdConvRefIdeal.defs (F := Ideal)) (onTc (τ := Cert.AdConvRefIdeal.τ) (Cert.AdConvRefIdeal.main (F := Ideal))) ⟨m', fun _ => 0, g'⟩ (fun r => ∀ c : Dev Cert.AdConvRefIdeal.nD,
          r.2.mem ((c.tc : Thread Cert.AdConvRefIdeal.nD Cert.AdConvRefIdeal.τ).loc Cert.AdConvRefIdeal.main_v0) = v0 c
          ∧ r.2.mem ((c.tc : Thread Cert.AdConvRefIdeal.nD Cert.AdConvRefIdeal.τ).loc Cert.AdConvRefIdeal.main_v24) = v1 c
          ∧ r.2.mem ((c.tc : Thread Cert.AdConvRefIdeal.nD Cert.AdConvRefIdeal.τ).loc Cert.AdConvRefIdeal.main_v5) = v2 c
          ∧ r.2.mem ((c.tc : Thread Cert.AdConvRefIdeal.nD Cert.AdConvRefIdeal.τ).loc Cert.AdConvRefIdeal.main_v11) = v3 c
          ∧ r.2.mem ((c.tc : Thread Cert.AdConvRefIdeal.nD Cert.AdConvRefIdeal.τ).loc Cert.AdConvRefIdeal.main_arg0) = m' ((c.tc : Thread Cert.AdConvRefIdeal.nD Cert.AdConvRefIdeal.τ).loc Cert.AdConvRefIdeal.main_arg0)
          ∧ r.2.mem ((c.tc : Thread Cert.AdConvRefIdeal.nD Cert.AdConvRefIdeal.τ).loc Cert.AdConvRefIdeal.main_arg1) = m' ((c.tc : Thread Cert.AdConvRefIdeal.nD Cert.AdConvRefIdeal.τ).loc Cert.AdConvRefIdeal.main_arg1)
          ∧ r.2.mem ((c.tc : Thread Cert.AdConvRefIdeal.nD Cert.AdConvRefIdeal.τ).loc Cert.AdConvRefIdeal.main_arg2) = m' ((c.tc : Thread Cert.AdConvRefIdeal.nD Cert.AdConvRefIdeal.τ).loc Cert.AdConvRefIdeal.main_arg2)
          ∧ r.2.mem ((c.tc : Thread Cert.AdConvRefIdeal.nD Cert.AdConvRefIdeal.τ).loc Cert.AdConvRefIdeal.main_arg3) = m' ((c.tc : Thread Cert.AdConvRefIdeal.nD Cert.AdConvRefIdeal.τ).loc Cert.AdConvRefIdeal.main_arg3))

def preserves_AdBias_AdBiasIdeal : Prop :=
  True

def algebraic_AdBiasIdeal_AdBiasRefIdeal [hAdBiasIdeal : Cert.AdBiasIdeal.Facts] [hAdBiasRefIdeal : Cert.AdBiasRefIdeal.Facts] : Prop :=
  ∀ (m : (ℓ : Loc Cert.AdBiasIdeal.nD Cert.AdBiasIdeal.τ Cert.AdBiasIdeal.sig) → Buf (Elt Ideal) ℓ) (g : Dev Cert.AdBiasIdeal.nD → PrngReg)
    (m' : (ℓ : Loc Cert.AdBiasRefIdeal.nD Cert.AdBiasRefIdeal.τ Cert.AdBiasRefIdeal.sig) → Buf (Elt Ideal) ℓ) (g' : Dev Cert.AdBiasRefIdeal.nD → PrngReg), Pre_AdBiasIdeal m →
    (∀ c : Dev Cert.AdBiasIdeal.nD,
      m' ((c.tc : Thread Cert.AdBiasRefIdeal.nD Cert.AdBiasRefIdeal.τ).loc Cert.AdBiasRefIdeal.main_arg0) = m ((c.tc : Thread Cert.AdBiasIdeal.nD Cert.AdBiasIdeal.τ).loc Cert.AdBiasIdeal.main_arg0)
      ∧ m' ((c.tc : Thread Cert.AdBiasRefIdeal.nD Cert.AdBiasRefIdeal.τ).loc Cert.AdBiasRefIdeal.main_arg1) = m ((c.tc : Thread Cert.AdBiasIdeal.nD Cert.AdBiasIdeal.τ).loc Cert.AdBiasIdeal.main_arg1)
      ∧ m' ((c.tc : Thread Cert.AdBiasRefIdeal.nD Cert.AdBiasRefIdeal.τ).loc Cert.AdBiasRefIdeal.main_arg2) = m ((c.tc : Thread Cert.AdBiasIdeal.nD Cert.AdBiasIdeal.τ).loc Cert.AdBiasIdeal.main_arg2)
      ∧ m' ((c.tc : Thread Cert.AdBiasRefIdeal.nD Cert.AdBiasRefIdeal.τ).loc Cert.AdBiasRefIdeal.main_arg3) = m ((c.tc : Thread Cert.AdBiasIdeal.nD Cert.AdBiasIdeal.τ).loc Cert.AdBiasIdeal.main_arg3)) →
    ∃ (v0 : (c : Dev Cert.AdBiasIdeal.nD) → Buf (Elt Ideal) ((c.tc : Thread Cert.AdBiasIdeal.nD Cert.AdBiasIdeal.τ).loc Cert.AdBiasIdeal.main_v0_0)) (v1 : (c : Dev Cert.AdBiasIdeal.nD) → Buf (Elt Ideal) ((c.tc : Thread Cert.AdBiasIdeal.nD Cert.AdBiasIdeal.τ).loc Cert.AdBiasIdeal.main_v0_1)) (v2 : (c : Dev Cert.AdBiasIdeal.nD) → Buf (Elt Ideal) ((c.tc : Thread Cert.AdBiasIdeal.nD Cert.AdBiasIdeal.τ).loc Cert.AdBiasIdeal.main_v0_2)) (v3 : (c : Dev Cert.AdBiasIdeal.nD) → Buf (Elt Ideal) ((c.tc : Thread Cert.AdBiasIdeal.nD Cert.AdBiasIdeal.τ).loc Cert.AdBiasIdeal.main_v0_3)),
      θ_run (Cert.AdBiasIdeal.defs (F := Ideal)) (onTc (τ := Cert.AdBiasIdeal.τ) (Cert.AdBiasIdeal.main (F := Ideal))) ⟨m, fun _ => 0, g⟩ (fun r => ∀ c : Dev Cert.AdBiasIdeal.nD,
          r.2.mem ((c.tc : Thread Cert.AdBiasIdeal.nD Cert.AdBiasIdeal.τ).loc Cert.AdBiasIdeal.main_v0_0) = v0 c
          ∧ r.2.mem ((c.tc : Thread Cert.AdBiasIdeal.nD Cert.AdBiasIdeal.τ).loc Cert.AdBiasIdeal.main_v0_1) = v1 c
          ∧ r.2.mem ((c.tc : Thread Cert.AdBiasIdeal.nD Cert.AdBiasIdeal.τ).loc Cert.AdBiasIdeal.main_v0_2) = v2 c
          ∧ r.2.mem ((c.tc : Thread Cert.AdBiasIdeal.nD Cert.AdBiasIdeal.τ).loc Cert.AdBiasIdeal.main_v0_3) = v3 c
          ∧ r.2.mem ((c.tc : Thread Cert.AdBiasIdeal.nD Cert.AdBiasIdeal.τ).loc Cert.AdBiasIdeal.main_arg0) = m ((c.tc : Thread Cert.AdBiasIdeal.nD Cert.AdBiasIdeal.τ).loc Cert.AdBiasIdeal.main_arg0)
          ∧ r.2.mem ((c.tc : Thread Cert.AdBiasIdeal.nD Cert.AdBiasIdeal.τ).loc Cert.AdBiasIdeal.main_arg1) = m ((c.tc : Thread Cert.AdBiasIdeal.nD Cert.AdBiasIdeal.τ).loc Cert.AdBiasIdeal.main_arg1)
          ∧ r.2.mem ((c.tc : Thread Cert.AdBiasIdeal.nD Cert.AdBiasIdeal.τ).loc Cert.AdBiasIdeal.main_arg2) = m ((c.tc : Thread Cert.AdBiasIdeal.nD Cert.AdBiasIdeal.τ).loc Cert.AdBiasIdeal.main_arg2)
          ∧ r.2.mem ((c.tc : Thread Cert.AdBiasIdeal.nD Cert.AdBiasIdeal.τ).loc Cert.AdBiasIdeal.main_arg3) = m ((c.tc : Thread Cert.AdBiasIdeal.nD Cert.AdBiasIdeal.τ).loc Cert.AdBiasIdeal.main_arg3))
      ∧ θ_run (Cert.AdBiasRefIdeal.defs (F := Ideal)) (onTc (τ := Cert.AdBiasRefIdeal.τ) (Cert.AdBiasRefIdeal.main (F := Ideal))) ⟨m', fun _ => 0, g'⟩ (fun r => ∀ c : Dev Cert.AdBiasRefIdeal.nD,
          r.2.mem ((c.tc : Thread Cert.AdBiasRefIdeal.nD Cert.AdBiasRefIdeal.τ).loc Cert.AdBiasRefIdeal.main_v0) = v0 c
          ∧ r.2.mem ((c.tc : Thread Cert.AdBiasRefIdeal.nD Cert.AdBiasRefIdeal.τ).loc Cert.AdBiasRefIdeal.main_v24) = v1 c
          ∧ r.2.mem ((c.tc : Thread Cert.AdBiasRefIdeal.nD Cert.AdBiasRefIdeal.τ).loc Cert.AdBiasRefIdeal.main_v5) = v2 c
          ∧ r.2.mem ((c.tc : Thread Cert.AdBiasRefIdeal.nD Cert.AdBiasRefIdeal.τ).loc Cert.AdBiasRefIdeal.main_v11) = v3 c
          ∧ r.2.mem ((c.tc : Thread Cert.AdBiasRefIdeal.nD Cert.AdBiasRefIdeal.τ).loc Cert.AdBiasRefIdeal.main_arg0) = m' ((c.tc : Thread Cert.AdBiasRefIdeal.nD Cert.AdBiasRefIdeal.τ).loc Cert.AdBiasRefIdeal.main_arg0)
          ∧ r.2.mem ((c.tc : Thread Cert.AdBiasRefIdeal.nD Cert.AdBiasRefIdeal.τ).loc Cert.AdBiasRefIdeal.main_arg1) = m' ((c.tc : Thread Cert.AdBiasRefIdeal.nD Cert.AdBiasRefIdeal.τ).loc Cert.AdBiasRefIdeal.main_arg1)
          ∧ r.2.mem ((c.tc : Thread Cert.AdBiasRefIdeal.nD Cert.AdBiasRefIdeal.τ).loc Cert.AdBiasRefIdeal.main_arg2) = m' ((c.tc : Thread Cert.AdBiasRefIdeal.nD Cert.AdBiasRefIdeal.τ).loc Cert.AdBiasRefIdeal.main_arg2)
          ∧ r.2.mem ((c.tc : Thread Cert.AdBiasRefIdeal.nD Cert.AdBiasRefIdeal.τ).loc Cert.AdBiasRefIdeal.main_arg3) = m' ((c.tc : Thread Cert.AdBiasRefIdeal.nD Cert.AdBiasRefIdeal.τ).loc Cert.AdBiasRefIdeal.main_arg3))

def preserves_AdMod_AdModIdeal : Prop :=
  True

def algebraic_AdModIdeal_AdModRefIdeal [hAdModIdeal : Cert.AdModIdeal.Facts] [hAdModRefIdeal : Cert.AdModRefIdeal.Facts] : Prop :=
  ∀ (m : (ℓ : Loc Cert.AdModIdeal.nD Cert.AdModIdeal.τ Cert.AdModIdeal.sig) → Buf (Elt Ideal) ℓ) (g : Dev Cert.AdModIdeal.nD → PrngReg)
    (m' : (ℓ : Loc Cert.AdModRefIdeal.nD Cert.AdModRefIdeal.τ Cert.AdModRefIdeal.sig) → Buf (Elt Ideal) ℓ) (g' : Dev Cert.AdModRefIdeal.nD → PrngReg), Pre_AdModIdeal m →
    (∀ c : Dev Cert.AdModIdeal.nD,
      m' ((c.tc : Thread Cert.AdModRefIdeal.nD Cert.AdModRefIdeal.τ).loc Cert.AdModRefIdeal.main_arg0) = m ((c.tc : Thread Cert.AdModIdeal.nD Cert.AdModIdeal.τ).loc Cert.AdModIdeal.main_arg0)
      ∧ m' ((c.tc : Thread Cert.AdModRefIdeal.nD Cert.AdModRefIdeal.τ).loc Cert.AdModRefIdeal.main_arg1) = m ((c.tc : Thread Cert.AdModIdeal.nD Cert.AdModIdeal.τ).loc Cert.AdModIdeal.main_arg1)
      ∧ m' ((c.tc : Thread Cert.AdModRefIdeal.nD Cert.AdModRefIdeal.τ).loc Cert.AdModRefIdeal.main_arg2) = m ((c.tc : Thread Cert.AdModIdeal.nD Cert.AdModIdeal.τ).loc Cert.AdModIdeal.main_arg2)
      ∧ m' ((c.tc : Thread Cert.AdModRefIdeal.nD Cert.AdModRefIdeal.τ).loc Cert.AdModRefIdeal.main_arg3) = m ((c.tc : Thread Cert.AdModIdeal.nD Cert.AdModIdeal.τ).loc Cert.AdModIdeal.main_arg3)) →
    ∃ (v0 : (c : Dev Cert.AdModIdeal.nD) → Buf (Elt Ideal) ((c.tc : Thread Cert.AdModIdeal.nD Cert.AdModIdeal.τ).loc Cert.AdModIdeal.main_v0_0)) (v1 : (c : Dev Cert.AdModIdeal.nD) → Buf (Elt Ideal) ((c.tc : Thread Cert.AdModIdeal.nD Cert.AdModIdeal.τ).loc Cert.AdModIdeal.main_v0_1)) (v2 : (c : Dev Cert.AdModIdeal.nD) → Buf (Elt Ideal) ((c.tc : Thread Cert.AdModIdeal.nD Cert.AdModIdeal.τ).loc Cert.AdModIdeal.main_v0_2)) (v3 : (c : Dev Cert.AdModIdeal.nD) → Buf (Elt Ideal) ((c.tc : Thread Cert.AdModIdeal.nD Cert.AdModIdeal.τ).loc Cert.AdModIdeal.main_v0_3)),
      θ_run (Cert.AdModIdeal.defs (F := Ideal)) (onTc (τ := Cert.AdModIdeal.τ) (Cert.AdModIdeal.main (F := Ideal))) ⟨m, fun _ => 0, g⟩ (fun r => ∀ c : Dev Cert.AdModIdeal.nD,
          r.2.mem ((c.tc : Thread Cert.AdModIdeal.nD Cert.AdModIdeal.τ).loc Cert.AdModIdeal.main_v0_0) = v0 c
          ∧ r.2.mem ((c.tc : Thread Cert.AdModIdeal.nD Cert.AdModIdeal.τ).loc Cert.AdModIdeal.main_v0_1) = v1 c
          ∧ r.2.mem ((c.tc : Thread Cert.AdModIdeal.nD Cert.AdModIdeal.τ).loc Cert.AdModIdeal.main_v0_2) = v2 c
          ∧ r.2.mem ((c.tc : Thread Cert.AdModIdeal.nD Cert.AdModIdeal.τ).loc Cert.AdModIdeal.main_v0_3) = v3 c
          ∧ r.2.mem ((c.tc : Thread Cert.AdModIdeal.nD Cert.AdModIdeal.τ).loc Cert.AdModIdeal.main_arg0) = m ((c.tc : Thread Cert.AdModIdeal.nD Cert.AdModIdeal.τ).loc Cert.AdModIdeal.main_arg0)
          ∧ r.2.mem ((c.tc : Thread Cert.AdModIdeal.nD Cert.AdModIdeal.τ).loc Cert.AdModIdeal.main_arg1) = m ((c.tc : Thread Cert.AdModIdeal.nD Cert.AdModIdeal.τ).loc Cert.AdModIdeal.main_arg1)
          ∧ r.2.mem ((c.tc : Thread Cert.AdModIdeal.nD Cert.AdModIdeal.τ).loc Cert.AdModIdeal.main_arg2) = m ((c.tc : Thread Cert.AdModIdeal.nD Cert.AdModIdeal.τ).loc Cert.AdModIdeal.main_arg2)
          ∧ r.2.mem ((c.tc : Thread Cert.AdModIdeal.nD Cert.AdModIdeal.τ).loc Cert.AdModIdeal.main_arg3) = m ((c.tc : Thread Cert.AdModIdeal.nD Cert.AdModIdeal.τ).loc Cert.AdModIdeal.main_arg3))
      ∧ θ_run (Cert.AdModRefIdeal.defs (F := Ideal)) (onTc (τ := Cert.AdModRefIdeal.τ) (Cert.AdModRefIdeal.main (F := Ideal))) ⟨m', fun _ => 0, g'⟩ (fun r => ∀ c : Dev Cert.AdModRefIdeal.nD,
          r.2.mem ((c.tc : Thread Cert.AdModRefIdeal.nD Cert.AdModRefIdeal.τ).loc Cert.AdModRefIdeal.main_v0) = v0 c
          ∧ r.2.mem ((c.tc : Thread Cert.AdModRefIdeal.nD Cert.AdModRefIdeal.τ).loc Cert.AdModRefIdeal.main_v24) = v1 c
          ∧ r.2.mem ((c.tc : Thread Cert.AdModRefIdeal.nD Cert.AdModRefIdeal.τ).loc Cert.AdModRefIdeal.main_v5) = v2 c
          ∧ r.2.mem ((c.tc : Thread Cert.AdModRefIdeal.nD Cert.AdModRefIdeal.τ).loc Cert.AdModRefIdeal.main_v11) = v3 c
          ∧ r.2.mem ((c.tc : Thread Cert.AdModRefIdeal.nD Cert.AdModRefIdeal.τ).loc Cert.AdModRefIdeal.main_arg0) = m' ((c.tc : Thread Cert.AdModRefIdeal.nD Cert.AdModRefIdeal.τ).loc Cert.AdModRefIdeal.main_arg0)
          ∧ r.2.mem ((c.tc : Thread Cert.AdModRefIdeal.nD Cert.AdModRefIdeal.τ).loc Cert.AdModRefIdeal.main_arg1) = m' ((c.tc : Thread Cert.AdModRefIdeal.nD Cert.AdModRefIdeal.τ).loc Cert.AdModRefIdeal.main_arg1)
          ∧ r.2.mem ((c.tc : Thread Cert.AdModRefIdeal.nD Cert.AdModRefIdeal.τ).loc Cert.AdModRefIdeal.main_arg2) = m' ((c.tc : Thread Cert.AdModRefIdeal.nD Cert.AdModRefIdeal.τ).loc Cert.AdModRefIdeal.main_arg2)
          ∧ r.2.mem ((c.tc : Thread Cert.AdModRefIdeal.nD Cert.AdModRefIdeal.τ).loc Cert.AdModRefIdeal.main_arg3) = m' ((c.tc : Thread Cert.AdModRefIdeal.nD Cert.AdModRefIdeal.τ).loc Cert.AdModRefIdeal.main_arg3))

def preserves_AdCtx_AdCtxIdeal : Prop :=
  True

def algebraic_AdCtxIdeal_AdCtxRefIdeal [hAdCtxIdeal : Cert.AdCtxIdeal.Facts] [hAdCtxRefIdeal : Cert.AdCtxRefIdeal.Facts] : Prop :=
  ∀ (m : (ℓ : Loc Cert.AdCtxIdeal.nD Cert.AdCtxIdeal.τ Cert.AdCtxIdeal.sig) → Buf (Elt Ideal) ℓ) (g : Dev Cert.AdCtxIdeal.nD → PrngReg)
    (m' : (ℓ : Loc Cert.AdCtxRefIdeal.nD Cert.AdCtxRefIdeal.τ Cert.AdCtxRefIdeal.sig) → Buf (Elt Ideal) ℓ) (g' : Dev Cert.AdCtxRefIdeal.nD → PrngReg), Pre_AdCtxIdeal m →
    (∀ c : Dev Cert.AdCtxIdeal.nD,
      m' ((c.tc : Thread Cert.AdCtxRefIdeal.nD Cert.AdCtxRefIdeal.τ).loc Cert.AdCtxRefIdeal.main_arg0) = m ((c.tc : Thread Cert.AdCtxIdeal.nD Cert.AdCtxIdeal.τ).loc Cert.AdCtxIdeal.main_arg0)
      ∧ m' ((c.tc : Thread Cert.AdCtxRefIdeal.nD Cert.AdCtxRefIdeal.τ).loc Cert.AdCtxRefIdeal.main_arg1) = m ((c.tc : Thread Cert.AdCtxIdeal.nD Cert.AdCtxIdeal.τ).loc Cert.AdCtxIdeal.main_arg1)
      ∧ m' ((c.tc : Thread Cert.AdCtxRefIdeal.nD Cert.AdCtxRefIdeal.τ).loc Cert.AdCtxRefIdeal.main_arg2) = m ((c.tc : Thread Cert.AdCtxIdeal.nD Cert.AdCtxIdeal.τ).loc Cert.AdCtxIdeal.main_arg2)
      ∧ m' ((c.tc : Thread Cert.AdCtxRefIdeal.nD Cert.AdCtxRefIdeal.τ).loc Cert.AdCtxRefIdeal.main_arg3) = m ((c.tc : Thread Cert.AdCtxIdeal.nD Cert.AdCtxIdeal.τ).loc Cert.AdCtxIdeal.main_arg3)) →
    ∃ (v0 : (c : Dev Cert.AdCtxIdeal.nD) → Buf (Elt Ideal) ((c.tc : Thread Cert.AdCtxIdeal.nD Cert.AdCtxIdeal.τ).loc Cert.AdCtxIdeal.main_v0_0)) (v1 : (c : Dev Cert.AdCtxIdeal.nD) → Buf (Elt Ideal) ((c.tc : Thread Cert.AdCtxIdeal.nD Cert.AdCtxIdeal.τ).loc Cert.AdCtxIdeal.main_v0_1)) (v2 : (c : Dev Cert.AdCtxIdeal.nD) → Buf (Elt Ideal) ((c.tc : Thread Cert.AdCtxIdeal.nD Cert.AdCtxIdeal.τ).loc Cert.AdCtxIdeal.main_v0_2)) (v3 : (c : Dev Cert.AdCtxIdeal.nD) → Buf (Elt Ideal) ((c.tc : Thread Cert.AdCtxIdeal.nD Cert.AdCtxIdeal.τ).loc Cert.AdCtxIdeal.main_v0_3)),
      θ_run (Cert.AdCtxIdeal.defs (F := Ideal)) (onTc (τ := Cert.AdCtxIdeal.τ) (Cert.AdCtxIdeal.main (F := Ideal))) ⟨m, fun _ => 0, g⟩ (fun r => ∀ c : Dev Cert.AdCtxIdeal.nD,
          r.2.mem ((c.tc : Thread Cert.AdCtxIdeal.nD Cert.AdCtxIdeal.τ).loc Cert.AdCtxIdeal.main_v0_0) = v0 c
          ∧ r.2.mem ((c.tc : Thread Cert.AdCtxIdeal.nD Cert.AdCtxIdeal.τ).loc Cert.AdCtxIdeal.main_v0_1) = v1 c
          ∧ r.2.mem ((c.tc : Thread Cert.AdCtxIdeal.nD Cert.AdCtxIdeal.τ).loc Cert.AdCtxIdeal.main_v0_2) = v2 c
          ∧ r.2.mem ((c.tc : Thread Cert.AdCtxIdeal.nD Cert.AdCtxIdeal.τ).loc Cert.AdCtxIdeal.main_v0_3) = v3 c
          ∧ r.2.mem ((c.tc : Thread Cert.AdCtxIdeal.nD Cert.AdCtxIdeal.τ).loc Cert.AdCtxIdeal.main_arg0) = m ((c.tc : Thread Cert.AdCtxIdeal.nD Cert.AdCtxIdeal.τ).loc Cert.AdCtxIdeal.main_arg0)
          ∧ r.2.mem ((c.tc : Thread Cert.AdCtxIdeal.nD Cert.AdCtxIdeal.τ).loc Cert.AdCtxIdeal.main_arg1) = m ((c.tc : Thread Cert.AdCtxIdeal.nD Cert.AdCtxIdeal.τ).loc Cert.AdCtxIdeal.main_arg1)
          ∧ r.2.mem ((c.tc : Thread Cert.AdCtxIdeal.nD Cert.AdCtxIdeal.τ).loc Cert.AdCtxIdeal.main_arg2) = m ((c.tc : Thread Cert.AdCtxIdeal.nD Cert.AdCtxIdeal.τ).loc Cert.AdCtxIdeal.main_arg2)
          ∧ r.2.mem ((c.tc : Thread Cert.AdCtxIdeal.nD Cert.AdCtxIdeal.τ).loc Cert.AdCtxIdeal.main_arg3) = m ((c.tc : Thread Cert.AdCtxIdeal.nD Cert.AdCtxIdeal.τ).loc Cert.AdCtxIdeal.main_arg3))
      ∧ θ_run (Cert.AdCtxRefIdeal.defs (F := Ideal)) (onTc (τ := Cert.AdCtxRefIdeal.τ) (Cert.AdCtxRefIdeal.main (F := Ideal))) ⟨m', fun _ => 0, g'⟩ (fun r => ∀ c : Dev Cert.AdCtxRefIdeal.nD,
          r.2.mem ((c.tc : Thread Cert.AdCtxRefIdeal.nD Cert.AdCtxRefIdeal.τ).loc Cert.AdCtxRefIdeal.main_v0) = v0 c
          ∧ r.2.mem ((c.tc : Thread Cert.AdCtxRefIdeal.nD Cert.AdCtxRefIdeal.τ).loc Cert.AdCtxRefIdeal.main_v24) = v1 c
          ∧ r.2.mem ((c.tc : Thread Cert.AdCtxRefIdeal.nD Cert.AdCtxRefIdeal.τ).loc Cert.AdCtxRefIdeal.main_v5) = v2 c
          ∧ r.2.mem ((c.tc : Thread Cert.AdCtxRefIdeal.nD Cert.AdCtxRefIdeal.τ).loc Cert.AdCtxRefIdeal.main_v11) = v3 c
          ∧ r.2.mem ((c.tc : Thread Cert.AdCtxRefIdeal.nD Cert.AdCtxRefIdeal.τ).loc Cert.AdCtxRefIdeal.main_arg0) = m' ((c.tc : Thread Cert.AdCtxRefIdeal.nD Cert.AdCtxRefIdeal.τ).loc Cert.AdCtxRefIdeal.main_arg0)
          ∧ r.2.mem ((c.tc : Thread Cert.AdCtxRefIdeal.nD Cert.AdCtxRefIdeal.τ).loc Cert.AdCtxRefIdeal.main_arg1) = m' ((c.tc : Thread Cert.AdCtxRefIdeal.nD Cert.AdCtxRefIdeal.τ).loc Cert.AdCtxRefIdeal.main_arg1)
          ∧ r.2.mem ((c.tc : Thread Cert.AdCtxRefIdeal.nD Cert.AdCtxRefIdeal.τ).loc Cert.AdCtxRefIdeal.main_arg2) = m' ((c.tc : Thread Cert.AdCtxRefIdeal.nD Cert.AdCtxRefIdeal.τ).loc Cert.AdCtxRefIdeal.main_arg2)
          ∧ r.2.mem ((c.tc : Thread Cert.AdCtxRefIdeal.nD Cert.AdCtxRefIdeal.τ).loc Cert.AdCtxRefIdeal.main_arg3) = m' ((c.tc : Thread Cert.AdCtxRefIdeal.nD Cert.AdCtxRefIdeal.τ).loc Cert.AdCtxRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)
      ∧ m' ((c.tc : Thread Cert.AdaFwdRefIdeal.nD Cert.AdaFwdRefIdeal.τ).loc Cert.AdaFwdRefIdeal.main_arg3) = m ((c.tc : Thread Cert.AdaFwdIdeal.nD Cert.AdaFwdIdeal.τ).loc Cert.AdaFwdIdeal.main_arg3)) →
    ∃ (v0 : (c : Dev Cert.AdaFwdIdeal.nD) → Buf (Elt Ideal) ((c.tc : Thread Cert.AdaFwdIdeal.nD Cert.AdaFwdIdeal.τ).loc Cert.AdaFwdIdeal.main_v3)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v3) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2)
          ∧ r.2.mem ((c.tc : Thread Cert.AdaFwdIdeal.nD Cert.AdaFwdIdeal.τ).loc Cert.AdaFwdIdeal.main_arg3) = m ((c.tc : Thread Cert.AdaFwdIdeal.nD Cert.AdaFwdIdeal.τ).loc Cert.AdaFwdIdeal.main_arg3))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v45) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2)
          ∧ r.2.mem ((c.tc : Thread Cert.AdaFwdRefIdeal.nD Cert.AdaFwdRefIdeal.τ).loc Cert.AdaFwdRefIdeal.main_arg3) = m' ((c.tc : Thread Cert.AdaFwdRefIdeal.nD Cert.AdaFwdRefIdeal.τ).loc Cert.AdaFwdRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)
      ∧ m' ((c.tc : Thread Cert.AdaBwdRefIdeal.nD Cert.AdaBwdRefIdeal.τ).loc Cert.AdaBwdRefIdeal.main_arg5) = m ((c.tc : Thread Cert.AdaBwdIdeal.nD Cert.AdaBwdIdeal.τ).loc Cert.AdaBwdIdeal.main_arg5)) →
    ∃ (v0 : (c : Dev Cert.AdaBwdIdeal.nD) → Buf (Elt Ideal) ((c.tc : Thread Cert.AdaBwdIdeal.nD Cert.AdaBwdIdeal.τ).loc Cert.AdaBwdIdeal.main_v3_0)) (v1 : (c : Dev Cert.AdaBwdIdeal.nD) → Buf (Elt Ideal) ((c.tc : Thread Cert.AdaBwdIdeal.nD Cert.AdaBwdIdeal.τ).loc Cert.AdaBwdIdeal.main_v3_1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v3_0) = v0 c
          ∧ r.2.mem ((c.tc : Thread Cert.AdaBwdIdeal.nD Cert.AdaBwdIdeal.τ).loc Cert.AdaBwdIdeal.main_v3_1) = v1 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4)
          ∧ r.2.mem ((c.tc : Thread Cert.AdaBwdIdeal.nD Cert.AdaBwdIdeal.τ).loc Cert.AdaBwdIdeal.main_arg5) = m ((c.tc : Thread Cert.AdaBwdIdeal.nD Cert.AdaBwdIdeal.τ).loc Cert.AdaBwdIdeal.main_arg5))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v68) = v0 c
          ∧ r.2.mem ((c.tc : Thread Cert.AdaBwdRefIdeal.nD Cert.AdaBwdRefIdeal.τ).loc Cert.AdaBwdRefIdeal.main_v70) = v1 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4)
          ∧ r.2.mem ((c.tc : Thread Cert.AdaBwdRefIdeal.nD Cert.AdaBwdRefIdeal.τ).loc Cert.AdaBwdRefIdeal.main_arg5) = m' ((c.tc : Thread Cert.AdaBwdRefIdeal.nD Cert.AdaBwdRefIdeal.τ).loc Cert.AdaBwdRefIdeal.main_arg5))

def preserves_LbFwd_LbFwdIdeal : Prop :=
  True

def algebraic_LbFwdIdeal_LbFwdRefIdeal [hLbFwdIdeal : Cert.LbFwdIdeal.Facts] [hLbFwdRefIdeal : Cert.LbFwdRefIdeal.Facts] : Prop :=
  ∀ (m : (ℓ : Loc Cert.LbFwdIdeal.nD Cert.LbFwdIdeal.τ Cert.LbFwdIdeal.sig) → Buf (Elt Ideal) ℓ) (g : Dev Cert.LbFwdIdeal.nD → PrngReg)
    (m' : (ℓ : Loc Cert.LbFwdRefIdeal.nD Cert.LbFwdRefIdeal.τ Cert.LbFwdRefIdeal.sig) → Buf (Elt Ideal) ℓ) (g' : Dev Cert.LbFwdRefIdeal.nD → PrngReg), Pre_LbFwdIdeal m →
    (∀ c : Dev Cert.LbFwdIdeal.nD,
      m' ((c.tc : Thread Cert.LbFwdRefIdeal.nD Cert.LbFwdRefIdeal.τ).loc Cert.LbFwdRefIdeal.main_arg0) = m ((c.tc : Thread Cert.LbFwdIdeal.nD Cert.LbFwdIdeal.τ).loc Cert.LbFwdIdeal.main_arg0)) →
    ∃ (v0 : (c : Dev Cert.LbFwdIdeal.nD) → Buf (Elt Ideal) ((c.tc : Thread Cert.LbFwdIdeal.nD Cert.LbFwdIdeal.τ).loc Cert.LbFwdIdeal.main_v0)),
      θ_run (Cert.LbFwdIdeal.defs (F := Ideal)) (onTc (τ := Cert.LbFwdIdeal.τ) (Cert.LbFwdIdeal.main (F := Ideal))) ⟨m, fun _ => 0, g⟩ (fun r => ∀ c : Dev Cert.LbFwdIdeal.nD,
          r.2.mem ((c.tc : Thread Cert.LbFwdIdeal.nD Cert.LbFwdIdeal.τ).loc Cert.LbFwdIdeal.main_v0) = v0 c
          ∧ r.2.mem ((c.tc : Thread Cert.LbFwdIdeal.nD Cert.LbFwdIdeal.τ).loc Cert.LbFwdIdeal.main_arg0) = m ((c.tc : Thread Cert.LbFwdIdeal.nD Cert.LbFwdIdeal.τ).loc Cert.LbFwdIdeal.main_arg0))
      ∧ θ_run (Cert.LbFwdRefIdeal.defs (F := Ideal)) (onTc (τ := Cert.LbFwdRefIdeal.τ) (Cert.LbFwdRefIdeal.main (F := Ideal))) ⟨m', fun _ => 0, g'⟩ (fun r => ∀ c : Dev Cert.LbFwdRefIdeal.nD,
          r.2.mem ((c.tc : Thread Cert.LbFwdRefIdeal.nD Cert.LbFwdRefIdeal.τ).loc Cert.LbFwdRefIdeal.main_v17) = v0 c
          ∧ r.2.mem ((c.tc : Thread Cert.LbFwdRefIdeal.nD Cert.LbFwdRefIdeal.τ).loc Cert.LbFwdRefIdeal.main_arg0) = m' ((c.tc : Thread Cert.LbFwdRefIdeal.nD Cert.LbFwdRefIdeal.τ).loc Cert.LbFwdRefIdeal.main_arg0))

def preserves_LbBwd_LbBwdIdeal : Prop :=
  True

def algebraic_LbBwdIdeal_LbBwdRefIdeal_pre_finite [hLbBwdIdeal : Cert.LbBwdIdeal.Facts] [hLbBwdRefIdeal : Cert.LbBwdRefIdeal.Facts] [hPre_finite : Cert.Pre_finite.Facts] : Prop :=
  ∀ (m : (ℓ : Loc Cert.LbBwdIdeal.nD Cert.LbBwdIdeal.τ Cert.LbBwdIdeal.sig) → Buf (Elt Ideal) ℓ) (g : Dev Cert.LbBwdIdeal.nD → PrngReg)
    (m' : (ℓ : Loc Cert.LbBwdRefIdeal.nD Cert.LbBwdRefIdeal.τ Cert.LbBwdRefIdeal.sig) → Buf (Elt Ideal) ℓ) (g' : Dev Cert.LbBwdRefIdeal.nD → PrngReg), Pre_LbBwdIdeal_finite m →
    (∀ c : Dev Cert.LbBwdIdeal.nD,
      m' ((c.tc : Thread Cert.LbBwdRefIdeal.nD Cert.LbBwdRefIdeal.τ).loc Cert.LbBwdRefIdeal.main_arg0) = m ((c.tc : Thread Cert.LbBwdIdeal.nD Cert.LbBwdIdeal.τ).loc Cert.LbBwdIdeal.main_arg0)
      ∧ m' ((c.tc : Thread Cert.LbBwdRefIdeal.nD Cert.LbBwdRefIdeal.τ).loc Cert.LbBwdRefIdeal.main_arg1) = m ((c.tc : Thread Cert.LbBwdIdeal.nD Cert.LbBwdIdeal.τ).loc Cert.LbBwdIdeal.main_arg1)) →
    ∃ (v0 : (c : Dev Cert.LbBwdIdeal.nD) → Buf (Elt Ideal) ((c.tc : Thread Cert.LbBwdIdeal.nD Cert.LbBwdIdeal.τ).loc Cert.LbBwdIdeal.main_v0)),
      θ_run (Cert.LbBwdIdeal.defs (F := Ideal)) (onTc (τ := Cert.LbBwdIdeal.τ) (Cert.LbBwdIdeal.main (F := Ideal))) ⟨m, fun _ => 0, g⟩ (fun r => ∀ c : Dev Cert.LbBwdIdeal.nD,
          r.2.mem ((c.tc : Thread Cert.LbBwdIdeal.nD Cert.LbBwdIdeal.τ).loc Cert.LbBwdIdeal.main_v0) = v0 c
          ∧ r.2.mem ((c.tc : Thread Cert.LbBwdIdeal.nD Cert.LbBwdIdeal.τ).loc Cert.LbBwdIdeal.main_arg0) = m ((c.tc : Thread Cert.LbBwdIdeal.nD Cert.LbBwdIdeal.τ).loc Cert.LbBwdIdeal.main_arg0)
          ∧ r.2.mem ((c.tc : Thread Cert.LbBwdIdeal.nD Cert.LbBwdIdeal.τ).loc Cert.LbBwdIdeal.main_arg1) = m ((c.tc : Thread Cert.LbBwdIdeal.nD Cert.LbBwdIdeal.τ).loc Cert.LbBwdIdeal.main_arg1))
      ∧ θ_run (Cert.LbBwdRefIdeal.defs (F := Ideal)) (onTc (τ := Cert.LbBwdRefIdeal.τ) (Cert.LbBwdRefIdeal.main (F := Ideal))) ⟨m', fun _ => 0, g'⟩ (fun r => ∀ c : Dev Cert.LbBwdRefIdeal.nD,
          r.2.mem ((c.tc : Thread Cert.LbBwdRefIdeal.nD Cert.LbBwdRefIdeal.τ).loc Cert.LbBwdRefIdeal.main_v55) = v0 c
          ∧ r.2.mem ((c.tc : Thread Cert.LbBwdRefIdeal.nD Cert.LbBwdRefIdeal.τ).loc Cert.LbBwdRefIdeal.main_arg0) = m' ((c.tc : Thread Cert.LbBwdRefIdeal.nD Cert.LbBwdRefIdeal.τ).loc Cert.LbBwdRefIdeal.main_arg0)
          ∧ r.2.mem ((c.tc : Thread Cert.LbBwdRefIdeal.nD Cert.LbBwdRefIdeal.τ).loc Cert.LbBwdRefIdeal.main_arg1) = m' ((c.tc : Thread Cert.LbBwdRefIdeal.nD Cert.LbBwdRefIdeal.τ).loc Cert.LbBwdRefIdeal.main_arg1))

def Claim : Prop :=
  ∃ (hWIn : Cert.WIn.Facts) (hWInIdeal : Cert.WInIdeal.Facts) (hWInRefIdeal : Cert.WInRefIdeal.Facts) (hWUp : Cert.WUp.Facts) (hWUpIdeal : Cert.WUpIdeal.Facts) (hWUpRefIdeal : Cert.WUpRefIdeal.Facts) (hWDown : Cert.WDown.Facts) (hWDownIdeal : Cert.WDownIdeal.Facts) (hWDownRefIdeal : Cert.WDownRefIdeal.Facts) (hWMix : Cert.WMix.Facts) (hWMixIdeal : Cert.WMixIdeal.Facts) (hWMixRefIdeal : Cert.WMixRefIdeal.Facts) (hFfUp : Cert.FfUp.Facts) (hFfUpIdeal : Cert.FfUpIdeal.Facts) (hFfUpRefIdeal : Cert.FfUpRefIdeal.Facts) (hInProj : Cert.InProj.Facts) (hInProjIdeal : Cert.InProjIdeal.Facts) (hInProjRefIdeal : Cert.InProjRefIdeal.Facts) (hInFwd : Cert.InFwd.Facts) (hInFwdIdeal : Cert.InFwdIdeal.Facts) (hInFwdRefIdeal : Cert.InFwdRefIdeal.Facts) (hUpFwd : Cert.UpFwd.Facts) (hUpFwdIdeal : Cert.UpFwdIdeal.Facts) (hUpFwdRefIdeal : Cert.UpFwdRefIdeal.Facts) (hUpLast : Cert.UpLast.Facts) (hUpLastIdeal : Cert.UpLastIdeal.Facts) (hUpLastRefIdeal : Cert.UpLastRefIdeal.Facts) (hFfSkip : Cert.FfSkip.Facts) (hFfSkipIdeal : Cert.FfSkipIdeal.Facts) (hFfSkipRefIdeal : Cert.FfSkipRefIdeal.Facts) (hInLat : Cert.InLat.Facts) (hInLatIdeal : Cert.InLatIdeal.Facts) (hInLatRefIdeal : Cert.InLatRefIdeal.Facts) (hAdIn : Cert.AdIn.Facts) (hAdInIdeal : Cert.AdInIdeal.Facts) (hAdInRefIdeal : Cert.AdInRefIdeal.Facts) (hAdUp : Cert.AdUp.Facts) (hAdUpIdeal : Cert.AdUpIdeal.Facts) (hAdUpRefIdeal : Cert.AdUpRefIdeal.Facts) (hAdMix : Cert.AdMix.Facts) (hAdMixIdeal : Cert.AdMixIdeal.Facts) (hAdMixRefIdeal : Cert.AdMixRefIdeal.Facts) (hAdDown : Cert.AdDown.Facts) (hAdDownIdeal : Cert.AdDownIdeal.Facts) (hAdDownRefIdeal : Cert.AdDownRefIdeal.Facts) (hAdRep : Cert.AdRep.Facts) (hAdRepIdeal : Cert.AdRepIdeal.Facts) (hAdRepRefIdeal : Cert.AdRepRefIdeal.Facts) (hAdConv : Cert.AdConv.Facts) (hAdConvIdeal : Cert.AdConvIdeal.Facts) (hAdConvRefIdeal : Cert.AdConvRefIdeal.Facts) (hAdBias : Cert.AdBias.Facts) (hAdBiasIdeal : Cert.AdBiasIdeal.Facts) (hAdBiasRefIdeal : Cert.AdBiasRefIdeal.Facts) (hAdMod : Cert.AdMod.Facts) (hAdModIdeal : Cert.AdModIdeal.Facts) (hAdModRefIdeal : Cert.AdModRefIdeal.Facts) (hAdCtx : Cert.AdCtx.Facts) (hAdCtxIdeal : Cert.AdCtxIdeal.Facts) (hAdCtxRefIdeal : Cert.AdCtxRefIdeal.Facts) (hLoss : Cert.Loss.Facts) (hLossIdeal : Cert.LossIdeal.Facts) (hLossRefIdeal : Cert.LossRefIdeal.Facts) (hAdaFwd : Cert.AdaFwd.Facts) (hAdaFwdIdeal : Cert.AdaFwdIdeal.Facts) (hAdaFwdRefIdeal : Cert.AdaFwdRefIdeal.Facts) (hAdaBwd : Cert.AdaBwd.Facts) (hAdaBwdIdeal : Cert.AdaBwdIdeal.Facts) (hAdaBwdRefIdeal : Cert.AdaBwdRefIdeal.Facts) (hLbFwd : Cert.LbFwd.Facts) (hLbFwdIdeal : Cert.LbFwdIdeal.Facts) (hLbFwdRefIdeal : Cert.LbFwdRefIdeal.Facts) (hLbBwd : Cert.LbBwd.Facts) (hLbBwdIdeal : Cert.LbBwdIdeal.Facts) (hLbBwdRefIdeal : Cert.LbBwdRefIdeal.Facts) (hPre_finite : Cert.Pre_finite.Facts),
    quiescent_WIn (hWIn := hWIn)
    ∧ quiescent_WInIdeal (hWInIdeal := hWInIdeal)
    ∧ quiescent_WInRefIdeal (hWInRefIdeal := hWInRefIdeal)
    ∧ quiescent_WUp (hWUp := hWUp)
    ∧ quiescent_WUpIdeal (hWUpIdeal := hWUpIdeal)
    ∧ quiescent_WUpRefIdeal (hWUpRefIdeal := hWUpRefIdeal)
    ∧ quiescent_WDown (hWDown := hWDown)
    ∧ quiescent_WDownIdeal (hWDownIdeal := hWDownIdeal)
    ∧ quiescent_WDownRefIdeal (hWDownRefIdeal := hWDownRefIdeal)
    ∧ quiescent_WMix (hWMix := hWMix)
    ∧ quiescent_WMixIdeal (hWMixIdeal := hWMixIdeal)
    ∧ quiescent_WMixRefIdeal (hWMixRefIdeal := hWMixRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_InProj (hInProj := hInProj)
    ∧ quiescent_InProjIdeal (hInProjIdeal := hInProjIdeal)
    ∧ quiescent_InProjRefIdeal (hInProjRefIdeal := hInProjRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_UpLast (hUpLast := hUpLast)
    ∧ quiescent_UpLastIdeal (hUpLastIdeal := hUpLastIdeal)
    ∧ quiescent_UpLastRefIdeal (hUpLastRefIdeal := hUpLastRefIdeal)
    ∧ quiescent_FfSkip (hFfSkip := hFfSkip)
    ∧ quiescent_FfSkipIdeal (hFfSkipIdeal := hFfSkipIdeal)
    ∧ quiescent_FfSkipRefIdeal (hFfSkipRefIdeal := hFfSkipRefIdeal)
    ∧ quiescent_InLat (hInLat := hInLat)
    ∧ quiescent_InLatIdeal (hInLatIdeal := hInLatIdeal)
    ∧ quiescent_InLatRefIdeal (hInLatRefIdeal := hInLatRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdUp (hAdUp := hAdUp)
    ∧ quiescent_AdUpIdeal (hAdUpIdeal := hAdUpIdeal)
    ∧ quiescent_AdUpRefIdeal (hAdUpRefIdeal := hAdUpRefIdeal)
    ∧ quiescent_AdMix (hAdMix := hAdMix)
    ∧ quiescent_AdMixIdeal (hAdMixIdeal := hAdMixIdeal)
    ∧ quiescent_AdMixRefIdeal (hAdMixRefIdeal := hAdMixRefIdeal)
    ∧ quiescent_AdDown (hAdDown := hAdDown)
    ∧ quiescent_AdDownIdeal (hAdDownIdeal := hAdDownIdeal)
    ∧ quiescent_AdDownRefIdeal (hAdDownRefIdeal := hAdDownRefIdeal)
    ∧ quiescent_AdRep (hAdRep := hAdRep)
    ∧ quiescent_AdRepIdeal (hAdRepIdeal := hAdRepIdeal)
    ∧ quiescent_AdRepRefIdeal (hAdRepRefIdeal := hAdRepRefIdeal)
    ∧ quiescent_AdConv (hAdConv := hAdConv)
    ∧ quiescent_AdConvIdeal (hAdConvIdeal := hAdConvIdeal)
    ∧ quiescent_AdConvRefIdeal (hAdConvRefIdeal := hAdConvRefIdeal)
    ∧ quiescent_AdBias (hAdBias := hAdBias)
    ∧ quiescent_AdBiasIdeal (hAdBiasIdeal := hAdBiasIdeal)
    ∧ quiescent_AdBiasRefIdeal (hAdBiasRefIdeal := hAdBiasRefIdeal)
    ∧ quiescent_AdMod (hAdMod := hAdMod)
    ∧ quiescent_AdModIdeal (hAdModIdeal := hAdModIdeal)
    ∧ quiescent_AdModRefIdeal (hAdModRefIdeal := hAdModRefIdeal)
    ∧ quiescent_AdCtx (hAdCtx := hAdCtx)
    ∧ quiescent_AdCtxIdeal (hAdCtxIdeal := hAdCtxIdeal)
    ∧ quiescent_AdCtxRefIdeal (hAdCtxRefIdeal := hAdCtxRefIdeal)
    ∧ quiescent_Loss (hLoss := hLoss)
    ∧ quiescent_LossIdeal (hLossIdeal := hLossIdeal)
    ∧ quiescent_LossRefIdeal (hLossRefIdeal := hLossRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_LbFwd (hLbFwd := hLbFwd)
    ∧ quiescent_LbFwdIdeal (hLbFwdIdeal := hLbFwdIdeal)
    ∧ quiescent_LbFwdRefIdeal (hLbFwdRefIdeal := hLbFwdRefIdeal)
    ∧ quiescent_LbBwd (hLbBwd := hLbBwd)
    ∧ quiescent_LbBwdIdeal (hLbBwdIdeal := hLbBwdIdeal)
    ∧ quiescent_LbBwdIdeal_pre_finite (hLbBwdIdeal := hLbBwdIdeal) (hPre_finite := hPre_finite)
    ∧ quiescent_LbBwdRefIdeal (hLbBwdRefIdeal := hLbBwdRefIdeal)
    ∧ quiescent_LbBwdRefIdeal_pre_finite (hLbBwdRefIdeal := hLbBwdRefIdeal) (hPre_finite := hPre_finite)
    ∧ preserves_WIn_WInIdeal
    ∧ algebraic_WInIdeal_WInRefIdeal (hWInIdeal := hWInIdeal) (hWInRefIdeal := hWInRefIdeal)
    ∧ preserves_WUp_WUpIdeal
    ∧ algebraic_WUpIdeal_WUpRefIdeal (hWUpIdeal := hWUpIdeal) (hWUpRefIdeal := hWUpRefIdeal)
    ∧ preserves_WDown_WDownIdeal
    ∧ algebraic_WDownIdeal_WDownRefIdeal (hWDownIdeal := hWDownIdeal) (hWDownRefIdeal := hWDownRefIdeal)
    ∧ preserves_WMix_WMixIdeal
    ∧ algebraic_WMixIdeal_WMixRefIdeal (hWMixIdeal := hWMixIdeal) (hWMixRefIdeal := hWMixRefIdeal)
    ∧ preserves_FfUp_FfUpIdeal
    ∧ algebraic_FfUpIdeal_FfUpRefIdeal (hFfUpIdeal := hFfUpIdeal) (hFfUpRefIdeal := hFfUpRefIdeal)
    ∧ preserves_InProj_InProjIdeal
    ∧ algebraic_InProjIdeal_InProjRefIdeal (hInProjIdeal := hInProjIdeal) (hInProjRefIdeal := hInProjRefIdeal)
    ∧ preserves_InFwd_InFwdIdeal
    ∧ algebraic_InFwdIdeal_InFwdRefIdeal (hInFwdIdeal := hInFwdIdeal) (hInFwdRefIdeal := hInFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_UpLast_UpLastIdeal
    ∧ algebraic_UpLastIdeal_UpLastRefIdeal (hUpLastIdeal := hUpLastIdeal) (hUpLastRefIdeal := hUpLastRefIdeal)
    ∧ preserves_FfSkip_FfSkipIdeal
    ∧ algebraic_FfSkipIdeal_FfSkipRefIdeal (hFfSkipIdeal := hFfSkipIdeal) (hFfSkipRefIdeal := hFfSkipRefIdeal)
    ∧ preserves_InLat_InLatIdeal
    ∧ algebraic_InLatIdeal_InLatRefIdeal (hInLatIdeal := hInLatIdeal) (hInLatRefIdeal := hInLatRefIdeal)
    ∧ preserves_AdIn_AdInIdeal
    ∧ algebraic_AdInIdeal_AdInRefIdeal (hAdInIdeal := hAdInIdeal) (hAdInRefIdeal := hAdInRefIdeal)
    ∧ preserves_AdUp_AdUpIdeal
    ∧ algebraic_AdUpIdeal_AdUpRefIdeal (hAdUpIdeal := hAdUpIdeal) (hAdUpRefIdeal := hAdUpRefIdeal)
    ∧ preserves_AdMix_AdMixIdeal
    ∧ algebraic_AdMixIdeal_AdMixRefIdeal (hAdMixIdeal := hAdMixIdeal) (hAdMixRefIdeal := hAdMixRefIdeal)
    ∧ preserves_AdDown_AdDownIdeal
    ∧ algebraic_AdDownIdeal_AdDownRefIdeal (hAdDownIdeal := hAdDownIdeal) (hAdDownRefIdeal := hAdDownRefIdeal)
    ∧ preserves_AdRep_AdRepIdeal
    ∧ algebraic_AdRepIdeal_AdRepRefIdeal (hAdRepIdeal := hAdRepIdeal) (hAdRepRefIdeal := hAdRepRefIdeal)
    ∧ preserves_AdConv_AdConvIdeal
    ∧ algebraic_AdConvIdeal_AdConvRefIdeal (hAdConvIdeal := hAdConvIdeal) (hAdConvRefIdeal := hAdConvRefIdeal)
    ∧ preserves_AdBias_AdBiasIdeal
    ∧ algebraic_AdBiasIdeal_AdBiasRefIdeal (hAdBiasIdeal := hAdBiasIdeal) (hAdBiasRefIdeal := hAdBiasRefIdeal)
    ∧ preserves_AdMod_AdModIdeal
    ∧ algebraic_AdModIdeal_AdModRefIdeal (hAdModIdeal := hAdModIdeal) (hAdModRefIdeal := hAdModRefIdeal)
    ∧ preserves_AdCtx_AdCtxIdeal
    ∧ algebraic_AdCtxIdeal_AdCtxRefIdeal (hAdCtxIdeal := hAdCtxIdeal) (hAdCtxRefIdeal := hAdCtxRefIdeal)
    ∧ preserves_Loss_LossIdeal
    ∧ algebraic_LossIdeal_LossRefIdeal (hLossIdeal := hLossIdeal) (hLossRefIdeal := hLossRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_LbFwd_LbFwdIdeal
    ∧ algebraic_LbFwdIdeal_LbFwdRefIdeal (hLbFwdIdeal := hLbFwdIdeal) (hLbFwdRefIdeal := hLbFwdRefIdeal)
    ∧ preserves_LbBwd_LbBwdIdeal
    ∧ algebraic_LbBwdIdeal_LbBwdRefIdeal_pre_finite (hLbBwdIdeal := hLbBwdIdeal) (hLbBwdRefIdeal := hLbBwdRefIdeal) (hPre_finite := hPre_finite)
-- ==== Pre_finite.lean ====
abbrev S2x2048 : Shape := ⟨2, ![2, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : FVec F S2x2048 .f32) (main_arg1 : FVec F S1x2048 .f32) : IVec S1x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  main_v2
-- ==== WIn.lean ====
abbrev S4352x1024 : Shape := ⟨2, ![4352, 1024]⟩
abbrev S4352x9216 : Shape := ⟨2, ![4352, 9216]⟩
abbrev S1024x4352 : Shape := ⟨2, ![1024, 4352]⟩
abbrev S8x1024x1152 : Shape := ⟨3, ![8, 1024, 1152]⟩
abbrev S4352x1152 : Shape := ⟨2, ![4352, 1152]⟩
abbrev S1x1024x1152 : Shape := ⟨3, ![1, 1024, 1152]⟩
abbrev S1024x1152 : Shape := ⟨2, ![1024, 1152]⟩

abbrev nBuf : Space → Nat
  | .hbm => 4
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x9216, .bf16⟩
  | .hbm, ⟨2, _⟩ => ⟨S1024x4352, .bf16⟩
  | .hbm, ⟨3, _⟩ => ⟨S8x1024x1152, .bf16⟩
  | .local _ .vmem, ⟨0, _⟩ => ⟨S1024x4352, .bf16⟩
  | .local _ .vmem, ⟨1, _⟩ => ⟨S4352x1152, .bf16⟩
  | .local _ .vmem, ⟨2, _⟩ => ⟨S4352x1152, .bf16⟩
  | .local _ .vmem, ⟨3, _⟩ => ⟨S1x1024x1152, .bf16⟩
  | .local _ .vmem, ⟨4, _⟩ => ⟨S1x1024x1152, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4352x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WInRefIdeal.lean ====
abbrev S4352x1024 : Shape := ⟨2, ![4352, 1024]⟩
abbrev S4352x9216 : Shape := ⟨2, ![4352, 9216]⟩
abbrev S9216x1024 : Shape := ⟨2, ![9216, 1024]⟩
abbrev S1024x9216 : Shape := ⟨2, ![1024, 9216]⟩
abbrev S1024x8x1152 : Shape := ⟨3, ![1024, 8, 1152]⟩
abbrev S8x1024x1152 : Shape := ⟨3, ![8, 1024, 1152]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x9216, .bf16⟩
  | .hbm, ⟨2, _⟩ => ⟨S4352x1024, .f32⟩
  | .hbm, ⟨3, _⟩ => ⟨S4352x9216, .f32⟩
  | .hbm, ⟨4, _⟩ => ⟨S9216x1024, .f32⟩
  | .hbm, ⟨5, _⟩ => ⟨S1024x9216, .f32⟩
  | .hbm, ⟨6, _⟩ => ⟨S1024x9216, .bf16⟩
  | .hbm, ⟨7, _⟩ => ⟨S1024x8x1152, .bf16⟩
  | .hbm, ⟨8, _⟩ => ⟨S8x1024x1152, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== WUp.lean ====
abbrev S4352x1024 : Shape := ⟨2, ![4352, 1024]⟩
abbrev S4352x5632 : Shape := ⟨2, ![4352, 5632]⟩
abbrev S1024x4352 : Shape := ⟨2, ![1024, 4352]⟩
abbrev S4352x8x704 : Shape := ⟨3, ![4352, 8, 704]⟩
abbrev S8x4352x704 : Shape := ⟨3, ![8, 4352, 704]⟩
abbrev S8x1024x704 : Shape := ⟨3, ![8, 1024, 704]⟩
abbrev S1x4352x704 : Shape := ⟨3, ![1, 4352, 704]⟩
abbrev S1x1024x704 : Shape := ⟨3, ![1, 1024, 704]⟩
abbrev S4352x704 : Shape := ⟨2, ![4352, 704]⟩
abbrev S1024x704 : Shape := ⟨2, ![1024, 704]⟩

abbrev nBuf : Space → Nat
  | .hbm => 6
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S1024x4352, .bf16⟩
  | .hbm, ⟨3, _⟩ => ⟨S4352x8x704, .bf16⟩
  | .hbm, ⟨4, _⟩ => ⟨S8x4352x704, .bf16⟩
  | .hbm, ⟨5, _⟩ => ⟨S8x1024x704, .bf16⟩
  | .local _ .vmem, ⟨0, _⟩ => ⟨S1024x4352, .bf16⟩
  | .local _ .vmem, ⟨1, _⟩ => ⟨S1x4352x704, .bf16⟩
  | .local _ .vmem, ⟨2, _⟩ => ⟨S1x4352x704, .bf16⟩
  | .local _ .vmem, ⟨3, _⟩ => ⟨S1x1024x704, .bf16⟩
  | .local _ .vmem, ⟨4, _⟩ => ⟨S1x1024x704, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4352x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WUpRefIdeal.lean ====
abbrev S4352x1024 : Shape := ⟨2, ![4352, 1024]⟩
abbrev S4352x5632 : Shape := ⟨2, ![4352, 5632]⟩
abbrev S5632x1024 : Shape := ⟨2, ![5632, 1024]⟩
abbrev S1024x5632 : Shape := ⟨2, ![1024, 5632]⟩
abbrev S1024x8x704 : Shape := ⟨3, ![1024, 8, 704]⟩
abbrev S8x1024x704 : Shape := ⟨3, ![8, 1024, 704]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S4352x1024, .f32⟩
  | .hbm, ⟨3, _⟩ => ⟨S4352x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | .hbm, ⟨7, _⟩ => ⟨S1024x8x704, .bf16⟩
  | .hbm, ⟨8, _⟩ => ⟨S8x1024x704, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== WDown.lean ====
abbrev S4352x2816 : Shape := ⟨2, ![4352, 2816]⟩
abbrev S4352x1024 : Shape := ⟨2, ![4352, 1024]⟩
abbrev S4352x4x704 : Shape := ⟨3, ![4352, 4, 704]⟩
abbrev S4x4352x704 : Shape := ⟨3, ![4, 4352, 704]⟩
abbrev S4x704x1024 : Shape := ⟨3, ![4, 704, 1024]⟩
abbrev S1x4352x704 : Shape := ⟨3, ![1, 4352, 704]⟩
abbrev S1x704x1024 : Shape := ⟨3, ![1, 704, 1024]⟩
abbrev S4352x704 : Shape := ⟨2, ![4352, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S4352x4x704, .bf16⟩
  | .hbm, ⟨3, _⟩ => ⟨S4x4352x704, .bf16⟩
  | .hbm, ⟨4, _⟩ => ⟨S4x704x1024, .bf16⟩
  | .local _ .vmem, ⟨0, _⟩ => ⟨S1x4352x704, .bf16⟩
  | .local _ .vmem, ⟨1, _⟩ => ⟨S1x4352x704, .bf16⟩
  | .local _ .vmem, ⟨2, _⟩ => ⟨S4352x1024, .bf16⟩
  | .local _ .vmem, ⟨3, _⟩ => ⟨S1x704x1024, .bf16⟩
  | .local _ .vmem, ⟨4, _⟩ => ⟨S1x704x1024, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WDownRefIdeal.lean ====
abbrev S4352x2816 : Shape := ⟨2, ![4352, 2816]⟩
abbrev S4352x1024 : Shape := ⟨2, ![4352, 1024]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S4352x2816, .f32⟩
  | .hbm, ⟨3, _⟩ => ⟨S4352x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S4x704x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== WMix.lean ====
abbrev S4352x1024 : Shape := ⟨2, ![4352, 1024]⟩
abbrev S1024x4352 : Shape := ⟨2, ![1024, 4352]⟩
abbrev S1x1024x1024 : Shape := ⟨3, ![1, 1024, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x4352, .bf16⟩
  | .hbm, ⟨3, _⟩ => ⟨S1x1024x1024, .bf16⟩
  | .local _ .vmem, ⟨0, _⟩ => ⟨S1024x4352, .bf16⟩
  | .local _ .vmem, ⟨1, _⟩ => ⟨S4352x1024, .bf16⟩
  | .local _ .vmem, ⟨2, _⟩ => ⟨S1x1024x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== WMixRefIdeal.lean ====
abbrev S4352x1024 : Shape := ⟨2, ![4352, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .f32⟩
  | .hbm, ⟨3, _⟩ => ⟨S4352x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1x1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfUp.lean ====
abbrev S4352x1024 : Shape := ⟨2, ![4352, 1024]⟩
abbrev S4352x5632 : Shape := ⟨2, ![4352, 5632]⟩
abbrev S6144 : Shape := ⟨1, ![6144]⟩
abbrev S1024 : Shape := ⟨1, ![1024]⟩
abbrev S1024x5632 : Shape := ⟨2, ![1024, 5632]⟩
abbrev S6x1x1024 : Shape := ⟨3, ![6, 1, 1024]⟩
abbrev S1x6x1x1024 : Shape := ⟨4, ![1, 6, 1, 1024]⟩
abbrev S2x6x1x1024 : Shape := ⟨4, ![2, 6, 1, 1024]⟩
abbrev S4352x8x704 : Shape := ⟨3, ![4352, 8, 704]⟩
abbrev S8x4352x704 : Shape := ⟨3, ![8, 4352, 704]⟩
abbrev S1024x8x704 : Shape := ⟨3, ![1024, 8, 704]⟩
abbrev S8x1024x704 : Shape := ⟨3, ![8, 1024, 704]⟩
abbrev S1x1024 : Shape := ⟨2, ![1, 1024]⟩
abbrev S2x2x1x1024 : Shape := ⟨4, ![2, 2, 1, 1024]⟩
abbrev S256x1024 : Shape := ⟨2, ![256, 1024]⟩
abbrev S8x256x704 : Shape := ⟨3, ![8, 256, 704]⟩
abbrev S1x256x704 : Shape := ⟨3, ![1, 256, 704]⟩
abbrev S256x704 : Shape := ⟨2, ![256, 704]⟩
abbrev S1x1024x704 : Shape := ⟨3, ![1, 1024, 704]⟩
abbrev S1024x704 : Shape := ⟨2, ![1024, 704]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x5632, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x5632, .bf16⟩
  | .hbm, ⟨7, _⟩ => ⟨S6x1x1024, .f32⟩
  | .hbm, ⟨8, _⟩ => ⟨S6x1x1024, .f32⟩
  | .hbm, ⟨9, _⟩ => ⟨S1x6x1x1024, .f32⟩
  | .hbm, ⟨10, _⟩ => ⟨S1x6x1x1024, .f32⟩
  | .hbm, ⟨11, _⟩ => ⟨S2x6x1x1024, .f32⟩
  | .hbm, ⟨12, _⟩ => ⟨S4352x8x704, .bf16⟩
  | .hbm, ⟨13, _⟩ => ⟨S8x4352x704, .bf16⟩
  | .hbm, ⟨14, _⟩ => ⟨S1024x8x704, .bf16⟩
  | .hbm, ⟨15, _⟩ => ⟨S8x1024x704, .bf16⟩
  | .hbm, ⟨16, _⟩ => ⟨S1x1024, .f32⟩
  | .hbm, ⟨17, _⟩ => ⟨S4352x1024, .f32⟩
  | .hbm, ⟨18, _⟩ => ⟨S1x1024, .f32⟩
  | .hbm, ⟨19, _⟩ => ⟨S2x2x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x704, .bf16⟩
  | .local _ .vmem, ⟨5, _⟩ => ⟨S8x256x704, .bf16⟩
  | .local _ .vmem, ⟨6, _⟩ => ⟨S1x6x1x1024, .f32⟩
  | .local _ .vmem, ⟨7, _⟩ => ⟨S1x6x1x1024, .f32⟩
  | .local _ .vmem, ⟨8, _⟩ => ⟨S1x1024, .f32⟩
  | .local _ .vmem, ⟨9, _⟩ => ⟨S8x1024x704, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S2x2x1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfUpRefIdeal.lean ====
abbrev S4352x1024 : Shape := ⟨2, ![4352, 1024]⟩
abbrev S4352x5632 : Shape := ⟨2, ![4352, 5632]⟩
abbrev S6144 : Shape := ⟨1, ![6144]⟩
abbrev S1024 : Shape := ⟨1, ![1024]⟩
abbrev S1024x5632 : Shape := ⟨2, ![1024, 5632]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S256x1024 : Shape := ⟨2, ![256, 1024]⟩
abbrev S4096x1024 : Shape := ⟨2, ![4096, 1024]⟩
abbrev S2x1024 : Shape := ⟨2, ![2, 1024]⟩
abbrev S1x2x1024 : Shape := ⟨3, ![1, 2, 1024]⟩
abbrev S2x2x1024 : Shape := ⟨3, ![2, 2, 1024]⟩
abbrev S2x2x1x1024 : Shape := ⟨4, ![2, 2, 1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x5632, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x5632, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4352x1024, .f32⟩
  | .hbm, ⟨20, _⟩ => ⟨S_, .f32⟩
  | .hbm, ⟨21, _⟩ => ⟨S4352, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S_, .f32⟩
  | .hbm, ⟨27, _⟩ => ⟨S4352x1, .f32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S_, .f32⟩
  | .hbm, ⟨32, _⟩ => ⟨S4352x1, .f32⟩
  | .hbm, ⟨33, _⟩ => ⟨S4352x1, .f32⟩
  | .hbm, ⟨34, _⟩ => ⟨S4352x1024, .f32⟩
  | .hbm, ⟨35, _⟩ => ⟨S4352x1024, .f32⟩
  | .hbm, ⟨36, _⟩ => ⟨S1x1024, .f32⟩
  | .hbm, ⟨37, _⟩ => ⟨S4352x1024, .f32⟩
  | .hbm, ⟨38, _⟩ => ⟨S4352x1024, .f32⟩
  | .hbm, ⟨39, _⟩ => ⟨S256x1024, .f32⟩
  | .hbm, ⟨40, _⟩ => ⟨S4096x1024, .f32⟩
  | .hbm, ⟨41, _⟩ => ⟨S4352x1024, .f32⟩
  | .hbm, ⟨42, _⟩ => ⟨S_, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S256x1024, .f32⟩
  | .hbm, ⟨47, _⟩ => ⟨S4096x1024, .f32⟩
  | .hbm, ⟨48, _⟩ => ⟨S4352x1024, .f32⟩
  | .hbm, ⟨49, _⟩ => ⟨S4352x1024, .f32⟩
  | .hbm, ⟨50, _⟩ => ⟨S1024x5632, .f32⟩
  | .hbm, ⟨51, _⟩ => ⟨S4352x5632, .f32⟩
  | .hbm, ⟨52, _⟩ => ⟨S4352x5632, .f32⟩
  | .hbm, ⟨53, _⟩ => ⟨S4352x1024, .f32⟩
  | .hbm, ⟨54, _⟩ => ⟨S256x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S4352x1024, .f32⟩
  | .hbm, ⟨61, _⟩ => ⟨S4352x1024, .f32⟩
  | .hbm, ⟨62, _⟩ => ⟨S256x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S4352x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4352x1024, .f32⟩
  | .hbm, ⟨73, _⟩ => ⟨S4352x1024, .f32⟩
  | .hbm, ⟨74, _⟩ => ⟨S_, .f32⟩
  | .hbm, ⟨75, _⟩ => ⟨S1024, .f32⟩
  | .hbm, ⟨76, _⟩ => ⟨S4352x1024, .f32⟩
  | .hbm, ⟨77, _⟩ => ⟨S_, .f32⟩
  | .hbm, ⟨78, _⟩ => ⟨S4352, .f32⟩
  | .hbm, ⟨79, _⟩ => ⟨S4352x1, .f32⟩
  | .hbm, ⟨80, _⟩ => ⟨S4352x1024, .f32⟩
  | .hbm, ⟨81, _⟩ => ⟨S4352x1024, .f32⟩
  | .hbm, ⟨82, _⟩ => ⟨S4352x1, .f32⟩
  | .hbm, ⟨83, _⟩ => ⟨S_, .f32⟩
  | .hbm, ⟨84, _⟩ => ⟨S4352x1, .f32⟩
  | .hbm, ⟨85, _⟩ => ⟨S4352x1, .f32⟩
  | .hbm, ⟨86, _⟩ => ⟨S_, .f32⟩
  | .hbm, ⟨87, _⟩ => ⟨S4352, .f32⟩
  | .hbm, ⟨88, _⟩ => ⟨S4352x1024, .f32⟩
  | .hbm, ⟨89, _⟩ => ⟨S4352x1024, .f32⟩
  | .hbm, ⟨90, _⟩ => ⟨S4352x1024, .f32⟩
  | .hbm, ⟨91, _⟩ => ⟨S4352x1024, .f32⟩
  | .hbm, ⟨92, _⟩ => ⟨S4352x1024, .f32⟩
  | .hbm, ⟨93, _⟩ => ⟨S1x1024, .f32⟩
  | .hbm, ⟨94, _⟩ => ⟨S1x1024, .f32⟩
  | .hbm, ⟨95, _⟩ => ⟨S2x1024, .f32⟩
  | .hbm, ⟨96, _⟩ => ⟨S1x1024, .f32⟩
  | .hbm, ⟨97, _⟩ => ⟨S1x1024, .f32⟩
  | .hbm, ⟨98, _⟩ => ⟨S2x1024, .f32⟩
  | .hbm, ⟨99, _⟩ => ⟨S1x2x1024, .f32⟩
  | .hbm, ⟨100, _⟩ => ⟨S1x2x1024, .f32⟩
  | .hbm, ⟨101, _⟩ => ⟨S2x2x1024, .f32⟩
  | .hbm, ⟨102, _⟩ => ⟨S4352x1024, .f32⟩
  | .hbm, ⟨103, _⟩ => ⟨S1x1024, .f32⟩
  | .hbm, ⟨104, _⟩ => ⟨S2x2x1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== InProj.lean ====
abbrev S4352x1024 : Shape := ⟨2, ![4352, 1024]⟩
abbrev S4352x9216 : Shape := ⟨2, ![4352, 9216]⟩
abbrev S6144 : Shape := ⟨1, ![6144]⟩
abbrev S1024 : Shape := ⟨1, ![1024]⟩
abbrev S1024x9216 : Shape := ⟨2, ![1024, 9216]⟩
abbrev S6x1x1024 : Shape := ⟨3, ![6, 1, 1024]⟩
abbrev S1x6x1x1024 : Shape := ⟨4, ![1, 6, 1, 1024]⟩
abbrev S2x6x1x1024 : Shape := ⟨4, ![2, 6, 1, 1024]⟩
abbrev S1024x8x1152 : Shape := ⟨3, ![1024, 8, 1152]⟩
abbrev S8x1024x1152 : Shape := ⟨3, ![8, 1024, 1152]⟩
abbrev S1x1024 : Shape := ⟨2, ![1, 1024]⟩
abbrev S2x2x1x1024 : Shape := ⟨4, ![2, 2, 1, 1024]⟩
abbrev S256x1024 : Shape := ⟨2, ![256, 1024]⟩
abbrev S256x9216 : Shape := ⟨2, ![256, 9216]⟩
abbrev S8 : Shape := ⟨1, ![8]⟩
abbrev S1 : Shape := ⟨1, ![1]⟩
abbrev S_ : Shape := ⟨0, ![]⟩
abbrev S1024x1152 : Shape := ⟨2, ![1024, 1152]⟩
abbrev S1x1024x1152 : Shape := ⟨3, ![1, 1024, 1152]⟩
abbrev S256x2304 : Shape := ⟨2, ![256, 2304]⟩
abbrev S1024x2304 : Shape := ⟨2, ![1024, 2304]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x9216, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x9216, .bf16⟩
  | .hbm, ⟨7, _⟩ => ⟨S6x1x1024, .f32⟩
  | .hbm, ⟨8, _⟩ => ⟨S6x1x1024, .f32⟩
  | .hbm, ⟨9, _⟩ => ⟨S1x6x1x1024, .f32⟩
  | .hbm, ⟨10, _⟩ => ⟨S1x6x1x1024, .f32⟩
  | .hbm, ⟨11, _⟩ => ⟨S2x6x1x1024, .f32⟩
  | .hbm, ⟨12, _⟩ => ⟨S1024x8x1152, .bf16⟩
  | .hbm, ⟨13, _⟩ => ⟨S8x1024x1152, .bf16⟩
  | .hbm, ⟨14, _⟩ => ⟨S1x1024, .f32⟩
  | .hbm, ⟨15, _⟩ => ⟨S4352x1024, .f32⟩
  | .hbm, ⟨16, _⟩ => ⟨S1x1024, .f32⟩
  | .hbm, ⟨17, _⟩ => ⟨S2x2x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x9216, .bf16⟩
  | .local _ .vmem, ⟨5, _⟩ => ⟨S256x9216, .bf16⟩
  | .local _ .vmem, ⟨6, _⟩ => ⟨S1x6x1x1024, .f32⟩
  | .local _ .vmem, ⟨7, _⟩ => ⟨S1x6x1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S2x2x1x1024, .f32⟩
  | .local _ .vmem, ⟨13, _⟩ => ⟨S1024x9216, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x9216 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjRefIdeal.lean ====
abbrev S4352x1024 : Shape := ⟨2, ![4352, 1024]⟩
abbrev S4352x9216 : Shape := ⟨2, ![4352, 9216]⟩
abbrev S6144 : Shape := ⟨1, ![6144]⟩
abbrev S1024 : Shape := ⟨1, ![1024]⟩
abbrev S1024x9216 : Shape := ⟨2, ![1024, 9216]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S256x1024 : Shape := ⟨2, ![256, 1024]⟩
abbrev S4096x1024 : Shape := ⟨2, ![4096, 1024]⟩
abbrev S2x1024 : Shape := ⟨2, ![2, 1024]⟩
abbrev S1x2x1024 : Shape := ⟨3, ![1, 2, 1024]⟩
abbrev S2x2x1024 : Shape := ⟨3, ![2, 2, 1024]⟩
abbrev S2x2x1x1024 : Shape := ⟨4, ![2, 2, 1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x9216, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x9216, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4352x1024, .f32⟩
  | .hbm, ⟨20, _⟩ => ⟨S_, .f32⟩
  | .hbm, ⟨21, _⟩ => ⟨S4352, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S_, .f32⟩
  | .hbm, ⟨27, _⟩ => ⟨S4352x1, .f32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S_, .f32⟩
  | .hbm, ⟨32, _⟩ => ⟨S4352x1, .f32⟩
  | .hbm, ⟨33, _⟩ => ⟨S4352x1, .f32⟩
  | .hbm, ⟨34, _⟩ => ⟨S4352x1024, .f32⟩
  | .hbm, ⟨35, _⟩ => ⟨S4352x1024, .f32⟩
  | .hbm, ⟨36, _⟩ => ⟨S1x1024, .f32⟩
  | .hbm, ⟨37, _⟩ => ⟨S4352x1024, .f32⟩
  | .hbm, ⟨38, _⟩ => ⟨S4352x1024, .f32⟩
  | .hbm, ⟨39, _⟩ => ⟨S256x1024, .f32⟩
  | .hbm, ⟨40, _⟩ => ⟨S4096x1024, .f32⟩
  | .hbm, ⟨41, _⟩ => ⟨S4352x1024, .f32⟩
  | .hbm, ⟨42, _⟩ => ⟨S_, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S256x1024, .f32⟩
  | .hbm, ⟨47, _⟩ => ⟨S4096x1024, .f32⟩
  | .hbm, ⟨48, _⟩ => ⟨S4352x1024, .f32⟩
  | .hbm, ⟨49, _⟩ => ⟨S4352x1024, .f32⟩
  | .hbm, ⟨50, _⟩ => ⟨S1024x9216, .f32⟩
  | .hbm, ⟨51, _⟩ => ⟨S4352x9216, .f32⟩
  | .hbm, ⟨52, _⟩ => ⟨S4352x9216, .f32⟩
  | .hbm, ⟨53, _⟩ => ⟨S4352x1024, .f32⟩
  | .hbm, ⟨54, _⟩ => ⟨S256x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S4352x1024, .f32⟩
  | .hbm, ⟨61, _⟩ => ⟨S4352x1024, .f32⟩
  | .hbm, ⟨62, _⟩ => ⟨S256x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S4352x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4352x1024, .f32⟩
  | .hbm, ⟨73, _⟩ => ⟨S4352x1024, .f32⟩
  | .hbm, ⟨74, _⟩ => ⟨S_, .f32⟩
  | .hbm, ⟨75, _⟩ => ⟨S1024, .f32⟩
  | .hbm, ⟨76, _⟩ => ⟨S4352x1024, .f32⟩
  | .hbm, ⟨77, _⟩ => ⟨S_, .f32⟩
  | .hbm, ⟨78, _⟩ => ⟨S4352, .f32⟩
  | .hbm, ⟨79, _⟩ => ⟨S4352x1, .f32⟩
  | .hbm, ⟨80, _⟩ => ⟨S4352x1024, .f32⟩
  | .hbm, ⟨81, _⟩ => ⟨S4352x1024, .f32⟩
  | .hbm, ⟨82, _⟩ => ⟨S4352x1, .f32⟩
  | .hbm, ⟨83, _⟩ => ⟨S_, .f32⟩
  | .hbm, ⟨84, _⟩ => ⟨S4352x1, .f32⟩
  | .hbm, ⟨85, _⟩ => ⟨S4352x1, .f32⟩
  | .hbm, ⟨86, _⟩ => ⟨S_, .f32⟩
  | .hbm, ⟨87, _⟩ => ⟨S4352, .f32⟩
  | .hbm, ⟨88, _⟩ => ⟨S4352x1024, .f32⟩
  | .hbm, ⟨89, _⟩ => ⟨S4352x1024, .f32⟩
  | .hbm, ⟨90, _⟩ => ⟨S4352x1024, .f32⟩
  | .hbm, ⟨91, _⟩ => ⟨S4352x1024, .f32⟩
  | .hbm, ⟨92, _⟩ => ⟨S4352x1024, .f32⟩
  | .hbm, ⟨93, _⟩ => ⟨S1x1024, .f32⟩
  | .hbm, ⟨94, _⟩ => ⟨S1x1024, .f32⟩
  | .hbm, ⟨95, _⟩ => ⟨S2x1024, .f32⟩
  | .hbm, ⟨96, _⟩ => ⟨S1x1024, .f32⟩
  | .hbm, ⟨97, _⟩ => ⟨S1x1024, .f32⟩
  | .hbm, ⟨98, _⟩ => ⟨S2x1024, .f32⟩
  | .hbm, ⟨99, _⟩ => ⟨S1x2x1024, .f32⟩
  | .hbm, ⟨100, _⟩ => ⟨S1x2x1024, .f32⟩
  | .hbm, ⟨101, _⟩ => ⟨S2x2x1024, .f32⟩
  | .hbm, ⟨102, _⟩ => ⟨S4352x1024, .f32⟩
  | .hbm, ⟨103, _⟩ => ⟨S1x1024, .f32⟩
  | .hbm, ⟨104, _⟩ => ⟨S2x2x1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== InFwd.lean ====
abbrev S4352x1024 : Shape := ⟨2, ![4352, 1024]⟩
abbrev S6144 : Shape := ⟨1, ![6144]⟩
abbrev S1024 : Shape := ⟨1, ![1024]⟩
abbrev S1024x9216 : Shape := ⟨2, ![1024, 9216]⟩
abbrev S6x1x1024 : Shape := ⟨3, ![6, 1, 1024]⟩
abbrev S1x6x1x1024 : Shape := ⟨4, ![1, 6, 1, 1024]⟩
abbrev S2x6x1x1024 : Shape := ⟨4, ![2, 6, 1, 1024]⟩
abbrev S1024x8x1152 : Shape := ⟨3, ![1024, 8, 1152]⟩
abbrev S8x1024x1152 : Shape := ⟨3, ![8, 1024, 1152]⟩
abbrev S1x1024 : Shape := ⟨2, ![1, 1024]⟩
abbrev S4352x4096 : Shape := ⟨2, ![4352, 4096]⟩
abbrev S1024x4352 : Shape := ⟨2, ![1024, 4352]⟩
abbrev S4352x5120 : Shape := ⟨2, ![4352, 5120]⟩
abbrev S256x1024 : Shape := ⟨2, ![256, 1024]⟩
abbrev S256x4096 : Shape := ⟨2, ![256, 4096]⟩
abbrev S1024x256 : Shape := ⟨2, ![1024, 256]⟩
abbrev S256x5120 : Shape := ⟨2, ![256, 5120]⟩
abbrev S8 : Shape := ⟨1, ![8]⟩
abbrev S1 : Shape := ⟨1, ![1]⟩
abbrev S_ : Shape := ⟨0, ![]⟩
abbrev S1024x1152 : Shape := ⟨2, ![1024, 1152]⟩
abbrev S1x1024x1152 : Shape := ⟨3, ![1, 1024, 1152]⟩
abbrev S1x1x1x1024 : Shape := ⟨4, ![1, 1, 1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S6144, .f32⟩
  | .hbm, ⟨2, _⟩ => ⟨S6144, .f32⟩
  | .hbm, ⟨3, _⟩ => ⟨S1024, .f32⟩
  | .hbm, ⟨4, _⟩ => ⟨S1024x9216, .bf16⟩
  | .hbm, ⟨5, _⟩ => ⟨S6x1x1024, .f32⟩
  | .hbm, ⟨6, _⟩ => ⟨S6x1x1024, .f32⟩
  | .hbm, ⟨7, _⟩ => ⟨S1x6x1x1024, .f32⟩
  | .hbm, ⟨8, _⟩ => ⟨S1x6x1x1024, .f32⟩
  | .hbm, ⟨9, _⟩ => ⟨S2x6x1x1024, .f32⟩
  | .hbm, ⟨10, _⟩ => ⟨S1024x8x1152, .bf16⟩
  | .hbm, ⟨11, _⟩ => ⟨S8x1024x1152, .bf16⟩
  | .hbm, ⟨12, _⟩ => ⟨S1x1024, .f32⟩
  | .hbm, ⟨13, _⟩ => ⟨S4352x4096, .f32⟩
  | .hbm, ⟨14, _⟩ => ⟨S1024x4352, .bf16⟩
  | .hbm, ⟨15, _⟩ => ⟨S4352x1024, .bf16⟩
  | .hbm, ⟨16, _⟩ => ⟨S4352x5120, .bf16⟩
  | .local _ .vmem, ⟨0, _⟩ => ⟨S256x1024, .f32⟩
  | .local _ .vmem, ⟨1, _⟩ => ⟨S256x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S256x4096, .f32⟩
  | .local _ .vmem, ⟨6, _⟩ => ⟨S256x4096, .f32⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S256x5120, .bf16⟩
  | .local _ .vmem, ⟨12, _⟩ => ⟨S256x5120, .bf16⟩
  | .local _ .vmem, ⟨13, _⟩ => ⟨S1024x9216, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InFwdRefIdeal.lean ====
abbrev S4352x1024 : Shape := ⟨2, ![4352, 1024]⟩
abbrev S6144 : Shape := ⟨1, ![6144]⟩
abbrev S1024 : Shape := ⟨1, ![1024]⟩
abbrev S1024x9216 : Shape := ⟨2, ![1024, 9216]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S256x1024 : Shape := ⟨2, ![256, 1024]⟩
abbrev S4096x1024 : Shape := ⟨2, ![4096, 1024]⟩
abbrev S4352x9216 : Shape := ⟨2, ![4352, 9216]⟩
abbrev S4352x4096 : Shape := ⟨2, ![4352, 4096]⟩
abbrev S1024x4352 : Shape := ⟨2, ![1024, 4352]⟩
abbrev S4352x5120 : Shape := ⟨2, ![4352, 5120]⟩

abbrev nBuf : Space → Nat
  | .hbm => 53
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S6144, .f32⟩
  | .hbm, ⟨2, _⟩ => ⟨S6144, .f32⟩
  | .hbm, ⟨3, _⟩ => ⟨S1024, .f32⟩
  | .hbm, ⟨4, _⟩ => ⟨S1024x9216, .bf16⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S4352x1024, .f32⟩
  | .hbm, ⟨18, _⟩ => ⟨S_, .f32⟩
  | .hbm, ⟨19, _⟩ => ⟨S4352, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S4352x1, .f32⟩
  | .hbm, ⟨28, _⟩ => ⟨S4352x1024, .f32⟩
  | .hbm, ⟨29, _⟩ => ⟨S4352x1024, .f32⟩
  | .hbm, ⟨30, _⟩ => ⟨S1x1024, .f32⟩
  | .hbm, ⟨31, _⟩ => ⟨S4352x1024, .f32⟩
  | .hbm, ⟨32, _⟩ => ⟨S4352x1024, .f32⟩
  | .hbm, ⟨33, _⟩ => ⟨S256x1024, .f32⟩
  | .hbm, ⟨34, _⟩ => ⟨S4096x1024, .f32⟩
  | .hbm, ⟨35, _⟩ => ⟨S4352x1024, .f32⟩
  | .hbm, ⟨36, _⟩ => ⟨S_, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S256x1024, .f32⟩
  | .hbm, ⟨41, _⟩ => ⟨S4096x1024, .f32⟩
  | .hbm, ⟨42, _⟩ => ⟨S4352x1024, .f32⟩
  | .hbm, ⟨43, _⟩ => ⟨S4352x1024, .f32⟩
  | .hbm, ⟨44, _⟩ => ⟨S1024x9216, .f32⟩
  | .hbm, ⟨45, _⟩ => ⟨S4352x9216, .f32⟩
  | .hbm, ⟨46, _⟩ => ⟨S4352x4096, .f32⟩
  | .hbm, ⟨47, _⟩ => ⟨S1024x4352, .f32⟩
  | .hbm, ⟨48, _⟩ => ⟨S1024x4352, .bf16⟩
  | .hbm, ⟨49, _⟩ => ⟨S4352x1024, .f32⟩
  | .hbm, ⟨50, _⟩ => ⟨S4352x1024, .bf16⟩
  | .hbm, ⟨51, _⟩ => ⟨S4352x5120, .f32⟩
  | .hbm, ⟨52, _⟩ => ⟨S4352x5120, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== UpFwd.lean ====
abbrev S4352x1024 : Shape := ⟨2, ![4352, 1024]⟩
abbrev S6144 : Shape := ⟨1, ![6144]⟩
abbrev S1024 : Shape := ⟨1, ![1024]⟩
abbrev S1024x5632 : Shape := ⟨2, ![1024, 5632]⟩
abbrev S6x1x1024 : Shape := ⟨3, ![6, 1, 1024]⟩
abbrev S1x6x1x1024 : Shape := ⟨4, ![1, 6, 1, 1024]⟩
abbrev S2x6x1x1024 : Shape := ⟨4, ![2, 6, 1, 1024]⟩
abbrev S1024x8x704 : Shape := ⟨3, ![1024, 8, 704]⟩
abbrev S8x1024x704 : Shape := ⟨3, ![8, 1024, 704]⟩
abbrev S1x1024 : Shape := ⟨2, ![1, 1024]⟩
abbrev S8x4352x704 : Shape := ⟨3, ![8, 4352, 704]⟩
abbrev S1024x4352 : Shape := ⟨2, ![1024, 4352]⟩
abbrev S256x1024 : Shape := ⟨2, ![256, 1024]⟩
abbrev S8x256x704 : Shape := ⟨3, ![8, 256, 704]⟩
abbrev S1024x256 : Shape := ⟨2, ![1024, 256]⟩
abbrev S1x1x1x1024 : Shape := ⟨4, ![1, 1, 1, 1024]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩

abbrev nBuf : Space → Nat
  | .hbm => 15
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S6144, .f32⟩
  | .hbm, ⟨2, _⟩ => ⟨S6144, .f32⟩
  | .hbm, ⟨3, _⟩ => ⟨S1024, .f32⟩
  | .hbm, ⟨4, _⟩ => ⟨S1024x5632, .bf16⟩
  | .hbm, ⟨5, _⟩ => ⟨S6x1x1024, .f32⟩
  | .hbm, ⟨6, _⟩ => ⟨S6x1x1024, .f32⟩
  | .hbm, ⟨7, _⟩ => ⟨S1x6x1x1024, .f32⟩
  | .hbm, ⟨8, _⟩ => ⟨S1x6x1x1024, .f32⟩
  | .hbm, ⟨9, _⟩ => ⟨S2x6x1x1024, .f32⟩
  | .hbm, ⟨10, _⟩ => ⟨S1024x8x704, .bf16⟩
  | .hbm, ⟨11, _⟩ => ⟨S8x1024x704, .bf16⟩
  | .hbm, ⟨12, _⟩ => ⟨S1x1024, .f32⟩
  | .hbm, ⟨13, _⟩ => ⟨S8x4352x704, .f32⟩
  | .hbm, ⟨14, _⟩ => ⟨S1024x4352, .bf16⟩
  | .local _ .vmem, ⟨0, _⟩ => ⟨S256x1024, .f32⟩
  | .local _ .vmem, ⟨1, _⟩ => ⟨S256x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S8x1024x704, .bf16⟩
  | .local _ .vmem, ⟨6, _⟩ => ⟨S8x256x704, .f32⟩
  | .local _ .vmem, ⟨7, _⟩ => ⟨S8x256x704, .f32⟩
  | .local _ .vmem, ⟨8, _⟩ => ⟨S1024x256, .bf16⟩
  | .local _ .vmem, ⟨9, _⟩ => ⟨S1024x256, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpFwdRefIdeal.lean ====
abbrev S4352x1024 : Shape := ⟨2, ![4352, 1024]⟩
abbrev S6144 : Shape := ⟨1, ![6144]⟩
abbrev S1024 : Shape := ⟨1, ![1024]⟩
abbrev S1024x5632 : Shape := ⟨2, ![1024, 5632]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S256x1024 : Shape := ⟨2, ![256, 1024]⟩
abbrev S4096x1024 : Shape := ⟨2, ![4096, 1024]⟩
abbrev S4352x5632 : Shape := ⟨2, ![4352, 5632]⟩
abbrev S4352x8x704 : Shape := ⟨3, ![4352, 8, 704]⟩
abbrev S8x4352x704 : Shape := ⟨3, ![8, 4352, 704]⟩
abbrev S1024x4352 : Shape := ⟨2, ![1024, 4352]⟩

abbrev nBuf : Space → Nat
  | .hbm => 50
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S6144, .f32⟩
  | .hbm, ⟨2, _⟩ => ⟨S6144, .f32⟩
  | .hbm, ⟨3, _⟩ => ⟨S1024, .f32⟩
  | .hbm, ⟨4, _⟩ => ⟨S1024x5632, .bf16⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S4352x1024, .f32⟩
  | .hbm, ⟨18, _⟩ => ⟨S_, .f32⟩
  | .hbm, ⟨19, _⟩ => ⟨S4352, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S4352x1, .f32⟩
  | .hbm, ⟨28, _⟩ => ⟨S4352x1024, .f32⟩
  | .hbm, ⟨29, _⟩ => ⟨S4352x1024, .f32⟩
  | .hbm, ⟨30, _⟩ => ⟨S1x1024, .f32⟩
  | .hbm, ⟨31, _⟩ => ⟨S4352x1024, .f32⟩
  | .hbm, ⟨32, _⟩ => ⟨S4352x1024, .f32⟩
  | .hbm, ⟨33, _⟩ => ⟨S256x1024, .f32⟩
  | .hbm, ⟨34, _⟩ => ⟨S4096x1024, .f32⟩
  | .hbm, ⟨35, _⟩ => ⟨S4352x1024, .f32⟩
  | .hbm, ⟨36, _⟩ => ⟨S_, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S256x1024, .f32⟩
  | .hbm, ⟨41, _⟩ => ⟨S4096x1024, .f32⟩
  | .hbm, ⟨42, _⟩ => ⟨S4352x1024, .f32⟩
  | .hbm, ⟨43, _⟩ => ⟨S4352x1024, .f32⟩
  | .hbm, ⟨44, _⟩ => ⟨S1024x5632, .f32⟩
  | .hbm, ⟨45, _⟩ => ⟨S4352x5632, .f32⟩
  | .hbm, ⟨46, _⟩ => ⟨S4352x8x704, .f32⟩
  | .hbm, ⟨47, _⟩ => ⟨S8x4352x704, .f32⟩
  | .hbm, ⟨48, _⟩ => ⟨S1024x4352, .f32⟩
  | .hbm, ⟨49, _⟩ => ⟨S1024x4352, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== UpLast.lean ====
abbrev S4352x1024 : Shape := ⟨2, ![4352, 1024]⟩
abbrev S6144 : Shape := ⟨1, ![6144]⟩
abbrev S1024 : Shape := ⟨1, ![1024]⟩
abbrev S1024x5632 : Shape := ⟨2, ![1024, 5632]⟩
abbrev S6x1x1024 : Shape := ⟨3, ![6, 1, 1024]⟩
abbrev S1x6x1x1024 : Shape := ⟨4, ![1, 6, 1, 1024]⟩
abbrev S2x6x1x1024 : Shape := ⟨4, ![2, 6, 1, 1024]⟩
abbrev S1024x8x704 : Shape := ⟨3, ![1024, 8, 704]⟩
abbrev S8x1024x704 : Shape := ⟨3, ![8, 1024, 704]⟩
abbrev S1x1024 : Shape := ⟨2, ![1, 1024]⟩
abbrev S8x4352x704 : Shape := ⟨3, ![8, 4352, 704]⟩
abbrev S1024x4352 : Shape := ⟨2, ![1024, 4352]⟩
abbrev S256x1024 : Shape := ⟨2, ![256, 1024]⟩
abbrev S8x256x704 : Shape := ⟨3, ![8, 256, 704]⟩
abbrev S1024x256 : Shape := ⟨2, ![1024, 256]⟩
abbrev S1x1x1x1024 : Shape := ⟨4, ![1, 1, 1, 1024]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩

abbrev nBuf : Space → Nat
  | .hbm => 15
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S6144, .f32⟩
  | .hbm, ⟨2, _⟩ => ⟨S6144, .f32⟩
  | .hbm, ⟨3, _⟩ => ⟨S1024, .f32⟩
  | .hbm, ⟨4, _⟩ => ⟨S1024x5632, .bf16⟩
  | .hbm, ⟨5, _⟩ => ⟨S6x1x1024, .f32⟩
  | .hbm, ⟨6, _⟩ => ⟨S6x1x1024, .f32⟩
  | .hbm, ⟨7, _⟩ => ⟨S1x6x1x1024, .f32⟩
  | .hbm, ⟨8, _⟩ => ⟨S1x6x1x1024, .f32⟩
  | .hbm, ⟨9, _⟩ => ⟨S2x6x1x1024, .f32⟩
  | .hbm, ⟨10, _⟩ => ⟨S1024x8x704, .bf16⟩
  | .hbm, ⟨11, _⟩ => ⟨S8x1024x704, .bf16⟩
  | .hbm, ⟨12, _⟩ => ⟨S1x1024, .f32⟩
  | .hbm, ⟨13, _⟩ => ⟨S8x4352x704, .f32⟩
  | .hbm, ⟨14, _⟩ => ⟨S1024x4352, .bf16⟩
  | .local _ .vmem, ⟨0, _⟩ => ⟨S256x1024, .f32⟩
  | .local _ .vmem, ⟨1, _⟩ => ⟨S256x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S8x1024x704, .bf16⟩
  | .local _ .vmem, ⟨6, _⟩ => ⟨S8x256x704, .f32⟩
  | .local _ .vmem, ⟨7, _⟩ => ⟨S8x256x704, .f32⟩
  | .local _ .vmem, ⟨8, _⟩ => ⟨S1024x256, .bf16⟩
  | .local _ .vmem, ⟨9, _⟩ => ⟨S1024x256, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpLastRefIdeal.lean ====
abbrev S4352x1024 : Shape := ⟨2, ![4352, 1024]⟩
abbrev S6144 : Shape := ⟨1, ![6144]⟩
abbrev S1024 : Shape := ⟨1, ![1024]⟩
abbrev S1024x5632 : Shape := ⟨2, ![1024, 5632]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256x1024 : Shape := ⟨2, ![256, 1024]⟩
abbrev S4352x5632 : Shape := ⟨2, ![4352, 5632]⟩
abbrev S4352x8x704 : Shape := ⟨3, ![4352, 8, 704]⟩
abbrev S8x4352x704 : Shape := ⟨3, ![8, 4352, 704]⟩
abbrev S1024x4352 : Shape := ⟨2, ![1024, 4352]⟩

abbrev nBuf : Space → Nat
  | .hbm => 46
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S6144, .f32⟩
  | .hbm, ⟨2, _⟩ => ⟨S6144, .f32⟩
  | .hbm, ⟨3, _⟩ => ⟨S1024, .f32⟩
  | .hbm, ⟨4, _⟩ => ⟨S1024x5632, .bf16⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S256x1024, .f32⟩
  | .hbm, ⟨39, _⟩ => ⟨S4352x1024, .f32⟩
  | .hbm, ⟨40, _⟩ => ⟨S1024x5632, .f32⟩
  | .hbm, ⟨41, _⟩ => ⟨S4352x5632, .f32⟩
  | .hbm, ⟨42, _⟩ => ⟨S4352x8x704, .f32⟩
  | .hbm, ⟨43, _⟩ => ⟨S8x4352x704, .f32⟩
  | .hbm, ⟨44, _⟩ => ⟨S1024x4352, .f32⟩
  | .hbm, ⟨45, _⟩ => ⟨S1024x4352, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== FfSkip.lean ====
abbrev S4352x1024 : Shape := ⟨2, ![4352, 1024]⟩
abbrev S4352x5632 : Shape := ⟨2, ![4352, 5632]⟩
abbrev S6144 : Shape := ⟨1, ![6144]⟩
abbrev S1024 : Shape := ⟨1, ![1024]⟩
abbrev S1024x5632 : Shape := ⟨2, ![1024, 5632]⟩
abbrev S6x1x1024 : Shape := ⟨3, ![6, 1, 1024]⟩
abbrev S1x6x1x1024 : Shape := ⟨4, ![1, 6, 1, 1024]⟩
abbrev S2x6x1x1024 : Shape := ⟨4, ![2, 6, 1, 1024]⟩
abbrev S4352x8x704 : Shape := ⟨3, ![4352, 8, 704]⟩
abbrev S8x4352x704 : Shape := ⟨3, ![8, 4352, 704]⟩
abbrev S1024x8x704 : Shape := ⟨3, ![1024, 8, 704]⟩
abbrev S8x1024x704 : Shape := ⟨3, ![8, 1024, 704]⟩
abbrev S1x1024 : Shape := ⟨2, ![1, 1024]⟩
abbrev S2x2x1x1024 : Shape := ⟨4, ![2, 2, 1, 1024]⟩
abbrev S256x1024 : Shape := ⟨2, ![256, 1024]⟩
abbrev S8x256x704 : Shape := ⟨3, ![8, 256, 704]⟩
abbrev S1x256x704 : Shape := ⟨3, ![1, 256, 704]⟩
abbrev S256x704 : Shape := ⟨2, ![256, 704]⟩
abbrev S1x1024x704 : Shape := ⟨3, ![1, 1024, 704]⟩
abbrev S1024x704 : Shape := ⟨2, ![1024, 704]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x5632, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x5632, .bf16⟩
  | .hbm, ⟨7, _⟩ => ⟨S6x1x1024, .f32⟩
  | .hbm, ⟨8, _⟩ => ⟨S6x1x1024, .f32⟩
  | .hbm, ⟨9, _⟩ => ⟨S1x6x1x1024, .f32⟩
  | .hbm, ⟨10, _⟩ => ⟨S1x6x1x1024, .f32⟩
  | .hbm, ⟨11, _⟩ => ⟨S2x6x1x1024, .f32⟩
  | .hbm, ⟨12, _⟩ => ⟨S4352x8x704, .bf16⟩
  | .hbm, ⟨13, _⟩ => ⟨S8x4352x704, .bf16⟩
  | .hbm, ⟨14, _⟩ => ⟨S1024x8x704, .bf16⟩
  | .hbm, ⟨15, _⟩ => ⟨S8x1024x704, .bf16⟩
  | .hbm, ⟨16, _⟩ => ⟨S1x1024, .f32⟩
  | .hbm, ⟨17, _⟩ => ⟨S4352x1024, .f32⟩
  | .hbm, ⟨18, _⟩ => ⟨S1x1024, .f32⟩
  | .hbm, ⟨19, _⟩ => ⟨S2x2x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x704, .bf16⟩
  | .local _ .vmem, ⟨5, _⟩ => ⟨S8x256x704, .bf16⟩
  | .local _ .vmem, ⟨6, _⟩ => ⟨S1x6x1x1024, .f32⟩
  | .local _ .vmem, ⟨7, _⟩ => ⟨S1x6x1x1024, .f32⟩
  | .local _ .vmem, ⟨8, _⟩ => ⟨S1x1024, .f32⟩
  | .local _ .vmem, ⟨9, _⟩ => ⟨S8x1024x704, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S2x2x1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfSkipRefIdeal.lean ====
abbrev S4352x1024 : Shape := ⟨2, ![4352, 1024]⟩
abbrev S4352x5632 : Shape := ⟨2, ![4352, 5632]⟩
abbrev S6144 : Shape := ⟨1, ![6144]⟩
abbrev S1024 : Shape := ⟨1, ![1024]⟩
abbrev S1024x5632 : Shape := ⟨2, ![1024, 5632]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S256x1024 : Shape := ⟨2, ![256, 1024]⟩
abbrev S2x1024 : Shape := ⟨2, ![2, 1024]⟩
abbrev S1x2x1024 : Shape := ⟨3, ![1, 2, 1024]⟩
abbrev S2x2x1024 : Shape := ⟨3, ![2, 2, 1024]⟩
abbrev S2x2x1x1024 : Shape := ⟨4, ![2, 2, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x5632, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x5632, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1024x5632, .f32⟩
  | .hbm, ⟨44, _⟩ => ⟨S4096x5632, .f32⟩
  | .hbm, ⟨45, _⟩ => ⟨S4096x5632, .bf16⟩
  | .hbm, ⟨46, _⟩ => ⟨S4096x5632, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S256x1024, .f32⟩
  | .hbm, ⟨88, _⟩ => ⟨S4096x1024, .f32⟩
  | .hbm, ⟨89, _⟩ => ⟨S4096x1024, .f32⟩
  | .hbm, ⟨90, _⟩ => ⟨S4352x1024, .f32⟩
  | .hbm, ⟨91, _⟩ => ⟨S_, .f32⟩
  | .hbm, ⟨92, _⟩ => ⟨S2x1024, .f32⟩
  | .hbm, ⟨93, _⟩ => ⟨S1x1024, .f32⟩
  | .hbm, ⟨94, _⟩ => ⟨S1x1024, .f32⟩
  | .hbm, ⟨95, _⟩ => ⟨S2x1024, .f32⟩
  | .hbm, ⟨96, _⟩ => ⟨S1x2x1024, .f32⟩
  | .hbm, ⟨97, _⟩ => ⟨S1x2x1024, .f32⟩
  | .hbm, ⟨98, _⟩ => ⟨S2x2x1024, .f32⟩
  | .hbm, ⟨99, _⟩ => ⟨S1x1024, .f32⟩
  | .hbm, ⟨100, _⟩ => ⟨S2x2x1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== InLat.lean ====
abbrev S4352x1024 : Shape := ⟨2, ![4352, 1024]⟩
abbrev S4352x9216 : Shape := ⟨2, ![4352, 9216]⟩
abbrev S6144 : Shape := ⟨1, ![6144]⟩
abbrev S1024 : Shape := ⟨1, ![1024]⟩
abbrev S1024x9216 : Shape := ⟨2, ![1024, 9216]⟩
abbrev S6x1x1024 : Shape := ⟨3, ![6, 1, 1024]⟩
abbrev S1x6x1x1024 : Shape := ⟨4, ![1, 6, 1, 1024]⟩
abbrev S2x6x1x1024 : Shape := ⟨4, ![2, 6, 1, 1024]⟩
abbrev S1024x8x1152 : Shape := ⟨3, ![1024, 8, 1152]⟩
abbrev S8x1024x1152 : Shape := ⟨3, ![8, 1024, 1152]⟩
abbrev S1x1024 : Shape := ⟨2, ![1, 1024]⟩
abbrev S4096x1024 : Shape := ⟨2, ![4096, 1024]⟩
abbrev S2x2x1x1024 : Shape := ⟨4, ![2, 2, 1, 1024]⟩
abbrev S256x1024 : Shape := ⟨2, ![256, 1024]⟩
abbrev S256x9216 : Shape := ⟨2, ![256, 9216]⟩
abbrev S8 : Shape := ⟨1, ![8]⟩
abbrev S1 : Shape := ⟨1, ![1]⟩
abbrev S_ : Shape := ⟨0, ![]⟩
abbrev S1024x1152 : Shape := ⟨2, ![1024, 1152]⟩
abbrev S1x1024x1152 : Shape := ⟨3, ![1, 1024, 1152]⟩
abbrev S256x2304 : Shape := ⟨2, ![256, 2304]⟩
abbrev S1024x2304 : Shape := ⟨2, ![1024, 2304]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x9216, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x9216, .bf16⟩
  | .hbm, ⟨7, _⟩ => ⟨S6x1x1024, .f32⟩
  | .hbm, ⟨8, _⟩ => ⟨S6x1x1024, .f32⟩
  | .hbm, ⟨9, _⟩ => ⟨S1x6x1x1024, .f32⟩
  | .hbm, ⟨10, _⟩ => ⟨S1x6x1x1024, .f32⟩
  | .hbm, ⟨11, _⟩ => ⟨S2x6x1x1024, .f32⟩
  | .hbm, ⟨12, _⟩ => ⟨S1024x8x1152, .bf16⟩
  | .hbm, ⟨13, _⟩ => ⟨S8x1024x1152, .bf16⟩
  | .hbm, ⟨14, _⟩ => ⟨S1x1024, .f32⟩
  | .hbm, ⟨15, _⟩ => ⟨S4096x1024, .f32⟩
  | .hbm, ⟨16, _⟩ => ⟨S1x1024, .f32⟩
  | .hbm, ⟨17, _⟩ => ⟨S2x2x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x9216, .bf16⟩
  | .local _ .vmem, ⟨5, _⟩ => ⟨S256x9216, .bf16⟩
  | .local _ .vmem, ⟨6, _⟩ => ⟨S1x6x1x1024, .f32⟩
  | .local _ .vmem, ⟨7, _⟩ => ⟨S1x6x1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S2x2x1x1024, .f32⟩
  | .local _ .vmem, ⟨13, _⟩ => ⟨S1024x9216, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x9216 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InLatRefIdeal.lean ====
abbrev S4352x1024 : Shape := ⟨2, ![4352, 1024]⟩
abbrev S4352x9216 : Shape := ⟨2, ![4352, 9216]⟩
abbrev S6144 : Shape := ⟨1, ![6144]⟩
abbrev S1024 : Shape := ⟨1, ![1024]⟩
abbrev S1024x9216 : Shape := ⟨2, ![1024, 9216]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S256x1024 : Shape := ⟨2, ![256, 1024]⟩
abbrev S4096x1024 : Shape := ⟨2, ![4096, 1024]⟩
abbrev S2x1024 : Shape := ⟨2, ![2, 1024]⟩
abbrev S1x2x1024 : Shape := ⟨3, ![1, 2, 1024]⟩
abbrev S2x2x1024 : Shape := ⟨3, ![2, 2, 1024]⟩
abbrev S2x2x1x1024 : Shape := ⟨4, ![2, 2, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x9216, .bf16⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024x9216, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4352x1024, .f32⟩
  | .hbm, ⟨20, _⟩ => ⟨S_, .f32⟩
  | .hbm, ⟨21, _⟩ => ⟨S4352, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S_, .f32⟩
  | .hbm, ⟨27, _⟩ => ⟨S4352x1, .f32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S_, .f32⟩
  | .hbm, ⟨32, _⟩ => ⟨S4352x1, .f32⟩
  | .hbm, ⟨33, _⟩ => ⟨S4352x1, .f32⟩
  | .hbm, ⟨34, _⟩ => ⟨S4352x1024, .f32⟩
  | .hbm, ⟨35, _⟩ => ⟨S4352x1024, .f32⟩
  | .hbm, ⟨36, _⟩ => ⟨S1x1024, .f32⟩
  | .hbm, ⟨37, _⟩ => ⟨S4352x1024, .f32⟩
  | .hbm, ⟨38, _⟩ => ⟨S4352x1024, .f32⟩
  | .hbm, ⟨39, _⟩ => ⟨S256x1024, .f32⟩
  | .hbm, ⟨40, _⟩ => ⟨S4096x1024, .f32⟩
  | .hbm, ⟨41, _⟩ => ⟨S4352x1024, .f32⟩
  | .hbm, ⟨42, _⟩ => ⟨S_, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S256x1024, .f32⟩
  | .hbm, ⟨47, _⟩ => ⟨S4096x1024, .f32⟩
  | .hbm, ⟨48, _⟩ => ⟨S4352x1024, .f32⟩
  | .hbm, ⟨49, _⟩ => ⟨S4352x1024, .f32⟩
  | .hbm, ⟨50, _⟩ => ⟨S1024x9216, .f32⟩
  | .hbm, ⟨51, _⟩ => ⟨S4352x9216, .f32⟩
  | .hbm, ⟨52, _⟩ => ⟨S4352x9216, .f32⟩
  | .hbm, ⟨53, _⟩ => ⟨S4352x1024, .f32⟩
  | .hbm, ⟨54, _⟩ => ⟨S256x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S4352x1024, .f32⟩
  | .hbm, ⟨61, _⟩ => ⟨S4352x1024, .f32⟩
  | .hbm, ⟨62, _⟩ => ⟨S256x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S4352x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4352x1024, .f32⟩
  | .hbm, ⟨73, _⟩ => ⟨S4352x1024, .f32⟩
  | .hbm, ⟨74, _⟩ => ⟨S_, .f32⟩
  | .hbm, ⟨75, _⟩ => ⟨S1024, .f32⟩
  | .hbm, ⟨76, _⟩ => ⟨S4352x1024, .f32⟩
  | .hbm, ⟨77, _⟩ => ⟨S_, .f32⟩
  | .hbm, ⟨78, _⟩ => ⟨S4352, .f32⟩
  | .hbm, ⟨79, _⟩ => ⟨S4352x1, .f32⟩
  | .hbm, ⟨80, _⟩ => ⟨S4352x1024, .f32⟩
  | .hbm, ⟨81, _⟩ => ⟨S4352x1024, .f32⟩
  | .hbm, ⟨82, _⟩ => ⟨S4352x1, .f32⟩
  | .hbm, ⟨83, _⟩ => ⟨S_, .f32⟩
  | .hbm, ⟨84, _⟩ => ⟨S4352x1, .f32⟩
  | .hbm, ⟨85, _⟩ => ⟨S4352x1, .f32⟩
  | .hbm, ⟨86, _⟩ => ⟨S_, .f32⟩
  | .hbm, ⟨87, _⟩ => ⟨S4352, .f32⟩
  | .hbm, ⟨88, _⟩ => ⟨S4352x1024, .f32⟩
  | .hbm, ⟨89, _⟩ => ⟨S4352x1024, .f32⟩
  | .hbm, ⟨90, _⟩ => ⟨S4352x1024, .f32⟩
  | .hbm, ⟨91, _⟩ => ⟨S4352x1024, .f32⟩
  | .hbm, ⟨92, _⟩ => ⟨S4352x1024, .f32⟩
  | .hbm, ⟨93, _⟩ => ⟨S1x1024, .f32⟩
  | .hbm, ⟨94, _⟩ => ⟨S1x1024, .f32⟩
  | .hbm, ⟨95, _⟩ => ⟨S2x1024, .f32⟩
  | .hbm, ⟨96, _⟩ => ⟨S1x1024, .f32⟩
  | .hbm, ⟨97, _⟩ => ⟨S1x1024, .f32⟩
  | .hbm, ⟨98, _⟩ => ⟨S2x1024, .f32⟩
  | .hbm, ⟨99, _⟩ => ⟨S1x2x1024, .f32⟩
  | .hbm, ⟨100, _⟩ => ⟨S1x2x1024, .f32⟩
  | .hbm, ⟨101, _⟩ => ⟨S2x2x1024, .f32⟩
  | .hbm, ⟨102, _⟩ => ⟨S4352x1024, .f32⟩
  | .hbm, ⟨103, _⟩ => ⟨S1x1024, .f32⟩
  | .hbm, ⟨104, _⟩ => ⟨S2x2x1x1024, .f32⟩
  | .hbm, ⟨105, _⟩ => ⟨S4096x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩

abbrev nD : Nat := 1
abbrev τ : Topo := Topo.v7x

variable {F : FTy → Type} [FloatOps F]
-- ==== AdIn.lean ====
abbrev S2048x1152 : Shape := ⟨2, ![2048, 1152]⟩
abbrev S8x2048x1152 : Shape := ⟨3, ![8, 2048, 1152]⟩
abbrev S128x1152 : Shape := ⟨2, ![128, 1152]⟩
abbrev S8x128x1152 : Shape := ⟨3, ![8, 128, 1152]⟩
abbrev S1x128x1152 : Shape := ⟨3, ![1, 128, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S8x2048x1152, .bf16⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S128x1152, .f32⟩
  | .local _ .vmem, ⟨1, _⟩ => ⟨S128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S8x128x1152, .bf16⟩
  | .local _ .vmem, ⟨7, _⟩ => ⟨S8x128x1152, .bf16⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInIdeal.lean ====
abbrev S2048x1152 : Shape := ⟨2, ![2048, 1152]⟩
abbrev S8x2048x1152 : Shape := ⟨3, ![8, 2048, 1152]⟩
abbrev S128x1152 : Shape := ⟨2, ![128, 1152]⟩
abbrev S8x128x1152 : Shape := ⟨3, ![8, 128, 1152]⟩
abbrev S1x128x1152 : Shape := ⟨3, ![1, 128, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S8x2048x1152, .bf16⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S128x1152, .f32⟩
  | .local _ .vmem, ⟨1, _⟩ => ⟨S128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S8x128x1152, .bf16⟩
  | .local _ .vmem, ⟨7, _⟩ => ⟨S8x128x1152, .bf16⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInRefIdeal.lean ====
abbrev S2048x1152 : Shape := ⟨2, ![2048, 1152]⟩
abbrev S8x2048x1152 : Shape := ⟨3, ![8, 2048, 1152]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S8x2048x1152, .bf16⟩
  | .hbm, ⟨4, _⟩ => ⟨S8x2048x1152, .f32⟩
  | .hbm, ⟨5, _⟩ => ⟨S_, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S_, .f32⟩
  | .hbm, ⟨11, _⟩ => ⟨S2048x1152, .f32⟩
  | .hbm, ⟨12, _⟩ => ⟨S2048x1152, .f32⟩
  | .hbm, ⟨13, _⟩ => ⟨S2048x1152, .f32⟩
  | .hbm, ⟨14, _⟩ => ⟨S_, .f32⟩
  | .hbm, ⟨15, _⟩ => ⟨S2048x1152, .f32⟩
  | .hbm, ⟨16, _⟩ => ⟨S2048x1152, .f32⟩
  | .hbm, ⟨17, _⟩ => ⟨S2048x1152, .f32⟩
  | .hbm, ⟨18, _⟩ => ⟨S_, .f32⟩
  | .hbm, ⟨19, _⟩ => ⟨S2048x1152, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S_, .f32⟩
  | .hbm, ⟨26, _⟩ => ⟨S2048x1152, .f32⟩
  | .hbm, ⟨27, _⟩ => ⟨S2048x1152, .f32⟩
  | .hbm, ⟨28, _⟩ => ⟨S2048x1152, .f32⟩
  | .hbm, ⟨29, _⟩ => ⟨S_, .f32⟩
  | .hbm, ⟨30, _⟩ => ⟨S2048x1152, .f32⟩
  | .hbm, ⟨31, _⟩ => ⟨S2048x1152, .f32⟩
  | .hbm, ⟨32, _⟩ => ⟨S2048x1152, .f32⟩
  | .hbm, ⟨33, _⟩ => ⟨S_, .f32⟩
  | .hbm, ⟨34, _⟩ => ⟨S2048x1152, .f32⟩
  | .hbm, ⟨35, _⟩ => ⟨S2048x1152, .f32⟩
  | .hbm, ⟨36, _⟩ => ⟨S2048x1152, .f32⟩
  | .hbm, ⟨37, _⟩ => ⟨S_, .f32⟩
  | .hbm, ⟨38, _⟩ => ⟨S2048x1152, .f32⟩
  | .hbm, ⟨39, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdUp.lean ====
abbrev S2048x704 : Shape := ⟨2, ![2048, 704]⟩
abbrev S8x2048x704 : Shape := ⟨3, ![8, 2048, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdUpIdeal.lean ====
abbrev S2048x704 : Shape := ⟨2, ![2048, 704]⟩
abbrev S8x2048x704 : Shape := ⟨3, ![8, 2048, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdUpRefIdeal.lean ====
abbrev S2048x704 : Shape := ⟨2, ![2048, 704]⟩
abbrev S8x2048x704 : Shape := ⟨3, ![8, 2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S8x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdMix.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMixIdeal.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMixRefIdeal.lean ====
abbrev S256x1024 : Shape := ⟨2, ![256, 1024]⟩
abbrev S8x256x1024 : Shape := ⟨3, ![8, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdDown.lean ====
abbrev S704x1024 : Shape := ⟨2, ![704, 1024]⟩
abbrev S8x704x1024 : Shape := ⟨3, ![8, 704, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x704x1024, .bf16⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdDownIdeal.lean ====
abbrev S704x1024 : Shape := ⟨2, ![704, 1024]⟩
abbrev S8x704x1024 : Shape := ⟨3, ![8, 704, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x704x1024, .bf16⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdDownRefIdeal.lean ====
abbrev S704x1024 : Shape := ⟨2, ![704, 1024]⟩
abbrev S8x704x1024 : Shape := ⟨3, ![8, 704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x704x1024, .bf16⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdRep.lean ====
abbrev S384x1024 : Shape := ⟨2, ![384, 1024]⟩
abbrev S8x480x1024 : Shape := ⟨3, ![8, 480, 1024]⟩
abbrev S192x1024 : Shape := ⟨2, ![192, 1024]⟩
abbrev S8x192x1024 : Shape := ⟨3, ![8, 192, 1024]⟩
abbrev S1x192x1024 : Shape := ⟨3, ![1, 192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S8x480x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S8x192x1024, .f32⟩
  | .local _ .vmem, ⟨7, _⟩ => ⟨S8x192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdRepIdeal.lean ====
abbrev S384x1024 : Shape := ⟨2, ![384, 1024]⟩
abbrev S8x480x1024 : Shape := ⟨3, ![8, 480, 1024]⟩
abbrev S192x1024 : Shape := ⟨2, ![192, 1024]⟩
abbrev S8x192x1024 : Shape := ⟨3, ![8, 192, 1024]⟩
abbrev S1x192x1024 : Shape := ⟨3, ![1, 192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S8x480x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S8x192x1024, .f32⟩
  | .local _ .vmem, ⟨7, _⟩ => ⟨S8x192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdRepRefIdeal.lean ====
abbrev S384x1024 : Shape := ⟨2, ![384, 1024]⟩
abbrev S8x480x1024 : Shape := ⟨3, ![8, 480, 1024]⟩
abbrev S8x384x1024 : Shape := ⟨3, ![8, 384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S8x480x1024, .f32⟩
  | .hbm, ⟨4, _⟩ => ⟨S8x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdConv.lean ====
abbrev S18x352 : Shape := ⟨2, ![18, 352]⟩
abbrev S8x18x352 : Shape := ⟨3, ![8, 18, 352]⟩
abbrev S1x18x352 : Shape := ⟨3, ![1, 18, 352]⟩

abbrev nBuf : Space → Nat
  | .hbm => 8
  | .vmem => 8
  | .smem => 0
  | _ => 0

abbrev bufTy : (tb : Table) → Fin (tcTables nBuf tb) → BufTy
  | .hbm, ⟨0, _⟩ => ⟨S18x352, .f32⟩
  | .hbm, ⟨1, _⟩ => ⟨S18x352, .f32⟩
  | .hbm, ⟨2, _⟩ => ⟨S18x352, .f32⟩
  | .hbm, ⟨3, _⟩ => ⟨S8x18x352, .f32⟩
  | .hbm, ⟨4, _⟩ => ⟨S18x352, .f32⟩
  | .hbm, ⟨5, _⟩ => ⟨S18x352, .f32⟩
  | .hbm, ⟨6, _⟩ => ⟨S18x352, .f32⟩
  | .hbm, ⟨7, _⟩ => ⟨S18x352, .f32⟩
  | .local _ .vmem, ⟨0, _⟩ => ⟨S18x352, .f32⟩
  | .local _ .vmem, ⟨1, _⟩ => ⟨S18x352, .f32⟩
  | .local _ .vmem, ⟨2, _⟩ => ⟨S18x352, .f32⟩
  | .local _ .vmem, ⟨3, _⟩ => ⟨S8x18x352, .f32⟩
  | .local _ .vmem, ⟨4, _⟩ => ⟨S18x352, .f32⟩
  | .local _ .vmem, ⟨5, _⟩ => ⟨S18x352, .f32⟩
  | .local _ .vmem, ⟨6, _⟩ => ⟨S18x352, .f32⟩
  | .local _ .vmem, ⟨7, _⟩ => ⟨S18x352, .f32⟩
  | _, _ => ⟨S18x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S18x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S18x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S18x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x18x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S18x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S18x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S18x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S18x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdConvIdeal.lean ====
abbrev S18x352 : Shape := ⟨2, ![18, 352]⟩
abbrev S8x18x352 : Shape := ⟨3, ![8, 18, 352]⟩
abbrev S1x18x352 : Shape := ⟨3, ![1, 18, 352]⟩

abbrev nBuf : Space → Nat
  | .hbm => 8
  | .vmem => 8
  | .smem => 0
  | _ => 0

abbrev bufTy : (tb : Table) → Fin (tcTables nBuf tb) → BufTy
  | .hbm, ⟨0, _⟩ => ⟨S18x352, .f32⟩
  | .hbm, ⟨1, _⟩ => ⟨S18x352, .f32⟩
  | .hbm, ⟨2, _⟩ => ⟨S18x352, .f32⟩
  | .hbm, ⟨3, _⟩ => ⟨S8x18x352, .f32⟩
  | .hbm, ⟨4, _⟩ => ⟨S18x352, .f32⟩
  | .hbm, ⟨5, _⟩ => ⟨S18x352, .f32⟩
  | .hbm, ⟨6, _⟩ => ⟨S18x352, .f32⟩
  | .hbm, ⟨7, _⟩ => ⟨S18x352, .f32⟩
  | .local _ .vmem, ⟨0, _⟩ => ⟨S18x352, .f32⟩
  | .local _ .vmem, ⟨1, _⟩ => ⟨S18x352, .f32⟩
  | .local _ .vmem, ⟨2, _⟩ => ⟨S18x352, .f32⟩
  | .local _ .vmem, ⟨3, _⟩ => ⟨S8x18x352, .f32⟩
  | .local _ .vmem, ⟨4, _⟩ => ⟨S18x352, .f32⟩
  | .local _ .vmem, ⟨5, _⟩ => ⟨S18x352, .f32⟩
  | .local _ .vmem, ⟨6, _⟩ => ⟨S18x352, .f32⟩
  | .local _ .vmem, ⟨7, _⟩ => ⟨S18x352, .f32⟩
  | _, _ => ⟨S18x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S18x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S18x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S18x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x18x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S18x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S18x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S18x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S18x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdConvRefIdeal.lean ====
abbrev S18x352 : Shape := ⟨2, ![18, 352]⟩
abbrev S8x18x352 : Shape := ⟨3, ![8, 18, 352]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S18x352, .f32⟩
  | .hbm, ⟨1, _⟩ => ⟨S18x352, .f32⟩
  | .hbm, ⟨2, _⟩ => ⟨S18x352, .f32⟩
  | .hbm, ⟨3, _⟩ => ⟨S8x18x352, .f32⟩
  | .hbm, ⟨4, _⟩ => ⟨S_, .f32⟩
  | .hbm, ⟨5, _⟩ => ⟨S18x352, .f32⟩
  | .hbm, ⟨6, _⟩ => ⟨S_, .f32⟩
  | .hbm, ⟨7, _⟩ => ⟨S18x352, .f32⟩
  | .hbm, ⟨8, _⟩ => ⟨S18x352, .f32⟩
  | .hbm, ⟨9, _⟩ => ⟨S_, .f32⟩
  | .hbm, ⟨10, _⟩ => ⟨S18x352, .f32⟩
  | .hbm, ⟨11, _⟩ => ⟨S18x352, .f32⟩
  | .hbm, ⟨12, _⟩ => ⟨S18x352, .f32⟩
  | .hbm, ⟨13, _⟩ => ⟨S_, .f32⟩
  | .hbm, ⟨14, _⟩ => ⟨S18x352, .f32⟩
  | .hbm, ⟨15, _⟩ => ⟨S18x352, .f32⟩
  | .hbm, ⟨16, _⟩ => ⟨S18x352, .f32⟩
  | .hbm, ⟨17, _⟩ => ⟨S_, .f32⟩
  | .hbm, ⟨18, _⟩ => ⟨S18x352, .f32⟩
  | .hbm, ⟨19, _⟩ => ⟨S18x352, .f32⟩
  | .hbm, ⟨20, _⟩ => ⟨S18x352, .f32⟩
  | .hbm, ⟨21, _⟩ => ⟨S_, .f32⟩
  | .hbm, ⟨22, _⟩ => ⟨S18x352, .f32⟩
  | .hbm, ⟨23, _⟩ => ⟨S18x352, .f32⟩
  | .hbm, ⟨24, _⟩ => ⟨S_, .f32⟩
  | .hbm, ⟨25, _⟩ => ⟨S18x352, .f32⟩
  | .hbm, ⟨26, _⟩ => ⟨S18x352, .f32⟩
  | .hbm, ⟨27, _⟩ => ⟨S18x352, .f32⟩
  | .hbm, ⟨28, _⟩ => ⟨S_, .f32⟩
  | .hbm, ⟨29, _⟩ => ⟨S18x352, .f32⟩
  | .hbm, ⟨30, _⟩ => ⟨S18x352, .f32⟩
  | .hbm, ⟨31, _⟩ => ⟨S18x352, .f32⟩
  | .hbm, ⟨32, _⟩ => ⟨S_, .f32⟩
  | .hbm, ⟨33, _⟩ => ⟨S18x352, .f32⟩
  | .hbm, ⟨34, _⟩ => ⟨S18x352, .f32⟩
  | .hbm, ⟨35, _⟩ => ⟨S18x352, .f32⟩
  | .hbm, ⟨36, _⟩ => ⟨S_, .f32⟩
  | .hbm, ⟨37, _⟩ => ⟨S18x352, .f32⟩
  | .hbm, ⟨38, _⟩ => ⟨S18x352, .f32⟩
  | _, _ => ⟨S18x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdBias.lean ====
abbrev S2x6144 : Shape := ⟨2, ![2, 6144]⟩
abbrev S16x2x6144 : Shape := ⟨3, ![16, 2, 6144]⟩
abbrev S1x2x6144 : Shape := ⟨3, ![1, 2, 6144]⟩

abbrev nBuf : Space → Nat
  | .hbm => 8
  | .vmem => 8
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S16x2x6144, .f32⟩
  | .hbm, ⟨4, _⟩ => ⟨S2x6144, .f32⟩
  | .hbm, ⟨5, _⟩ => ⟨S2x6144, .f32⟩
  | .hbm, ⟨6, _⟩ => ⟨S2x6144, .f32⟩
  | .hbm, ⟨7, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S16x2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | .local _ .vmem, ⟨7, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdBiasIdeal.lean ====
abbrev S2x6144 : Shape := ⟨2, ![2, 6144]⟩
abbrev S16x2x6144 : Shape := ⟨3, ![16, 2, 6144]⟩
abbrev S1x2x6144 : Shape := ⟨3, ![1, 2, 6144]⟩

abbrev nBuf : Space → Nat
  | .hbm => 8
  | .vmem => 8
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S16x2x6144, .f32⟩
  | .hbm, ⟨4, _⟩ => ⟨S2x6144, .f32⟩
  | .hbm, ⟨5, _⟩ => ⟨S2x6144, .f32⟩
  | .hbm, ⟨6, _⟩ => ⟨S2x6144, .f32⟩
  | .hbm, ⟨7, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S16x2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | .local _ .vmem, ⟨7, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdBiasRefIdeal.lean ====
abbrev S2x6144 : Shape := ⟨2, ![2, 6144]⟩
abbrev S16x2x6144 : Shape := ⟨3, ![16, 2, 6144]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S16x2x6144, .f32⟩
  | .hbm, ⟨4, _⟩ => ⟨S_, .f32⟩
  | .hbm, ⟨5, _⟩ => ⟨S2x6144, .f32⟩
  | .hbm, ⟨6, _⟩ => ⟨S_, .f32⟩
  | .hbm, ⟨7, _⟩ => ⟨S2x6144, .f32⟩
  | .hbm, ⟨8, _⟩ => ⟨S2x6144, .f32⟩
  | .hbm, ⟨9, _⟩ => ⟨S_, .f32⟩
  | .hbm, ⟨10, _⟩ => ⟨S2x6144, .f32⟩
  | .hbm, ⟨11, _⟩ => ⟨S2x6144, .f32⟩
  | .hbm, ⟨12, _⟩ => ⟨S2x6144, .f32⟩
  | .hbm, ⟨13, _⟩ => ⟨S_, .f32⟩
  | .hbm, ⟨14, _⟩ => ⟨S2x6144, .f32⟩
  | .hbm, ⟨15, _⟩ => ⟨S2x6144, .f32⟩
  | .hbm, ⟨16, _⟩ => ⟨S2x6144, .f32⟩
  | .hbm, ⟨17, _⟩ => ⟨S_, .f32⟩
  | .hbm, ⟨18, _⟩ => ⟨S2x6144, .f32⟩
  | .hbm, ⟨19, _⟩ => ⟨S2x6144, .f32⟩
  | .hbm, ⟨20, _⟩ => ⟨S2x6144, .f32⟩
  | .hbm, ⟨21, _⟩ => ⟨S_, .f32⟩
  | .hbm, ⟨22, _⟩ => ⟨S2x6144, .f32⟩
  | .hbm, ⟨23, _⟩ => ⟨S2x6144, .f32⟩
  | .hbm, ⟨24, _⟩ => ⟨S_, .f32⟩
  | .hbm, ⟨25, _⟩ => ⟨S2x6144, .f32⟩
  | .hbm, ⟨26, _⟩ => ⟨S2x6144, .f32⟩
  | .hbm, ⟨27, _⟩ => ⟨S2x6144, .f32⟩
  | .hbm, ⟨28, _⟩ => ⟨S_, .f32⟩
  | .hbm, ⟨29, _⟩ => ⟨S2x6144, .f32⟩
  | .hbm, ⟨30, _⟩ => ⟨S2x6144, .f32⟩
  | .hbm, ⟨31, _⟩ => ⟨S2x6144, .f32⟩
  | .hbm, ⟨32, _⟩ => ⟨S_, .f32⟩
  | .hbm, ⟨33, _⟩ => ⟨S2x6144, .f32⟩
  | .hbm, ⟨34, _⟩ => ⟨S2x6144, .f32⟩
  | .hbm, ⟨35, _⟩ => ⟨S2x6144, .f32⟩
  | .hbm, ⟨36, _⟩ => ⟨S_, .f32⟩
  | .hbm, ⟨37, _⟩ => ⟨S2x6144, .f32⟩
  | .hbm, ⟨38, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdMod.lean ====
abbrev S2048x768 : Shape := ⟨2, ![2048, 768]⟩
abbrev S1x2048x768 : Shape := ⟨3, ![1, 2048, 768]⟩
abbrev S512x768 : Shape := ⟨2, ![512, 768]⟩
abbrev S1x512x768 : Shape := ⟨3, ![1, 512, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x512x768, .f32⟩
  | .local _ .vmem, ⟨7, _⟩ => ⟨S1x512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdModIdeal.lean ====
abbrev S2048x768 : Shape := ⟨2, ![2048, 768]⟩
abbrev S1x2048x768 : Shape := ⟨3, ![1, 2048, 768]⟩
abbrev S512x768 : Shape := ⟨2, ![512, 768]⟩
abbrev S1x512x768 : Shape := ⟨3, ![1, 512, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x512x768, .f32⟩
  | .local _ .vmem, ⟨7, _⟩ => ⟨S1x512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdModRefIdeal.lean ====
abbrev S2048x768 : Shape := ⟨2, ![2048, 768]⟩
abbrev S1x2048x768 : Shape := ⟨3, ![1, 2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S1x2048x768, .f32⟩
  | .hbm, ⟨4, _⟩ => ⟨S_, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdCtx.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S8x1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdCtxRefIdeal.lean ====
abbrev S1x1024 : Shape := ⟨2, ![1, 1024]⟩
abbrev S8x1x1024 : Shape := ⟨3, ![8, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Loss.lean ====
abbrev S4352x1024 : Shape := ⟨2, ![4352, 1024]⟩
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S8x128, .f32⟩
  | .hbm, ⟨5, _⟩ => ⟨S4352x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4352x1024 : Shape := ⟨2, ![4352, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩
abbrev S256x1024 : Shape := ⟨2, ![256, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S8x128, .f32⟩
  | .hbm, ⟨73, _⟩ => ⟨S_, .f32⟩
  | .hbm, ⟨74, _⟩ => ⟨S256x1024, .f32⟩
  | .hbm, ⟨75, _⟩ => ⟨S4352x1024, .f32⟩
  | .hbm, ⟨76, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== AdaFwd.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S1x1024 : Shape := ⟨2, ![1, 1024]⟩
abbrev S2x1x768 : Shape := ⟨3, ![2, 1, 768]⟩
abbrev S2x2x8x768 : Shape := ⟨4, ![2, 2, 8, 768]⟩
abbrev S1x1024x768 : Shape := ⟨3, ![1, 1024, 768]⟩
abbrev S1024x768 : Shape := ⟨2, ![1024, 768]⟩
abbrev S1x1x768 : Shape := ⟨3, ![1, 1, 768]⟩
abbrev S1x768 : Shape := ⟨2, ![1, 768]⟩
abbrev S8x768 : Shape := ⟨2, ![8, 768]⟩
abbrev S1x1x8x768 : Shape := ⟨4, ![1, 1, 8, 768]⟩

abbrev nBuf : Space → Nat
  | .hbm => 8
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S1x1024, .f32⟩
  | .hbm, ⟨5, _⟩ => ⟨S8x1024, .f32⟩
  | .hbm, ⟨6, _⟩ => ⟨S2x1x768, .f32⟩
  | .hbm, ⟨7, _⟩ => ⟨S2x2x8x768, .f32⟩
  | .local _ .vmem, ⟨0, _⟩ => ⟨S8x1024, .f32⟩
  | .local _ .vmem, ⟨1, _⟩ => ⟨S8x1024, .f32⟩
  | .local _ .vmem, ⟨2, _⟩ => ⟨S2x1024x768, .f32⟩
  | .local _ .vmem, ⟨3, _⟩ => ⟨S2x1x768, .f32⟩
  | .local _ .vmem, ⟨4, _⟩ => ⟨S2x2x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AdaFwdRefIdeal.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S1x8x768 : Shape := ⟨3, ![1, 8, 768]⟩
abbrev S2x8x768 : Shape := ⟨3, ![2, 8, 768]⟩
abbrev S2x1x8x768 : Shape := ⟨4, ![2, 1, 8, 768]⟩
abbrev S2x2x8x768 : Shape := ⟨4, ![2, 2, 8, 768]⟩

abbrev nBuf : Space → Nat
  | .hbm => 82
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x1024x768, .f32⟩
  | .hbm, ⟨15, _⟩ => ⟨S1024x768, .f32⟩
  | .hbm, ⟨16, _⟩ => ⟨S8x768, .f32⟩
  | .hbm, ⟨17, _⟩ => ⟨S1x768, .f32⟩
  | .hbm, ⟨18, _⟩ => ⟨S768, .f32⟩
  | .hbm, ⟨19, _⟩ => ⟨S1x768, .f32⟩
  | .hbm, ⟨20, _⟩ => ⟨S8x768, .f32⟩
  | .hbm, ⟨21, _⟩ => ⟨S8x768, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S1x1024x768, .f32⟩
  | .hbm, ⟨32, _⟩ => ⟨S1024x768, .f32⟩
  | .hbm, ⟨33, _⟩ => ⟨S8x768, .f32⟩
  | .hbm, ⟨34, _⟩ => ⟨S1x768, .f32⟩
  | .hbm, ⟨35, _⟩ => ⟨S768, .f32⟩
  | .hbm, ⟨36, _⟩ => ⟨S1x768, .f32⟩
  | .hbm, ⟨37, _⟩ => ⟨S8x768, .f32⟩
  | .hbm, ⟨38, _⟩ => ⟨S8x768, .f32⟩
  | .hbm, ⟨39, _⟩ => ⟨S1x8x768, .f32⟩
  | .hbm, ⟨40, _⟩ => ⟨S1x8x768, .f32⟩
  | .hbm, ⟨41, _⟩ => ⟨S2x8x768, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .f32⟩
  | .hbm, ⟨50, _⟩ => ⟨S8x1024, .f32⟩
  | .hbm, ⟨51, _⟩ => ⟨S1x1024x768, .f32⟩
  | .hbm, ⟨52, _⟩ => ⟨S1024x768, .f32⟩
  | .hbm, ⟨53, _⟩ => ⟨S8x768, .f32⟩
  | .hbm, ⟨54, _⟩ => ⟨S1x768, .f32⟩
  | .hbm, ⟨55, _⟩ => ⟨S768, .f32⟩
  | .hbm, ⟨56, _⟩ => ⟨S1x768, .f32⟩
  | .hbm, ⟨57, _⟩ => ⟨S8x768, .f32⟩
  | .hbm, ⟨58, _⟩ => ⟨S8x768, .f32⟩
  | .hbm, ⟨59, _⟩ => ⟨S8x1024, .f32⟩
  | .hbm, ⟨60, _⟩ => ⟨S8x1024, .f32⟩
  | .hbm, ⟨61, _⟩ => ⟨S_, .f32⟩
  | .hbm, ⟨62, _⟩ => ⟨S8x1024, .f32⟩
  | .hbm, ⟨63, _⟩ => ⟨S8x1024, .f32⟩
  | .hbm, ⟨64, _⟩ => ⟨S_, .f32⟩
  | .hbm, ⟨65, _⟩ => ⟨S8x1024, .f32⟩
  | .hbm, ⟨66, _⟩ => ⟨S8x1024, .f32⟩
  | .hbm, ⟨67, _⟩ => ⟨S8x1024, .f32⟩
  | .hbm, ⟨68, _⟩ => ⟨S1x1024x768, .f32⟩
  | .hbm, ⟨69, _⟩ => ⟨S1024x768, .f32⟩
  | .hbm, ⟨70, _⟩ => ⟨S8x768, .f32⟩
  | .hbm, ⟨71, _⟩ => ⟨S1x768, .f32⟩
  | .hbm, ⟨72, _⟩ => ⟨S768, .f32⟩
  | .hbm, ⟨73, _⟩ => ⟨S1x768, .f32⟩
  | .hbm, ⟨74, _⟩ => ⟨S8x768, .f32⟩
  | .hbm, ⟨75, _⟩ => ⟨S8x768, .f32⟩
  | .hbm, ⟨76, _⟩ => ⟨S1x8x768, .f32⟩
  | .hbm, ⟨77, _⟩ => ⟨S1x8x768, .f32⟩
  | .hbm, ⟨78, _⟩ => ⟨S2x8x768, .f32⟩
  | .hbm, ⟨79, _⟩ => ⟨S2x1x8x768, .f32⟩
  | .hbm, ⟨80, _⟩ => ⟨S2x1x8x768, .f32⟩
  | .hbm, ⟨81, _⟩ => ⟨S2x2x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩

abbrev nD : Nat := 1
abbrev τ : Topo := Topo.v7x

variable {F : FTy → Type} [FloatOps F]
-- ==== AdaBwd.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S2x8x768 : Shape := ⟨3, ![2, 8, 768]⟩
abbrev S1x1024 : Shape := ⟨2, ![1, 1024]⟩
abbrev S2x1x768 : Shape := ⟨3, ![2, 1, 768]⟩
abbrev S1x1024x768 : Shape := ⟨3, ![1, 1024, 768]⟩
abbrev S1024x768 : Shape := ⟨2, ![1024, 768]⟩
abbrev S1x8x768 : Shape := ⟨3, ![1, 8, 768]⟩
abbrev S8x768 : Shape := ⟨2, ![8, 768]⟩

abbrev nBuf : Space → Nat
  | .hbm => 11
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S2x8x768, .f32⟩
  | .hbm, ⟨5, _⟩ => ⟨S2x8x768, .f32⟩
  | .hbm, ⟨6, _⟩ => ⟨S1x1024, .f32⟩
  | .hbm, ⟨7, _⟩ => ⟨S8x1024, .f32⟩
  | .hbm, ⟨8, _⟩ => ⟨S2x1x768, .f32⟩
  | .hbm, ⟨9, _⟩ => ⟨S2x1024x768, .f32⟩
  | .hbm, ⟨10, _⟩ => ⟨S1x1024, .f32⟩
  | .local _ .vmem, ⟨0, _⟩ => ⟨S8x1024, .f32⟩
  | .local _ .vmem, ⟨1, _⟩ => ⟨S8x1024, .f32⟩
  | .local _ .vmem, ⟨2, _⟩ => ⟨S2x1024x768, .f32⟩
  | .local _ .vmem, ⟨3, _⟩ => ⟨S2x1x768, .f32⟩
  | .local _ .vmem, ⟨4, _⟩ => ⟨S2x8x768, .f32⟩
  | .local _ .vmem, ⟨5, _⟩ => ⟨S2x8x768, .f32⟩
  | .local _ .vmem, ⟨6, _⟩ => ⟨S2x1024x768, .f32⟩
  | .local _ .vmem, ⟨7, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdaBwdRefIdeal.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S2x8x768 : Shape := ⟨3, ![2, 8, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S1x8x768 : Shape := ⟨3, ![1, 8, 768]⟩
abbrev S768x1024 : Shape := ⟨2, ![768, 1024]⟩
abbrev S1x1024 : Shape := ⟨2, ![1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S2x8x768, .f32⟩
  | .hbm, ⟨5, _⟩ => ⟨S2x8x768, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S1x1024x768, .f32⟩
  | .hbm, ⟨17, _⟩ => ⟨S1024x768, .f32⟩
  | .hbm, ⟨18, _⟩ => ⟨S8x768, .f32⟩
  | .hbm, ⟨19, _⟩ => ⟨S1x768, .f32⟩
  | .hbm, ⟨20, _⟩ => ⟨S768, .f32⟩
  | .hbm, ⟨21, _⟩ => ⟨S1x768, .f32⟩
  | .hbm, ⟨22, _⟩ => ⟨S8x768, .f32⟩
  | .hbm, ⟨23, _⟩ => ⟨S8x768, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S1x1024x768, .f32⟩
  | .hbm, ⟨34, _⟩ => ⟨S1024x768, .f32⟩
  | .hbm, ⟨35, _⟩ => ⟨S8x768, .f32⟩
  | .hbm, ⟨36, _⟩ => ⟨S1x768, .f32⟩
  | .hbm, ⟨37, _⟩ => ⟨S768, .f32⟩
  | .hbm, ⟨38, _⟩ => ⟨S1x768, .f32⟩
  | .hbm, ⟨39, _⟩ => ⟨S8x768, .f32⟩
  | .hbm, ⟨40, _⟩ => ⟨S8x768, .f32⟩
  | .hbm, ⟨41, _⟩ => ⟨S8x1024, .f32⟩
  | .hbm, ⟨42, _⟩ => ⟨S8x1024, .f32⟩
  | .hbm, ⟨43, _⟩ => ⟨S_, .f32⟩
  | .hbm, ⟨44, _⟩ => ⟨S8x1024, .f32⟩
  | .hbm, ⟨45, _⟩ => ⟨S8x1024, .f32⟩
  | .hbm, ⟨46, _⟩ => ⟨S_, .f32⟩
  | .hbm, ⟨47, _⟩ => ⟨S8x1024, .f32⟩
  | .hbm, ⟨48, _⟩ => ⟨S8x1024, .f32⟩
  | .hbm, ⟨49, _⟩ => ⟨S_, .f32⟩
  | .hbm, ⟨50, _⟩ => ⟨S8x1024, .f32⟩
  | .hbm, ⟨51, _⟩ => ⟨S8x1024, .f32⟩
  | .hbm, ⟨52, _⟩ => ⟨S8x1024, .f32⟩
  | .hbm, ⟨53, _⟩ => ⟨S8x1024, .f32⟩
  | .hbm, ⟨54, _⟩ => ⟨S1x1024x768, .f32⟩
  | .hbm, ⟨55, _⟩ => ⟨S1024x768, .f32⟩
  | .hbm, ⟨56, _⟩ => ⟨S8x768, .f32⟩
  | .hbm, ⟨57, _⟩ => ⟨S1x768, .f32⟩
  | .hbm, ⟨58, _⟩ => ⟨S768, .f32⟩
  | .hbm, ⟨59, _⟩ => ⟨S1x768, .f32⟩
  | .hbm, ⟨60, _⟩ => ⟨S8x768, .f32⟩
  | .hbm, ⟨61, _⟩ => ⟨S8x768, .f32⟩
  | .hbm, ⟨62, _⟩ => ⟨S8x1024, .f32⟩
  | .hbm, ⟨63, _⟩ => ⟨S8x1024, .f32⟩
  | .hbm, ⟨64, _⟩ => ⟨S_, .f32⟩
  | .hbm, ⟨65, _⟩ => ⟨S8x1024, .f32⟩
  | .hbm, ⟨66, _⟩ => ⟨S8x1024, .f32⟩
  | .hbm, ⟨67, _⟩ => ⟨S_, .f32⟩
  | .hbm, ⟨68, _⟩ => ⟨S8x1024, .f32⟩
  | .hbm, ⟨69, _⟩ => ⟨S8x1024, .f32⟩
  | .hbm, ⟨70, _⟩ => ⟨S_, .f32⟩
  | .hbm, ⟨71, _⟩ => ⟨S8x1024, .f32⟩
  | .hbm, ⟨72, _⟩ => ⟨S8x1024, .f32⟩
  | .hbm, ⟨73, _⟩ => ⟨S8x1024, .f32⟩
  | .hbm, ⟨74, _⟩ => ⟨S8x1024, .f32⟩
  | .hbm, ⟨75, _⟩ => ⟨S1x1024x768, .f32⟩
  | .hbm, ⟨76, _⟩ => ⟨S1024x768, .f32⟩
  | .hbm, ⟨77, _⟩ => ⟨S8x768, .f32⟩
  | .hbm, ⟨78, _⟩ => ⟨S1x768, .f32⟩
  | .hbm, ⟨79, _⟩ => ⟨S768, .f32⟩
  | .hbm, ⟨80, _⟩ => ⟨S1x768, .f32⟩
  | .hbm, ⟨81, _⟩ => ⟨S8x768, .f32⟩
  | .hbm, ⟨82, _⟩ => ⟨S8x768, .f32⟩
  | .hbm, ⟨83, _⟩ => ⟨S1x8x768, .f32⟩
  | .hbm, ⟨84, _⟩ => ⟨S8x768, .f32⟩
  | .hbm, ⟨85, _⟩ => ⟨S1x8x768, .f32⟩
  | .hbm, ⟨86, _⟩ => ⟨S8x768, .f32⟩
  | .hbm, ⟨87, _⟩ => ⟨S1x8x768, .f32⟩
  | .hbm, ⟨88, _⟩ => ⟨S8x768, .f32⟩
  | .hbm, ⟨89, _⟩ => ⟨S1x8x768, .f32⟩
  | .hbm, ⟨90, _⟩ => ⟨S8x768, .f32⟩
  | .hbm, ⟨91, _⟩ => ⟨S768x1024, .f32⟩
  | .hbm, ⟨92, _⟩ => ⟨S1024x768, .f32⟩
  | .hbm, ⟨93, _⟩ => ⟨S8x1024, .f32⟩
  | .hbm, ⟨94, _⟩ => ⟨S1x1024x768, .f32⟩
  | .hbm, ⟨95, _⟩ => ⟨S_, .f32⟩
  | .hbm, ⟨96, _⟩ => ⟨S2x1024x768, .f32⟩
  | .hbm, ⟨97, _⟩ => ⟨S8x1024, .f32⟩
  | .hbm, ⟨98, _⟩ => ⟨S8x1024, .f32⟩
  | .hbm, ⟨99, _⟩ => ⟨S8x1024, .f32⟩
  | .hbm, ⟨100, _⟩ => ⟨S8x1024, .f32⟩
  | .hbm, ⟨101, _⟩ => ⟨S768x1024, .f32⟩
  | .hbm, ⟨102, _⟩ => ⟨S1024x768, .f32⟩
  | .hbm, ⟨103, _⟩ => ⟨S8x1024, .f32⟩
  | .hbm, ⟨104, _⟩ => ⟨S1x1024x768, .f32⟩
  | .hbm, ⟨105, _⟩ => ⟨S_, .f32⟩
  | .hbm, ⟨106, _⟩ => ⟨S2x1024x768, .f32⟩
  | .hbm, ⟨107, _⟩ => ⟨S2x1024x768, .f32⟩
  | .hbm, ⟨108, _⟩ => ⟨S8x1024, .f32⟩
  | .hbm, ⟨109, _⟩ => ⟨S8x1024, .f32⟩
  | .hbm, ⟨110, _⟩ => ⟨S8x1024, .f32⟩
  | .hbm, ⟨111, _⟩ => ⟨S8x1024, .f32⟩
  | .hbm, ⟨112, _⟩ => ⟨S8x1024, .f32⟩
  | .hbm, ⟨113, _⟩ => ⟨S768x1024, .f32⟩
  | .hbm, ⟨114, _⟩ => ⟨S1024x768, .f32⟩
  | .hbm, ⟨115, _⟩ => ⟨S1x1024x768, .f32⟩
  | .hbm, ⟨116, _⟩ => ⟨S_, .f32⟩
  | .hbm, ⟨117, _⟩ => ⟨S2x1024x768, .f32⟩
  | .hbm, ⟨118, _⟩ => ⟨S2x1024x768, .f32⟩
  | .hbm, ⟨119, _⟩ => ⟨S768x1024, .f32⟩
  | .hbm, ⟨120, _⟩ => ⟨S1024x768, .f32⟩
  | .hbm, ⟨121, _⟩ => ⟨S1x1024x768, .f32⟩
  | .hbm, ⟨122, _⟩ => ⟨S_, .f32⟩
  | .hbm, ⟨123, _⟩ => ⟨S2x1024x768, .f32⟩
  | .hbm, ⟨124, _⟩ => ⟨S2x1024x768, .f32⟩
  | .hbm, ⟨125, _⟩ => ⟨S_, .f32⟩
  | .hbm, ⟨126, _⟩ => ⟨S1024, .f32⟩
  | .hbm, ⟨127, _⟩ => ⟨S1x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_v19_2 : Ref sig .tc := ⟨.hbm, 48, rfl⟩
abbrev main_call2_cst_1 : Ref sig .tc := ⟨.hbm, 49, rfl⟩
abbrev main_call2_v6 : Ref sig .tc := ⟨.hbm, 50, rfl⟩
abbrev main_call2_v7 : Ref sig .tc := ⟨.hbm, 51, rfl⟩
abbrev main_v19_1 : Ref sig .tc := ⟨.hbm, 52, rfl⟩
abbrev main_v19_0 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_v28_2 : Ref sig .tc := ⟨.hbm, 69, rfl⟩
abbrev main_call3_cst_1 : Ref sig .tc := ⟨.hbm, 70, rfl⟩
abbrev main_call3_v6 : Ref sig .tc := ⟨.hbm, 71, rfl⟩
abbrev main_call3_v7 : Ref sig .tc := ⟨.hbm, 72, rfl⟩
abbrev main_v28_1 : Ref sig .tc := ⟨.hbm, 73, rfl⟩
abbrev main_v28_0 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst : Ref sig .tc := ⟨.hbm, 95, rfl⟩
abbrev main_v49 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_0 : Ref sig .tc := ⟨.hbm, 105, rfl⟩
abbrev main_v55 : Ref sig .tc := ⟨.hbm, 106, rfl⟩
abbrev main_v56 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_1 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_2 : Ref sig .tc := ⟨.hbm, 122, rfl⟩
abbrev main_v67 : Ref sig .tc := ⟨.hbm, 123, rfl⟩
abbrev main_v68 : Ref sig .tc := ⟨.hbm, 124, rfl⟩
abbrev main_cst_3 : Ref sig .tc := ⟨.hbm, 125, rfl⟩
abbrev main_v69 : Ref sig .tc := ⟨.hbm, 126, rfl⟩
abbrev main_v70 : Ref sig .tc := ⟨.hbm, 127, rfl⟩

abbrev nD : Nat := 1
abbrev τ : Topo := Topo.v7x

variable {F : FTy → Type} [FloatOps F]
-- ==== LbFwd.lean ====
abbrev S2x2048 : Shape := ⟨2, ![2, 2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S2x2048, .f32⟩
  | .hbm, ⟨1, _⟩ => ⟨S1x2048, .f32⟩
  | .local _ .vmem, ⟨0, _⟩ => ⟨S2x2048, .f32⟩
  | .local _ .vmem, ⟨1, _⟩ => ⟨S1x2048, .f32⟩
  | _, _ => ⟨S2x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbFwdRefIdeal.lean ====
abbrev S2x2048 : Shape := ⟨2, ![2, 2048]⟩
abbrev S_ : Shape := ⟨0, ![]⟩
abbrev S2048 : Shape := ⟨1, ![2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S_, .f32⟩
  | .hbm, ⟨17, _⟩ => ⟨S2x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2x2048, .f32⟩
  | .hbm, ⟨22, _⟩ => ⟨S2x2048, .f32⟩
  | .hbm, ⟨23, _⟩ => ⟨S1x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== LbBwd.lean ====
abbrev S2x2048 : Shape := ⟨2, ![2, 2048]⟩
abbrev S1x2048 : Shape := ⟨2, ![1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2x2048, .f32⟩
  | .hbm, ⟨1, _⟩ => ⟨S1x2048, .f32⟩
  | .hbm, ⟨2, _⟩ => ⟨S2x2048, .f32⟩
  | .local _ .vmem, ⟨0, _⟩ => ⟨S2x2048, .f32⟩
  | .local _ .vmem, ⟨1, _⟩ => ⟨S1x2048, .f32⟩
  | .local _ .vmem, ⟨2, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbBwdRefIdeal.lean ====
abbrev S2x2048 : Shape := ⟨2, ![2, 2048]⟩
abbrev S1x2048 : Shape := ⟨2, ![1, 2048]⟩
abbrev S_ : Shape := ⟨0, ![]⟩
abbrev S2048 : Shape := ⟨1, ![2048]⟩

abbrev nBuf : Space → Nat
  | .hbm => 78
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048, .f32⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S2x2048, .f32⟩
  | .hbm, ⟨6, _⟩ => ⟨S2x2048, .i1⟩
  | .hbm, ⟨7, _⟩ => ⟨S2x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .i1⟩
  | .hbm, ⟨16, _⟩ => ⟨S_, .f32⟩
  | .hbm, ⟨17, _⟩ => ⟨S2048, .f32⟩
  | .hbm, ⟨18, _⟩ => ⟨S2048, .i1⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S2x2048, .f32⟩
  | .hbm, ⟨29, _⟩ => ⟨S2x2048, .f32⟩
  | .hbm, ⟨30, _⟩ => ⟨S2x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S2x2048, .f32⟩
  | .hbm, ⟨35, _⟩ => ⟨S2x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S_, .f32⟩
  | .hbm, ⟨41, _⟩ => ⟨S_, .f32⟩
  | .hbm, ⟨42, _⟩ => ⟨S2x2048, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S2x2048, .f32⟩
  | .hbm, ⟨47, _⟩ => ⟨S2x2048, .f32⟩
  | .hbm, ⟨48, _⟩ => ⟨S1x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S_, .f32⟩
  | .hbm, ⟨59, _⟩ => ⟨S2x2048, .f32⟩
  | .hbm, ⟨60, _⟩ => ⟨S_, .f32⟩
  | .hbm, ⟨61, _⟩ => ⟨S_, .f32⟩
  | .hbm, ⟨62, _⟩ => ⟨S2x2048, .f32⟩
  | .hbm, ⟨63, _⟩ => ⟨S2x2048, .f32⟩
  | .hbm, ⟨64, _⟩ => ⟨S2x2048, .f32⟩
  | .hbm, ⟨65, _⟩ => ⟨S2x2048, .f32⟩
  | .hbm, ⟨66, _⟩ => ⟨S2x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S1x2048, .f32⟩
  | .hbm, ⟨71, _⟩ => ⟨S2x2048, .f32⟩
  | .hbm, ⟨72, _⟩ => ⟨S2x2048, .f32⟩
  | .hbm, ⟨73, _⟩ => ⟨S_, .f32⟩
  | .hbm, ⟨74, _⟩ => ⟨S2048, .f32⟩
  | .hbm, ⟨75, _⟩ => ⟨S2x2048, .f32⟩
  | .hbm, ⟨76, _⟩ => ⟨S2x2048, .f32⟩
  | .hbm, ⟨77, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_call1_call0_cst : Ref sig .tc := ⟨.hbm, 60, rfl⟩
abbrev main_call1_call0_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.InProjRuns.lean ====
/- What the runs of the body share: the conditions, the windows, the buffers. -/
module

public import proofs.«01_k».proof.Proof.Gen.InProj.Launch
public import proofs.«01_k».proof.Proof.Gen.InProj.Skeleton
public import proofs.«01_k».proof.Proof.Gen.InProj.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-! ## The kernel body on any staging memrefs: a subtype the run finds -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x9216 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2x1x1024 .f32 := win0_7.stage (cfg0.slots t 7)
abbrev hs0_7 (t : Fin cfg0.N) : (ms0_7 t).IsWhole := hstage0_7 ((cfg0.slots t 7).cast nbuf0_7)
abbrev scM0_0 : Memref sig .tc .vmem S1024x9216 .bf16 := Memref.whole cc0_scratch0
abbrev hbM0_0 : Memref sig .tc .hbm S8x1024x1152 .bf16 := Memref.whole main_v6
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 8 → SemLoc sig := fun j => (![SemLoc.dma 13, SemLoc.dma 14, SemLoc.dma 15, SemLoc.dma 16, SemLoc.dma 17, SemLoc.dma 18, SemLoc.dma 19, SemLoc.dma 20] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7] (by decide) (by decide)]; rfl
def H0 : Finset (Ref sig .tc) := {main_v6}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v6)) := by
  rw [BI.bigSep_eq_bigSepL_of_eq [main_v6] (by decide) (by decide)]; rfl

theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := by
  rw [Pipeline.ΦD_eq, scopedRest0_eq, ownSems00_eq, hbmPts0_eq]; simp only [scM0_0, owns_whole]; try rfl

end Cert.InProj.Gen

end
-- ==== Proof.InProjRunA.lean ====
/- The run of the body at the first point, which copies the weights into scratch: every copy lends its own window of the scratch. -/
module

public import proofs.«01_k».proof.Proof.InProjRuns

@[expose] public section

set_option maxRecDepth 16384

noncomputable section

namespace Cert.InProj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : cond0_0 i)
    (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K := by
    intro W K
    simp only [cc0_in_proj_bwd_x_eq_skeleton]; unfold cc0_in_proj_bwd_x_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InProj.Gen

end
-- ==== Proof.InProjRunB.lean ====
/- The run of the body at every other point. -/
module

public import proofs.«01_k».proof.Proof.InProjRunA

@[expose] public section

set_option maxRecDepth 16384

noncomputable section

namespace Cert.InProj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i)
    (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K := by
    intro W K
    simp only [cc0_in_proj_bwd_x_eq_skeleton]; unfold cc0_in_proj_bwd_x_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InProj.Gen

end
-- ==== Proof.InProjFrame.lean ====
/- The frame of the program, over the two runs of the body. -/
module

public import proofs.«01_k».proof.Proof.InProjRunB
public import Idealize.ShloMosaic.Lib.Claim

@[expose] public section

set_option maxRecDepth 16384

noncomputable section

namespace Cert.InProj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

def forgets0 : Fin 8 → Bool := fun w => w.val == 5 || w.val == 6 || w.val == 7

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (V m c main_v6)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, H6, H7, HS0, Hq0, Hq1, Hq2, Hq3, Hq4, Hq5, Hq6, Hq7, Hh0, ⟨%W', HW'⟩⟩
    isplitl [HS0 Hg Hq0 Hq1 Hq2 Hq3 Hq4 Hq5 Hq6 Hq7 Hh0]
    · isplitl [HS0]
      · iexact HS0
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (V m c main_v6)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, H6, H7, HS0, Hq0, Hq1, Hq2, Hq3, Hq4, Hq5, Hq6, Hq7, Hh0, ⟨%W', HW'⟩⟩
    isplitl [HS0 Hg Hq0 Hq1 Hq2 Hq3 Hq4 Hq5 Hq6 Hq7 Hh0]
    · isplitl [HS0]
      · iexact HS0
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InProj.Gen

end
-- ==== Proof.InProjIdealRunA.lean ====
/- The run of the body at the first point, which copies the weights into scratch: every copy lends its own window of the scratch. -/
module

public import proofs.«01_k».proof.Proof.Gen.InProjIdeal.Frame.Runs

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : cond0_0 i)
    (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0) :
    Σ' (L5 : List (View.Piece (Elt F) S256x1024 .f32)), Σ' (L6 : List (View.Piece (Elt F) S1x1024 .f32)), Σ' (L7 : List (View.Piece (Elt F) S2x2x1x1024 .f32)), { LS0 : List (View.Piece (Elt F) S1024x9216 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K } := by
  refine ⟨?_, ?_, ?_, ?_, fun W K => ?run⟩
  case run =>
    simp only [cc0_in_proj_bwd_x_eq_skeleton]; unfold cc0_in_proj_bwd_x_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InProjIdeal.Gen

end
-- ==== Proof.InProjIdealRunB.lean ====
/- The run of the body at every other point. -/
module

public import proofs.«01_k».proof.Proof.InProjIdealRunA

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i)
    (x0 : Vec F S256x1024 .f32) (x1 : Vec F S256x1024 .f32) (x2 : Vec F S256x9216 .bf16) (x3 : Vec F S1x6x1x1024 .f32) (x4 : Vec F S1x1024 .f32) (xo6 : Vec F S1x1024 .f32) (xo7 : Vec F S2x2x1x1024 .f32) (xs0 : Vec F S1024x9216 .bf16) (fh0 : HbBuf0 (F := F) c hbM0_0) :
    Σ' (L5 : List (View.Piece (Elt F) S256x1024 .f32)), Σ' (L6 : List (View.Piece (Elt F) S1x1024 .f32)), Σ' (L7 : List (View.Piece (Elt F) S2x2x1x1024 .f32)), { LS0 : List (View.Piece (Elt F) S1024x9216 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xo6 ∗ owns (c : Thread nD τ) arg9 fullShare xo7 ∗ owns (c : Thread nD τ) arg10 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K } := by
  refine ⟨?_, ?_, ?_, [], fun W K => ?run⟩
  case run =>
    simp only [cc0_in_proj_bwd_x_eq_skeleton]; unfold cc0_in_proj_bwd_x_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hf7; obtain rfl := harg10.eq_unread hfs0
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InProjIdeal.Gen

end
-- ==== Proof.InProjIdealFrame.lean ====
/- The frame of the program, over the two runs of the body. -/
module

public import proofs.«01_k».proof.Proof.InProjIdealRunB
public import Idealize.ShloMosaic.Lib.Claim

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : cond0_0 i) (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0)

theorem cover0_A_5 (y : S256x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).1, y ∈ pc.1.set :=
  View.cover_of_tiledL (kernelRun0_A c i arg1 harg1 arg2 harg2 arg3 harg3 arg4 harg4 arg5 harg5 arg7 harg7 arg8 harg8 arg9 harg9 arg10 harg10 hc0 x0 x1 x2 x3 x4 fh0).1 S256x1024.size (by sl_kernel_rfl) y

def out0_A_5 : Vec F S256x1024 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 hc0 x0 x1 x2 x3 x4 fh0).1)

theorem cover0_A_6 (y : S1x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.1, y ∈ pc.1.set :=
  View.cover_of_tiledL (kernelRun0_A c i arg1 harg1 arg2 harg2 arg3 harg3 arg4 harg4 arg5 harg5 arg7 harg7 arg8 harg8 arg9 harg9 arg10 harg10 hc0 x0 x1 x2 x3 x4 fh0).2.1 S1x1024.size (by sl_kernel_rfl) y

def out0_A_6 : Vec F S1x1024 .f32 :=
  VO0_6.read (Elt F) (VO0_6.writes (Elt F) VO0_6.junk (kernelRun0_A c i arg1 harg1 arg2 harg2 arg3 harg3 arg4 harg4 arg5 harg5 arg7 harg7 arg8 harg8 arg9 harg9 arg10 harg10 hc0 x0 x1 x2 x3 x4 fh0).2.1)

theorem cover0_A_7 (y : S2x2x1x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.2.1, y ∈ pc.1.set :=
  View.cover_of_tiledBy (kernelRun0_A c i arg1 harg1 arg2 harg2 arg3 harg3 arg4 harg4 arg5 harg5 arg7 harg7 arg8 harg8 arg9 harg9 arg10 harg10 hc0 x0 x1 x2 x3 x4 fh0).2.2.1 ![1, 1, 1, 1024] (by sl_kernel_rfl) y

def out0_A_7 : Vec F S2x2x1x1024 .f32 :=
  VO0_7.read (Elt F) (VO0_7.writes (Elt F) VO0_7.junk (kernelRun0_A c i arg1 harg1 arg2 harg2 arg3 harg3 arg4 harg4 arg5 harg5 arg7 harg7 arg8 harg8 arg9 harg9 arg10 harg10 hc0 x0 x1 x2 x3 x4 fh0).2.2.1)

theorem scover0_A_0 (y : S1024x9216.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.2.2.1, y ∈ pc.1.set :=
  View.cover_of_tiledL (kernelRun0_A c i arg1 harg1 arg2 harg2 arg3 harg3 arg4 harg4 arg5 harg5 arg7 harg7 arg8 harg8 arg9 harg9 arg10 harg10 hc0 x0 x1 x2 x3 x4 fh0).2.2.2.1 S1024x1152.size (by sl_kernel_rfl) y

def sout0_A_0 : Vec F S1024x9216 .bf16 :=
  VS0_0.read (Elt F) (VS0_0.writes (Elt F) VS0_0.junk (kernelRun0_A c i arg1 harg1 arg2 harg2 arg3 harg3 arg4 harg4 arg5 harg5 arg7 harg7 arg8 harg8 arg9 harg9 arg10 harg10 hc0 x0 x1 x2 x3 x4 fh0).2.2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i) (x0 : Vec F S256x1024 .f32) (x1 : Vec F S256x1024 .f32) (x2 : Vec F S256x9216 .bf16) (x3 : Vec F S1x6x1x1024 .f32) (x4 : Vec F S1x1024 .f32) (xo6 : Vec F S1x1024 .f32) (xo7 : Vec F S2x2x1x1024 .f32) (xs0 : Vec F S1024x9216 .bf16) (fh0 : HbBuf0 (F := F) c hbM0_0)

theorem cover0_B_5 (y : S256x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).1, y ∈ pc.1.set :=
  View.cover_of_tiledL (kernelRun0_B c i arg1 harg1 arg2 harg2 arg3 harg3 arg4 harg4 arg5 harg5 arg7 harg7 arg8 harg8 arg9 harg9 arg10 harg10 hc0 x0 x1 x2 x3 x4 xo6 xo7 xs0 fh0).1 S256x1024.size (by sl_kernel_rfl) y

def out0_B_5 : Vec F S256x1024 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 hc0 x0 x1 x2 x3 x4 xo6 xo7 xs0 fh0).1)

theorem cover0_B_6 (y : S1x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).2.1, y ∈ pc.1.set :=
  View.cover_of_tiledL (kernelRun0_B c i arg1 harg1 arg2 harg2 arg3 harg3 arg4 harg4 arg5 harg5 arg7 harg7 arg8 harg8 arg9 harg9 arg10 harg10 hc0 x0 x1 x2 x3 x4 xo6 xo7 xs0 fh0).2.1 S1x1024.size (by sl_kernel_rfl) y

def out0_B_6 : Vec F S1x1024 .f32 :=
  VO0_6.read (Elt F) (VO0_6.writes (Elt F) VO0_6.junk (kernelRun0_B c i arg1 harg1 arg2 harg2 arg3 harg3 arg4 harg4 arg5 harg5 arg7 harg7 arg8 harg8 arg9 harg9 arg10 harg10 hc0 x0 x1 x2 x3 x4 xo6 xo7 xs0 fh0).2.1)

theorem cover0_B_7 (y : S2x2x1x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).2.2.1, y ∈ pc.1.set :=
  View.cover_of_tiledL (kernelRun0_B c i arg1 harg1 arg2 harg2 arg3 harg3 arg4 harg4 arg5 harg5 arg7 harg7 arg8 harg8 arg9 harg9 arg10 harg10 hc0 x0 x1 x2 x3 x4 xo6 xo7 xs0 fh0).2.2.1 S1x1x1x1024.size (by sl_kernel_rfl) y

def out0_B_7 : Vec F S2x2x1x1024 .f32 :=
  VO0_7.read (Elt F) (VO0_7.writes (Elt F) VO0_7.junk (kernelRun0_B c i arg1 harg1 arg2 harg2 arg3 harg3 arg4 harg4 arg5 harg5 arg7 harg7 arg8 harg8 arg9 harg9 arg10 harg10 hc0 x0 x1 x2 x3 x4 xo6 xo7 xs0 fh0).2.2.1)

end

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i)
    (x0 : Vec F S256x1024 .f32) (x1 : Vec F S256x1024 .f32) (x2 : Vec F S256x9216 .bf16) (x3 : Vec F S1x6x1x1024 .f32) (x4 : Vec F S1x1024 .f32) (xo6 : Vec F S1x1024 .f32) (xo7 : Vec F S2x2x1x1024 .f32) (xs0 : Vec F S1024x9216 .bf16) (fh0 : HbBuf0 (F := F) c hbM0_0) : Vec F S1024x9216 .bf16 := xs0

/-! ## What the outputs hold after each point -/

def outsAt0 (c : Dev nD) : (n : ℕ) → n < cfg0.N → Vec F S256x1024 .f32 × Vec F S1x1024 .f32 × Vec F S2x2x1x1024 .f32 × Vec F S1024x9216 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6))
  | n + 1, hn =>
    if h0 : (n + 1) % 17 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6))

theorem outsAt0_A (c : Dev nD) (t : Fin cfg0.N) (h0 : t.val % 17 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  obtain ⟨n, hn⟩ := t
  cases n with
  | zero => exact rfl
  | succ n => exact (dif_pos h0).trans rfl

theorem outsAt0_B (c : Dev nD) (t : Fin cfg0.N) (h0 : ¬t.val % 17 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_6_B (c : Dev nD) (t : Fin cfg0.N) (h0 : ¬t.val % 17 = 0) (d) :
    (dats m 0 c).before 6 t d = (outsAt0 m c (t.val - 1) (Nat.lt_of_le_of_lt (Nat.sub_le _ _) t.isLt)).2.1 := by
  have hN : t.val < 17 := lt_of_lt_of_eq t.isLt (show cfg0.N = 17 from N_0)
  rw [Dat.before_out_kept _ 6 rfl t (by omega) (Bool.eq_false_iff.mpr fun h => by have := (flush0_6 _).mp h; dsimp only at this; omega)
    (fun _ => rfl) (fun _ _ => rfl)]
  dsimp only [dats]
theorem before0_7_B (c : Dev nD) (t : Fin cfg0.N) (h0 : ¬t.val % 17 = 0) (d) :
    (dats m 0 c).before 7 t d = (outsAt0 m c (t.val - 1) (Nat.lt_of_le_of_lt (Nat.sub_le _ _) t.isLt)).2.2.1 := by
  have hN : t.val < 17 := lt_of_lt_of_eq t.isLt (show cfg0.N = 17 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · by_cases hz : t.val = 0
    · rw [PhiS_castSucc m c t, PhiS_zero m c _ _ hz, PhiD0_eq]
      rw [outsAt0_A m c t h0]
      unfold out0_A_5 out0_A_6 out0_A_7 sout0_A_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (V m c main_v6)).2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, H4, ⟨%e5, H5⟩, ⟨%e6, H6⟩, ⟨%e7, H7⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 17 := lt_of_lt_of_eq t.isLt (show cfg0.N = 17 from N_0); omega
  · by_cases hz : t.val = 0
    · exfalso; have hN : t.val < 17 := lt_of_lt_of_eq t.isLt (show cfg0.N = 17 from N_0); omega
    · rw [PhiS_castSucc m c t, PhiS_pos m c _ _ hz]
      rw [outsAt0_B m c t h0]
      simp only [before0_6_B m c t h0, before0_7_B m c t h0]
      unfold out0_B_5 out0_B_6 out0_B_7 sout0_B_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ _ (V m c main_v6)).2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, H4, ⟨%e5, H5⟩, ⟨%e6, H6⟩, ⟨%e7, H7⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 17 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InProjIdeal.Gen

end
-- ==== Proof.InProjIdealValue.lean ====
/- What the program leaves in its results. -/
module

public import proofs.«01_k».proof.Proof.InProjIdealFrame
public import Idealize.ShloMosaic.Lib.Pipeline.Value

@[expose] public section

noncomputable section

namespace Cert.InProjIdeal.Value

open Cert.InProjIdeal Cert.InProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

theorem flushed5_A (c : Dev nD) (t : Fin cfg0.N) (h0 : t.val % 17 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  simp only [flushed5, outsAt0_A m c t h0]

theorem flushed5_B (c : Dev nD) (t : Fin cfg0.N) (h0 : ¬t.val % 17 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  simp only [flushed5, outsAt0_B m c t h0]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S4352x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

theorem flushed6_A (c : Dev nD) (t : Fin cfg0.N) (h0 : t.val % 17 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  simp only [flushed6, outsAt0_A m c t h0]

theorem flushed6_B (c : Dev nD) (t : Fin cfg0.N) (h0 : ¬t.val % 17 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  simp only [flushed6, outsAt0_B m c t h0]

theorem entry6 (c : Dev nD) (i : S1x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

theorem flushed7_A (c : Dev nD) (t : Fin cfg0.N) (h0 : t.val % 17 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  simp only [flushed7, outsAt0_A m c t h0]

theorem flushed7_B (c : Dev nD) (t : Fin cfg0.N) (h0 : ¬t.val % 17 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  simp only [flushed7, outsAt0_B m c t h0]

theorem entry7 (c : Dev nD) (i : S2x2x1x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem post5 (r : PUnit × MemSt nD τ sig (Elt F)) (h : Pipeline.FramePost cfgs (dats m) 0 (V m) r) (c : Dev nD) :
    r.2.mem ((c : Thread nD τ).loc main_v8_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v8_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v8_2) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem run_blocks : θ_run defs (onTc (τ := τ) (main (F := F))) ⟨m, fun _ => 0, ρ⟩ fun r => ∀ c : Dev nD,
      r.2.mem ((c : Thread nD τ).loc main_v8_0) = (dats m 0 c).arrAt 5 cfg0.N
      ∧ r.2.mem ((c : Thread nD τ).loc main_v8_1) = (dats m 0 c).arrAt 6 cfg0.N
      ∧ r.2.mem ((c : Thread nD τ).loc main_v8_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

def scAt0_0 (c : Dev nD) (n : ℕ) (hb : n < cfg0.N) (acc : Vec F S1024x9216 .bf16) : Vec F S1024x9216 .bf16 :=
  if h0 : n % 17 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v6)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (V m c main_v6)

theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (17 * (t.val / 17)) (t.val % 17)
      (by have h1 := t.isLt; have h2 := Nat.div_add_mod t.val 17; omega) :=
  Pipeline.eq_accAt_of_mod (fun n h => (outsAt0 m c n h).2.2.2) 17 (fun n h => scAt0_0 m c n h (VS0_0.read (Elt F) VS0_0.junk)) (scAt0_0 m c)
    (fun n h hn => by
      have hN := lt_of_lt_of_eq h (show cfg0.N = 17 from N_0)
      by_cases h0 : n % 17 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 17 from N_0)
      by_cases h0 : (n + 1) % 17 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 17 from N_0)
  have hd : n / 17 = 0 := Nat.div_eq_of_lt hN
  have hm : n % 17 = n := Nat.mod_eq_of_lt hN
  simpa only [hd, hm, Nat.mul_zero] using e

end Cert.InProjIdeal.Value

end
-- ==== Proof.InFwdRuns.lean ====
/- What the runs of the body share: the conditions, the windows, the buffers. -/
module

public import proofs.«01_k».proof.Proof.Gen.InFwd.Launch
public import proofs.«01_k».proof.Proof.Gen.InFwd.Skeleton
public import proofs.«01_k».proof.Proof.Gen.InFwd.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InFwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-! ## The kernel body on any staging memrefs: a subtype the run finds -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x5120 .bf16 := win0_6.stage (cfg0.slots t 6)
abbrev hs0_6 (t : Fin cfg0.N) : (ms0_6 t).IsWhole := hstage0_6 ((cfg0.slots t 6).cast nbuf0_6)
abbrev scM0_0 : Memref sig .tc .vmem S1024x9216 .bf16 := Memref.whole cc0_scratch0
abbrev hbM0_0 : Memref sig .tc .hbm S8x1024x1152 .bf16 := Memref.whole main_v6
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 8 → SemLoc sig := fun j => (![SemLoc.dma 13, SemLoc.dma 14, SemLoc.dma 15, SemLoc.dma 16, SemLoc.dma 17, SemLoc.dma 18, SemLoc.dma 19, SemLoc.dma 20] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7] (by decide) (by decide)]; rfl
def H0 : Finset (Ref sig .tc) := {main_v6}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v6)) := by
  rw [BI.bigSep_eq_bigSepL_of_eq [main_v6] (by decide) (by decide)]; rfl

theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := by
  rw [Pipeline.ΦD_eq, scopedRest0_eq, ownSems00_eq, hbmPts0_eq]; simp only [scM0_0, owns_whole]; try rfl

end Cert.InFwd.Gen

end
-- ==== Proof.InFwdRunA.lean ====
/- The run of the body at the first point, which copies the weights into scratch: every copy lends its own window of the scratch. -/
module

public import proofs.«01_k».proof.Proof.InFwdRuns

@[expose] public section

set_option maxRecDepth 16384

noncomputable section

namespace Cert.InFwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem kernelRun0_A (c : Dev nD) (i : grid0.Coords) (arg1 : Memref sig .tc .vmem S256x1024 .f32) (harg1 : arg1.IsWhole) (arg2 : Memref sig .tc .vmem S1x6x1x1024 .f32) (harg2 : arg2.IsWhole) (arg3 : Memref sig .tc .vmem S1x1024 .f32) (harg3 : arg3.IsWhole) (arg5 : Memref sig .tc .vmem S256x4096 .f32) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x5120 .bf16) (harg8 : arg8.IsWhole) (arg9 : Memref sig .tc .vmem S1024x9216 .bf16) (harg9 : arg9.IsWhole) (hc0 : cond0_0 i)
    (x0 : Vec F S256x1024 .f32) (x1 : Vec F S1x6x1x1024 .f32) (x2 : Vec F S1x1024 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_v6) (Memref.isWhole_whole _) arg5 harg5 arg6 harg6 arg7 harg7 arg8 harg8 arg9 harg9 cc0_scratch1) K := by
    intro W K
    simp only [cc0_in_proj_fwd_eq_skeleton]; unfold cc0_in_proj_fwd_skel
    simp only [k0_part4_eq_skeleton, k0_part1_eq_skeleton, k0_part2_eq_skeleton, k0_part3_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InFwd.Gen

end
-- ==== Proof.InFwdRunB.lean ====
/- The run of the body at every other point. -/
module

public import proofs.«01_k».proof.Proof.InFwdRunA

@[expose] public section

set_option maxRecDepth 16384

noncomputable section

namespace Cert.InFwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem kernelRun0_B (c : Dev nD) (i : grid0.Coords) (arg1 : Memref sig .tc .vmem S256x1024 .f32) (harg1 : arg1.IsWhole) (arg2 : Memref sig .tc .vmem S1x6x1x1024 .f32) (harg2 : arg2.IsWhole) (arg3 : Memref sig .tc .vmem S1x1024 .f32) (harg3 : arg3.IsWhole) (arg5 : Memref sig .tc .vmem S256x4096 .f32) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x5120 .bf16) (harg8 : arg8.IsWhole) (arg9 : Memref sig .tc .vmem S1024x9216 .bf16) (harg9 : arg9.IsWhole) (hc0 : ¬cond0_0 i)
    (x0 : Vec F S256x1024 .f32) (x1 : Vec F S1x6x1x1024 .f32) (x2 : Vec F S1x1024 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_v6) (Memref.isWhole_whole _) arg5 harg5 arg6 harg6 arg7 harg7 arg8 harg8 arg9 harg9 cc0_scratch1) K := by
    intro W K
    simp only [cc0_in_proj_fwd_eq_skeleton]; unfold cc0_in_proj_fwd_skel
    simp only [k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InFwd.Gen

end
-- ==== Proof.InFwdFrame.lean ====
/- The frame of the program, over the two runs of the body. -/
module

public import proofs.«01_k».proof.Proof.InFwdRunB
public import Idealize.ShloMosaic.Lib.Claim

@[expose] public section

set_option maxRecDepth 16384

noncomputable section

namespace Cert.InFwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

def forgets0 : Fin 7 → Bool := fun w => w.val == 3 || w.val == 4 || w.val == 5 || w.val == 6

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr h0) (iblk m c 0 t) (iblk m c 1 t) (iblk m c 2 t) (V m c main_v6)) W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, H6, HS0, Hq0, Hq1, Hq2, Hq3, Hq4, Hq5, Hq6, Hq7, Hh0, ⟨%W', HW'⟩⟩
    isplitl [HS0 Hg Hq0 Hq1 Hq2 Hq3 Hq4 Hq5 Hq6 Hq7 Hh0]
    · isplitl [HS0]
      · iexact HS0
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => h0 ((hcond0_0 t).mp h)) (iblk m c 0 t) (iblk m c 1 t) (iblk m c 2 t) (V m c main_v6)) W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, H6, HS0, Hq0, Hq1, Hq2, Hq3, Hq4, Hq5, Hq6, Hq7, Hh0, ⟨%W', HW'⟩⟩
    isplitl [HS0 Hg Hq0 Hq1 Hq2 Hq3 Hq4 Hq5 Hq6 Hq7 Hh0]
    · isplitl [HS0]
      · iexact HS0
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InFwd.Gen

end
-- ==== Proof.InFwdIdealRunA.lean ====
/- The run of the body at the first point, which copies the weights into scratch: every copy lends its own window of the scratch. -/
module

public import proofs.«01_k».proof.Proof.Gen.InFwdIdeal.Frame.Runs

@[expose] public section

set_option maxRecDepth 16384

noncomputable section

namespace Cert.InFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S256x1024 .f32) (harg1 : arg1.IsWhole) (arg2 : Memref sig .tc .vmem S1x6x1x1024 .f32) (harg2 : arg2.IsWhole) (arg3 : Memref sig .tc .vmem S1x1024 .f32) (harg3 : arg3.IsWhole) (arg5 : Memref sig .tc .vmem S256x4096 .f32) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x5120 .bf16) (harg8 : arg8.IsWhole) (arg9 : Memref sig .tc .vmem S1024x9216 .bf16) (harg9 : arg9.IsWhole) (hc0 : cond0_0 i)
    (x0 : Vec F S256x1024 .f32) (x1 : Vec F S1x6x1x1024 .f32) (x2 : Vec F S1x1024 .f32) (fh0 : HbBuf0 (F := F) c hbM0_0) :
    Σ' (L3 : List (View.Piece (Elt F) S256x4096 .f32)), Σ' (L4 : List (View.Piece (Elt F) S1024x256 .bf16)), Σ' (L5 : List (View.Piece (Elt F) S256x1024 .bf16)), Σ' (L6 : List (View.Piece (Elt F) S256x5120 .bf16)), { LS0 : List (View.Piece (Elt F) S1024x9216 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_v6) (Memref.isWhole_whole _) arg5 harg5 arg6 harg6 arg7 harg7 arg8 harg8 arg9 harg9 cc0_scratch1) K } := by
  refine ⟨?_, ?_, ?_, ?_, ?_, fun W K => ?run⟩
  case run =>
    simp only [cc0_in_proj_fwd_eq_skeleton]; unfold cc0_in_proj_fwd_skel
    simp only [k0_part4_eq_skeleton, k0_part1_eq_skeleton, k0_part2_eq_skeleton, k0_part3_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InFwdIdeal.Gen

end
-- ==== Proof.InFwdIdealRunB.lean ====
/- The run of the body at every other point. -/
module

public import proofs.«01_k».proof.Proof.InFwdIdealRunA

@[expose] public section

set_option maxRecDepth 16384

noncomputable section

namespace Cert.InFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S256x1024 .f32) (harg1 : arg1.IsWhole) (arg2 : Memref sig .tc .vmem S1x6x1x1024 .f32) (harg2 : arg2.IsWhole) (arg3 : Memref sig .tc .vmem S1x1024 .f32) (harg3 : arg3.IsWhole) (arg5 : Memref sig .tc .vmem S256x4096 .f32) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x5120 .bf16) (harg8 : arg8.IsWhole) (arg9 : Memref sig .tc .vmem S1024x9216 .bf16) (harg9 : arg9.IsWhole) (hc0 : ¬cond0_0 i)
    (x0 : Vec F S256x1024 .f32) (x1 : Vec F S1x6x1x1024 .f32) (x2 : Vec F S1x1024 .f32) (xs0 : Vec F S1024x9216 .bf16) (fh0 : HbBuf0 (F := F) c hbM0_0) :
    Σ' (L3 : List (View.Piece (Elt F) S256x4096 .f32)), Σ' (L4 : List (View.Piece (Elt F) S1024x256 .bf16)), Σ' (L5 : List (View.Piece (Elt F) S256x1024 .bf16)), Σ' (L6 : List (View.Piece (Elt F) S256x5120 .bf16)), { LS0 : List (View.Piece (Elt F) S1024x9216 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_v6) (Memref.isWhole_whole _) arg5 harg5 arg6 harg6 arg7 harg7 arg8 harg8 arg9 harg9 cc0_scratch1) K } := by
  refine ⟨?_, ?_, ?_, ?_, [], fun W K => ?run⟩
  case run =>
    simp only [cc0_in_proj_fwd_eq_skeleton]; unfold cc0_in_proj_fwd_skel
    simp only [k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg9.eq_unread hfs0
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [HS0]
    · iexists _; isplitr; · ipureintro; exact harg9.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InFwdIdeal.Gen

end
-- ==== Proof.InFwdIdealFrame.lean ====
/- The frame of the program, over the two runs of the body. -/
module

public import proofs.«01_k».proof.Proof.InFwdIdealRunB
public import Idealize.ShloMosaic.Lib.Claim

@[expose] public section

set_option maxRecDepth 16384

noncomputable section

namespace Cert.InFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (i : grid0.Coords) (arg1 : Memref sig .tc .vmem S256x1024 .f32) (harg1 : arg1.IsWhole) (arg2 : Memref sig .tc .vmem S1x6x1x1024 .f32) (harg2 : arg2.IsWhole) (arg3 : Memref sig .tc .vmem S1x1024 .f32) (harg3 : arg3.IsWhole) (arg5 : Memref sig .tc .vmem S256x4096 .f32) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x5120 .bf16) (harg8 : arg8.IsWhole) (arg9 : Memref sig .tc .vmem S1024x9216 .bf16) (harg9 : arg9.IsWhole) (hc0 : cond0_0 i) (x0 : Vec F S256x1024 .f32) (x1 : Vec F S1x6x1x1024 .f32) (x2 : Vec F S1x1024 .f32) (fh0 : HbBuf0 (F := F) c hbM0_0)

theorem cover0_A_3 (y : S256x4096.Idx) :
    ∃ pc ∈ (kernelRun0_A c i arg1 harg1 arg2 harg2 arg3 harg3 arg5 harg5 arg6 harg6 arg7 harg7 arg8 harg8 arg9 harg9 hc0 x0 x1 x2 fh0).1, y ∈ pc.1.set :=
  View.cover_of_tiledL (kernelRun0_A c i arg1 harg1 arg2 harg2 arg3 harg3 arg5 harg5 arg6 harg6 arg7 harg7 arg8 harg8 arg9 harg9 hc0 x0 x1 x2 fh0).1 S256x1024.size (by sl_kernel_rfl) y

def out0_A_3 : Vec F S256x4096 .f32 :=
  VO0_3.read (Elt F) (VO0_3.writes (Elt F) VO0_3.junk (kernelRun0_A c i arg1 harg1 arg2 harg2 arg3 harg3 arg5 harg5 arg6 harg6 arg7 harg7 arg8 harg8 arg9 harg9 hc0 x0 x1 x2 fh0).1)

theorem cover0_A_4 (y : S1024x256.Idx) :
    ∃ pc ∈ (kernelRun0_A c i arg1 harg1 arg2 harg2 arg3 harg3 arg5 harg5 arg6 harg6 arg7 harg7 arg8 harg8 arg9 harg9 hc0 x0 x1 x2 fh0).2.1, y ∈ pc.1.set :=
  View.cover_of_tiledL (kernelRun0_A c i arg1 harg1 arg2 harg2 arg3 harg3 arg5 harg5 arg6 harg6 arg7 harg7 arg8 harg8 arg9 harg9 hc0 x0 x1 x2 fh0).2.1 S1024x256.size (by sl_kernel_rfl) y

def out0_A_4 : Vec F S1024x256 .bf16 :=
  VO0_4.read (Elt F) (VO0_4.writes (Elt F) VO0_4.junk (kernelRun0_A c i arg1 harg1 arg2 harg2 arg3 harg3 arg5 harg5 arg6 harg6 arg7 harg7 arg8 harg8 arg9 harg9 hc0 x0 x1 x2 fh0).2.1)

theorem cover0_A_5 (y : S256x1024.Idx) :
    ∃ pc ∈ (kernelRun0_A c i arg1 harg1 arg2 harg2 arg3 harg3 arg5 harg5 arg6 harg6 arg7 harg7 arg8 harg8 arg9 harg9 hc0 x0 x1 x2 fh0).2.2.1, y ∈ pc.1.set :=
  View.cover_of_tiledL (kernelRun0_A c i arg1 harg1 arg2 harg2 arg3 harg3 arg5 harg5 arg6 harg6 arg7 harg7 arg8 harg8 arg9 harg9 hc0 x0 x1 x2 fh0).2.2.1 S256x1024.size (by sl_kernel_rfl) y

def out0_A_5 : Vec F S256x1024 .bf16 :=
  VO0_5.read (Elt F) (VO0_5.writes (Elt F) VO0_5.junk (kernelRun0_A c i arg1 harg1 arg2 harg2 arg3 harg3 arg5 harg5 arg6 harg6 arg7 harg7 arg8 harg8 arg9 harg9 hc0 x0 x1 x2 fh0).2.2.1)

theorem cover0_A_6 (y : S256x5120.Idx) :
    ∃ pc ∈ (kernelRun0_A c i arg1 harg1 arg2 harg2 arg3 harg3 arg5 harg5 arg6 harg6 arg7 harg7 arg8 harg8 arg9 harg9 hc0 x0 x1 x2 fh0).2.2.2.1, y ∈ pc.1.set :=
  View.cover_of_tiledL (kernelRun0_A c i arg1 harg1 arg2 harg2 arg3 harg3 arg5 harg5 arg6 harg6 arg7 harg7 arg8 harg8 arg9 harg9 hc0 x0 x1 x2 fh0).2.2.2.1 S256x1024.size (by sl_kernel_rfl) y

def out0_A_6 : Vec F S256x5120 .bf16 :=
  VO0_6.read (Elt F) (VO0_6.writes (Elt F) VO0_6.junk (kernelRun0_A c i arg1 harg1 arg2 harg2 arg3 harg3 arg5 harg5 arg6 harg6 arg7 harg7 arg8 harg8 arg9 harg9 hc0 x0 x1 x2 fh0).2.2.2.1)

theorem scover0_A_0 (y : S1024x9216.Idx) :
    ∃ pc ∈ (kernelRun0_A c i arg1 harg1 arg2 harg2 arg3 harg3 arg5 harg5 arg6 harg6 arg7 harg7 arg8 harg8 arg9 harg9 hc0 x0 x1 x2 fh0).2.2.2.2.1, y ∈ pc.1.set :=
  View.cover_of_tiledL (kernelRun0_A c i arg1 harg1 arg2 harg2 arg3 harg3 arg5 harg5 arg6 harg6 arg7 harg7 arg8 harg8 arg9 harg9 hc0 x0 x1 x2 fh0).2.2.2.2.1 S1024x1152.size (by sl_kernel_rfl) y

def sout0_A_0 : Vec F S1024x9216 .bf16 :=
  VS0_0.read (Elt F) (VS0_0.writes (Elt F) VS0_0.junk (kernelRun0_A c i arg1 harg1 arg2 harg2 arg3 harg3 arg5 harg5 arg6 harg6 arg7 harg7 arg8 harg8 arg9 harg9 hc0 x0 x1 x2 fh0).2.2.2.2.1)

end

section
variable (c : Dev nD) (i : grid0.Coords) (arg1 : Memref sig .tc .vmem S256x1024 .f32) (harg1 : arg1.IsWhole) (arg2 : Memref sig .tc .vmem S1x6x1x1024 .f32) (harg2 : arg2.IsWhole) (arg3 : Memref sig .tc .vmem S1x1024 .f32) (harg3 : arg3.IsWhole) (arg5 : Memref sig .tc .vmem S256x4096 .f32) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x5120 .bf16) (harg8 : arg8.IsWhole) (arg9 : Memref sig .tc .vmem S1024x9216 .bf16) (harg9 : arg9.IsWhole) (hc0 : ¬cond0_0 i) (x0 : Vec F S256x1024 .f32) (x1 : Vec F S1x6x1x1024 .f32) (x2 : Vec F S1x1024 .f32) (xs0 : Vec F S1024x9216 .bf16) (fh0 : HbBuf0 (F := F) c hbM0_0)

theorem cover0_B_3 (y : S256x4096.Idx) :
    ∃ pc ∈ (kernelRun0_B c i arg1 harg1 arg2 harg2 arg3 harg3 arg5 harg5 arg6 harg6 arg7 harg7 arg8 harg8 arg9 harg9 hc0 x0 x1 x2 xs0 fh0).1, y ∈ pc.1.set :=
  View.cover_of_tiledL (kernelRun0_B c i arg1 harg1 arg2 harg2 arg3 harg3 arg5 harg5 arg6 harg6 arg7 harg7 arg8 harg8 arg9 harg9 hc0 x0 x1 x2 xs0 fh0).1 S256x1024.size (by sl_kernel_rfl) y

def out0_B_3 : Vec F S256x4096 .f32 :=
  VO0_3.read (Elt F) (VO0_3.writes (Elt F) VO0_3.junk (kernelRun0_B c i arg1 harg1 arg2 harg2 arg3 harg3 arg5 harg5 arg6 harg6 arg7 harg7 arg8 harg8 arg9 harg9 hc0 x0 x1 x2 xs0 fh0).1)

theorem cover0_B_4 (y : S1024x256.Idx) :
    ∃ pc ∈ (kernelRun0_B c i arg1 harg1 arg2 harg2 arg3 harg3 arg5 harg5 arg6 harg6 arg7 harg7 arg8 harg8 arg9 harg9 hc0 x0 x1 x2 xs0 fh0).2.1, y ∈ pc.1.set :=
  View.cover_of_tiledL (kernelRun0_B c i arg1 harg1 arg2 harg2 arg3 harg3 arg5 harg5 arg6 harg6 arg7 harg7 arg8 harg8 arg9 harg9 hc0 x0 x1 x2 xs0 fh0).2.1 S1024x256.size (by sl_kernel_rfl) y

def out0_B_4 : Vec F S1024x256 .bf16 :=
  VO0_4.read (Elt F) (VO0_4.writes (Elt F) VO0_4.junk (kernelRun0_B c i arg1 harg1 arg2 harg2 arg3 harg3 arg5 harg5 arg6 harg6 arg7 harg7 arg8 harg8 arg9 harg9 hc0 x0 x1 x2 xs0 fh0).2.1)

theorem cover0_B_5 (y : S256x1024.Idx) :
    ∃ pc ∈ (kernelRun0_B c i arg1 harg1 arg2 harg2 arg3 harg3 arg5 harg5 arg6 harg6 arg7 harg7 arg8 harg8 arg9 harg9 hc0 x0 x1 x2 xs0 fh0).2.2.1, y ∈ pc.1.set :=
  View.cover_of_tiledL (kernelRun0_B c i arg1 harg1 arg2 harg2 arg3 harg3 arg5 harg5 arg6 harg6 arg7 harg7 arg8 harg8 arg9 harg9 hc0 x0 x1 x2 xs0 fh0).2.2.1 S256x1024.size (by sl_kernel_rfl) y

def out0_B_5 : Vec F S256x1024 .bf16 :=
  VO0_5.read (Elt F) (VO0_5.writes (Elt F) VO0_5.junk (kernelRun0_B c i arg1 harg1 arg2 harg2 arg3 harg3 arg5 harg5 arg6 harg6 arg7 harg7 arg8 harg8 arg9 harg9 hc0 x0 x1 x2 xs0 fh0).2.2.1)

theorem cover0_B_6 (y : S256x5120.Idx) :
    ∃ pc ∈ (kernelRun0_B c i arg1 harg1 arg2 harg2 arg3 harg3 arg5 harg5 arg6 harg6 arg7 harg7 arg8 harg8 arg9 harg9 hc0 x0 x1 x2 xs0 fh0).2.2.2.1, y ∈ pc.1.set :=
  View.cover_of_tiledL (kernelRun0_B c i arg1 harg1 arg2 harg2 arg3 harg3 arg5 harg5 arg6 harg6 arg7 harg7 arg8 harg8 arg9 harg9 hc0 x0 x1 x2 xs0 fh0).2.2.2.1 S256x1024.size (by sl_kernel_rfl) y

def out0_B_6 : Vec F S256x5120 .bf16 :=
  VO0_6.read (Elt F) (VO0_6.writes (Elt F) VO0_6.junk (kernelRun0_B c i arg1 harg1 arg2 harg2 arg3 harg3 arg5 harg5 arg6 harg6 arg7 harg7 arg8 harg8 arg9 harg9 hc0 x0 x1 x2 xs0 fh0).2.2.2.1)

end

def sout0_B_0 (c : Dev nD) (i : grid0.Coords) (arg1 : Memref sig .tc .vmem S256x1024 .f32) (harg1 : arg1.IsWhole) (arg2 : Memref sig .tc .vmem S1x6x1x1024 .f32) (harg2 : arg2.IsWhole) (arg3 : Memref sig .tc .vmem S1x1024 .f32) (harg3 : arg3.IsWhole) (arg5 : Memref sig .tc .vmem S256x4096 .f32) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x5120 .bf16) (harg8 : arg8.IsWhole) (arg9 : Memref sig .tc .vmem S1024x9216 .bf16) (harg9 : arg9.IsWhole) (hc0 : ¬cond0_0 i)
    (x0 : Vec F S256x1024 .f32) (x1 : Vec F S1x6x1x1024 .f32) (x2 : Vec F S1x1024 .f32) (xs0 : Vec F S1024x9216 .bf16) (fh0 : HbBuf0 (F := F) c hbM0_0) : Vec F S1024x9216 .bf16 := xs0

/-! ## What the outputs hold after each point -/

def outsAt0 (c : Dev nD) : (n : ℕ) → n < cfg0.N → Vec F S256x4096 .f32 × Vec F S1024x256 .bf16 × Vec F S256x1024 .bf16 × Vec F S256x5120 .bf16 × Vec F S1024x9216 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (V m c main_v6), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (V m c main_v6), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (V m c main_v6), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (V m c main_v6), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (V m c main_v6))
  | n + 1, hn =>
    if h0 : (n + 1) % 17 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (V m c main_v6), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (V m c main_v6), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (V m c main_v6), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (V m c main_v6), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (V m c main_v6))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2 (V m c main_v6), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2 (V m c main_v6), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2 (V m c main_v6), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2 (V m c main_v6), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.2 (V m c main_v6))

theorem outsAt0_A (c : Dev nD) (t : Fin cfg0.N) (h0 : t.val % 17 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6)) := by
  obtain ⟨n, hn⟩ := t
  cases n with
  | zero => exact rfl
  | succ n => exact (dif_pos h0).trans rfl

theorem outsAt0_B (c : Dev nD) (t : Fin cfg0.N) (h0 : ¬t.val % 17 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · by_cases hz : t.val = 0
    · rw [PhiS_castSucc m c t, PhiS_zero m c _ _ hz, PhiD0_eq]
      rw [outsAt0_A m c t h0]
      unfold out0_A_3 out0_A_4 out0_A_5 out0_A_6 sout0_A_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (V m c main_v6)).2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, ⟨%e3, H3⟩, ⟨%e4, H4⟩, ⟨%e5, H5⟩, ⟨%e6, H6⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _)
    · exfalso; have hN : t.val < 17 := lt_of_lt_of_eq t.isLt (show cfg0.N = 17 from N_0); omega
  · by_cases hz : t.val = 0
    · exfalso; have hN : t.val < 17 := lt_of_lt_of_eq t.isLt (show cfg0.N = 17 from N_0); omega
    · rw [PhiS_castSucc m c t, PhiS_pos m c _ _ hz]
      rw [outsAt0_B m c t h0]
      unfold out0_B_3 out0_B_4 out0_B_5 out0_B_6 sout0_B_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) _ (V m c main_v6)).2.2.2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, ⟨%e3, H3⟩, ⟨%e4, H4⟩, ⟨%e5, H5⟩, ⟨%e6, H6⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 17 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InFwdIdeal.Gen

end
-- ==== Proof.InFwdIdealValue.lean ====
/- What the program leaves in its results. -/
module

public import proofs.«01_k».proof.Proof.InFwdIdealFrame
public import Idealize.ShloMosaic.Lib.Pipeline.Value

@[expose] public section

noncomputable section

namespace Cert.InFwdIdeal.Value

open Cert.InFwdIdeal Cert.InFwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

theorem flushed3_A (c : Dev nD) (t : Fin cfg0.N) (h0 : t.val % 17 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6)) := by
  simp only [flushed3, outsAt0_A m c t h0]

theorem flushed3_B (c : Dev nD) (t : Fin cfg0.N) (h0 : ¬t.val % 17 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6)) := by
  simp only [flushed3, outsAt0_B m c t h0]

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

theorem entry3 (c : Dev nD) (i : S4352x4096.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

theorem flushed4_A (c : Dev nD) (t : Fin cfg0.N) (h0 : t.val % 17 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6)) := by
  simp only [flushed4, outsAt0_A m c t h0]

theorem flushed4_B (c : Dev nD) (t : Fin cfg0.N) (h0 : ¬t.val % 17 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6)) := by
  simp only [flushed4, outsAt0_B m c t h0]

theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

theorem entry4 (c : Dev nD) (i : S1024x4352.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

theorem flushed5 (c : Dev nD) (t : Fin cfg0.N) :
    (dats m 0 c).flushed 5 t = (cfg0.win 5).cut (grid0.coords t) ((outsAt0 m c t.val t.isLt).2.2.1) := by
  show (cfg0.win 5).cut (grid0.coords t) ((dats m 0 c).after 5 t) = _
  rw [after0_5]

theorem flushed5_A (c : Dev nD) (t : Fin cfg0.N) (h0 : t.val % 17 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6)) := by
  simp only [flushed5, outsAt0_A m c t h0]

theorem flushed5_B (c : Dev nD) (t : Fin cfg0.N) (h0 : ¬t.val % 17 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6)) := by
  simp only [flushed5, outsAt0_B m c t h0]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S4352x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem flushed6 (c : Dev nD) (t : Fin cfg0.N) :
    (dats m 0 c).flushed 6 t = (cfg0.win 6).cut (grid0.coords t) ((outsAt0 m c t.val t.isLt).2.2.2.1) := by
  show (cfg0.win 6).cut (grid0.coords t) ((dats m 0 c).after 6 t) = _
  rw [after0_6]

theorem flushed6_A (c : Dev nD) (t : Fin cfg0.N) (h0 : t.val % 17 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (V m c main_v6)) := by
  simp only [flushed6, outsAt0_A m c t h0]

theorem flushed6_B (c : Dev nD) (t : Fin cfg0.N) (h0 : ¬t.val % 17 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2.2 (V m c main_v6)) := by
  simp only [flushed6, outsAt0_B m c t h0]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem entry6 (c : Dev nD) (i : S4352x5120.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem post3 (r : PUnit × MemSt nD τ sig (Elt F)) (h : Pipeline.FramePost cfgs (dats m) 0 (V m) r) (c : Dev nD) :
    r.2.mem ((c : Thread nD τ).loc main_v8_0) = (dats m 0 c).arrAt 3 cfg0.N :=
  (h c).1 3

theorem post4 (r : PUnit × MemSt nD τ sig (Elt F)) (h : Pipeline.FramePost cfgs (dats m) 0 (V m) r) (c : Dev nD) :
    r.2.mem ((c : Thread nD τ).loc main_v8_1) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v8_2) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v8_3) = (dats m 0 c).arrAt 6 cfg0.N :=
  (h c).1 6

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem run_blocks : θ_run defs (onTc (τ := τ) (main (F := F))) ⟨m, fun _ => 0, ρ⟩ fun r => ∀ c : Dev nD,
      r.2.mem ((c : Thread nD τ).loc main_v8_0) = (dats m 0 c).arrAt 3 cfg0.N
      ∧ r.2.mem ((c : Thread nD τ).loc main_v8_1) = (dats m 0 c).arrAt 4 cfg0.N
      ∧ r.2.mem ((c : Thread nD τ).loc main_v8_2) = (dats m 0 c).arrAt 5 cfg0.N
      ∧ r.2.mem ((c : Thread nD τ).loc main_v8_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post3 m r h c,
      post4 m r h c,
      post5 m r h c,
      post6 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

def scAt0_0 (c : Dev nD) (n : ℕ) (hb : n < cfg0.N) (acc : Vec F S1024x9216 .bf16) : Vec F S1024x9216 .bf16 :=
  if h0 : n % 17 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (V m c main_v6)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc (V m c main_v6)

theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (17 * (t.val / 17)) (t.val % 17)
      (by have h1 := t.isLt; have h2 := Nat.div_add_mod t.val 17; omega) :=
  Pipeline.eq_accAt_of_mod (fun n h => (outsAt0 m c n h).2.2.2.2) 17 (fun n h => scAt0_0 m c n h (VS0_0.read (Elt F) VS0_0.junk)) (scAt0_0 m c)
    (fun n h hn => by
      have hN := lt_of_lt_of_eq h (show cfg0.N = 17 from N_0)
      by_cases h0 : n % 17 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 17 from N_0)
      by_cases h0 : (n + 1) % 17 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

theorem soutsAt0_0_sweep (c : Dev nD) (n : ℕ) (hn : n < cfg0.N) :
    (outsAt0 m c n hn).2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 17 from N_0)
  have hd : n / 17 = 0 := Nat.div_eq_of_lt hN
  have hm : n % 17 = n := Nat.mod_eq_of_lt hN
  simpa only [hd, hm, Nat.mul_zero] using e

end Cert.InFwdIdeal.Value

end
-- ==== Proof.InLatRuns.lean ====
/- What the runs of the body share: the conditions, the windows, the buffers. -/
module

public import proofs.«01_k».proof.Proof.Gen.InLat.Launch
public import proofs.«01_k».proof.Proof.Gen.InLat.Skeleton
public import proofs.«01_k».proof.Proof.Gen.InLat.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InLat.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-! ## The kernel body on any staging memrefs: a subtype the run finds -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x9216 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2x1x1024 .f32 := win0_7.stage (cfg0.slots t 7)
abbrev hs0_7 (t : Fin cfg0.N) : (ms0_7 t).IsWhole := hstage0_7 ((cfg0.slots t 7).cast nbuf0_7)
abbrev scM0_0 : Memref sig .tc .vmem S1024x9216 .bf16 := Memref.whole cc0_scratch0
abbrev hbM0_0 : Memref sig .tc .hbm S8x1024x1152 .bf16 := Memref.whole main_v6
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 8 → SemLoc sig := fun j => (![SemLoc.dma 13, SemLoc.dma 14, SemLoc.dma 15, SemLoc.dma 16, SemLoc.dma 17, SemLoc.dma 18, SemLoc.dma 19, SemLoc.dma 20] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7] (by decide) (by decide)]; rfl
def H0 : Finset (Ref sig .tc) := {main_v6}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v6)) := by
  rw [BI.bigSep_eq_bigSepL_of_eq [main_v6] (by decide) (by decide)]; rfl

theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := by
  rw [Pipeline.ΦD_eq, scopedRest0_eq, ownSems00_eq, hbmPts0_eq]; simp only [scM0_0, owns_whole]; try rfl

end Cert.InLat.Gen

end
-- ==== Proof.InLatRunA.lean ====
/- The run of the body at the first point, which copies the weights into scratch: every copy lends its own window of the scratch. -/
module

public import proofs.«01_k».proof.Proof.InLatRuns

@[expose] public section

set_option maxRecDepth 16384

noncomputable section

namespace Cert.InLat.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : cond0_0 i)
    (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K := by
    intro W K
    simp only [cc0_in_proj_bwd_x_eq_skeleton]; unfold cc0_in_proj_bwd_x_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InLat.Gen

end
-- ==== Proof.InLatRunB.lean ====
/- The run of the body at every other point. -/
module

public import proofs.«01_k».proof.Proof.InLatRunA

@[expose] public section

set_option maxRecDepth 16384

noncomputable section

namespace Cert.InLat.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i)
    (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K := by
    intro W K
    simp only [cc0_in_proj_bwd_x_eq_skeleton]; unfold cc0_in_proj_bwd_x_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InLat.Gen

end
-- ==== Proof.InLatFrame.lean ====
/- The frame of the program, over the two runs of the body. -/
module

public import proofs.«01_k».proof.Proof.InLatRunB
public import Idealize.ShloMosaic.Lib.Claim

@[expose] public section

set_option maxRecDepth 16384

noncomputable section

namespace Cert.InLat.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

def forgets0 : Fin 8 → Bool := fun w => w.val == 5 || w.val == 6 || w.val == 7

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (V m c main_v6)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, H6, H7, HS0, Hq0, Hq1, Hq2, Hq3, Hq4, Hq5, Hq6, Hq7, Hh0, ⟨%W', HW'⟩⟩
    isplitl [HS0 Hg Hq0 Hq1 Hq2 Hq3 Hq4 Hq5 Hq6 Hq7 Hh0]
    · isplitl [HS0]
      · iexact HS0
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (V m c main_v6)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, H6, H7, HS0, Hq0, Hq1, Hq2, Hq3, Hq4, Hq5, Hq6, Hq7, Hh0, ⟨%W', HW'⟩⟩
    isplitl [HS0 Hg Hq0 Hq1 Hq2 Hq3 Hq4 Hq5 Hq6 Hq7 Hh0]
    · isplitl [HS0]
      · iexact HS0
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InLat.Gen

end
-- ==== Proof.InLatIdealRunA.lean ====
/- The run of the body at the first point, which copies the weights into scratch: every copy lends its own window of the scratch. -/
module

public import proofs.«01_k».proof.Proof.Gen.InLatIdeal.Frame.Runs

@[expose] public section

set_option maxRecDepth 16384

noncomputable section

namespace Cert.InLatIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : cond0_0 i)
    (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0) :
    Σ' (L5 : List (View.Piece (Elt F) S256x1024 .f32)), Σ' (L6 : List (View.Piece (Elt F) S1x1024 .f32)), Σ' (L7 : List (View.Piece (Elt F) S2x2x1x1024 .f32)), { LS0 : List (View.Piece (Elt F) S1024x9216 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K } := by
  refine ⟨?_, ?_, ?_, ?_, fun W K => ?run⟩
  case run =>
    simp only [cc0_in_proj_bwd_x_eq_skeleton]; unfold cc0_in_proj_bwd_x_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InLatIdeal.Gen

end
-- ==== Proof.InLatIdealRunB.lean ====
/- The run of the body at every other point. -/
module

public import proofs.«01_k».proof.Proof.InLatIdealRunA

@[expose] public section

set_option maxRecDepth 16384

noncomputable section

namespace Cert.InLatIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i)
    (x0 : Vec F S256x1024 .f32) (x1 : Vec F S256x1024 .f32) (x2 : Vec F S256x9216 .bf16) (x3 : Vec F S1x6x1x1024 .f32) (x4 : Vec F S1x1024 .f32) (xo6 : Vec F S1x1024 .f32) (xo7 : Vec F S2x2x1x1024 .f32) (xs0 : Vec F S1024x9216 .bf16) (fh0 : HbBuf0 (F := F) c hbM0_0) :
    Σ' (L5 : List (View.Piece (Elt F) S256x1024 .f32)), Σ' (L6 : List (View.Piece (Elt F) S1x1024 .f32)), Σ' (L7 : List (View.Piece (Elt F) S2x2x1x1024 .f32)), { LS0 : List (View.Piece (Elt F) S1024x9216 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xo6 ∗ owns (c : Thread nD τ) arg9 fullShare xo7 ∗ owns (c : Thread nD τ) arg10 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_in_proj_bwd_x i arg1 harg1 arg2 harg2 arg3 harg3 arg4 harg4 arg5 harg5 (Memref.whole main_v6) (Memref.isWhole_whole _) arg7 harg7 arg8 harg8 arg9 harg9 arg10 harg10 cc0_scratch1) K } := by
  refine ⟨?_, ?_, ?_, [], fun W K => ?run⟩
  case run =>
    simp only [cc0_in_proj_bwd_x_eq_skeleton]; unfold cc0_in_proj_bwd_x_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hf7; obtain rfl := harg10.eq_unread hfs0
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InLatIdeal.Gen

end
-- ==== Proof.InLatIdealFrame.lean ====
/- The frame of the program, over the two runs of the body. -/
module

public import proofs.«01_k».proof.Proof.InLatIdealRunB
public import Idealize.ShloMosaic.Lib.Claim

@[expose] public section

set_option maxRecDepth 16384

noncomputable section

namespace Cert.InLatIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : cond0_0 i) (x0 : Vec F S256x1024 .f32) (x1 : Vec F S256x1024 .f32) (x2 : Vec F S256x9216 .bf16) (x3 : Vec F S1x6x1x1024 .f32) (x4 : Vec F S1x1024 .f32) (fh0 : HbBuf0 (F := F) c hbM0_0)

theorem cover0_A_5 (y : S256x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).1, y ∈ pc.1.set :=
  View.cover_of_tiledL (kernelRun0_A c i arg1 harg1 arg2 harg2 arg3 harg3 arg4 harg4 arg5 harg5 arg7 harg7 arg8 harg8 arg9 harg9 arg10 harg10 hc0 x0 x1 x2 x3 x4 fh0).1 S256x1024.size (by sl_kernel_rfl) y

def out0_A_5 : Vec F S256x1024 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 hc0 x0 x1 x2 x3 x4 fh0).1)

theorem cover0_A_6 (y : S1x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.1, y ∈ pc.1.set :=
  View.cover_of_tiledL (kernelRun0_A c i arg1 harg1 arg2 harg2 arg3 harg3 arg4 harg4 arg5 harg5 arg7 harg7 arg8 harg8 arg9 harg9 arg10 harg10 hc0 x0 x1 x2 x3 x4 fh0).2.1 S1x1024.size (by sl_kernel_rfl) y

def out0_A_6 : Vec F S1x1024 .f32 :=
  VO0_6.read (Elt F) (VO0_6.writes (Elt F) VO0_6.junk (kernelRun0_A c i arg1 harg1 arg2 harg2 arg3 harg3 arg4 harg4 arg5 harg5 arg7 harg7 arg8 harg8 arg9 harg9 arg10 harg10 hc0 x0 x1 x2 x3 x4 fh0).2.1)

theorem cover0_A_7 (y : S2x2x1x1024.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.2.1, y ∈ pc.1.set :=
  View.cover_of_tiledBy (kernelRun0_A c i arg1 harg1 arg2 harg2 arg3 harg3 arg4 harg4 arg5 harg5 arg7 harg7 arg8 harg8 arg9 harg9 arg10 harg10 hc0 x0 x1 x2 x3 x4 fh0).2.2.1 ![1, 1, 1, 1024] (by sl_kernel_rfl) y

def out0_A_7 : Vec F S2x2x1x1024 .f32 :=
  VO0_7.read (Elt F) (VO0_7.writes (Elt F) VO0_7.junk (kernelRun0_A c i arg1 harg1 arg2 harg2 arg3 harg3 arg4 harg4 arg5 harg5 arg7 harg7 arg8 harg8 arg9 harg9 arg10 harg10 hc0 x0 x1 x2 x3 x4 fh0).2.2.1)

theorem scover0_A_0 (y : S1024x9216.Idx) :
    ∃ pc ∈ (kernelRun0_A c i arg1 harg1 arg2 harg2 arg3 harg3 arg4 harg4 arg5 harg5 arg7 harg7 arg8 harg8 arg9 harg9 arg10 harg10 hc0 x0 x1 x2 x3 x4 fh0).2.2.2.1, y ∈ pc.1.set :=
  View.cover_of_tiledL (kernelRun0_A c i arg1 harg1 arg2 harg2 arg3 harg3 arg4 harg4 arg5 harg5 arg7 harg7 arg8 harg8 arg9 harg9 arg10 harg10 hc0 x0 x1 x2 x3 x4 fh0).2.2.2.1 S1024x1152.size (by sl_kernel_rfl) y

def sout0_A_0 : Vec F S1024x9216 .bf16 :=
  VS0_0.read (Elt F) (VS0_0.writes (Elt F) VS0_0.junk (kernelRun0_A c i arg1 harg1 arg2 harg2 arg3 harg3 arg4 harg4 arg5 harg5 arg7 harg7 arg8 harg8 arg9 harg9 arg10 harg10 hc0 x0 x1 x2 x3 x4 fh0).2.2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i) (x0 : Vec F S256x1024 .f32) (x1 : Vec F S256x1024 .f32) (x2 : Vec F S256x9216 .bf16) (x3 : Vec F S1x6x1x1024 .f32) (x4 : Vec F S1x1024 .f32) (xo6 : Vec F S1x1024 .f32) (xo7 : Vec F S2x2x1x1024 .f32) (xs0 : Vec F S1024x9216 .bf16) (fh0 : HbBuf0 (F := F) c hbM0_0)

theorem cover0_B_5 (y : S256x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).1, y ∈ pc.1.set :=
  View.cover_of_tiledL (kernelRun0_B c i arg1 harg1 arg2 harg2 arg3 harg3 arg4 harg4 arg5 harg5 arg7 harg7 arg8 harg8 arg9 harg9 arg10 harg10 hc0 x0 x1 x2 x3 x4 xo6 xo7 xs0 fh0).1 S256x1024.size (by sl_kernel_rfl) y

def out0_B_5 : Vec F S256x1024 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 hc0 x0 x1 x2 x3 x4 xo6 xo7 xs0 fh0).1)

theorem cover0_B_6 (y : S1x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).2.1, y ∈ pc.1.set :=
  View.cover_of_tiledL (kernelRun0_B c i arg1 harg1 arg2 harg2 arg3 harg3 arg4 harg4 arg5 harg5 arg7 harg7 arg8 harg8 arg9 harg9 arg10 harg10 hc0 x0 x1 x2 x3 x4 xo6 xo7 xs0 fh0).2.1 S1x1024.size (by sl_kernel_rfl) y

def out0_B_6 : Vec F S1x1024 .f32 :=
  VO0_6.read (Elt F) (VO0_6.writes (Elt F) VO0_6.junk (kernelRun0_B c i arg1 harg1 arg2 harg2 arg3 harg3 arg4 harg4 arg5 harg5 arg7 harg7 arg8 harg8 arg9 harg9 arg10 harg10 hc0 x0 x1 x2 x3 x4 xo6 xo7 xs0 fh0).2.1)

theorem cover0_B_7 (y : S2x2x1x1024.Idx) :
    ∃ pc ∈ (kernelRun0_B c i arg1 harg1 arg2 harg2 arg3 harg3 arg4 harg4 arg5 harg5 arg7 harg7 arg8 harg8 arg9 harg9 arg10 harg10 hc0 x0 x1 x2 x3 x4 xo6 xo7 xs0 fh0).2.2.1, y ∈ pc.1.set :=
  View.cover_of_tiledL (kernelRun0_B c i arg1 harg1 arg2 harg2 arg3 harg3 arg4 harg4 arg5 harg5 arg7 harg7 arg8 harg8 arg9 harg9 arg10 harg10 hc0 x0 x1 x2 x3 x4 xo6 xo7 xs0 fh0).2.2.1 S1x1x1x1024.size (by sl_kernel_rfl) y

def out0_B_7 : Vec F S2x2x1x1024 .f32 :=
  VO0_7.read (Elt F) (VO0_7.writes (Elt F) VO0_7.junk (kernelRun0_B c i arg1 harg1 arg2 harg2 arg3 harg3 arg4 harg4 arg5 harg5 arg7 harg7 arg8 harg8 arg9 harg9 arg10 harg10 hc0 x0 x1 x2 x3 x4 xo6 xo7 xs0 fh0).2.2.1)

end

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x9216 .bf16) (harg3 : arg3.IsWhole) (arg4 : Memref sig .tc .vmem S1x6x1x1024 .f32) (harg4 : arg4.IsWhole) (arg5 : Memref sig .tc .vmem S1x1024 .f32) (harg5 : arg5.IsWhole) (arg7 : Memref sig .tc .vmem S256x1024 .f32) (harg7 : arg7.IsWhole) (arg8 : Memref sig .tc .vmem S1x1024 .f32) (harg8 : arg8.IsWhole) (arg9 : Memref sig .tc .vmem S2x2x1x1024 .f32) (harg9 : arg9.IsWhole) (arg10 : Memref sig .tc .vmem S1024x9216 .bf16) (harg10 : arg10.IsWhole) (hc0 : ¬cond0_0 i)
    (x0 : Vec F S256x1024 .f32) (x1 : Vec F S256x1024 .f32) (x2 : Vec F S256x9216 .bf16) (x3 : Vec F S1x6x1x1024 .f32) (x4 : Vec F S1x1024 .f32) (xo6 : Vec F S1x1024 .f32) (xo7 : Vec F S2x2x1x1024 .f32) (xs0 : Vec F S1024x9216 .bf16) (fh0 : HbBuf0 (F := F) c hbM0_0) : Vec F S1024x9216 .bf16 := xs0

/-! ## What the outputs hold after each point -/

def outsAt0 (c : Dev nD) : (n : ℕ) → n < cfg0.N → Vec F S256x1024 .f32 × Vec F S1x1024 .f32 × Vec F S2x2x1x1024 .f32 × Vec F S1024x9216 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v6))
  | n + 1, hn =>
    if h0 : (n + 1) % 17 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v6))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2 (V m c main_v6))

theorem outsAt0_A (c : Dev nD) (t : Fin cfg0.N) (h0 : t.val % 17 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  obtain ⟨n, hn⟩ := t
  cases n with
  | zero => exact rfl
  | succ n => exact (dif_pos h0).trans rfl

theorem outsAt0_B (c : Dev nD) (t : Fin cfg0.N) (h0 : ¬t.val % 17 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v6))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_6_B (c : Dev nD) (t : Fin cfg0.N) (h0 : ¬t.val % 17 = 0) (d) :
    (dats m 0 c).before 6 t d = (outsAt0 m c (t.val - 1) (Nat.lt_of_le_of_lt (Nat.sub_le _ _) t.isLt)).2.1 := by
  have hN : t.val < 17 := lt_of_lt_of_eq t.isLt (show cfg0.N = 17 from N_0)
  rw [Dat.before_out_kept _ 6 rfl t (by omega) (Bool.eq_false_iff.mpr fun h => by have := (flush0_6 _).mp h; dsimp only at this; omega)
    (fun _ => rfl) (fun _ _ => rfl)]
  dsimp only [dats]
theorem before0_7_B (c : Dev nD) (t : Fin cfg0.N) (h0 : ¬t.val % 17 = 0) (d) :
    (dats m 0 c).before 7 t d = (outsAt0 m c (t.val - 1) (Nat.lt_of_le_of_lt (Nat.sub_le _ _) t.isLt)).2.2.1 := by
  have hN : t.val < 17 := lt_of_lt_of_eq t.isLt (show cfg0.N = 17 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · by_cases hz : t.val = 0
    · rw [PhiS_castSucc m c t, PhiS_zero m c _ _ hz, PhiD0_eq]
      rw [outsAt0_A m c t h0]
      unfold out0_A_5 out0_A_6 out0_A_7 sout0_A_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (V m c main_v6)).2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, H4, ⟨%e5, H5⟩, ⟨%e6, H6⟩, ⟨%e7, H7⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 17 := lt_of_lt_of_eq t.isLt (show cfg0.N = 17 from N_0); omega
  · by_cases hz : t.val = 0
    · exfalso; have hN : t.val < 17 := lt_of_lt_of_eq t.isLt (show cfg0.N = 17 from N_0); omega
    · rw [PhiS_castSucc m c t, PhiS_pos m c _ _ hz]
      rw [outsAt0_B m c t h0]
      simp only [before0_6_B m c t h0, before0_7_B m c t h0]
      unfold out0_B_5 out0_B_6 out0_B_7 sout0_B_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ _ (V m c main_v6)).2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, H2, H3, H4, ⟨%e5, H5⟩, ⟨%e6, H6⟩, ⟨%e7, H7⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 17 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InLatIdeal.Gen

end
-- ==== Proof.InLatIdealValue.lean ====
/- What the program leaves in its results. -/
module

public import proofs.«01_k».proof.Proof.InLatIdealFrame
public import Idealize.ShloMosaic.Lib.Pipeline.Value

@[expose] public section

noncomputable section

namespace Cert.InLatIdeal.Value

open Cert.InLatIdeal Cert.InLatIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

theorem flushed5_A (c : Dev nD) (t : Fin cfg0.N) (h0 : t.val % 17 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  simp only [flushed5, outsAt0_A m c t h0]

theorem flushed5_B (c : Dev nD) (t : Fin cfg0.N) (h0 : ¬t.val % 17 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  simp only [flushed5, outsAt0_B m c t h0]

theorem entry5 (c : Dev nD) (i : S4096x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

theorem flushed6_A (c : Dev nD) (t : Fin cfg0.N) (h0 : t.val % 17 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  simp only [flushed6, outsAt0_A m c t h0]

theorem flushed6_B (c : Dev nD) (t : Fin cfg0.N) (h0 : ¬t.val % 17 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  simp only [flushed6, outsAt0_B m c t h0]

theorem entry6 (c : Dev nD) (i : S1x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

theorem flushed7_A (c : Dev nD) (t : Fin cfg0.N) (h0 : t.val % 17 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (V m c main_v6)) := by
  simp only [flushed7, outsAt0_A m c t h0]

theorem flushed7_B (c : Dev nD) (t : Fin cfg0.N) (h0 : ¬t.val % 17 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v6)) := by
  simp only [flushed7, outsAt0_B m c t h0]

theorem entry7 (c : Dev nD) (i : S2x2x1x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem post5 (r : PUnit × MemSt nD τ sig (Elt F)) (h : Pipeline.FramePost cfgs (dats m) 0 (V m) r) (c : Dev nD) :
    r.2.mem ((c : Thread nD τ).loc main_v8_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v8_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v8_2) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem run_blocks : θ_run defs (onTc (τ := τ) (main (F := F))) ⟨m, fun _ => 0, ρ⟩ fun r => ∀ c : Dev nD,
      r.2.mem ((c : Thread nD τ).loc main_v8_0) = (dats m 0 c).arrAt 5 cfg0.N
      ∧ r.2.mem ((c : Thread nD τ).loc main_v8_1) = (dats m 0 c).arrAt 6 cfg0.N
      ∧ r.2.mem ((c : Thread nD τ).loc main_v8_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

def scAt0_0 (c : Dev nD) (n : ℕ) (hb : n < cfg0.N) (acc : Vec F S1024x9216 .bf16) : Vec F S1024x9216 .bf16 :=
  if h0 : n % 17 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v6)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (V m c main_v6)

theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (17 * (t.val / 17)) (t.val % 17)
      (by have h1 := t.isLt; have h2 := Nat.div_add_mod t.val 17; omega) :=
  Pipeline.eq_accAt_of_mod (fun n h => (outsAt0 m c n h).2.2.2) 17 (fun n h => scAt0_0 m c n h (VS0_0.read (Elt F) VS0_0.junk)) (scAt0_0 m c)
    (fun n h hn => by
      have hN := lt_of_lt_of_eq h (show cfg0.N = 17 from N_0)
      by_cases h0 : n % 17 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 17 from N_0)
      by_cases h0 : (n + 1) % 17 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 17 from N_0)
  have hd : n / 17 = 0 := Nat.div_eq_of_lt hN
  have hm : n % 17 = n := Nat.mod_eq_of_lt hN
  simpa only [hd, hm, Nat.mul_zero] using e

end Cert.InLatIdeal.Value

end
-- ==== Proof.WeightGrads.lean ====
module

public import proofs.«01_k».proof.Proof.Gen.WInIdeal.Value
public import proofs.«01_k».proof.Proof.Gen.WInRefIdeal.Run
public import proofs.«01_k».proof.Proof.Gen.WInRefIdeal.Read
public import proofs.«01_k».proof.Proof.Gen.WUpIdeal.Value
public import proofs.«01_k».proof.Proof.Gen.WUpRefIdeal.Run
public import proofs.«01_k».proof.Proof.Gen.WUpRefIdeal.Read
public import proofs.«01_k».proof.Proof.Gen.WDownIdeal.Value
public import proofs.«01_k».proof.Proof.Gen.WDownRefIdeal.Run
public import proofs.«01_k».proof.Proof.Gen.WDownRefIdeal.Read
public import proofs.«01_k».proof.Proof.Gen.WMixIdeal.Value
public import proofs.«01_k».proof.Proof.Gen.WMixRefIdeal.Run
public import proofs.«01_k».proof.Proof.Gen.WMixRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WInIdeal.Hand
open Cert.WInIdeal Cert.WInIdeal.Gen

variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

theorem final (c : Dev nD) : (dats m 0 c).arrAt 2 (cfgs 0).N
    = Cert.WInRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  rw [← Cert.WInRefIdeal.Read.val_main_v6_eq]
  pointwise [k0_pay1]
  refine (Finset.sum_congr rfl fun k _ => mul_comm (G := EReal) _ _).trans ?_
  blk_point [iblk, V, idx t]

end Cert.WInIdeal.Hand

namespace Cert.WUpIdeal.Hand
open Cert.WUpIdeal Cert.WUpIdeal.Gen

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0] :=
  (by decide +kernel : ∀ t : Fin grid0.N, _)

theorem final (c : Dev nD) : (dats m 0 c).arrAt 2 (cfgs 0).N
    = Cert.WUpRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  rw [← Cert.WUpRefIdeal.Read.val_main_v6_eq]
  pointwise [k0_pay1]
  refine (Finset.sum_congr rfl fun k _ => mul_comm (G := EReal) _ _).trans ?_
  blk_point [iblk, V, idx t]

end Cert.WUpIdeal.Hand

namespace Cert.WDownIdeal.Hand
open Cert.WDownIdeal Cert.WDownIdeal.Gen

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

theorem final (c : Dev nD) : (dats m 0 c).arrAt 2 (cfgs 0).N
    = Cert.WDownRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  rw [← Cert.WDownRefIdeal.Read.val_main_v5_eq]
  pointwise [k0_pay1]
  refine (Finset.sum_congr rfl fun k _ => mul_comm (G := EReal) _ _).trans ?_
  blk_point [iblk, V, idx t]

end Cert.WDownIdeal.Hand

namespace Cert.WMixIdeal.Hand
open Cert.WMixIdeal Cert.WMixIdeal.Gen

variable (m : (ℓ : Loc nD τ sig) → Buf (Elt Ideal) ℓ)

theorem idx : ∀ t : Fin cfg0.N, win0_0.index t = ![0, 0] ∧ win0_1.index t = ![0, 0] ∧ win0_2.index t = ![0, 0, 0] :=
  (by decide +kernel : ∀ t : Fin grid0.N, _)

theorem final (c : Dev nD) : (dats m 0 c).arrAt 2 (cfgs 0).N
    = Cert.WMixRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  rw [← Cert.WMixRefIdeal.Read.val_main_v5_eq]
  pointwise [k0_pay1]
  refine (Finset.sum_congr rfl fun k _ => mul_comm (G := EReal) _ _).trans ?_
  blk_point [iblk, V, idx t]

end Cert.WMixIdeal.Hand

end
-- ==== Proof.FfUp.lean ====
module

public import proofs.«01_k».proof.Proof.Gen.FfUpIdeal.Value
public import proofs.«01_k».proof.Proof.Gen.FfUpRefIdeal.Run
public import proofs.«01_k».proof.Proof.Gen.FfUpRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfUpIdeal.Hand
open Cert.FfUpIdeal Cert.FfUpIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, t.val, 0]
    ∧ win0_3.index t = ![min t.val 1, 0, 0, 0] ∧ win0_4.index t = ![0, 0] ∧ win0_5.index t = ![0, 0, 0] ∧ win0_6.index t = ![t.val, 0]
    ∧ win0_7.index t = ![0, 0] ∧ win0_8.index t = ![0, 0, 0, 0] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-- Tile `t` of the gradient of the modulated input, as the reference computes it. -/
def dh (c : Dev nD) (t : Fin cfg0.N) : FVec Ideal S256x1024 .f32 := fun y =>
  Cert.FfUpRefIdeal.Read.val_main_v41 (F := Ideal) (a2 m c) (a6 m c) (ix2 (row t (y 0)) (y 1))

/-- The row of the modulation that tile `t` reads its scale from. -/
def scl (c : Dev nD) (t : Fin cfg0.N) : FVec Ideal S1x1x1x1024 .f32 := View.ld (Val := Elt Ideal) (e' := .f32) (iblk m c 3 t) (Rect.unit ![0, 4, 0, 0] ![1, 1, 1, 1024] inb_S1x6x1x1024_S1x1x1x1024_0_4_0_0)

theorem dav_at (c : Dev nD) (t : Fin cfg0.N) (s : Fin 8) (r : Fin 256) (k : Fin 704) :
    iblk m c 2 t (ix3 s r k) = a2 m c (ix2 (row t r) ⟨s.val * 704 + k.val, by omega⟩) := by
  blk_point [iblk, V, idx t]

theorem w_at (c : Dev nD) (t : Fin cfg0.N) (s : Fin 8) (d : Fin 1024) (k : Fin 704) :
    iblk m c 5 t (ix3 s d k) = a6 m c (ix2 d ⟨s.val * 704 + k.val, by omega⟩) := by
  blk_point [iblk, V, idx t]

theorem dx_at (c : Dev nD) (t : Fin cfg0.N) (r : Fin 256) (d : Fin 1024) : a0 m c (ix2 (row t r) d) = iblk m c 0 t (ix2 r d) := by
  blk_point [iblk, V, idx t]

theorem x_at (c : Dev nD) (t : Fin cfg0.N) (r : Fin 256) (d : Fin 1024) : a1 m c (ix2 (row t r) d) = iblk m c 1 t (ix2 r d) := by
  blk_point [iblk, V, idx t]

theorem nw_at (c : Dev nD) (t : Fin cfg0.N) (d : Fin 1024) : a5 m c (ix1 d) = iblk m c 4 t (ix2 0 d) := by
  symm
  blk_simp [iblk]
  entry_read
  pointwise
  blk_ext [idx t]

theorem dh_eq (c : Dev nD) (t : Fin cfg0.N) :
    k0_pay6 (F := Ideal) (k0_pay5 (View.ld (Val := Elt Ideal) (e' := .bf16) (iblk m c 2 t) (Rect.unit ![0, 0, 0] ![1, 256, 704] inb_S8x256x704_S1x256x704_0_0_0)) (View.ld (Val := Elt Ideal) (e' := .bf16) (iblk m c 5 t) (Rect.unit ![0, 0, 0] ![1, 1024, 704] inb_S8x1024x704_S1x1024x704_0_0_0)) (View.ld (Val := Elt Ideal) (e' := .bf16) (iblk m c 2 t) (Rect.unit ![1, 0, 0] ![1, 256, 704] inb_S8x256x704_S1x256x704_1_0_0)) (View.ld (Val := Elt Ideal) (e' := .bf16) (iblk m c 5 t) (Rect.unit ![1, 0, 0] ![1, 1024, 704] inb_S8x1024x704_S1x1024x704_1_0_0)) (View.ld (Val := Elt Ideal) (e' := .bf16) (iblk m c 2 t) (Rect.unit ![2, 0, 0] ![1, 256, 704] inb_S8x256x704_S1x256x704_2_0_0)) (View.ld (Val := Elt Ideal) (e' := .bf16) (iblk m c 5 t) (Rect.unit ![2, 0, 0] ![1, 1024, 704] inb_S8x1024x704_S1x1024x704_2_0_0)) (View.ld (Val := Elt Ideal) (e' := .bf16) (iblk m c 2 t) (Rect.unit ![3, 0, 0] ![1, 256, 704] inb_S8x256x704_S1x256x704_3_0_0)) (View.ld (Val := Elt Ideal) (e' := .bf16) (iblk m c 5 t) (Rect.unit ![3, 0, 0] ![1, 1024, 704] inb_S8x1024x704_S1x1024x704_3_0_0)))
      (View.ld (Val := Elt Ideal) (e' := .bf16) (iblk m c 2 t) (Rect.unit ![4, 0, 0] ![1, 256, 704] inb_S8x256x704_S1x256x704_4_0_0)) (View.ld (Val := Elt Ideal) (e' := .bf16) (iblk m c 5 t) (Rect.unit ![4, 0, 0] ![1, 1024, 704] inb_S8x1024x704_S1x1024x704_4_0_0)) (View.ld (Val := Elt Ideal) (e' := .bf16) (iblk m c 2 t) (Rect.unit ![5, 0, 0] ![1, 256, 704] inb_S8x256x704_S1x256x704_5_0_0)) (View.ld (Val := Elt Ideal) (e' := .bf16) (iblk m c 5 t) (Rect.unit ![5, 0, 0] ![1, 1024, 704] inb_S8x1024x704_S1x1024x704_5_0_0)) (View.ld (Val := Elt Ideal) (e' := .bf16) (iblk m c 2 t) (Rect.unit ![6, 0, 0] ![1, 256, 704] inb_S8x256x704_S1x256x704_6_0_0)) (View.ld (Val := Elt Ideal) (e' := .bf16) (iblk m c 5 t) (Rect.unit ![6, 0, 0] ![1, 1024, 704] inb_S8x1024x704_S1x1024x704_6_0_0)) (View.ld (Val := Elt Ideal) (e' := .bf16) (iblk m c 2 t) (Rect.unit ![7, 0, 0] ![1, 256, 704] inb_S8x256x704_S1x256x704_7_0_0)) (View.ld (Val := Elt Ideal) (e' := .bf16) (iblk m c 5 t) (Rect.unit ![7, 0, 0] ![1, 1024, 704] inb_S8x1024x704_S1x1024x704_7_0_0))
      = dh m c t := by
  funext y
  idx_vars y
  pointwise [k0_pay6, k0_pay5, dh, Cert.FfUpRefIdeal.Read.val_main_v41, Cert.FfUpRefIdeal.Read.val_main_v40, Cert.FfUpRefIdeal.Read.val_main_v38]
  rw [Fin.sum_univ_tiles 8 704 rfl]
  refine Eq.trans ?_ (Fin.sum_fin_congr fun s => Fin.sum_fin_congr fun k => congrArg₂ (fun p q : EReal => p * q) (dav_at m c t s y0 k) (w_at m c t s y1 k))
  rw [Fin.sum_univ_eight]

theorem ref_scale (c : Dev nD) (t : Fin cfg0.N) (r : Fin 256) (d : Fin 1024) :
    Cert.FfUpRefIdeal.Read.val_main_v30 (F := Ideal) (a3 m c) (a4 m c) (ix2 (row t r) d)
      = if t.val = 0 then a3 m c (ix1 ⟨4096 + d.val, by omega⟩) else a4 m c (ix1 ⟨4096 + d.val, by omega⟩) := by
  pointwise [Cert.FfUpRefIdeal.Read.val_main_v30, Cert.FfUpRefIdeal.Read.val_main_v28, Cert.FfUpRefIdeal.Read.val_main_v29, Cert.FfUpRefIdeal.Read.val_main_v4, Cert.FfUpRefIdeal.Read.val_main_v10, Cert.FfUpRefIdeal.Value.fn_main_v30]
  by_cases h : t.val = 0
  · have h' : t.val * 256 + r.val < 256 := by omega
    simp only [dif_pos h', if_pos h]
  · have h' : ¬t.val * 256 + r.val < 256 := by omega
    simp only [dif_neg h', if_neg h]

theorem ker_scale (c : Dev nD) (t : Fin cfg0.N) (d : Fin 1024) :
    iblk m c 3 t (ix4 0 4 0 d)
      = if t.val = 0 then a3 m c (ix1 ⟨4096 + d.val, by omega⟩) else a4 m c (ix1 ⟨4096 + d.val, by omega⟩) := by
  blk_simp [iblk]
  entry_read
  pointwise
  split
  · rename_i h
    blk_simp [idx t] at h
    have h' : t.val = 0 := by omega
    simp only [if_pos h']
    blk_ext [idx t]
  · rename_i h
    blk_simp [idx t] at h
    have h' : ¬t.val = 0 := by omega
    simp only [if_neg h']
    blk_ext [idx t]

theorem scale_eq (c : Dev nD) (t : Fin cfg0.N) (r : Fin 256) (d : Fin 1024) :
    Cert.FfUpRefIdeal.Read.val_main_v30 (F := Ideal) (a3 m c) (a4 m c) (ix2 (row t r) d) = iblk m c 3 t (ix4 0 4 0 d) := by
  rw [ref_scale, ker_scale]

end Cert.FfUpIdeal.Hand

end
-- ==== Proof.FfUpX.lean ====
module

public import proofs.«01_k».proof.Proof.FfUp
public import proofs.«01_k».proof.Proof.Gen.FfUpIdeal.Value
public import proofs.«01_k».proof.Proof.Gen.FfUpRefIdeal.Run
public import proofs.«01_k».proof.Proof.Gen.FfUpRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfUpIdeal.Hand
open Cert.FfUpIdeal Cert.FfUpIdeal.Gen Cert.FfUpRefIdeal.Read

variable (m : (ℓ : Loc nD τ sig) → Buf (Elt Ideal) ℓ)

/-- What tile `t` leaves in the first result's block. -/
theorem left6 (c : Dev nD) (t : Fin cfg0.N) : (outsAt0 m c t.val t.isLt).1 = k0_pay19 (F := Ideal) (iblk m c 0 t) (iblk m c 1 t)
      (k0_pay16 (dh m c t) (iblk m c 1 t) (iblk m c 4 t) (scl m c t)) (k0_pay17 (dh m c t) (iblk m c 1 t) (iblk m c 4 t) (scl m c t))
      (k0_pay18 (dh m c t) (iblk m c 1 t) (iblk m c 4 t) (scl m c t)) := by
  by_cases h : t.val % 17 = 0
  · rw [outsAt0_A m c t h]; frame_out
    rw [← dh_eq m c t]
    rfl
  · rw [outsAt0_B m c t h]; frame_out
    rw [← dh_eq m c t]
    rfl

theorem point6 (c : Dev nD) (t : Fin cfg0.N) (r : Fin 256) (d : Fin 1024) :
    k0_pay19 (F := Ideal) (iblk m c 0 t) (iblk m c 1 t)
      (k0_pay16 (dh m c t) (iblk m c 1 t) (iblk m c 4 t) (scl m c t)) (k0_pay17 (dh m c t) (iblk m c 1 t) (iblk m c 4 t) (scl m c t))
      (k0_pay18 (dh m c t) (iblk m c 1 t) (iblk m c 4 t) (scl m c t)) (ix2 r d)
    = val_main_v81 (F := Ideal) (a0 m c) (a1 m c) (a2 m c) (a3 m c) (a4 m c) (a5 m c) (a6 m c) (ix2 (row t r) d) := by
  pointwise [k0_pay7, k0_pay8, k0_pay9, k0_pay10, k0_pay13, k0_pay15, k0_pay16, k0_pay17, k0_pay18, k0_pay19, val_main_v12, val_main_v13, val_main_v14, val_main_v15, val_main_v16, val_main_v17, val_main_v18, val_main_v19, val_main_v20, val_main_v21, val_main_v22, val_main_v23, val_main_v24, val_main_v25, val_main_v26, val_main_v27, val_main_v31, val_main_v32, val_main_v47, val_main_v55, val_main_v56, val_main_v58, val_main_v59, val_main_v60, val_main_v61, val_main_v62, val_main_v63, val_main_v64, val_main_v65, val_main_v66, val_main_v67, val_main_v68, val_main_v69, val_main_v70, val_main_v71, val_main_v81, val_main_cst, val_main_cst_0, val_main_cst_1, val_main_cst_2, val_main_cst_3, val_main_cst_10, val_main_cst_11, val_main_cst_12, dh, scl]
  simp only [scale_eq]
  rw [dx_at m c t r d]
  have hx := x_at m c t r
  have hn := nw_at m c t
  simp only [hx, hn]

theorem final6 (c : Dev nD) : (dats m 0 c).arrAt 6 (cfgs 0).N
    = val_main_v81 (F := Ideal) (a0 m c) (a1 m c) (a2 m c) (a3 m c) (a4 m c) (a5 m c) (a6 m c) := by
  refine (dats m 0 c).arrAt_eq_of_covers 6 _ (by decide +kernel) fun t _ y => ?_
  blk_simp
  rw [after0_6, left6]
  idx_vars y
  rw [point6]
  blk_ext [idx t]

end Cert.FfUpIdeal.Hand

end
-- ==== Proof.FfUpZ.lean ====
module

public import proofs.«01_k».proof.Proof.FfUp
public import proofs.«01_k».proof.Proof.Gen.FfUpIdeal.Value
public import proofs.«01_k».proof.Proof.Gen.FfUpRefIdeal.Run
public import proofs.«01_k».proof.Proof.Gen.FfUpRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfUpIdeal.Hand
open Cert.FfUpIdeal Cert.FfUpIdeal.Gen Cert.FfUpRefIdeal.Read

variable (m : (ℓ : Loc nD τ sig) → Buf (Elt Ideal) ℓ)

/-- One tile's part of the second result. -/
def part7 (c : Dev nD) (t : Fin cfg0.N) : FVec Ideal S1x1024 .f32 := k0_pay14 (dh m c t) (iblk m c 1 t) (scl m c t)

theorem point7 (c : Dev nD) (t : Fin cfg0.N) (d : Fin 1024) :
    part7 m c t (ix2 0 d) = ∑ r : Fin 256, val_main_v52 (F := Ideal) (a1 m c) (a2 m c) (a3 m c) (a4 m c) (a6 m c) (ix2 (row t r) d) := by
  pointwise [part7, k0_pay14, k0_pay13, k0_pay10, k0_pay9, k0_pay8, dh, scl, val_main_v12, val_main_v13, val_main_v14, val_main_v15, val_main_v16, val_main_v17, val_main_v18, val_main_v19, val_main_v23, val_main_v24, val_main_v31, val_main_v32, val_main_v47, val_main_v52, val_main_cst, val_main_cst_0, val_main_cst_1, val_main_cst_3]
  refine Fin.sum_fin_congr fun r => ?_
  have hs := scale_eq m c t r
  have hx := x_at m c t r
  simp only [hs, hx]

theorem step7_A (c : Dev nD) (t : Fin cfg0.N) (h : t.val % 17 = 0) (j : S1x1024.Idx) :
    (outsAt0 m c t.val t.isLt).2.1 j = 0 + part7 m c t j := by
  rw [outsAt0_A m c t h]; frame_out
  unfold part7
  rw [← dh_eq m c t]
  idx_vars j
  pointwise [k0_pay20, k0_pay3]
  rfl

theorem step7_B (c : Dev nD) (t : Fin cfg0.N) (h : ¬t.val % 17 = 0) (j : S1x1024.Idx) :
    (outsAt0 m c t.val t.isLt).2.1 j = (outsAt0 m c (t.val - 1) (Nat.lt_of_le_of_lt (Nat.sub_le _ _) t.isLt)).2.1 j + part7 m c t j := by
  rw [outsAt0_B m c t h]; frame_out
  unfold part7
  rw [← dh_eq m c t]
  idx_vars j
  pointwise [k0_pay20]
  rfl

theorem final7 (c : Dev nD) : (dats m 0 c).arrAt 7 (cfgs 0).N
    = val_main_v82 (F := Ideal) (a1 m c) (a2 m c) (a3 m c) (a4 m c) (a6 m c) := by
  refine (dats m 0 c).arrAt_eq_of_covers 7 _ (by decide +kernel) fun t hf y => ?_
  blk_simp
  rw [after0_7, Pipeline.eq_sum_fin_of_reset_step_apply_of_flush (fun n h => (outsAt0 m c n h).2.1) 17 (fun _ => 0) (part7 m c)
    (step7_A m c) (step7_B m c) t ((flush0_7 t).mp hf) _, zero_add]
  idx_vars y
  have e : ((cfg0.win 7).blk t).view.emb (ix2 y0 y1) = ix2 0 y1 := by blk_ext [idx t]
  rw [e]
  obtain rfl : y0 = 0 := Subsingleton.elim _ _
  simp only [point7]
  pointwise [val_main_v82, val_main_v57, val_main_v54, val_main_v53, val_main_cst_8, val_main_cst_9]
  rw [Fin.sum_univ_one]
  refine Fin.sum_mul_add_congr fun s r hl => ?_
  have ht : t.val < 17 := lt_of_lt_of_eq t.isLt N_0
  congr 2
  exact Fin.ext (by show (17 * (t.val / 17) + s.val) * 256 + r.val = s.val * 256 + r.val; omega)

end Cert.FfUpIdeal.Hand

end
-- ==== Proof.Tiles.lean ====
module

public import Idealize.ShloMosaic.Lib.Pipeline.ValueKit

@[expose] public section

open Idealize.ShloMosaic

namespace Cert.Tiles

variable {S : Shape} {Val : EltTy → Type} {e : EltTy} [∀ e, Nonempty (Val e)]

/-- The last store of a list of stores, read at an index under it. -/
theorem canon_hit (off size : Fin S.rank → Nat) (inb : ∀ a, off a + size a ≤ S.size a) (w : (Rect.unit off size inb).shape.Idx → Val e)
    (L : List (View.Piece Val S e)) (y : S.Idx) (x : (Rect.unit off size inb).shape.Idx) (h : ∀ a, (y a : Nat) = off a + x a) :
    View.canon ((⟨Rect.unit off size inb, w⟩ : View.Piece Val S e) :: L) y = w x := by
  have hy : y = (Rect.unit off size inb).emb x := funext fun a => Fin.ext ((h a).trans (Rect.idx_unit_val off size inb x a).symm)
  rw [hy, View.canon_cons_emb]

/-- The last store of a list of stores, read at an index that one axis puts outside it. -/
theorem canon_miss (off size : Fin S.rank → Nat) (inb : ∀ a, off a + size a ≤ S.size a) (w : (Rect.unit off size inb).shape.Idx → Val e)
    (L : List (View.Piece Val S e)) (y : S.Idx) (a : Fin S.rank) (h : (y a : Nat) < off a ∨ off a + size a ≤ y a) :
    View.canon ((⟨Rect.unit off size inb, w⟩ : View.Piece Val S e) :: L) y = View.canon L y := by
  refine View.canon_cons_of_not_mem _ _ fun hm => ?_
  obtain ⟨x, rfl⟩ := (Rect.unit off size inb).exists_idx_of_mem hm
  have e1 := Rect.idx_unit_val off size inb x a
  have e2 : (x a : Nat) < size a := (x a).isLt
  omega

/-- A load beside the last store of a list reads what the earlier stores left. -/
theorem readCov_miss {sig : RefSig} {κ : Kind} {sp : Space} (v : View sig κ sp S e) (off size off' size' : Fin S.rank → Nat)
    (inb : ∀ a, off a + size a ≤ S.size a) (inb' : ∀ a, off' a + size' a ≤ S.size a) (w : (Rect.unit off size inb).shape.Idx → Val e)
    (L : List (View.Piece Val S e)) (h : ∃ a, off a + size a ≤ off' a ∨ off' a + size' a ≤ off a) :
    v.readCov ((⟨Rect.unit off size inb, w⟩ : View.Piece Val S e) :: L) (Rect.unit off' size' inb').toLoadRect
      = v.readCov L (Rect.unit off' size' inb').toLoadRect := by
  rw [View.readCov_eq_canon', View.readCov_eq_canon']
  funext j
  obtain ⟨a, ha⟩ := h
  refine canon_miss off size inb w L _ a ?_
  have e1 : (((Rect.unit off' size' inb').toLoadRect.idx j) a : Nat) = off' a + (j a : Nat) := Rect.idx_unit_val off' size' inb' j a
  have e2 : (j a : Nat) < size' a := (j a).isLt
  omega

/-- A sum over 17 tiles of 256 rows that takes the first tile only is the sum over the first 256 rows. -/
theorem sum_first (F : Fin 4352 → EReal) :
    ∑ s : Fin 17, (if s.val = 0 then ∑ r : Fin 256, F ⟨s.val * 256 + r.val, by omega⟩ else 0) = ∑ x : Fin 256, F ⟨x.val, by omega⟩ := by
  have h : ∀ s : Fin 16, ¬s.succ.val = 0 := fun s => Nat.succ_ne_zero _
  rw [Fin.sum_univ_succ]
  simp only [h, Fin.val_zero, if_true, if_false, Finset.sum_const_zero, add_zero]
  exact Fin.sum_fin_congr fun r => congrArg F (Fin.ext (by show 0 * 256 + r.val = r.val; omega))

/-- A sum over 17 tiles of 256 rows that leaves the first tile out is the sum over the rows from 256 on. -/
theorem sum_rest (F : Fin 4352 → EReal) :
    ∑ s : Fin 17, (if s.val = 0 then 0 else ∑ r : Fin 256, F ⟨s.val * 256 + r.val, by omega⟩) = ∑ x : Fin 4096, F ⟨256 + x.val, by omega⟩ := by
  have h : ∀ s : Fin 16, ¬s.succ.val = 0 := fun s => Nat.succ_ne_zero _
  rw [Fin.sum_univ_succ]
  simp only [h, Fin.val_zero, if_true, if_false, zero_add]
  refine Fin.sum_mul_add_congr fun s r hl => congrArg F (Fin.ext ?_)
  show (s.val + 1) * 256 + r.val = 256 + (s.val * 256 + r.val)
  omega

/-- The same for the rows from 256 on, counted from there. -/
theorem sum_late (F : Fin 4096 → EReal) :
    ∑ s : Fin 17, (if s.val = 0 then 0 else ∑ r : Fin 256, F ⟨s.val * 256 + r.val - 256, by omega⟩) = ∑ x : Fin 4096, F x := by
  have h : ∀ s : Fin 16, ¬s.succ.val = 0 := fun s => Nat.succ_ne_zero _
  rw [Fin.sum_univ_succ]
  simp only [h, Fin.val_zero, if_true, if_false, zero_add]
  refine Fin.sum_mul_add_congr fun s r hl => congrArg F (Fin.ext ?_)
  show (s.val + 1) * 256 + r.val - 256 = s.val * 256 + r.val
  omega

end Cert.Tiles

end
-- ==== Proof.FfUpW.lean ====
module

public import proofs.«01_k».proof.Proof.FfUp
public import proofs.«01_k».proof.Proof.Tiles
public import proofs.«01_k».proof.Proof.Gen.FfUpIdeal.Value
public import proofs.«01_k».proof.Proof.Gen.FfUpRefIdeal.Run
public import proofs.«01_k».proof.Proof.Gen.FfUpRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfUpIdeal.Hand
open Cert.FfUpIdeal Cert.FfUpIdeal.Gen Cert.FfUpRefIdeal.Read

variable (m : (ℓ : Loc nD τ sig) → Buf (Elt Ideal) ℓ)

/-- The first tile is the one of the prefix's rows. -/
theorem isctx : ∀ t : Fin cfg0.N, Scalar.cmpi CmpIPredicate.eq (BitVec.ofNat 32 (grid0.coords t 0).val) 0#32 = if t.val = 0 then 1#1 else 0#1 :=
  (by decide +kernel : ∀ t : Fin grid0.N, _)

theorem hit4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h0 : j0.val = i) (h1 : j1.val = k) :
    View.canon ((⟨Rect.unit ![i, k, 0, 0] ![1, 1, 1, 1024] inb, w⟩ : View.Piece (Elt Ideal) S2x2x1x1024 .f32) :: L) (ix4 j0 j1 0 d) = w (ix4 0 0 0 d) := by
  refine Cert.Tiles.canon_hit (S := S2x2x1x1024) _ _ inb w L _ _ fun a => ?_
  match a with
  | 0 => exact h0
  | 1 => exact h1
  | 2 => rfl
  | 3 => exact (Nat.zero_add _).symm

theorem miss4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h : j0.val ≠ i ∨ j1.val ≠ k) :
    View.canon ((⟨Rect.unit ![i, k, 0, 0] ![1, 1, 1, 1024] inb, w⟩ : View.Piece (Elt Ideal) S2x2x1x1024 .f32) :: L) (ix4 j0 j1 0 d) = View.canon L (ix4 j0 j1 0 d) := by
  rcases h with h | h
  · refine Cert.Tiles.canon_miss (S := S2x2x1x1024) _ _ inb w L _ 0 ?_
    show j0.val < i ∨ i + 1 ≤ j0.val
    omega
  · refine Cert.Tiles.canon_miss (S := S2x2x1x1024) _ _ inb w L _ 1 ?_
    show j1.val < k ∨ k + 1 ≤ j1.val
    omega

/-- One tile's part of the third result: its rows' sums, in the half of the prefix or in the other. -/
def part8 (c : Dev nD) (t : Fin cfg0.N) (i k : Fin 2) (d : Fin 1024) : EReal :=
  if i.val = 0 then
    (if t.val = 0 then ∑ r : Fin 256, (if k.val = 0 then val_main_v41 (F := Ideal) (a2 m c) (a6 m c) else val_main_v46 (F := Ideal) (a1 m c) (a2 m c) (a5 m c) (a6 m c)) (ix2 (row t r) d) else 0)
  else
    (if t.val = 0 then 0 else ∑ r : Fin 256, (if k.val = 0 then val_main_v41 (F := Ideal) (a2 m c) (a6 m c) else val_main_v46 (F := Ideal) (a1 m c) (a2 m c) (a5 m c) (a6 m c)) (ix2 (row t r) d))

theorem add00 (c : Dev nD) (t : Fin cfg0.N) (x : Vec Ideal S1x1x1x1024 .f32) (d : Fin 1024) :
    k0_pay21 (F := Ideal) (if t.val = 0 then 1#1 else 0#1) (k0_pay11 (dh m c t)) x (ix4 0 0 0 d)
      = x (ix4 0 0 0 d) + part8 m c t 0 0 d := by
  by_cases h : t.val = 0
  · simp only [if_pos h, part8]
    pointwise [k0_pay21, k0_pay11, dh]
  · simp only [if_neg h, part8]
    pointwise [k0_pay21, k0_pay11, dh]

theorem add01 (c : Dev nD) (t : Fin cfg0.N) (x : Vec Ideal S1x1x1x1024 .f32) (d : Fin 1024) :
    k0_pay1 (F := Ideal) (if t.val = 0 then 1#1 else 0#1) (k0_pay12 (dh m c t) (iblk m c 1 t) (iblk m c 4 t)) (k0_pay23 x) (FloatOps.ofBits FTy.f32 0#32) (ix4 0 0 0 d)
      = x (ix4 0 0 0 d) + part8 m c t 0 1 d := by
  by_cases h : t.val = 0
  · simp only [if_pos h, part8]
    pointwise [k0_pay1, k0_pay23, k0_pay12, k0_pay10, k0_pay9, k0_pay8, k0_pay7, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
    have hx := x_at m c t
    have hn := nw_at m c t
    simp only [hx, hn]
  · simp only [if_neg h, part8]
    pointwise [k0_pay1, k0_pay23, k0_pay12, k0_pay10, k0_pay9, k0_pay8, k0_pay7, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]

theorem add10 (c : Dev nD) (t : Fin cfg0.N) (x : Vec Ideal S1x1x1x1024 .f32) (d : Fin 1024) :
    k0_pay22 (F := Ideal) (if t.val = 0 then 1#1 else 0#1) (k0_pay11 (dh m c t)) x (ix4 0 0 0 d)
      = x (ix4 0 0 0 d) + part8 m c t 1 0 d := by
  by_cases h : t.val = 0
  · simp only [if_pos h, part8]
    pointwise [k0_pay22, k0_pay11, dh]
  · simp only [if_neg h, part8]
    pointwise [k0_pay22, k0_pay11, dh]

theorem add11 (c : Dev nD) (t : Fin cfg0.N) (x : Vec Ideal S1x1x1x1024 .f32) (d : Fin 1024) :
    k0_pay2 (F := Ideal) (if t.val = 0 then 1#1 else 0#1) (k0_pay12 (dh m c t) (iblk m c 1 t) (iblk m c 4 t)) x (ix4 0 0 0 d)
      = x (ix4 0 0 0 d) + part8 m c t 1 1 d := by
  by_cases h : t.val = 0
  · simp only [if_pos h, part8]
    pointwise [k0_pay2, k0_pay12, k0_pay10, k0_pay9, k0_pay8, k0_pay7, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
  · simp only [if_neg h, part8]
    pointwise [k0_pay2, k0_pay12, k0_pay10, k0_pay9, k0_pay8, k0_pay7, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
    have hx := x_at m c t
    have hn := nw_at m c t
    simp only [hx, hn]

theorem step8_B (c : Dev nD) (t : Fin cfg0.N) (h : ¬t.val % 17 = 0) (j : S2x2x1x1024.Idx) :
    (outsAt0 m c t.val t.isLt).2.2 j = (outsAt0 m c (t.val - 1) (Nat.lt_of_le_of_lt (Nat.sub_le _ _) t.isLt)).2.2 j + part8 m c t (j 0) (j 1) (j 3) := by
  rw [outsAt0_B m c t h]; frame_out
  idx_vars j
  generalize hD : k0_pay6 (F := Ideal) _ _ _ _ _ _ _ _ _ = D
  obtain rfl : D = dh m c t := hD.symm.trans (dh_eq m c t)
  clear hD
  obtain rfl : j2 = 0 := Subsingleton.elim _ _
  have hw : Scalar.cmpi CmpIPredicate.eq (BitVec.ofNat 32 (grid0.coords t 0).val) 0#32 = if t.val = 0 then 1#1 else 0#1 := isctx t
  rw [hw]
  clear hw
  generalize (outsAt0 m c (t.val - 1) _).2.2 = old
  have e0 : j0 = 0 ∨ j0 = 1 := by revert j0; decide
  have e1 : j1 = 0 ∨ j1 = 1 := by revert j1; decide
  rcases e0 with rfl | rfl <;> rcases e1 with rfl | rfl
  · rw [miss4 (h := by decide), miss4 (h := by decide), miss4 (h := by decide), hit4 (h0 := by decide) (h1 := by decide)]
    refine (add00 m c t _ j3).trans (congrArg (· + _) ?_)
    pointwise
  · rw [miss4 (h := by decide), hit4 (h0 := by decide) (h1 := by decide)]
    refine (add01 m c t _ j3).trans (congrArg (· + _) ?_)
    pointwise
  · rw [miss4 (h := by decide), miss4 (h := by decide), hit4 (h0 := by decide) (h1 := by decide)]
    refine (add10 m c t _ j3).trans (congrArg (· + _) ?_)
    pointwise
  · rw [hit4 (h0 := by decide) (h1 := by decide)]
    refine (add11 m c t _ j3).trans (congrArg (· + _) ?_)
    pointwise

theorem step8_A (c : Dev nD) (t : Fin cfg0.N) (h : t.val % 17 = 0) (j : S2x2x1x1024.Idx) :
    (outsAt0 m c t.val t.isLt).2.2 j = 0 + part8 m c t (j 0) (j 1) (j 3) := by
  rw [outsAt0_A m c t h]; frame_out
  idx_vars j
  generalize hD : k0_pay6 (F := Ideal) _ _ _ _ _ _ _ _ _ = D
  obtain rfl : D = dh m c t := hD.symm.trans (dh_eq m c t)
  clear hD
  obtain rfl : j2 = 0 := Subsingleton.elim _ _
  have hw : Scalar.cmpi CmpIPredicate.eq (BitVec.ofNat 32 (grid0.coords t 0).val) 0#32 = if t.val = 0 then 1#1 else 0#1 := isctx t
  rw [hw]
  clear hw
  simp (disch := decide) only [Cert.Tiles.readCov_miss]
  have e0 : j0 = 0 ∨ j0 = 1 := by revert j0; decide
  have e1 : j1 = 0 ∨ j1 = 1 := by revert j1; decide
  rcases e0 with rfl | rfl <;> rcases e1 with rfl | rfl
  · rw [miss4 (h := by decide), miss4 (h := by decide), miss4 (h := by decide), hit4 (h0 := by decide) (h1 := by decide)]
    refine (add00 m c t _ j3).trans (congrArg (· + _) ?_)
    refine (congrFun (View.readCov_fill _ _ _ _ _ (by decide)) _).trans ?_
    pointwise [k0_pay4]
  · rw [miss4 (h := by decide), hit4 (h0 := by decide) (h1 := by decide)]
    refine (add01 m c t _ j3).trans (congrArg (· + _) ?_)
    refine (congrFun (View.readCov_fill _ _ _ _ _ (by decide)) _).trans ?_
    pointwise [k0_pay4]
  · rw [miss4 (h := by decide), miss4 (h := by decide), hit4 (h0 := by decide) (h1 := by decide)]
    refine (add10 m c t _ j3).trans (congrArg (· + _) ?_)
    refine (congrFun (View.readCov_fill _ _ _ _ _ (by decide)) _).trans ?_
    pointwise [k0_pay4]
  · rw [hit4 (h0 := by decide) (h1 := by decide)]
    refine (add11 m c t _ j3).trans (congrArg (· + _) ?_)
    refine (congrFun (View.readCov_fill _ _ _ _ _ (by decide)) _).trans ?_
    pointwise [k0_pay4]

theorem final8 (c : Dev nD) : (dats m 0 c).arrAt 8 (cfgs 0).N
    = val_main_v83 (F := Ideal) (a1 m c) (a2 m c) (a5 m c) (a6 m c) := by
  refine (dats m 0 c).arrAt_eq_of_covers 8 _ (by decide +kernel) fun t hf y => ?_
  blk_simp
  rw [after0_8, Pipeline.eq_sum_fin_of_reset_step_apply_of_flush (fun n h => (outsAt0 m c n h).2.2) 17 (fun _ => 0) (fun t j => part8 m c t (j 0) (j 1) (j 3))
    (step8_A m c) (step8_B m c) t ((flush0_8 t).mp hf) _, zero_add]
  have ht : t.val < 17 := lt_of_lt_of_eq t.isLt N_0
  have hs : ∀ s : Fin 17, 17 * (t.val / 17) + s.val = s.val := fun s => by omega
  idx_vars y
  have e : ((cfg0.win 8).blk t).view.emb (ix4 y0 y1 y2 y3) = ix4 y0 y1 0 y3 := by blk_ext [idx t]
  rw [e]
  have e0 : y0 = 0 ∨ y0 = 1 := by clear e; revert y0; decide
  have e1 : y1 = 0 ∨ y1 = 1 := by clear e; revert y1; decide
  simp only [hs]
  rcases e0 with rfl | rfl <;> rcases e1 with rfl | rfl
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.FfUpRefIdeal.Value.fn_main_v74, Cert.FfUpRefIdeal.Value.fn_main_v77, Cert.FfUpRefIdeal.Value.fn_main_v80]
    exact (Fin.sum_fin_congr fun x => (by simp only [part8, if_pos, Fin.val_zero, Fin.val_one, one_ne_zero, if_false, if_true])).trans (Cert.Tiles.sum_first fun r => val_main_v41 (F := Ideal) (a2 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.FfUpRefIdeal.Value.fn_main_v74, Cert.FfUpRefIdeal.Value.fn_main_v77, Cert.FfUpRefIdeal.Value.fn_main_v80]
    exact (Fin.sum_fin_congr fun x => (by simp only [part8, if_pos, Fin.val_zero, Fin.val_one, one_ne_zero, if_false, if_true])).trans (Cert.Tiles.sum_first fun r => val_main_v46 (F := Ideal) (a1 m c) (a2 m c) (a5 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.FfUpRefIdeal.Value.fn_main_v74, Cert.FfUpRefIdeal.Value.fn_main_v77, Cert.FfUpRefIdeal.Value.fn_main_v80]
    exact (Fin.sum_fin_congr fun x => (by simp only [part8, if_pos, Fin.val_zero, Fin.val_one, one_ne_zero, if_false, if_true])).trans (Cert.Tiles.sum_rest fun r => val_main_v41 (F := Ideal) (a2 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.FfUpRefIdeal.Value.fn_main_v74, Cert.FfUpRefIdeal.Value.fn_main_v77, Cert.FfUpRefIdeal.Value.fn_main_v80]
    exact (Fin.sum_fin_congr fun x => (by simp only [part8, if_pos, Fin.val_zero, Fin.val_one, one_ne_zero, if_false, if_true])).trans (Cert.Tiles.sum_rest fun r => val_main_v46 (F := Ideal) (a1 m c) (a2 m c) (a5 m c) (a6 m c) (ix2 r y3))

end Cert.FfUpIdeal.Hand

end
-- ==== Proof.InProj.lean ====
module

public import proofs.«01_k».proof.Proof.InProjIdealValue
public import Idealize.ShloMosaic.Lib.Pipeline.ReadBack
public import proofs.«01_k».proof.Proof.Gen.InProjRefIdeal.Run
public import proofs.«01_k».proof.Proof.Gen.InProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Hand
open Cert.InProjIdeal Cert.InProjIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![min t.val 1, 0, 0, 0] ∧ win0_4.index t = ![0, 0] ∧ win0_5.index t = ![t.val, 0]
    ∧ win0_6.index t = ![0, 0] ∧ win0_7.index t = ![0, 0, 0, 0] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-- Tile `t` of the gradient of the modulated input, as the reference computes it. -/
def dh (c : Dev nD) (t : Fin cfg0.N) : FVec Ideal S256x1024 .f32 := fun y =>
  Cert.InProjRefIdeal.Read.val_main_v41 (F := Ideal) (a2 m c) (a6 m c) (ix2 (row t (y 0)) (y 1))

/-- The row of the modulation that tile `t` reads its scale from. -/
def scl (c : Dev nD) (t : Fin cfg0.N) : FVec Ideal S1x1x1x1024 .f32 := View.ld (Val := Elt Ideal) (e' := .f32) (iblk m c 3 t) (Rect.unit ![0, 1, 0, 0] ![1, 1, 1, 1024] inb_S1x6x1x1024_S1x1x1x1024_0_1_0_0)

theorem dav_at (c : Dev nD) (t : Fin cfg0.N) (r : Fin 256) (k : Fin 9216) :
    iblk m c 2 t (ix2 r k) = a2 m c (ix2 (row t r) k) := by
  blk_point [iblk, V, idx t]

theorem slot_at (c : Dev nD) (s : Fin 8) (d : Fin 1024) (k : Fin 1152) :
    V m c main_v6 (ix3 s d k) = a6 m c (ix2 d ⟨s.val * 1152 + k.val, by omega⟩) := by
  blk_simp [V]
  entry_read
  pointwise
  blk_ext

/-- What the copy of slot `j` delivers. -/
theorem slot_read (c : Dev nD) (j : ℕ) (hj : j < 8) (inb : ∀ a, (![j, 0, 0] : Fin 3 → ℕ) a + (![1, 1024, 1152] : Fin 3 → ℕ) a ≤ S8x1024x1152.size a) (hn)
    (x : S1024x1152.Idx) (y : S1024x9216.Idx) (h0 : (y 0 : ℕ) = x 0) (h1 : (y 1 : ℕ) = j * 1152 + x 1) :
    View.read (Elt Ideal) (((View.whole main_v6).slice (Rect.unit (s := S8x1024x1152) ![j, 0, 0] ![1, 1024, 1152] inb)).reshape S1024x1152 hn) (V m c main_v6) x = a6 m c y := by
  have e : (Rect.unit (s := S8x1024x1152) ![j, 0, 0] ![1, 1024, 1152] inb).emb (Shape.reshapeEquiv hn x) = ix3 ⟨j, hj⟩ (x 0) (x 1) := by
    rw [show Shape.reshapeEquiv hn x = (Fin.cons ⟨0, Nat.one_pos⟩ x : (⟨3, ![1, 1024, 1152]⟩ : Shape).Idx) from Shape.reshapeEquiv_cons_one ..]
    blk_ext
    all_goals rfl
  refine (congrArg (V m c main_v6) e).trans ((slot_at m c ⟨j, hj⟩ (x 0) (x 1)).trans (congrArg (a6 m c) ?_))
  funext a
  fin_cases a
  · exact Fin.ext h0.symm
  · exact Fin.ext h1.symm

theorem sc_A (c : Dev nD) (t : Fin cfg0.N) (h : t.val % 17 = 0) : (outsAt0 m c t.val t.isLt).2.2.2 = a6 m c := by
  rw [outsAt0_A m c t h]; frame_out
  clear h
  funext y
  canon_tiles x h
  all_goals exact slot_read m c _ (by omega) _ _ x y h0 (by omega)

theorem sc_B (c : Dev nD) (t : Fin cfg0.N) (h : ¬t.val % 17 = 0) : (outsAt0 m c t.val t.isLt).2.2.2 = (outsAt0 m c (t.val - 1) (Nat.lt_of_le_of_lt (Nat.sub_le _ _) t.isLt)).2.2.2 := by
  rw [outsAt0_B m c t h]
  rfl

/-- After every point the scratch holds the weights. -/
theorem staged (c : Dev nD) (n : ℕ) (hn : n < cfg0.N) : (outsAt0 m c n hn).2.2.2 = a6 m c := by
  induction n with
  | zero => exact sc_A m c ⟨0, hn⟩ rfl
  | succ n ih =>
    by_cases h : (n + 1) % 17 = 0
    · exact sc_A m c ⟨n + 1, hn⟩ h
    · exact (sc_B m c ⟨n + 1, hn⟩ h).trans (ih (Nat.lt_of_succ_lt hn))

/-- What a later point finds in the scratch. -/
theorem kept (c : Dev nD) : View.read (Elt Ideal) (View.whole cc0_scratch0) ((Memref.isWhole_whole cc0_scratch0).unread (a6 m c)) = a6 m c :=
  (Memref.isWhole_whole cc0_scratch0).read_unread _

theorem dx_at (c : Dev nD) (t : Fin cfg0.N) (r : Fin 256) (d : Fin 1024) : a0 m c (ix2 (row t r) d) = iblk m c 0 t (ix2 r d) := by
  blk_point [iblk, V, idx t]

theorem x_at (c : Dev nD) (t : Fin cfg0.N) (r : Fin 256) (d : Fin 1024) : a1 m c (ix2 (row t r) d) = iblk m c 1 t (ix2 r d) := by
  blk_point [iblk, V, idx t]

theorem nw_at (c : Dev nD) (t : Fin cfg0.N) (d : Fin 1024) : a5 m c (ix1 d) = iblk m c 4 t (ix2 0 d) := by
  symm
  blk_simp [iblk]
  entry_read
  pointwise
  blk_ext [idx t]

theorem dh_eq (c : Dev nD) (t : Fin cfg0.N) :
    k0_pay5 (F := Ideal) (View.ld (Val := Elt Ideal) (e' := .bf16) (iblk m c 2 t) (Rect.unit ![0, 0] ![256, 2304] inb_S256x9216_S256x2304_0_0)) (View.ld (Val := Elt Ideal) (e' := .bf16) (a6 m c) (Rect.unit ![0, 0] ![1024, 2304] inb_S1024x9216_S1024x2304_0_0)) (View.ld (Val := Elt Ideal) (e' := .bf16) (iblk m c 2 t) (Rect.unit ![0, 2304] ![256, 2304] inb_S256x9216_S256x2304_0_2304)) (View.ld (Val := Elt Ideal) (e' := .bf16) (a6 m c) (Rect.unit ![0, 2304] ![1024, 2304] inb_S1024x9216_S1024x2304_0_2304)) (View.ld (Val := Elt Ideal) (e' := .bf16) (iblk m c 2 t) (Rect.unit ![0, 4608] ![256, 2304] inb_S256x9216_S256x2304_0_4608)) (View.ld (Val := Elt Ideal) (e' := .bf16) (a6 m c) (Rect.unit ![0, 4608] ![1024, 2304] inb_S1024x9216_S1024x2304_0_4608)) (View.ld (Val := Elt Ideal) (e' := .bf16) (iblk m c 2 t) (Rect.unit ![0, 6912] ![256, 2304] inb_S256x9216_S256x2304_0_6912)) (View.ld (Val := Elt Ideal) (e' := .bf16) (a6 m c) (Rect.unit ![0, 6912] ![1024, 2304] inb_S1024x9216_S1024x2304_0_6912))
      = dh m c t := by
  funext y
  idx_vars y
  pointwise [k0_pay5, dh, Cert.InProjRefIdeal.Read.val_main_v41, Cert.InProjRefIdeal.Read.val_main_v40, Cert.InProjRefIdeal.Read.val_main_v38]
  rw [Fin.sum_univ_tiles 4 2304 rfl]
  have hd := dav_at m c t
  simp only [hd]
  rw [Fin.sum_univ_four]
  simp only [show ((0 : Fin 4) : ℕ) * 2304 = 0 from rfl, show ((1 : Fin 4) : ℕ) * 2304 = 2304 from rfl, show ((2 : Fin 4) : ℕ) * 2304 = 4608 from rfl, show ((3 : Fin 4) : ℕ) * 2304 = 6912 from rfl, Nat.zero_add]

theorem ref_scale (c : Dev nD) (t : Fin cfg0.N) (r : Fin 256) (d : Fin 1024) :
    Cert.InProjRefIdeal.Read.val_main_v30 (F := Ideal) (a3 m c) (a4 m c) (ix2 (row t r) d)
      = if t.val = 0 then a3 m c (ix1 ⟨1024 + d.val, by omega⟩) else a4 m c (ix1 ⟨1024 + d.val, by omega⟩) := by
  pointwise [Cert.InProjRefIdeal.Read.val_main_v30, Cert.InProjRefIdeal.Read.val_main_v28, Cert.InProjRefIdeal.Read.val_main_v29, Cert.InProjRefIdeal.Read.val_main_v1, Cert.InProjRefIdeal.Read.val_main_v7, Cert.InProjRefIdeal.Value.fn_main_v30]
  by_cases h : t.val = 0
  · have h' : t.val * 256 + r.val < 256 := by omega
    simp only [dif_pos h', if_pos h]
  · have h' : ¬t.val * 256 + r.val < 256 := by omega
    simp only [dif_neg h', if_neg h]

theorem ker_scale (c : Dev nD) (t : Fin cfg0.N) (d : Fin 1024) :
    iblk m c 3 t (ix4 0 1 0 d)
      = if t.val = 0 then a3 m c (ix1 ⟨1024 + d.val, by omega⟩) else a4 m c (ix1 ⟨1024 + d.val, by omega⟩) := by
  blk_simp [iblk]
  entry_read
  pointwise
  split
  · rename_i h
    blk_simp [idx t] at h
    have h' : t.val = 0 := by omega
    simp only [if_pos h']
    blk_ext [idx t]
  · rename_i h
    blk_simp [idx t] at h
    have h' : ¬t.val = 0 := by omega
    simp only [if_neg h']
    blk_ext [idx t]

theorem scale_eq (c : Dev nD) (t : Fin cfg0.N) (r : Fin 256) (d : Fin 1024) :
    Cert.InProjRefIdeal.Read.val_main_v30 (F := Ideal) (a3 m c) (a4 m c) (ix2 (row t r) d) = iblk m c 3 t (ix4 0 1 0 d) := by
  rw [ref_scale, ker_scale]

end Cert.InProjIdeal.Hand

end
-- ==== Proof.InProjX.lean ====
module

public import proofs.«01_k».proof.Proof.InProj
public import proofs.«01_k».proof.Proof.InProjIdealValue
public import Idealize.ShloMosaic.Lib.Pipeline.ReadBack
public import proofs.«01_k».proof.Proof.Gen.InProjRefIdeal.Run
public import proofs.«01_k».proof.Proof.Gen.InProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Hand
open Cert.InProjIdeal Cert.InProjIdeal.Gen Cert.InProjRefIdeal.Read

variable (m : (ℓ : Loc nD τ sig) → Buf (Elt Ideal) ℓ)

/-- What tile `t` leaves in the first result's block. -/
theorem left5 (c : Dev nD) (t : Fin cfg0.N) : (outsAt0 m c t.val t.isLt).1 = k0_pay15 (F := Ideal) (dh m c t) (iblk m c 0 t) (iblk m c 1 t) (k0_pay6 (iblk m c 4 t)) (k0_pay7 (scl m c t)) := by
  by_cases h : t.val % 17 = 0
  · have e := sc_A m c t h
    rw [outsAt0_A m c t h] at e ⊢; frame_out at e ⊢
    simp only [View.readCov_eq_canon' (View.whole cc0_scratch0), e]
    clear e
    rw [← dh_eq m c t]
    rfl
  · rw [outsAt0_B m c t h]; frame_out
    have u := kept m c
    simp only [staged m c, u]
    clear u
    rw [← dh_eq m c t]
    rfl

theorem point5 (c : Dev nD) (t : Fin cfg0.N) (r : Fin 256) (d : Fin 1024) :
    k0_pay15 (F := Ideal) (dh m c t) (iblk m c 0 t) (iblk m c 1 t) (k0_pay6 (iblk m c 4 t)) (k0_pay7 (scl m c t)) (ix2 r d)
    = val_main_v81 (F := Ideal) (a0 m c) (a1 m c) (a2 m c) (a3 m c) (a4 m c) (a5 m c) (a6 m c) (ix2 (row t r) d) := by
  pointwise [k0_pay6, k0_pay7, k0_pay8, k0_pay9, k0_pay10, k0_pay13, k0_pay15, val_main_v12, val_main_v13, val_main_v14, val_main_v15, val_main_v16, val_main_v17, val_main_v18, val_main_v19, val_main_v20, val_main_v21, val_main_v22, val_main_v23, val_main_v24, val_main_v25, val_main_v26, val_main_v27, val_main_v31, val_main_v32, val_main_v47, val_main_v55, val_main_v56, val_main_v58, val_main_v59, val_main_v60, val_main_v61, val_main_v62, val_main_v63, val_main_v64, val_main_v65, val_main_v66, val_main_v67, val_main_v68, val_main_v69, val_main_v70, val_main_v71, val_main_v81, val_main_cst, val_main_cst_0, val_main_cst_1, val_main_cst_2, val_main_cst_3, val_main_cst_10, val_main_cst_11, val_main_cst_12, dh, scl]
  simp only [scale_eq]
  rw [dx_at m c t r d]
  have hx := x_at m c t r
  have hn := nw_at m c t
  simp only [hx, hn]

theorem final5 (c : Dev nD) : (dats m 0 c).arrAt 5 (cfgs 0).N
    = val_main_v81 (F := Ideal) (a0 m c) (a1 m c) (a2 m c) (a3 m c) (a4 m c) (a5 m c) (a6 m c) := by
  refine (dats m 0 c).arrAt_eq_of_covers 5 _ (by decide +kernel) fun t _ y => ?_
  blk_simp
  rw [after0_5, left5]
  idx_vars y
  rw [point5]
  blk_ext [idx t]

end Cert.InProjIdeal.Hand

end
-- ==== Proof.InProjZ.lean ====
module

public import proofs.«01_k».proof.Proof.InProj
public import proofs.«01_k».proof.Proof.InProjIdealValue
public import Idealize.ShloMosaic.Lib.Pipeline.ReadBack
public import proofs.«01_k».proof.Proof.Gen.InProjRefIdeal.Run
public import proofs.«01_k».proof.Proof.Gen.InProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Hand
open Cert.InProjIdeal Cert.InProjIdeal.Gen Cert.InProjRefIdeal.Read

variable (m : (ℓ : Loc nD τ sig) → Buf (Elt Ideal) ℓ)

/-- One tile's part of the second result. -/
def part6 (c : Dev nD) (t : Fin cfg0.N) : FVec Ideal S1x1024 .f32 := k0_pay14 (dh m c t) (iblk m c 1 t) (k0_pay7 (scl m c t))

theorem point6 (c : Dev nD) (t : Fin cfg0.N) (d : Fin 1024) :
    part6 m c t (ix2 0 d) = ∑ r : Fin 256, val_main_v52 (F := Ideal) (a1 m c) (a2 m c) (a3 m c) (a4 m c) (a6 m c) (ix2 (row t r) d) := by
  pointwise [part6, k0_pay14, k0_pay7, k0_pay13, k0_pay10, k0_pay9, k0_pay8, dh, scl, val_main_v12, val_main_v13, val_main_v14, val_main_v15, val_main_v16, val_main_v17, val_main_v18, val_main_v19, val_main_v23, val_main_v24, val_main_v31, val_main_v32, val_main_v47, val_main_v52, val_main_cst, val_main_cst_0, val_main_cst_1, val_main_cst_3]
  refine Fin.sum_fin_congr fun r => ?_
  have hs := scale_eq m c t r
  have hx := x_at m c t r
  simp only [hs, hx]

theorem step6_A (c : Dev nD) (t : Fin cfg0.N) (h : t.val % 17 = 0) (j : S1x1024.Idx) :
    (outsAt0 m c t.val t.isLt).2.1 j = 0 + part6 m c t j := by
  have e := sc_A m c t h
  rw [outsAt0_A m c t h] at e ⊢; frame_out at e ⊢
  simp only [View.readCov_eq_canon' (View.whole cc0_scratch0), e]
  clear e
  generalize hD : k0_pay5 (F := Ideal) _ _ _ _ _ _ _ _ = D
  obtain rfl : D = dh m c t := hD.symm.trans (dh_eq m c t)
  clear hD
  unfold part6
  idx_vars j
  pointwise [k0_pay16, k0_pay3]
  rfl

theorem step6_B (c : Dev nD) (t : Fin cfg0.N) (h : ¬t.val % 17 = 0) (j : S1x1024.Idx) :
    (outsAt0 m c t.val t.isLt).2.1 j = (outsAt0 m c (t.val - 1) (Nat.lt_of_le_of_lt (Nat.sub_le _ _) t.isLt)).2.1 j + part6 m c t j := by
  rw [outsAt0_B m c t h]; frame_out
  have u := kept m c
  simp only [staged m c, u]
  clear u
  generalize hD : k0_pay5 (F := Ideal) _ _ _ _ _ _ _ _ = D
  obtain rfl : D = dh m c t := hD.symm.trans (dh_eq m c t)
  clear hD
  unfold part6
  idx_vars j
  pointwise [k0_pay16]
  rfl

theorem final6 (c : Dev nD) : (dats m 0 c).arrAt 6 (cfgs 0).N
    = val_main_v82 (F := Ideal) (a1 m c) (a2 m c) (a3 m c) (a4 m c) (a6 m c) := by
  refine (dats m 0 c).arrAt_eq_of_covers 6 _ (by decide +kernel) fun t hf y => ?_
  blk_simp
  rw [after0_6, Pipeline.eq_sum_fin_of_reset_step_apply_of_flush (fun n h => (outsAt0 m c n h).2.1) 17 (fun _ => 0) (part6 m c)
    (step6_A m c) (step6_B m c) t ((flush0_6 t).mp hf) _, zero_add]
  idx_vars y
  have e : ((cfg0.win 6).blk t).view.emb (ix2 y0 y1) = ix2 0 y1 := by blk_ext [idx t]
  rw [e]
  obtain rfl : y0 = 0 := Subsingleton.elim _ _
  simp only [point6]
  pointwise [val_main_v82, val_main_v57, val_main_v54, val_main_v53, val_main_cst_8, val_main_cst_9]
  rw [Fin.sum_univ_one]
  refine Fin.sum_mul_add_congr fun s r hl => ?_
  have ht : t.val < 17 := lt_of_lt_of_eq t.isLt N_0
  congr 2
  exact Fin.ext (by show (17 * (t.val / 17) + s.val) * 256 + r.val = s.val * 256 + r.val; omega)

end Cert.InProjIdeal.Hand

end
-- ==== Proof.InProjW.lean ====
module

public import proofs.«01_k».proof.Proof.InProj
public import proofs.«01_k».proof.Proof.Tiles
public import proofs.«01_k».proof.Proof.InProjIdealValue
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Hand
open Cert.InProjIdeal Cert.InProjIdeal.Gen Cert.InProjRefIdeal.Read

variable (m : (ℓ : Loc nD τ sig) → Buf (Elt Ideal) ℓ)

/-- The first tile is the one of the prefix's rows. -/
theorem isctx : ∀ t : Fin cfg0.N, Scalar.cmpi CmpIPredicate.slt (BitVec.ofNat 32 (grid0.coords t 0).val) 1#32 = if t.val = 0 then 1#1 else 0#1 :=
  (by decide +kernel : ∀ t : Fin grid0.N, _)

theorem hit4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h0 : j0.val = i) (h1 : j1.val = k) :
    View.canon ((⟨Rect.unit ![i, k, 0, 0] ![1, 1, 1, 1024] inb, w⟩ : View.Piece (Elt Ideal) S2x2x1x1024 .f32) :: L) (ix4 j0 j1 0 d) = w (ix4 0 0 0 d) := by
  refine Cert.Tiles.canon_hit (S := S2x2x1x1024) _ _ inb w L _ _ fun a => ?_
  match a with
  | 0 => exact h0
  | 1 => exact h1
  | 2 => rfl
  | 3 => exact (Nat.zero_add _).symm

theorem miss4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h : j0.val ≠ i ∨ j1.val ≠ k) :
    View.canon ((⟨Rect.unit ![i, k, 0, 0] ![1, 1, 1, 1024] inb, w⟩ : View.Piece (Elt Ideal) S2x2x1x1024 .f32) :: L) (ix4 j0 j1 0 d) = View.canon L (ix4 j0 j1 0 d) := by
  rcases h with h | h
  · refine Cert.Tiles.canon_miss (S := S2x2x1x1024) _ _ inb w L _ 0 ?_
    show j0.val < i ∨ i + 1 ≤ j0.val
    omega
  · refine Cert.Tiles.canon_miss (S := S2x2x1x1024) _ _ inb w L _ 1 ?_
    show j1.val < k ∨ k + 1 ≤ j1.val
    omega

/-- One tile's part of the third result: its rows' sums, in the half of the prefix or in the other. -/
def part7 (c : Dev nD) (t : Fin cfg0.N) (i k : Fin 2) (d : Fin 1024) : EReal :=
  if i.val = 0 then
    (if t.val = 0 then ∑ r : Fin 256, (if k.val = 0 then val_main_v41 (F := Ideal) (a2 m c) (a6 m c) else val_main_v46 (F := Ideal) (a1 m c) (a2 m c) (a5 m c) (a6 m c)) (ix2 (row t r) d) else 0)
  else
    (if t.val = 0 then 0 else ∑ r : Fin 256, (if k.val = 0 then val_main_v41 (F := Ideal) (a2 m c) (a6 m c) else val_main_v46 (F := Ideal) (a1 m c) (a2 m c) (a5 m c) (a6 m c)) (ix2 (row t r) d))

theorem add00 (c : Dev nD) (t : Fin cfg0.N) (x : Vec Ideal S1x1x1x1024 .f32) (d : Fin 1024) :
    k0_pay17 (F := Ideal) (if t.val = 0 then 1#1 else 0#1) (k0_pay11 (dh m c t)) x (ix4 0 0 0 d)
      = x (ix4 0 0 0 d) + part7 m c t 0 0 d := by
  by_cases h : t.val = 0
  · simp only [if_pos h, part7]
    pointwise [k0_pay17, k0_pay11, dh]
  · simp only [if_neg h, part7]
    pointwise [k0_pay17, k0_pay11, dh]

theorem add01 (c : Dev nD) (t : Fin cfg0.N) (x : Vec Ideal S1x1x1x1024 .f32) (d : Fin 1024) :
    k0_pay1 (F := Ideal) (k0_pay19 (if t.val = 0 then 1#1 else 0#1) (k0_pay12 (dh m c t) (iblk m c 1 t) (k0_pay6 (iblk m c 4 t))) x) (ix4 0 0 0 d)
      = x (ix4 0 0 0 d) + part7 m c t 0 1 d := by
  by_cases h : t.val = 0
  · simp only [if_pos h, part7]
    pointwise [k0_pay1, k0_pay19, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
    have hx := x_at m c t
    have hn := nw_at m c t
    simp only [hx, hn]
  · simp only [if_neg h, part7]
    pointwise [k0_pay1, k0_pay19, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]

theorem add10 (c : Dev nD) (t : Fin cfg0.N) (x : Vec Ideal S1x1x1x1024 .f32) (d : Fin 1024) :
    k0_pay18 (F := Ideal) (if t.val = 0 then 1#1 else 0#1) (k0_pay11 (dh m c t)) x (ix4 0 0 0 d)
      = x (ix4 0 0 0 d) + part7 m c t 1 0 d := by
  by_cases h : t.val = 0
  · simp only [if_pos h, part7]
    pointwise [k0_pay18, k0_pay11, dh]
  · simp only [if_neg h, part7]
    pointwise [k0_pay18, k0_pay11, dh]

theorem add11 (c : Dev nD) (t : Fin cfg0.N) (x : Vec Ideal S1x1x1x1024 .f32) (d : Fin 1024) :
    k0_pay2 (F := Ideal) (if t.val = 0 then 1#1 else 0#1) (k0_pay12 (dh m c t) (iblk m c 1 t) (k0_pay6 (iblk m c 4 t))) x (ix4 0 0 0 d)
      = x (ix4 0 0 0 d) + part7 m c t 1 1 d := by
  by_cases h : t.val = 0
  · simp only [if_pos h, part7]
    pointwise [k0_pay2, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
  · simp only [if_neg h, part7]
    pointwise [k0_pay2, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
    have hx := x_at m c t
    have hn := nw_at m c t
    simp only [hx, hn]

theorem step7_B (c : Dev nD) (t : Fin cfg0.N) (h : ¬t.val % 17 = 0) (j : S2x2x1x1024.Idx) :
    (outsAt0 m c t.val t.isLt).2.2.1 j = (outsAt0 m c (t.val - 1) (Nat.lt_of_le_of_lt (Nat.sub_le _ _) t.isLt)).2.2.1 j + part7 m c t (j 0) (j 1) (j 3) := by
  rw [outsAt0_B m c t h]; frame_out
  have u := kept m c
  simp only [staged m c, u]
  clear u
  idx_vars j
  generalize hD : k0_pay5 (F := Ideal) _ _ _ _ _ _ _ _ = D
  obtain rfl : D = dh m c t := hD.symm.trans (dh_eq m c t)
  clear hD
  obtain rfl : j2 = 0 := Subsingleton.elim _ _
  have hw : Scalar.cmpi CmpIPredicate.slt (BitVec.ofNat 32 (grid0.coords t 0).val) 1#32 = if t.val = 0 then 1#1 else 0#1 := isctx t
  rw [hw]
  clear hw
  generalize (outsAt0 m c (t.val - 1) _).2.2.1 = old
  have e0 : j0 = 0 ∨ j0 = 1 := by revert j0; decide
  have e1 : j1 = 0 ∨ j1 = 1 := by revert j1; decide
  rcases e0 with rfl | rfl <;> rcases e1 with rfl | rfl
  · rw [miss4 (h := by decide), miss4 (h := by decide), miss4 (h := by decide), hit4 (h0 := by decide) (h1 := by decide)]
    refine (add00 m c t _ j3).trans (congrArg (· + _) ?_)
    pointwise
  · rw [miss4 (h := by decide), hit4 (h0 := by decide) (h1 := by decide)]
    refine (add01 m c t _ j3).trans (congrArg (· + _) ?_)
    pointwise
  · rw [miss4 (h := by decide), miss4 (h := by decide), hit4 (h0 := by decide) (h1 := by decide)]
    refine (add10 m c t _ j3).trans (congrArg (· + _) ?_)
    pointwise
  · rw [hit4 (h0 := by decide) (h1 := by decide)]
    refine (add11 m c t _ j3).trans (congrArg (· + _) ?_)
    pointwise

theorem step7_A (c : Dev nD) (t : Fin cfg0.N) (h : t.val % 17 = 0) (j : S2x2x1x1024.Idx) :
    (outsAt0 m c t.val t.isLt).2.2.1 j = 0 + part7 m c t (j 0) (j 1) (j 3) := by
  have e := sc_A m c t h
  rw [outsAt0_A m c t h] at e ⊢; frame_out at e ⊢
  simp only [View.readCov_eq_canon' (View.whole cc0_scratch0), e]
  clear e
  idx_vars j
  generalize hD : k0_pay5 (F := Ideal) _ _ _ _ _ _ _ _ = D
  obtain rfl : D = dh m c t := hD.symm.trans (dh_eq m c t)
  clear hD
  obtain rfl : j2 = 0 := Subsingleton.elim _ _
  have hw : Scalar.cmpi CmpIPredicate.slt (BitVec.ofNat 32 (grid0.coords t 0).val) 1#32 = if t.val = 0 then 1#1 else 0#1 := isctx t
  rw [hw]
  clear hw
  simp (disch := decide) only [Cert.Tiles.readCov_miss]
  have e0 : j0 = 0 ∨ j0 = 1 := by revert j0; decide
  have e1 : j1 = 0 ∨ j1 = 1 := by revert j1; decide
  rcases e0 with rfl | rfl <;> rcases e1 with rfl | rfl
  · rw [miss4 (h := by decide), miss4 (h := by decide), miss4 (h := by decide), hit4 (h0 := by decide) (h1 := by decide)]
    refine (add00 m c t _ j3).trans (congrArg (· + _) ?_)
    refine (congrFun (View.readCov_fill _ _ _ _ _ (by decide)) _).trans ?_
    pointwise [k0_pay4]
  · rw [miss4 (h := by decide), hit4 (h0 := by decide) (h1 := by decide)]
    refine (add01 m c t _ j3).trans (congrArg (· + _) ?_)
    refine (congrFun (View.readCov_fill _ _ _ _ _ (by decide)) _).trans ?_
    pointwise [k0_pay4]
  · rw [miss4 (h := by decide), miss4 (h := by decide), hit4 (h0 := by decide) (h1 := by decide)]
    refine (add10 m c t _ j3).trans (congrArg (· + _) ?_)
    refine (congrFun (View.readCov_fill _ _ _ _ _ (by decide)) _).trans ?_
    pointwise [k0_pay4]
  · rw [hit4 (h0 := by decide) (h1 := by decide)]
    refine (add11 m c t _ j3).trans (congrArg (· + _) ?_)
    refine (congrFun (View.readCov_fill _ _ _ _ _ (by decide)) _).trans ?_
    pointwise [k0_pay4]

theorem final7 (c : Dev nD) : (dats m 0 c).arrAt 7 (cfgs 0).N
    = val_main_v83 (F := Ideal) (a1 m c) (a2 m c) (a5 m c) (a6 m c) := by
  refine (dats m 0 c).arrAt_eq_of_covers 7 _ (by decide +kernel) fun t hf y => ?_
  blk_simp
  rw [after0_7, Pipeline.eq_sum_fin_of_reset_step_apply_of_flush (fun n h => (outsAt0 m c n h).2.2.1) 17 (fun _ => 0) (fun t j => part7 m c t (j 0) (j 1) (j 3))
    (step7_A m c) (step7_B m c) t ((flush0_7 t).mp hf) _, zero_add]
  have ht : t.val < 17 := lt_of_lt_of_eq t.isLt N_0
  have hs : ∀ s : Fin 17, 17 * (t.val / 17) + s.val = s.val := fun s => by omega
  idx_vars y
  have e : ((cfg0.win 7).blk t).view.emb (ix4 y0 y1 y2 y3) = ix4 y0 y1 0 y3 := by blk_ext [idx t]
  rw [e]
  have e0 : y0 = 0 ∨ y0 = 1 := by clear e; revert y0; decide
  have e1 : y1 = 0 ∨ y1 = 1 := by clear e; revert y1; decide
  simp only [hs]
  rcases e0 with rfl | rfl <;> rcases e1 with rfl | rfl
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InProjRefIdeal.Value.fn_main_v74, Cert.InProjRefIdeal.Value.fn_main_v77, Cert.InProjRefIdeal.Value.fn_main_v80]
    exact (Fin.sum_fin_congr fun x => (by simp only [part7, if_pos, Fin.val_zero, Fin.val_one, one_ne_zero, if_false, if_true])).trans (Cert.Tiles.sum_first fun r => val_main_v41 (F := Ideal) (a2 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InProjRefIdeal.Value.fn_main_v74, Cert.InProjRefIdeal.Value.fn_main_v77, Cert.InProjRefIdeal.Value.fn_main_v80]
    exact (Fin.sum_fin_congr fun x => (by simp only [part7, if_pos, Fin.val_zero, Fin.val_one, one_ne_zero, if_false, if_true])).trans (Cert.Tiles.sum_first fun r => val_main_v46 (F := Ideal) (a1 m c) (a2 m c) (a5 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InProjRefIdeal.Value.fn_main_v74, Cert.InProjRefIdeal.Value.fn_main_v77, Cert.InProjRefIdeal.Value.fn_main_v80]
    exact (Fin.sum_fin_congr fun x => (by simp only [part7, if_pos, Fin.val_zero, Fin.val_one, one_ne_zero, if_false, if_true])).trans (Cert.Tiles.sum_rest fun r => val_main_v41 (F := Ideal) (a2 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InProjRefIdeal.Value.fn_main_v74, Cert.InProjRefIdeal.Value.fn_main_v77, Cert.InProjRefIdeal.Value.fn_main_v80]
    exact (Fin.sum_fin_congr fun x => (by simp only [part7, if_pos, Fin.val_zero, Fin.val_one, one_ne_zero, if_false, if_true])).trans (Cert.Tiles.sum_rest fun r => val_main_v46 (F := Ideal) (a1 m c) (a2 m c) (a5 m c) (a6 m c) (ix2 r y3))

end Cert.InProjIdeal.Hand

end
-- ==== Proof.InFwd.lean ====
module

public import proofs.«01_k».proof.Proof.InFwdIdealValue
public import Idealize.ShloMosaic.Lib.Pipeline.ReadBack
public import proofs.«01_k».proof.Proof.Gen.InFwdRefIdeal.Run
public import proofs.«01_k».proof.Proof.Gen.InFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InFwdIdeal.Hand
open Cert.InFwdIdeal Cert.InFwdIdeal.Gen Cert.InFwdRefIdeal.Read

variable (m : (ℓ : Loc nD τ sig) → Buf (Elt Ideal) ℓ)

theorem idx : ∀ t : Fin cfg0.N, win0_0.index t = ![t.val, 0] ∧ win0_1.index t = ![min t.val 1, 0, 0, 0] ∧ win0_2.index t = ![0, 0]
    ∧ win0_3.index t = ![t.val, 0] ∧ win0_4.index t = ![0, t.val] ∧ win0_5.index t = ![t.val, 0] ∧ win0_6.index t = ![t.val, 0] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)

/-- Tile `t` of the modulated input, as the reference computes it. -/
def hh (c : Dev nD) (t : Fin cfg0.N) : FVec Ideal S256x1024 .f32 := fun y =>
  val_main_v34 (F := Ideal) (a0 m c) (a1 m c) (a2 m c) (a3 m c) (ix2 (row t (y 0)) (y 1))

theorem slot_at (c : Dev nD) (s : Fin 8) (d : Fin 1024) (k : Fin 1152) :
    V m c main_v6 (ix3 s d k) = a4 m c (ix2 d ⟨s.val * 1152 + k.val, by omega⟩) := by
  blk_simp [V]
  entry_read
  pointwise
  blk_ext

/-- What the copy of slot `j` delivers. -/
theorem slot_read (c : Dev nD) (j : ℕ) (hj : j < 8) (inb : ∀ a, (![j, 0, 0] : Fin 3 → ℕ) a + (![1, 1024, 1152] : Fin 3 → ℕ) a ≤ S8x1024x1152.size a) (hn)
    (x : S1024x1152.Idx) (y : S1024x9216.Idx) (h0 : (y 0 : ℕ) = x 0) (h1 : (y 1 : ℕ) = j * 1152 + x 1) :
    View.read (Elt Ideal) (((View.whole main_v6).slice (Rect.unit (s := S8x1024x1152) ![j, 0, 0] ![1, 1024, 1152] inb)).reshape S1024x1152 hn) (V m c main_v6) x = a4 m c y := by
  have e : (Rect.unit (s := S8x1024x1152) ![j, 0, 0] ![1, 1024, 1152] inb).emb (Shape.reshapeEquiv hn x) = ix3 ⟨j, hj⟩ (x 0) (x 1) := by
    rw [show Shape.reshapeEquiv hn x = (Fin.cons ⟨0, Nat.one_pos⟩ x : (⟨3, ![1, 1024, 1152]⟩ : Shape).Idx) from Shape.reshapeEquiv_cons_one ..]
    blk_ext
    all_goals rfl
  refine (congrArg (V m c main_v6) e).trans ((slot_at m c ⟨j, hj⟩ (x 0) (x 1)).trans (congrArg (a4 m c) ?_))
  funext a
  fin_cases a
  · exact Fin.ext h0.symm
  · exact Fin.ext h1.symm

theorem sc_A (c : Dev nD) (t : Fin cfg0.N) (h : t.val % 17 = 0) : (outsAt0 m c t.val t.isLt).2.2.2.2 = a4 m c := by
  rw [outsAt0_A m c t h]; frame_out
  clear h
  funext y
  canon_tiles x h
  all_goals exact slot_read m c _ (by omega) _ _ x y h0 (by omega)

theorem sc_B (c : Dev nD) (t : Fin cfg0.N) (h : ¬t.val % 17 = 0) : (outsAt0 m c t.val t.isLt).2.2.2.2 = (outsAt0 m c (t.val - 1) (Nat.lt_of_le_of_lt (Nat.sub_le _ _) t.isLt)).2.2.2.2 := by
  rw [outsAt0_B m c t h]
  rfl

/-- After every point the scratch holds the weights. -/
theorem staged (c : Dev nD) (n : ℕ) (hn : n < cfg0.N) : (outsAt0 m c n hn).2.2.2.2 = a4 m c := by
  induction n with
  | zero => exact sc_A m c ⟨0, hn⟩ rfl
  | succ n ih =>
    by_cases h : (n + 1) % 17 = 0
    · exact sc_A m c ⟨n + 1, hn⟩ h
    · exact (sc_B m c ⟨n + 1, hn⟩ h).trans (ih (Nat.lt_of_succ_lt hn))

/-- What a later point finds in the scratch. -/
theorem kept (c : Dev nD) : View.read (Elt Ideal) (View.whole cc0_scratch0) ((Memref.isWhole_whole cc0_scratch0).unread (a4 m c)) = a4 m c :=
  (Memref.isWhole_whole cc0_scratch0).read_unread _

theorem x_at (c : Dev nD) (t : Fin cfg0.N) (r : Fin 256) (d : Fin 1024) : a0 m c (ix2 (row t r) d) = iblk m c 0 t (ix2 r d) := by
  blk_point [iblk, V, idx t]

theorem nw_at (c : Dev nD) (t : Fin cfg0.N) (d : Fin 1024) : a3 m c (ix1 d) = iblk m c 2 t (ix2 0 d) := by
  symm
  blk_simp [iblk]
  entry_read
  pointwise
  blk_ext [idx t]

theorem ref_shift (c : Dev nD) (t : Fin cfg0.N) (r : Fin 256) (d : Fin 1024) :
    val_main_v33 (F := Ideal) (a1 m c) (a2 m c) (ix2 (row t r) d)
      = if t.val = 0 then a1 m c (ix1 ⟨d.val, by omega⟩) else a2 m c (ix1 ⟨d.val, by omega⟩) := by
  pointwise [val_main_v33, val_main_v31, val_main_v32, val_main_v0, val_main_v6, Cert.InFwdRefIdeal.Value.fn_main_v33]
  by_cases h : t.val = 0
  · have h' : t.val * 256 + r.val < 256 := by omega
    simp only [dif_pos h', if_pos h]
  · have h' : ¬t.val * 256 + r.val < 256 := by omega
    simp only [dif_neg h', if_neg h]

theorem ker_shift (c : Dev nD) (t : Fin cfg0.N) (d : Fin 1024) :
    iblk m c 1 t (ix4 0 0 0 d)
      = if t.val = 0 then a1 m c (ix1 ⟨d.val, by omega⟩) else a2 m c (ix1 ⟨d.val, by omega⟩) := by
  blk_simp [iblk]
  entry_read
  pointwise
  split
  · rename_i h
    blk_simp [idx t] at h
    have h' : t.val = 0 := by omega
    simp only [if_pos h']
    blk_ext [idx t]
  · rename_i h
    blk_simp [idx t] at h
    have h' : ¬t.val = 0 := by omega
    simp only [if_neg h']
    blk_ext [idx t]

theorem shift_eq (c : Dev nD) (t : Fin cfg0.N) (r : Fin 256) (d : Fin 1024) :
    val_main_v33 (F := Ideal) (a1 m c) (a2 m c) (ix2 (row t r) d) = iblk m c 1 t (ix4 0 0 0 d) := by
  rw [ref_shift, ker_shift]

theorem ref_scale (c : Dev nD) (t : Fin cfg0.N) (r : Fin 256) (d : Fin 1024) :
    val_main_v27 (F := Ideal) (a1 m c) (a2 m c) (ix2 (row t r) d)
      = if t.val = 0 then a1 m c (ix1 ⟨1024 + d.val, by omega⟩) else a2 m c (ix1 ⟨1024 + d.val, by omega⟩) := by
  pointwise [val_main_v27, val_main_v25, val_main_v26, val_main_v1, val_main_v7, Cert.InFwdRefIdeal.Value.fn_main_v27]
  by_cases h : t.val = 0
  · have h' : t.val * 256 + r.val < 256 := by omega
    simp only [dif_pos h', if_pos h]
  · have h' : ¬t.val * 256 + r.val < 256 := by omega
    simp only [dif_neg h', if_neg h]

theorem ker_scale (c : Dev nD) (t : Fin cfg0.N) (d : Fin 1024) :
    iblk m c 1 t (ix4 0 1 0 d)
      = if t.val = 0 then a1 m c (ix1 ⟨1024 + d.val, by omega⟩) else a2 m c (ix1 ⟨1024 + d.val, by omega⟩) := by
  blk_simp [iblk]
  entry_read
  pointwise
  split
  · rename_i h
    blk_simp [idx t] at h
    have h' : t.val = 0 := by omega
    simp only [if_pos h']
    blk_ext [idx t]
  · rename_i h
    blk_simp [idx t] at h
    have h' : ¬t.val = 0 := by omega
    simp only [if_neg h']
    blk_ext [idx t]

theorem scale_eq (c : Dev nD) (t : Fin cfg0.N) (r : Fin 256) (d : Fin 1024) :
    val_main_v27 (F := Ideal) (a1 m c) (a2 m c) (ix2 (row t r) d) = iblk m c 1 t (ix4 0 1 0 d) := by
  rw [ref_scale, ker_scale]

theorem hh_eq (c : Dev nD) (t : Fin cfg0.N) :
    k0_pay4 (F := Ideal) (iblk m c 0 t) (iblk m c 2 t) (View.ld (Val := Elt Ideal) (e' := .f32) (iblk m c 1 t) (Rect.unit ![0, 0, 0, 0] ![1, 1, 1, 1024] inb_S1x6x1x1024_S1x1x1x1024_0_0_0_0)) (View.ld (Val := Elt Ideal) (e' := .f32) (iblk m c 1 t) (Rect.unit ![0, 1, 0, 0] ![1, 1, 1, 1024] inb_S1x6x1x1024_S1x1x1x1024_0_1_0_0)) = hh m c t := by
  funext y
  idx_vars y
  pointwise [k0_pay4, hh, val_main_v12, val_main_v13, val_main_v14, val_main_v15, val_main_v16, val_main_v17, val_main_v18, val_main_v19, val_main_v20, val_main_v21, val_main_v22, val_main_v23, val_main_v24, val_main_v28, val_main_v29, val_main_v30, val_main_v34, val_main_cst, val_main_cst_0, val_main_cst_1, val_main_cst_2]
  simp only [shift_eq, scale_eq]
  have hx := x_at m c t y0
  have hn := nw_at m c t
  simp only [hx, hn]

end Cert.InFwdIdeal.Hand

end
-- ==== Proof.InFwdX.lean ====
module

public import proofs.«01_k».proof.Proof.InFwd
public import proofs.«01_k».proof.Proof.InFwdIdealValue
public import Idealize.ShloMosaic.Lib.Pipeline.ReadBack
public import proofs.«01_k».proof.Proof.Gen.InFwdRefIdeal.Run
public import proofs.«01_k».proof.Proof.Gen.InFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InFwdIdeal.Hand
open Cert.InFwdIdeal Cert.InFwdIdeal.Gen

variable (m : (ℓ : Loc nD τ sig) → Buf (Elt Ideal) ℓ)

/-- The input of the products, in the products' own format. -/
theorem h16 (c : Dev nD) (t : Fin cfg0.N) : k0_pay6 (F := Ideal) (iblk m c 0 t) (iblk m c 2 t) (View.ld (Val := Elt Ideal) (e' := .f32) (iblk m c 1 t) (Rect.unit ![0, 0, 0, 0] ![1, 1, 1, 1024] inb_S1x6x1x1024_S1x1x1x1024_0_0_0_0)) (View.ld (Val := Elt Ideal) (e' := .f32) (iblk m c 1 t) (Rect.unit ![0, 1, 0, 0] ![1, 1, 1, 1024] inb_S1x6x1x1024_S1x1x1x1024_0_1_0_0)) = truncf .bf16 (hh m c t) bitsLt_bf16_f32 :=
  congrArg (fun v => truncf .bf16 v bitsLt_bf16_f32) (hh_eq m c t)

theorem h7 (c : Dev nD) (t : Fin cfg0.N) (W : Vec Ideal S1024x1024 .bf16) :
    k0_pay7 (F := Ideal) (iblk m c 0 t) (iblk m c 2 t) (View.ld (Val := Elt Ideal) (e' := .f32) (iblk m c 1 t) (Rect.unit ![0, 0, 0, 0] ![1, 1, 1, 1024] inb_S1x6x1x1024_S1x1x1x1024_0_0_0_0)) (View.ld (Val := Elt Ideal) (e' := .f32) (iblk m c 1 t) (Rect.unit ![0, 1, 0, 0] ![1, 1, 1, 1024] inb_S1x6x1x1024_S1x1x1x1024_0_1_0_0)) W = k0_pay8 (truncf .bf16 (hh m c t) bitsLt_bf16_f32) W := by
  unfold k0_pay7
  rw [h16]
  rfl

/-- One product with 1024 columns of the weights. -/
theorem prod (c : Dev nD) (t : Fin cfg0.N) (j : ℕ) (inb : ∀ a, (![0, j] : Fin 2 → ℕ) a + (![1024, 1024] : Fin 2 → ℕ) a ≤ S1024x9216.size a)
    (x : S256x1024.Idx) (r : Fin 256) (q : Fin 9216) (hr : (r : ℕ) = x 0) (hq : (q : ℕ) = j + x 1) :
    k0_pay8 (F := Ideal) (truncf .bf16 (hh m c t) bitsLt_bf16_f32) (View.ld (Val := Elt Ideal) (e' := .bf16) (a4 m c) (Rect.unit ![0, j] ![1024, 1024] inb)) x
      = Cert.InFwdRefIdeal.Read.val_main_v36 (F := Ideal) (a0 m c) (a1 m c) (a2 m c) (a3 m c) (a4 m c) (ix2 (row t r) q) := by
  obtain rfl : r = x 0 := Fin.ext hr
  clear hr
  have hj : j + (x 1 : ℕ) < 9216 := hq ▸ q.isLt
  obtain rfl : q = ⟨j + x 1, hj⟩ := Fin.ext hq
  clear hq
  idx_vars x
  pointwise [k0_pay8, hh, Cert.InFwdRefIdeal.Read.val_main_v36, Cert.InFwdRefIdeal.Read.val_main_v35]

/-- The same product, kept in the narrower format. -/
theorem prod16 (c : Dev nD) (t : Fin cfg0.N) (j : ℕ) (inb : ∀ a, (![0, j] : Fin 2 → ℕ) a + (![1024, 1024] : Fin 2 → ℕ) a ≤ S1024x9216.size a)
    (x : S256x1024.Idx) (r : Fin 256) (q : Fin 9216) (hr : (r : ℕ) = x 0) (hq : (q : ℕ) = j + x 1) :
    k0_pay12 (F := Ideal) (truncf .bf16 (hh m c t) bitsLt_bf16_f32) (View.ld (Val := Elt Ideal) (e' := .bf16) (a4 m c) (Rect.unit ![0, j] ![1024, 1024] inb)) x
      = Cert.InFwdRefIdeal.Read.val_main_v36 (F := Ideal) (a0 m c) (a1 m c) (a2 m c) (a3 m c) (a4 m c) (ix2 (row t r) q) :=
  prod m c t j inb x r q hr hq

/-- Tile `t` of the first result, as the reference computes it. -/
def parts (c : Dev nD) (t : Fin cfg0.N) : FVec Ideal S256x4096 .f32 := fun y => Cert.InFwdRefIdeal.Read.val_main_v37 (F := Ideal) (a0 m c) (a1 m c) (a2 m c) (a3 m c) (a4 m c) (ix2 (row t (y 0)) (y 1))

theorem parts_at (c : Dev nD) (t : Fin cfg0.N) (r : Fin 256) (d : Fin 4096) : parts m c t (ix2 r d) = Cert.InFwdRefIdeal.Read.val_main_v37 (F := Ideal) (a0 m c) (a1 m c) (a2 m c) (a3 m c) (a4 m c) (ix2 (row t r) d) := rfl

theorem parts_of (c : Dev nD) (t : Fin cfg0.N) (y : S256x4096.Idx) : parts m c t y = Cert.InFwdRefIdeal.Read.val_main_v36 (F := Ideal) (a0 m c) (a1 m c) (a2 m c) (a3 m c) (a4 m c) (ix2 (row t (y 0)) ⟨(y 1).val, by have h : ((y 1 : Fin _) : ℕ) < 4096 := (y 1).isLt; omega⟩) := by
  idx_vars y
  pointwise [parts, Cert.InFwdRefIdeal.Read.val_main_v37]

theorem left3 (c : Dev nD) (t : Fin cfg0.N) : (outsAt0 m c t.val t.isLt).1 = parts m c t := by
  have g := h16 m c t
  by_cases h : t.val % 17 = 0
  · have e := sc_A m c t h
    rw [outsAt0_A m c t h] at e ⊢; frame_out at e ⊢
    simp only [View.readCov_eq_canon' (View.whole cc0_scratch0), e]
    clear e h
    funext y
    canon_tiles x h
    · rw [parts_of]; exact (congrFun (congrArg (fun v => k0_pay10 (F := Ideal) v _) g) x).trans (prod m c t 3072 _ x _ _ h0 (show (y 1 : ℕ) = 3072 + (x 1 : ℕ) by omega))
    · rw [parts_of]; exact (congrFun (congrArg (fun v => k0_pay9 (F := Ideal) v _) g) x).trans (prod m c t 2048 _ x _ _ h0 (show (y 1 : ℕ) = 2048 + (x 1 : ℕ) by omega))
    · rw [parts_of]; exact (congrFun (congrArg (fun v => k0_pay8 (F := Ideal) v _) g) x).trans (prod m c t 1024 _ x _ _ h0 (show (y 1 : ℕ) = 1024 + (x 1 : ℕ) by omega))
    · rw [parts_of]; exact (congrFun (h7 m c t _) x).trans (prod m c t 0 _ x _ _ h0 (show (y 1 : ℕ) = 0 + (x 1 : ℕ) by omega))
  · rw [outsAt0_B m c t h]; frame_out
    have u := kept m c
    simp only [staged m c, u]
    clear u h
    funext y
    canon_tiles x h
    · rw [parts_of]; exact (congrFun (congrArg (fun v => k0_pay10 (F := Ideal) v _) g) x).trans (prod m c t 3072 _ x _ _ h0 (show (y 1 : ℕ) = 3072 + (x 1 : ℕ) by omega))
    · rw [parts_of]; exact (congrFun (congrArg (fun v => k0_pay9 (F := Ideal) v _) g) x).trans (prod m c t 2048 _ x _ _ h0 (show (y 1 : ℕ) = 2048 + (x 1 : ℕ) by omega))
    · rw [parts_of]; exact (congrFun (congrArg (fun v => k0_pay8 (F := Ideal) v _) g) x).trans (prod m c t 1024 _ x _ _ h0 (show (y 1 : ℕ) = 1024 + (x 1 : ℕ) by omega))
    · rw [parts_of]; exact (congrFun (h7 m c t _) x).trans (prod m c t 0 _ x _ _ h0 (show (y 1 : ℕ) = 0 + (x 1 : ℕ) by omega))

theorem final3 (c : Dev nD) : (dats m 0 c).arrAt 3 (cfgs 0).N = Cert.InFwdRefIdeal.Read.val_main_v37 (F := Ideal) (a0 m c) (a1 m c) (a2 m c) (a3 m c) (a4 m c) := by
  refine (dats m 0 c).arrAt_eq_of_covers 3 _ (by decide +kernel) fun t _ y => ?_
  blk_simp
  rw [after0_3, left3]
  idx_vars y
  rw [parts_at]
  blk_ext [idx t]

end Cert.InFwdIdeal.Hand

end
-- ==== Proof.InFwdY.lean ====
module

public import proofs.«01_k».proof.Proof.InFwdX
public import proofs.«01_k».proof.Proof.InFwdIdealValue
public import Idealize.ShloMosaic.Lib.Pipeline.ReadBack
public import proofs.«01_k».proof.Proof.Gen.InFwdRefIdeal.Run
public import proofs.«01_k».proof.Proof.Gen.InFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InFwdIdeal.Hand
open Cert.InFwdIdeal Cert.InFwdIdeal.Gen

variable (m : (ℓ : Loc nD τ sig) → Buf (Elt Ideal) ℓ)

/-- Tile `t` of the second result, as the reference computes it. -/
def tr (c : Dev nD) (t : Fin cfg0.N) : FVec Ideal S1024x256 .bf16 := fun y => Cert.InFwdRefIdeal.Read.val_main_v39 (F := Ideal) (a0 m c) (a1 m c) (a2 m c) (a3 m c) (ix2 (y 0) (row t (y 1)))

theorem tr_at (c : Dev nD) (t : Fin cfg0.N) (r : Fin 1024) (d : Fin 256) : tr m c t (ix2 r d) = Cert.InFwdRefIdeal.Read.val_main_v39 (F := Ideal) (a0 m c) (a1 m c) (a2 m c) (a3 m c) (ix2 r (row t d)) := rfl

theorem turned (c : Dev nD) (t : Fin cfg0.N) : truncf .bf16 (transpose S1024x256 [1, 0] (hh m c t) transposes_S256x1024_p1_0_S1024x256) bitsLt_bf16_f32 = tr m c t := by
  funext y
  idx_vars y
  pointwise [tr, hh, Cert.InFwdRefIdeal.Read.val_main_v38, Cert.InFwdRefIdeal.Read.val_main_v39]

theorem left4 (c : Dev nD) (t : Fin cfg0.N) : (outsAt0 m c t.val t.isLt).2.1 = tr m c t := by
  rw [← turned, ← hh_eq]
  by_cases h : t.val % 17 = 0
  · rw [outsAt0_A m c t h]; frame_out
    rfl
  · rw [outsAt0_B m c t h]; frame_out
    rfl

theorem final4 (c : Dev nD) : (dats m 0 c).arrAt 4 (cfgs 0).N = Cert.InFwdRefIdeal.Read.val_main_v39 (F := Ideal) (a0 m c) (a1 m c) (a2 m c) (a3 m c) := by
  refine (dats m 0 c).arrAt_eq_of_covers 4 _ (by decide +kernel) fun t _ y => ?_
  blk_simp
  rw [after0_4, left4]
  idx_vars y
  rw [tr_at]
  blk_ext [idx t]

/-- Tile `t` of the third result, as the reference computes it. -/
def iv (c : Dev nD) (t : Fin cfg0.N) : FVec Ideal S256x1024 .bf16 := fun y => Cert.InFwdRefIdeal.Read.val_main_v41 (F := Ideal) (a0 m c) (a1 m c) (a2 m c) (a3 m c) (a4 m c) (ix2 (row t (y 0)) (y 1))

theorem iv_at (c : Dev nD) (t : Fin cfg0.N) (r : Fin 256) (d : Fin 1024) : iv m c t (ix2 r d) = Cert.InFwdRefIdeal.Read.val_main_v41 (F := Ideal) (a0 m c) (a1 m c) (a2 m c) (a3 m c) (a4 m c) (ix2 (row t r) d) := rfl

theorem piece5 (c : Dev nD) (t : Fin cfg0.N) : k0_pay11 (F := Ideal) (truncf .bf16 (hh m c t) bitsLt_bf16_f32) (View.ld (Val := Elt Ideal) (e' := .bf16) (a4 m c) (Rect.unit ![0, 3072] ![1024, 1024] inb_S1024x9216_S1024x1024_0_3072)) = iv m c t := by
  funext y
  refine (prod m c t 3072 _ y (y 0) ⟨3072 + (y 1).val, by have h : ((y 1 : Fin _) : ℕ) < 1024 := (y 1).isLt; omega⟩ rfl rfl).trans ?_
  idx_vars y
  pointwise [iv, Cert.InFwdRefIdeal.Read.val_main_v40, Cert.InFwdRefIdeal.Read.val_main_v41]

theorem left5 (c : Dev nD) (t : Fin cfg0.N) : (outsAt0 m c t.val t.isLt).2.2.1 = iv m c t := by
  rw [← piece5, ← h16]
  by_cases h : t.val % 17 = 0
  · have e := sc_A m c t h
    rw [outsAt0_A m c t h] at e ⊢; frame_out at e ⊢
    simp only [View.readCov_eq_canon' (View.whole cc0_scratch0), e]
    rfl
  · rw [outsAt0_B m c t h]; frame_out
    have u := kept m c
    simp only [staged m c, u]
    rfl

theorem final5 (c : Dev nD) : (dats m 0 c).arrAt 5 (cfgs 0).N = Cert.InFwdRefIdeal.Read.val_main_v41 (F := Ideal) (a0 m c) (a1 m c) (a2 m c) (a3 m c) (a4 m c) := by
  refine (dats m 0 c).arrAt_eq_of_covers 5 _ (by decide +kernel) fun t _ y => ?_
  blk_simp
  rw [after0_5, left5]
  idx_vars y
  rw [iv_at]
  blk_ext [idx t]

end Cert.InFwdIdeal.Hand

end
-- ==== Proof.InFwdZ.lean ====
module

public import proofs.«01_k».proof.Proof.InFwdX
public import proofs.«01_k».proof.Proof.InFwdIdealValue
public import Idealize.ShloMosaic.Lib.Pipeline.ReadBack
public import proofs.«01_k».proof.Proof.Gen.InFwdRefIdeal.Run
public import proofs.«01_k».proof.Proof.Gen.InFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InFwdIdeal.Hand
open Cert.InFwdIdeal Cert.InFwdIdeal.Gen

variable (m : (ℓ : Loc nD τ sig) → Buf (Elt Ideal) ℓ)

/-- Tile `t` of the fourth result, as the reference computes it. -/
def mix (c : Dev nD) (t : Fin cfg0.N) : FVec Ideal S256x5120 .bf16 := fun y => Cert.InFwdRefIdeal.Read.val_main_v43 (F := Ideal) (a0 m c) (a1 m c) (a2 m c) (a3 m c) (a4 m c) (ix2 (row t (y 0)) (y 1))

theorem mix_at (c : Dev nD) (t : Fin cfg0.N) (r : Fin 256) (d : Fin 5120) : mix m c t (ix2 r d) = Cert.InFwdRefIdeal.Read.val_main_v43 (F := Ideal) (a0 m c) (a1 m c) (a2 m c) (a3 m c) (a4 m c) (ix2 (row t r) d) := rfl

theorem mix_of (c : Dev nD) (t : Fin cfg0.N) (y : S256x5120.Idx) : mix m c t y = Cert.InFwdRefIdeal.Read.val_main_v36 (F := Ideal) (a0 m c) (a1 m c) (a2 m c) (a3 m c) (a4 m c) (ix2 (row t (y 0)) ⟨4096 + (y 1).val, by have h : ((y 1 : Fin _) : ℕ) < 5120 := (y 1).isLt; omega⟩) := by
  idx_vars y
  pointwise [mix, Cert.InFwdRefIdeal.Read.val_main_v42, Cert.InFwdRefIdeal.Read.val_main_v43]

theorem left6 (c : Dev nD) (t : Fin cfg0.N) : (outsAt0 m c t.val t.isLt).2.2.2.1 = mix m c t := by
  have g := h16 m c t
  by_cases h : t.val % 17 = 0
  · have e := sc_A m c t h
    rw [outsAt0_A m c t h] at e ⊢; frame_out at e ⊢
    simp only [View.readCov_eq_canon' (View.whole cc0_scratch0), e]
    clear e h
    funext y
    canon_tiles x h
    · rw [mix_of]; exact (congrFun (congrArg (fun v => k0_pay3 (F := Ideal) v _) g) x).trans (prod16 m c t 8192 _ x _ _ h0 (show 4096 + (y 1 : ℕ) = 8192 + (x 1 : ℕ) by omega))
    · rw [mix_of]; exact (congrFun (congrArg (fun v => k0_pay2 (F := Ideal) v _) g) x).trans (prod16 m c t 7168 _ x _ _ h0 (show 4096 + (y 1 : ℕ) = 7168 + (x 1 : ℕ) by omega))
    · rw [mix_of]; exact (congrFun (congrArg (fun v => k0_pay1 (F := Ideal) v _ _) g) x).trans (prod16 m c t 6144 _ x _ _ h0 (show 4096 + (y 1 : ℕ) = 6144 + (x 1 : ℕ) by omega))
    · rw [mix_of]; exact (congrFun (congrArg (fun v => k0_pay13 (F := Ideal) v _) g) x).trans (prod16 m c t 5120 _ x _ _ h0 (show 4096 + (y 1 : ℕ) = 5120 + (x 1 : ℕ) by omega))
    · rw [mix_of]; exact (congrFun (congrArg (fun v => k0_pay12 (F := Ideal) v _) g) x).trans (prod16 m c t 4096 _ x _ _ h0 (show 4096 + (y 1 : ℕ) = 4096 + (x 1 : ℕ) by omega))
  · rw [outsAt0_B m c t h]; frame_out
    have u := kept m c
    simp only [staged m c, u]
    clear u h
    funext y
    canon_tiles x h
    · rw [mix_of]; exact (congrFun (congrArg (fun v => k0_pay3 (F := Ideal) v _) g) x).trans (prod16 m c t 8192 _ x _ _ h0 (show 4096 + (y 1 : ℕ) = 8192 + (x 1 : ℕ) by omega))
    · rw [mix_of]; exact (congrFun (congrArg (fun v => k0_pay2 (F := Ideal) v _) g) x).trans (prod16 m c t 7168 _ x _ _ h0 (show 4096 + (y 1 : ℕ) = 7168 + (x 1 : ℕ) by omega))
    · rw [mix_of]; exact (congrFun (congrArg (fun v => k0_pay1 (F := Ideal) v _ _) g) x).trans (prod16 m c t 6144 _ x _ _ h0 (show 4096 + (y 1 : ℕ) = 6144 + (x 1 : ℕ) by omega))
    · rw [mix_of]; exact (congrFun (congrArg (fun v => k0_pay13 (F := Ideal) v _) g) x).trans (prod16 m c t 5120 _ x _ _ h0 (show 4096 + (y 1 : ℕ) = 5120 + (x 1 : ℕ) by omega))
    · rw [mix_of]; exact (congrFun (congrArg (fun v => k0_pay12 (F := Ideal) v _) g) x).trans (prod16 m c t 4096 _ x _ _ h0 (show 4096 + (y 1 : ℕ) = 4096 + (x 1 : ℕ) by omega))

theorem final6 (c : Dev nD) : (dats m 0 c).arrAt 6 (cfgs 0).N = Cert.InFwdRefIdeal.Read.val_main_v43 (F := Ideal) (a0 m c) (a1 m c) (a2 m c) (a3 m c) (a4 m c) := by
  refine (dats m 0 c).arrAt_eq_of_covers 6 _ (by decide +kernel) fun t _ y => ?_
  blk_simp
  rw [after0_6, left6]
  idx_vars y
  rw [mix_at]
  blk_ext [idx t]

end Cert.InFwdIdeal.Hand

end
-- ==== Proof.UpFwd.lean ====
module

public import proofs.«01_k».proof.Proof.Gen.UpFwdIdeal.Value
public import Idealize.ShloMosaic.Lib.Pipeline.ReadBack
public import proofs.«01_k».proof.Proof.Gen.UpFwdRefIdeal.Run
public import proofs.«01_k».proof.Proof.Gen.UpFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpFwdIdeal.Hand
open Cert.UpFwdIdeal Cert.UpFwdIdeal.Gen Cert.UpFwdRefIdeal.Read

variable (m : (ℓ : Loc nD τ sig) → Buf (Elt Ideal) ℓ)

theorem idx : ∀ t : Fin cfg0.N, win0_0.index t = ![t.val, 0] ∧ win0_1.index t = ![min t.val 1, 0, 0, 0] ∧ win0_2.index t = ![0, 0]
    ∧ win0_3.index t = ![0, 0, 0] ∧ win0_4.index t = ![0, t.val, 0] ∧ win0_5.index t = ![0, t.val] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)

/-- Tile `t` of the modulated input, as the reference computes it. -/
def hh (c : Dev nD) (t : Fin cfg0.N) : FVec Ideal S256x1024 .f32 := fun y =>
  val_main_v34 (F := Ideal) (a0 m c) (a1 m c) (a2 m c) (a3 m c) (ix2 (row t (y 0)) (y 1))

theorem w_at (c : Dev nD) (t : Fin cfg0.N) (s : Fin 8) (d : Fin 1024) (k : Fin 704) :
    iblk m c 3 t (ix3 s d k) = a4 m c (ix2 d ⟨s.val * 704 + k.val, by omega⟩) := by
  blk_simp [iblk]
  entry_read
  pointwise
  blk_ext [idx t]

theorem x_at (c : Dev nD) (t : Fin cfg0.N) (r : Fin 256) (d : Fin 1024) : a0 m c (ix2 (row t r) d) = iblk m c 0 t (ix2 r d) := by
  blk_point [iblk, V, idx t]

theorem nw_at (c : Dev nD) (t : Fin cfg0.N) (d : Fin 1024) : a3 m c (ix1 d) = iblk m c 2 t (ix2 0 d) := by
  symm
  blk_simp [iblk]
  entry_read
  pointwise
  blk_ext [idx t]

theorem ref_shift (c : Dev nD) (t : Fin cfg0.N) (r : Fin 256) (d : Fin 1024) :
    val_main_v33 (F := Ideal) (a1 m c) (a2 m c) (ix2 (row t r) d)
      = if t.val = 0 then a1 m c (ix1 ⟨3072 + d.val, by omega⟩) else a2 m c (ix1 ⟨3072 + d.val, by omega⟩) := by
  pointwise [val_main_v33, val_main_v31, val_main_v32, val_main_v3, val_main_v9, Cert.UpFwdRefIdeal.Value.fn_main_v33]
  by_cases h : t.val = 0
  · have h' : t.val * 256 + r.val < 256 := by omega
    simp only [dif_pos h', if_pos h]
  · have h' : ¬t.val * 256 + r.val < 256 := by omega
    simp only [dif_neg h', if_neg h]

theorem ker_shift (c : Dev nD) (t : Fin cfg0.N) (d : Fin 1024) :
    iblk m c 1 t (ix4 0 3 0 d)
      = if t.val = 0 then a1 m c (ix1 ⟨3072 + d.val, by omega⟩) else a2 m c (ix1 ⟨3072 + d.val, by omega⟩) := by
  blk_simp [iblk]
  entry_read
  pointwise
  split
  · rename_i h
    blk_simp [idx t] at h
    have h' : t.val = 0 := by omega
    simp only [if_pos h']
    blk_ext [idx t]
  · rename_i h
    blk_simp [idx t] at h
    have h' : ¬t.val = 0 := by omega
    simp only [if_neg h']
    blk_ext [idx t]

theorem shift_eq (c : Dev nD) (t : Fin cfg0.N) (r : Fin 256) (d : Fin 1024) :
    val_main_v33 (F := Ideal) (a1 m c) (a2 m c) (ix2 (row t r) d) = iblk m c 1 t (ix4 0 3 0 d) := by
  rw [ref_shift, ker_shift]

theorem ref_scale (c : Dev nD) (t : Fin cfg0.N) (r : Fin 256) (d : Fin 1024) :
    val_main_v27 (F := Ideal) (a1 m c) (a2 m c) (ix2 (row t r) d)
      = if t.val = 0 then a1 m c (ix1 ⟨4096 + d.val, by omega⟩) else a2 m c (ix1 ⟨4096 + d.val, by omega⟩) := by
  pointwise [val_main_v27, val_main_v25, val_main_v26, val_main_v4, val_main_v10, Cert.UpFwdRefIdeal.Value.fn_main_v27]
  by_cases h : t.val = 0
  · have h' : t.val * 256 + r.val < 256 := by omega
    simp only [dif_pos h', if_pos h]
  · have h' : ¬t.val * 256 + r.val < 256 := by omega
    simp only [dif_neg h', if_neg h]

theorem ker_scale (c : Dev nD) (t : Fin cfg0.N) (d : Fin 1024) :
    iblk m c 1 t (ix4 0 4 0 d)
      = if t.val = 0 then a1 m c (ix1 ⟨4096 + d.val, by omega⟩) else a2 m c (ix1 ⟨4096 + d.val, by omega⟩) := by
  blk_simp [iblk]
  entry_read
  pointwise
  split
  · rename_i h
    blk_simp [idx t] at h
    have h' : t.val = 0 := by omega
    simp only [if_pos h']
    blk_ext [idx t]
  · rename_i h
    blk_simp [idx t] at h
    have h' : ¬t.val = 0 := by omega
    simp only [if_neg h']
    blk_ext [idx t]

theorem scale_eq (c : Dev nD) (t : Fin cfg0.N) (r : Fin 256) (d : Fin 1024) :
    val_main_v27 (F := Ideal) (a1 m c) (a2 m c) (ix2 (row t r) d) = iblk m c 1 t (ix4 0 4 0 d) := by
  rw [ref_scale, ker_scale]

theorem hh_eq (c : Dev nD) (t : Fin cfg0.N) :
    k0_pay4 (F := Ideal) (iblk m c 0 t) (iblk m c 2 t) (View.ld (Val := Elt Ideal) (e' := .f32) (iblk m c 1 t) (Rect.unit ![0, 3, 0, 0] ![1, 1, 1, 1024] inb_S1x6x1x1024_S1x1x1x1024_0_3_0_0)) (View.ld (Val := Elt Ideal) (e' := .f32) (iblk m c 1 t) (Rect.unit ![0, 4, 0, 0] ![1, 1, 1, 1024] inb_S1x6x1x1024_S1x1x1x1024_0_4_0_0)) = hh m c t := by
  funext y
  idx_vars y
  pointwise [k0_pay4, hh, val_main_v12, val_main_v13, val_main_v14, val_main_v15, val_main_v16, val_main_v17, val_main_v18, val_main_v19, val_main_v20, val_main_v21, val_main_v22, val_main_v23, val_main_v24, val_main_v28, val_main_v29, val_main_v30, val_main_v34, val_main_cst, val_main_cst_0, val_main_cst_1, val_main_cst_2]
  simp only [shift_eq, scale_eq]
  have hx := x_at m c t y0
  have hn := nw_at m c t
  simp only [hx, hn]

/-- Tile `t` of the first result, as the reference computes it. -/
def up (c : Dev nD) (t : Fin cfg0.N) : FVec Ideal S8x256x704 .f32 := fun y =>
  val_main_v38 (F := Ideal) (a0 m c) (a1 m c) (a2 m c) (a3 m c) (a4 m c) (ix3 (y 0) (row t (y 1)) (y 2))

theorem up_at (c : Dev nD) (t : Fin cfg0.N) (s : Fin 8) (r : Fin 256) (k : Fin 704) : up m c t (ix3 s r k)
    = val_main_v38 (F := Ideal) (a0 m c) (a1 m c) (a2 m c) (a3 m c) (a4 m c) (ix3 s (row t r) k) := rfl

/-- The input of the products, in the products' own format. -/
theorem h16 (c : Dev nD) (t : Fin cfg0.N) : k0_pay13 (F := Ideal) (iblk m c 0 t) (iblk m c 1 t) (iblk m c 2 t) (iblk m c 3 t) = truncf .bf16 (hh m c t) bitsLt_bf16_f32 := by
  unfold k0_pay13 r0_0 r0_1 r0_2 r0_3
  simp (disch := decide) only [View.ld_unit_lit']
  exact congrArg (fun v => truncf .bf16 v bitsLt_bf16_f32) (hh_eq m c t)

/-- One slot's product. -/
theorem prod (c : Dev nD) (t : Fin cfg0.N) (j : ℕ) (hj : j < 8) (inb : ∀ a, (![j, 0, 0] : Fin 3 → ℕ) a + (![1, 1024, 704] : Fin 3 → ℕ) a ≤ S8x1024x704.size a)
    (x : S1x256x704.Idx) (y : S8x256x704.Idx) (h0 : (y 0 : ℕ) = j + x 0) (x0_lt : (x 0 : ℕ) < 1) (h1 : (y 1 : ℕ) = x 1) (h2 : (y 2 : ℕ) = x 2) :
    k0_pay3 (F := Ideal) (truncf .bf16 (hh m c t) bitsLt_bf16_f32) (View.ld (Val := Elt Ideal) (e' := .bf16) (iblk m c 3 t) (Rect.unit ![j, 0, 0] ![1, 1024, 704] inb)) x = up m c t y := by
  obtain rfl : y = ix3 ⟨j, hj⟩ (x 1) (x 2) := by
    funext a
    fin_cases a
    · exact Fin.ext (show (y 0 : ℕ) = j by omega)
    · exact Fin.ext h1
    · exact Fin.ext h2
  clear h0 h1 h2 x0_lt
  idx_vars x
  pointwise [k0_pay3, up, hh, val_main_v38, val_main_v37, val_main_v36, val_main_v35]
  have hw := w_at m c t
  simp only [hw]

theorem h7 (c : Dev nD) (t : Fin cfg0.N) (W : Vec Ideal S1x1024x704 .bf16) :
    k0_pay8 (F := Ideal) (k0_pay7 (iblk m c 0 t) (iblk m c 2 t) (View.ld (iblk m c 1 t) r0_2) (View.ld (iblk m c 1 t) r0_3) W) = k0_pay3 (truncf .bf16 (hh m c t) bitsLt_bf16_f32) W := by
  unfold k0_pay8 k0_pay7 k0_pay6 r0_2 r0_3
  rw [hh_eq]
  rfl

theorem left4 (c : Dev nD) (t : Fin cfg0.N) : out0_4 (iblk m c 0 t) (iblk m c 1 t) (iblk m c 2 t) (iblk m c 3 t) = up m c t := by
  have e := h16 m c t
  frame_out
  funext y
  canon_tiles x h
  case piece0 => rw [e]; exact prod m c t 7 (by omega) _ x y h0 x0_lt h1 h2
  case piece1 => rw [e]; exact prod m c t 6 (by omega) _ x y h0 x0_lt h1 h2
  case piece2 => rw [e]; exact prod m c t 5 (by omega) _ x y h0 x0_lt h1 h2
  case piece3 => rw [e]; exact prod m c t 4 (by omega) _ x y h0 x0_lt h1 h2
  case piece4 => rw [e]; exact prod m c t 3 (by omega) _ x y h0 x0_lt h1 h2
  case piece5 => rw [e]; exact prod m c t 2 (by omega) _ x y h0 x0_lt h1 h2
  case piece6 => rw [e]; exact prod m c t 1 (by omega) _ x y h0 x0_lt h1 h2
  case piece7 =>
    exact (congrFun (h7 m c t _) x).trans (prod m c t 0 (by omega) _ x y (by omega) x0_lt h1 h2)

theorem final4 (c : Dev nD) : (dats m 0 c).arrAt 4 (cfgs 0).N
    = val_main_v38 (F := Ideal) (a0 m c) (a1 m c) (a2 m c) (a3 m c) (a4 m c) := by
  refine (dats m 0 c).arrAt_eq_of_covers 4 _ (by decide +kernel) fun t _ y => ?_
  blk_simp
  rw [after0_4, left4]
  idx_vars y
  rw [up_at]
  blk_ext [idx t]

/-- Tile `t` of the second result, as the reference computes it. -/
def tr (c : Dev nD) (t : Fin cfg0.N) : FVec Ideal S1024x256 .bf16 := fun y =>
  val_main_v40 (F := Ideal) (a0 m c) (a1 m c) (a2 m c) (a3 m c) (ix2 (y 0) (row t (y 1)))

theorem tr_at (c : Dev nD) (t : Fin cfg0.N) (d : Fin 1024) (r : Fin 256) : tr m c t (ix2 d r)
    = val_main_v40 (F := Ideal) (a0 m c) (a1 m c) (a2 m c) (a3 m c) (ix2 d (row t r)) := rfl

theorem turned (c : Dev nD) (t : Fin cfg0.N) : truncf .bf16 (transpose S1024x256 [1, 0] (hh m c t) transposes_S256x1024_p1_0_S1024x256) bitsLt_bf16_f32 = tr m c t := by
  funext y
  idx_vars y
  pointwise [tr, hh, val_main_v39, val_main_v40]

theorem left5 (c : Dev nD) (t : Fin cfg0.N) : out0_5 (iblk m c 0 t) (iblk m c 1 t) (iblk m c 2 t) (iblk m c 3 t) = tr m c t := by
  rw [← turned, ← hh_eq]
  frame_out
  rfl

theorem final5 (c : Dev nD) : (dats m 0 c).arrAt 5 (cfgs 0).N
    = val_main_v40 (F := Ideal) (a0 m c) (a1 m c) (a2 m c) (a3 m c) := by
  refine (dats m 0 c).arrAt_eq_of_covers 5 _ (by decide +kernel) fun t _ y => ?_
  blk_simp
  rw [after0_5, left5]
  idx_vars y
  rw [tr_at]
  blk_ext [idx t]

end Cert.UpFwdIdeal.Hand

end
-- ==== Proof.UpLast.lean ====
module

public import proofs.«01_k».proof.Proof.Gen.UpLastIdeal.Value
public import Idealize.ShloMosaic.Lib.Pipeline.ReadBack
public import proofs.«01_k».proof.Proof.Gen.UpLastRefIdeal.Run
public import proofs.«01_k».proof.Proof.Gen.UpLastRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpLastIdeal.Hand
open Cert.UpLastIdeal Cert.UpLastIdeal.Gen Cert.UpLastRefIdeal.Read

variable (m : (ℓ : Loc nD τ sig) → Buf (Elt Ideal) ℓ)

theorem idx : ∀ t : Fin cfg0.N, win0_0.index t = ![t.val, 0] ∧ win0_1.index t = ![min t.val 1, 0, 0, 0] ∧ win0_2.index t = ![0, 0]
    ∧ win0_3.index t = ![0, 0, 0] ∧ win0_4.index t = ![0, t.val, 0] ∧ win0_5.index t = ![0, t.val] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)

/-- Tile `t` of the modulated input, as the reference computes it. -/
def hh (c : Dev nD) (t : Fin cfg0.N) : FVec Ideal S256x1024 .f32 := fun y =>
  val_main_v29 (F := Ideal) (a0 m c) (a2 m c) (a3 m c) (ix2 (row t (y 0)) (y 1))

theorem w_at (c : Dev nD) (t : Fin cfg0.N) (s : Fin 8) (d : Fin 1024) (k : Fin 704) :
    iblk m c 3 t (ix3 s d k) = a4 m c (ix2 d ⟨s.val * 704 + k.val, by omega⟩) := by
  blk_simp [iblk]
  entry_read
  pointwise
  blk_ext [idx t]

theorem x_at (c : Dev nD) (t : Fin cfg0.N) (ht : 1 ≤ t.val) (r : Fin 256) (d : Fin 1024) :
    a0 m c (ix2 ⟨256 + (t.val * 256 + r.val - 256), by have h := row_lt t r; omega⟩ d) = iblk m c 0 t (ix2 r d) := by
  blk_point [iblk, V, idx t]

theorem nw_at (c : Dev nD) (t : Fin cfg0.N) (d : Fin 1024) : a3 m c (ix1 d) = iblk m c 2 t (ix2 0 d) := by
  symm
  blk_simp [iblk]
  entry_read
  pointwise
  blk_ext [idx t]

theorem ker_shift (c : Dev nD) (t : Fin cfg0.N) (ht : 1 ≤ t.val) (d : Fin 1024) :
    a2 m c (ix1 ⟨3072 + d.val, by omega⟩) = iblk m c 1 t (ix4 0 3 0 d) := by
  symm
  blk_simp [iblk]
  entry_read
  pointwise
  split
  · rename_i h
    blk_simp [idx t] at h
    omega
  · rename_i h
    blk_simp [idx t] at h
    blk_ext [idx t]

theorem ker_scale (c : Dev nD) (t : Fin cfg0.N) (ht : 1 ≤ t.val) (d : Fin 1024) :
    a2 m c (ix1 ⟨4096 + d.val, by omega⟩) = iblk m c 1 t (ix4 0 4 0 d) := by
  symm
  blk_simp [iblk]
  entry_read
  pointwise
  split
  · rename_i h
    blk_simp [idx t] at h
    omega
  · rename_i h
    blk_simp [idx t] at h
    blk_ext [idx t]

theorem low (c : Dev nD) (t : Fin cfg0.N) (ht : ¬1 ≤ t.val) (r : Fin 256) (d : Fin 1024) :
    val_main_v29 (F := Ideal) (a0 m c) (a2 m c) (a3 m c) (ix2 (row t r) d) = 0 := by
  have h : t.val * 256 + r.val < 256 := by omega
  pointwise [val_main_v29, val_main_v28, val_main_cst_3, Cert.UpLastRefIdeal.Value.fn_main_v29]
  simp only [dif_pos h]

theorem high (c : Dev nD) (t : Fin cfg0.N) (ht : 1 ≤ t.val) (r : Fin 256) (d : Fin 1024) :
    val_main_v29 (F := Ideal) (a0 m c) (a2 m c) (a3 m c) (ix2 (row t r) d)
      = val_main_v27 (F := Ideal) (a0 m c) (a2 m c) (a3 m c) (ix2 ⟨t.val * 256 + r.val - 256, by have h := row_lt t r; omega⟩ d) := by
  have h : ¬t.val * 256 + r.val < 256 := by omega
  pointwise [val_main_v29, Cert.UpLastRefIdeal.Value.fn_main_v29]
  simp only [dif_neg h]

theorem hh_eq (c : Dev nD) (t : Fin cfg0.N) (ht : 1 ≤ t.val) :
    k0_pay6 (F := Ideal) (iblk m c 0 t) (iblk m c 2 t) (View.ld (Val := Elt Ideal) (e' := .f32) (iblk m c 1 t) (Rect.unit ![0, 3, 0, 0] ![1, 1, 1, 1024] inb_S1x6x1x1024_S1x1x1x1024_0_3_0_0)) (View.ld (Val := Elt Ideal) (e' := .f32) (iblk m c 1 t) (Rect.unit ![0, 4, 0, 0] ![1, 1, 1, 1024] inb_S1x6x1x1024_S1x1x1x1024_0_4_0_0)) = hh m c t := by
  funext y
  idx_vars y
  have e : hh m c t (ix2 y0 y1) = val_main_v27 (F := Ideal) (a0 m c) (a2 m c) (a3 m c) (ix2 ⟨t.val * 256 + y0.val - 256, by have h := row_lt t y0; omega⟩ y1) := high m c t ht y0 y1
  rw [e]
  clear e
  pointwise [k0_pay6, val_main_v3, val_main_v4, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2]
  have hs := ker_shift m c t ht
  have hc := ker_scale m c t ht
  have hx := x_at m c t ht y0
  have hn := nw_at m c t
  simp only [hs, hc, hx, hn]

/-- Tile `t` of the first result, as the reference computes it. -/
def up (c : Dev nD) (t : Fin cfg0.N) : FVec Ideal S8x256x704 .f32 := fun y =>
  val_main_v33 (F := Ideal) (a0 m c) (a2 m c) (a3 m c) (a4 m c) (ix3 (y 0) (row t (y 1)) (y 2))

theorem up_at (c : Dev nD) (t : Fin cfg0.N) (s : Fin 8) (r : Fin 256) (k : Fin 704) : up m c t (ix3 s r k)
    = val_main_v33 (F := Ideal) (a0 m c) (a2 m c) (a3 m c) (a4 m c) (ix3 s (row t r) k) := rfl

/-- The input of the products, in the products' own format. -/
theorem h16 (c : Dev nD) (t : Fin cfg0.N) (ht : 1 ≤ t.val) : k0_pay8 (F := Ideal) (iblk m c 0 t) (iblk m c 2 t) (View.ld (Val := Elt Ideal) (e' := .f32) (iblk m c 1 t) (Rect.unit ![0, 3, 0, 0] ![1, 1, 1, 1024] inb_S1x6x1x1024_S1x1x1x1024_0_3_0_0)) (View.ld (Val := Elt Ideal) (e' := .f32) (iblk m c 1 t) (Rect.unit ![0, 4, 0, 0] ![1, 1, 1, 1024] inb_S1x6x1x1024_S1x1x1x1024_0_4_0_0)) = truncf .bf16 (hh m c t) bitsLt_bf16_f32 :=
  congrArg (fun v => truncf .bf16 v bitsLt_bf16_f32) (hh_eq m c t ht)

/-- One slot's product. -/
theorem prod (c : Dev nD) (t : Fin cfg0.N) (j : ℕ) (hj : j < 8) (inb : ∀ a, (![j, 0, 0] : Fin 3 → ℕ) a + (![1, 1024, 704] : Fin 3 → ℕ) a ≤ S8x1024x704.size a)
    (x : S1x256x704.Idx) (y : S8x256x704.Idx) (h0 : (y 0 : ℕ) = j + x 0) (x0_lt : (x 0 : ℕ) < 1) (h1 : (y 1 : ℕ) = x 1) (h2 : (y 2 : ℕ) = x 2) :
    k0_pay3 (F := Ideal) (truncf .bf16 (hh m c t) bitsLt_bf16_f32) (View.ld (Val := Elt Ideal) (e' := .bf16) (iblk m c 3 t) (Rect.unit ![j, 0, 0] ![1, 1024, 704] inb)) x = up m c t y := by
  obtain rfl : y = ix3 ⟨j, hj⟩ (x 1) (x 2) := by
    funext a
    fin_cases a
    · exact Fin.ext (show (y 0 : ℕ) = j by omega)
    · exact Fin.ext h1
    · exact Fin.ext h2
  clear h0 h1 h2 x0_lt
  idx_vars x
  pointwise [k0_pay3, up, hh, val_main_v33, val_main_v32, val_main_v31, val_main_v30]
  have hw := w_at m c t
  simp only [hw]

theorem h7 (c : Dev nD) (t : Fin cfg0.N) (ht : 1 ≤ t.val) (W : Vec Ideal S1x1024x704 .bf16) :
    k0_pay10 (F := Ideal) (k0_pay9 (iblk m c 0 t) (iblk m c 2 t) (View.ld (Val := Elt Ideal) (e' := .f32) (iblk m c 1 t) (Rect.unit ![0, 3, 0, 0] ![1, 1, 1, 1024] inb_S1x6x1x1024_S1x1x1x1024_0_3_0_0)) (View.ld (Val := Elt Ideal) (e' := .f32) (iblk m c 1 t) (Rect.unit ![0, 4, 0, 0] ![1, 1, 1, 1024] inb_S1x6x1x1024_S1x1x1x1024_0_4_0_0)) W) = k0_pay3 (truncf .bf16 (hh m c t) bitsLt_bf16_f32) W := by
  unfold k0_pay10 k0_pay9
  rw [h16 m c t ht]
  rfl

theorem up_low (c : Dev nD) (t : Fin cfg0.N) (ht : ¬1 ≤ t.val) : up m c t = k0_pay1 (F := Ideal) := by
  funext y
  idx_vars y
  pointwise [k0_pay1, up, val_main_v33, val_main_v32, val_main_v31, val_main_v30]
  have h := low m c t ht y1
  simp only [h, zero_mul, Finset.sum_const_zero]

theorem left4 (c : Dev nD) (t : Fin cfg0.N) : (outsAt0 m c t.val t.isLt).1 = up m c t := by
  have hN := lt_of_lt_of_eq t.isLt (show cfg0.N = 17 from N_0)
  by_cases ht : 1 ≤ t.val
  · have g := h16 m c t ht
    have g7 := h7 m c t ht
    rw [outsAt0_B m c t (by omega) ht]; frame_out
    clear hN ht
    funext y
    canon_tiles x h
    case piece0 => exact (congrFun (congrArg (fun v => k0_pay5 (F := Ideal) v _) g) x).trans (prod m c t 7 (by omega) _ x y h0 x0_lt h1 h2)
    case piece1 => exact (congrFun (congrArg (fun v => k0_pay4 (F := Ideal) v _) g) x).trans (prod m c t 6 (by omega) _ x y h0 x0_lt h1 h2)
    case piece2 => exact (congrFun (congrArg (fun v => k0_pay3 (F := Ideal) v _) g) x).trans (prod m c t 5 (by omega) _ x y h0 x0_lt h1 h2)
    case piece3 => exact (congrFun (congrArg (fun v => k0_pay14 (F := Ideal) v _) g) x).trans (prod m c t 4 (by omega) _ x y h0 x0_lt h1 h2)
    case piece4 => exact (congrFun (congrArg (fun v => k0_pay13 (F := Ideal) v _) g) x).trans (prod m c t 3 (by omega) _ x y h0 x0_lt h1 h2)
    case piece5 => exact (congrFun (congrArg (fun v => k0_pay12 (F := Ideal) v _) g) x).trans (prod m c t 2 (by omega) _ x y h0 x0_lt h1 h2)
    case piece6 => exact (congrFun (congrArg (fun v => k0_pay11 (F := Ideal) v _) g) x).trans (prod m c t 1 (by omega) _ x y h0 x0_lt h1 h2)
    case piece7 => exact (congrFun (g7 _) x).trans (prod m c t 0 (by omega) _ x y (by omega) x0_lt h1 h2)
  · rw [outsAt0_A m c t (by omega) ht, up_low m c t ht]; frame_out

theorem final4 (c : Dev nD) : (dats m 0 c).arrAt 4 (cfgs 0).N
    = val_main_v33 (F := Ideal) (a0 m c) (a2 m c) (a3 m c) (a4 m c) := by
  refine (dats m 0 c).arrAt_eq_of_covers 4 _ (by decide +kernel) fun t _ y => ?_
  blk_simp
  rw [after0_4, left4]
  idx_vars y
  rw [up_at]
  blk_ext [idx t]

/-- Tile `t` of the second result, as the reference computes it. -/
def tr (c : Dev nD) (t : Fin cfg0.N) : FVec Ideal S1024x256 .bf16 := fun y =>
  val_main_v35 (F := Ideal) (a0 m c) (a2 m c) (a3 m c) (ix2 (y 0) (row t (y 1)))

theorem tr_at (c : Dev nD) (t : Fin cfg0.N) (d : Fin 1024) (r : Fin 256) : tr m c t (ix2 d r)
    = val_main_v35 (F := Ideal) (a0 m c) (a2 m c) (a3 m c) (ix2 d (row t r)) := rfl

theorem turned (c : Dev nD) (t : Fin cfg0.N) : truncf .bf16 (transpose S1024x256 [1, 0] (hh m c t) transposes_S256x1024_p1_0_S1024x256) bitsLt_bf16_f32 = tr m c t := by
  funext y
  idx_vars y
  pointwise [tr, hh, val_main_v34, val_main_v35]

theorem tr_low (c : Dev nD) (t : Fin cfg0.N) (ht : ¬1 ≤ t.val) : tr m c t = k0_pay2 (F := Ideal) := by
  funext y
  idx_vars y
  pointwise [k0_pay2, tr, val_main_v34, val_main_v35]
  exact low m c t ht y1 y0

theorem left5 (c : Dev nD) (t : Fin cfg0.N) : (outsAt0 m c t.val t.isLt).2 = tr m c t := by
  have hN := lt_of_lt_of_eq t.isLt (show cfg0.N = 17 from N_0)
  by_cases ht : 1 ≤ t.val
  · rw [← turned, ← hh_eq m c t ht, outsAt0_B m c t (by omega) ht]; frame_out
    rfl
  · rw [outsAt0_A m c t (by omega) ht, tr_low m c t ht]; frame_out

theorem final5 (c : Dev nD) : (dats m 0 c).arrAt 5 (cfgs 0).N
    = val_main_v35 (F := Ideal) (a0 m c) (a2 m c) (a3 m c) := by
  refine (dats m 0 c).arrAt_eq_of_covers 5 _ (by decide +kernel) fun t _ y => ?_
  blk_simp
  rw [after0_5, left5]
  idx_vars y
  rw [tr_at]
  blk_ext [idx t]

end Cert.UpLastIdeal.Hand

end
-- ==== Proof.FfSkip.lean ====
module

public import proofs.«01_k».proof.Proof.Gen.FfSkipIdeal.Value
public import proofs.«01_k».proof.Proof.Gen.FfSkipRefIdeal.Run
public import proofs.«01_k».proof.Proof.Gen.FfSkipRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfSkipIdeal.Hand
open Cert.FfSkipIdeal Cert.FfSkipIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, t.val, 0]
    ∧ win0_3.index t = ![min t.val 1, 0, 0, 0] ∧ win0_4.index t = ![0, 0] ∧ win0_5.index t = ![0, 0, 0] ∧ win0_6.index t = ![t.val, 0]
    ∧ win0_7.index t = ![0, 0] ∧ win0_8.index t = ![0, 0, 0, 0] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-- The latent row that row `r` of tile `t` is, for every tile but the first. -/
abbrev lrow (t : Fin cfg0.N) (r : Fin 256) : Fin 4096 := ⟨t.val * 256 + r.val - 256, by have h := row_lt t r; omega⟩

/-- Tile `t` of the gradient of the modulated input, as the reference computes it for the latent rows. -/
def dh (c : Dev nD) (t : Fin cfg0.N) : FVec Ideal S256x1024 .f32 := fun y =>
  Cert.FfSkipRefIdeal.Read.val_main_v35 (F := Ideal) (a2 m c) (a6 m c) (ix2 (lrow t (y 0)) (y 1))

/-- The row of the modulation that tile `t` reads its scale from. -/
def scl (c : Dev nD) (t : Fin cfg0.N) : FVec Ideal S1x1x1x1024 .f32 := View.ld (Val := Elt Ideal) (e' := .f32) (iblk m c 3 t) (Rect.unit ![0, 4, 0, 0] ![1, 1, 1, 1024] inb_S1x6x1x1024_S1x1x1x1024_0_4_0_0)

theorem w_at (c : Dev nD) (t : Fin cfg0.N) (s : Fin 8) (d : Fin 1024) (k : Fin 704) :
    iblk m c 5 t (ix3 s d k) = a6 m c (ix2 d ⟨s.val * 704 + k.val, by omega⟩) := by
  blk_point [iblk, V, idx t]

theorem nw_at (c : Dev nD) (t : Fin cfg0.N) (d : Fin 1024) : a5 m c (ix1 d) = iblk m c 4 t (ix2 0 d) := by
  symm
  blk_simp [iblk]
  entry_read
  pointwise
  blk_ext [idx t]

theorem dav_at (c : Dev nD) (t : Fin cfg0.N) (ht : 1 ≤ t.val) (s : Fin 8) (r : Fin 256) (k : Fin 704) :
    iblk m c 2 t (ix3 s r k) = a2 m c (ix2 ⟨256 + (t.val * 256 + r.val - 256), by have h := row_lt t r; omega⟩ ⟨s.val * 704 + k.val, by omega⟩) := by
  blk_point [iblk, V, idx t]

theorem dx_at (c : Dev nD) (t : Fin cfg0.N) (ht : 1 ≤ t.val) (r : Fin 256) (d : Fin 1024) :
    a0 m c (ix2 ⟨256 + (t.val * 256 + r.val - 256), by have h := row_lt t r; omega⟩ d) = iblk m c 0 t (ix2 r d) := by
  blk_point [iblk, V, idx t]

theorem x_at (c : Dev nD) (t : Fin cfg0.N) (ht : 1 ≤ t.val) (r : Fin 256) (d : Fin 1024) :
    a1 m c (ix2 ⟨256 + (t.val * 256 + r.val - 256), by have h := row_lt t r; omega⟩ d) = iblk m c 1 t (ix2 r d) := by
  blk_point [iblk, V, idx t]

theorem scale_at (c : Dev nD) (t : Fin cfg0.N) (ht : 1 ≤ t.val) (d : Fin 1024) :
    a4 m c (ix1 ⟨4096 + d.val, by omega⟩) = iblk m c 3 t (ix4 0 4 0 d) := by
  symm
  blk_simp [iblk]
  entry_read
  pointwise
  split
  · rename_i h
    blk_simp [idx t] at h
    omega
  · rename_i h
    blk_simp [idx t] at h
    blk_ext [idx t]

theorem dh_eq (c : Dev nD) (t : Fin cfg0.N) (ht : 1 ≤ t.val) :
    k0_pay8 (F := Ideal) (k0_pay6 (View.ld (Val := Elt Ideal) (e' := .bf16) (iblk m c 2 t) (Rect.unit ![0, 0, 0] ![1, 256, 704] inb_S8x256x704_S1x256x704_0_0_0)) (View.ld (Val := Elt Ideal) (e' := .bf16) (iblk m c 5 t) (Rect.unit ![0, 0, 0] ![1, 1024, 704] inb_S8x1024x704_S1x1024x704_0_0_0)) (View.ld (Val := Elt Ideal) (e' := .bf16) (iblk m c 2 t) (Rect.unit ![1, 0, 0] ![1, 256, 704] inb_S8x256x704_S1x256x704_1_0_0)) (View.ld (Val := Elt Ideal) (e' := .bf16) (iblk m c 5 t) (Rect.unit ![1, 0, 0] ![1, 1024, 704] inb_S8x1024x704_S1x1024x704_1_0_0)) (View.ld (Val := Elt Ideal) (e' := .bf16) (iblk m c 2 t) (Rect.unit ![2, 0, 0] ![1, 256, 704] inb_S8x256x704_S1x256x704_2_0_0)) (View.ld (Val := Elt Ideal) (e' := .bf16) (iblk m c 5 t) (Rect.unit ![2, 0, 0] ![1, 1024, 704] inb_S8x1024x704_S1x1024x704_2_0_0)) (View.ld (Val := Elt Ideal) (e' := .bf16) (iblk m c 2 t) (Rect.unit ![3, 0, 0] ![1, 256, 704] inb_S8x256x704_S1x256x704_3_0_0)) (View.ld (Val := Elt Ideal) (e' := .bf16) (iblk m c 5 t) (Rect.unit ![3, 0, 0] ![1, 1024, 704] inb_S8x1024x704_S1x1024x704_3_0_0))) (k0_pay7 (View.ld (Val := Elt Ideal) (e' := .bf16) (iblk m c 2 t) (Rect.unit ![4, 0, 0] ![1, 256, 704] inb_S8x256x704_S1x256x704_4_0_0))) (View.ld (Val := Elt Ideal) (e' := .bf16) (iblk m c 5 t) (Rect.unit ![4, 0, 0] ![1, 1024, 704] inb_S8x1024x704_S1x1024x704_4_0_0)) (View.ld (Val := Elt Ideal) (e' := .bf16) (iblk m c 2 t) (Rect.unit ![5, 0, 0] ![1, 256, 704] inb_S8x256x704_S1x256x704_5_0_0)) (View.ld (Val := Elt Ideal) (e' := .bf16) (iblk m c 5 t) (Rect.unit ![5, 0, 0] ![1, 1024, 704] inb_S8x1024x704_S1x1024x704_5_0_0)) (View.ld (Val := Elt Ideal) (e' := .bf16) (iblk m c 2 t) (Rect.unit ![6, 0, 0] ![1, 256, 704] inb_S8x256x704_S1x256x704_6_0_0)) (View.ld (Val := Elt Ideal) (e' := .bf16) (iblk m c 5 t) (Rect.unit ![6, 0, 0] ![1, 1024, 704] inb_S8x1024x704_S1x1024x704_6_0_0)) (View.ld (Val := Elt Ideal) (e' := .bf16) (iblk m c 2 t) (Rect.unit ![7, 0, 0] ![1, 256, 704] inb_S8x256x704_S1x256x704_7_0_0)) (View.ld (Val := Elt Ideal) (e' := .bf16) (iblk m c 5 t) (Rect.unit ![7, 0, 0] ![1, 1024, 704] inb_S8x1024x704_S1x1024x704_7_0_0))
      = dh m c t := by
  funext y
  idx_vars y
  pointwise [k0_pay8, k0_pay7, k0_pay6, dh, Cert.FfSkipRefIdeal.Read.val_main_v35, Cert.FfSkipRefIdeal.Read.val_main_v34, Cert.FfSkipRefIdeal.Read.val_main_v33, Cert.FfSkipRefIdeal.Read.val_main_v31]
  rw [Fin.sum_univ_tiles 8 704 rfl]
  refine Eq.trans ?_ (Fin.sum_fin_congr fun s => Fin.sum_fin_congr fun k => congrArg₂ (fun p q : EReal => p * q) (dav_at m c t ht s y0 k) (w_at m c t s y1 k))
  rw [Fin.sum_univ_eight]

theorem low (c : Dev nD) (t : Fin cfg0.N) (ht : ¬1 ≤ t.val) (r : Fin 256) (d : Fin 1024) :
    Cert.FfSkipRefIdeal.Read.val_main_v68 (F := Ideal) (a0 m c) (a1 m c) (a2 m c) (a4 m c) (a5 m c) (a6 m c) (ix2 (row t r) d) = 0 := by
  have h : t.val * 256 + r.val < 256 := by omega
  pointwise [Cert.FfSkipRefIdeal.Read.val_main_v68, Cert.FfSkipRefIdeal.Read.val_main_v65, Cert.FfSkipRefIdeal.Read.val_main_cst_13, Cert.FfSkipRefIdeal.Value.fn_main_v68]
  simp only [dif_pos h]

theorem high (c : Dev nD) (t : Fin cfg0.N) (ht : 1 ≤ t.val) (r : Fin 256) (d : Fin 1024) :
    Cert.FfSkipRefIdeal.Read.val_main_v68 (F := Ideal) (a0 m c) (a1 m c) (a2 m c) (a4 m c) (a5 m c) (a6 m c) (ix2 (row t r) d)
      = Cert.FfSkipRefIdeal.Read.val_main_v67 (F := Ideal) (a0 m c) (a1 m c) (a2 m c) (a4 m c) (a5 m c) (a6 m c) (ix2 (lrow t r) d) := by
  have h : ¬t.val * 256 + r.val < 256 := by omega
  pointwise [Cert.FfSkipRefIdeal.Read.val_main_v68, Cert.FfSkipRefIdeal.Value.fn_main_v68]
  simp only [dif_neg h]

end Cert.FfSkipIdeal.Hand

end
-- ==== Proof.FfSkipX.lean ====
module

public import proofs.«01_k».proof.Proof.FfSkip
public import proofs.«01_k».proof.Proof.Gen.FfSkipIdeal.Value
public import proofs.«01_k».proof.Proof.Gen.FfSkipRefIdeal.Run
public import proofs.«01_k».proof.Proof.Gen.FfSkipRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfSkipIdeal.Hand
open Cert.FfSkipIdeal Cert.FfSkipIdeal.Gen Cert.FfSkipRefIdeal.Read

variable (m : (ℓ : Loc nD τ sig) → Buf (Elt Ideal) ℓ)

theorem left6 (c : Dev nD) (t : Fin cfg0.N) (ht : 1 ≤ t.val) : (outsAt0 m c t.val t.isLt).1 = k0_pay17 (F := Ideal) (dh m c t) (iblk m c 0 t) (iblk m c 1 t) (k0_pay9 (iblk m c 4 t)) (scl m c t) := by
  have hN := lt_of_lt_of_eq t.isLt (show cfg0.N = 17 from N_0)
  rw [outsAt0_B m c t (by omega) (by omega) ht]; frame_out
  rw [← dh_eq m c t ht]
  rfl

theorem left6_low (c : Dev nD) (t : Fin cfg0.N) (ht : ¬1 ≤ t.val) : (outsAt0 m c t.val t.isLt).1 = k0_pay3 (F := Ideal) := by
  rw [outsAt0_A m c t (by omega) (by omega) ht]; frame_out

theorem point6 (c : Dev nD) (t : Fin cfg0.N) (ht : 1 ≤ t.val) (r : Fin 256) (d : Fin 1024) :
    k0_pay17 (F := Ideal) (dh m c t) (iblk m c 0 t) (iblk m c 1 t) (k0_pay9 (iblk m c 4 t)) (scl m c t) (ix2 r d)
    = val_main_v67 (F := Ideal) (a0 m c) (a1 m c) (a2 m c) (a4 m c) (a5 m c) (a6 m c) (ix2 (lrow t r) d) := by
  pointwise [k0_pay9, k0_pay10, k0_pay11, k0_pay15, k0_pay17, val_main_v4, val_main_v6, val_main_v7, val_main_v8, val_main_v9, val_main_v10, val_main_v11, val_main_v12, val_main_v13, val_main_v14, val_main_v15, val_main_v16, val_main_v17, val_main_v20, val_main_v23, val_main_v24, val_main_v25, val_main_v42, val_main_v43, val_main_v48, val_main_v49, val_main_v51, val_main_v52, val_main_v53, val_main_v54, val_main_v55, val_main_v56, val_main_v57, val_main_v58, val_main_v59, val_main_v60, val_main_v61, val_main_v62, val_main_v63, val_main_v64, val_main_v66, val_main_v67, val_main_cst, val_main_cst_0, val_main_cst_1, val_main_cst_2, val_main_cst_3, val_main_cst_10, val_main_cst_11, val_main_cst_12, dh, scl]
  have hs := scale_at m c t ht
  rw [dx_at m c t ht r d]
  have hx := x_at m c t ht r
  have hn := nw_at m c t
  simp only [hs, hx, hn]

theorem final6 (c : Dev nD) : (dats m 0 c).arrAt 6 (cfgs 0).N
    = val_main_v68 (F := Ideal) (a0 m c) (a1 m c) (a2 m c) (a4 m c) (a5 m c) (a6 m c) := by
  refine (dats m 0 c).arrAt_eq_of_covers 6 _ (by decide +kernel) fun t _ y => ?_
  blk_simp
  rw [after0_6]
  idx_vars y
  by_cases ht : 1 ≤ t.val
  · rw [left6 m c t ht, point6 m c t ht, ← high m c t ht]
    blk_ext [idx t]
  · rw [left6_low m c t ht]
    refine Eq.trans ?_ ((low m c t ht y0 y1).symm.trans ?_)
    · pointwise [k0_pay3]
    · blk_ext [idx t]

end Cert.FfSkipIdeal.Hand

end
-- ==== Proof.FfSkipZ.lean ====
module

public import proofs.«01_k».proof.Proof.FfSkip
public import proofs.«01_k».proof.Proof.Tiles
public import proofs.«01_k».proof.Proof.Gen.FfSkipIdeal.Value
public import proofs.«01_k».proof.Proof.Gen.FfSkipRefIdeal.Run
public import proofs.«01_k».proof.Proof.Gen.FfSkipRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfSkipIdeal.Hand
open Cert.FfSkipIdeal Cert.FfSkipIdeal.Gen Cert.FfSkipRefIdeal.Read

variable (m : (ℓ : Loc nD τ sig) → Buf (Elt Ideal) ℓ)

/-- One tile's part of the second result; the first tile has none. -/
def part7 (c : Dev nD) (t : Fin cfg0.N) (j : S1x1024.Idx) : EReal :=
  if t.val = 0 then 0 else ∑ r : Fin 256, val_main_v45 (F := Ideal) (a1 m c) (a2 m c) (a4 m c) (a6 m c) (ix2 (lrow t r) (j 1))

theorem point7 (c : Dev nD) (t : Fin cfg0.N) (ht : 1 ≤ t.val) (d : Fin 1024) :
    k0_pay16 (F := Ideal) (dh m c t) (iblk m c 1 t) (scl m c t) (ix2 0 d) = part7 m c t (ix2 0 d) := by
  have h : ¬t.val = 0 := by omega
  simp only [part7, if_neg h]
  pointwise [k0_pay16, k0_pay15, k0_pay12, k0_pay11, k0_pay10, dh, scl, val_main_v4, val_main_v6, val_main_v7, val_main_v8, val_main_v9, val_main_v10, val_main_v11, val_main_v12, val_main_v13, val_main_v14, val_main_v18, val_main_v19, val_main_v23, val_main_v24, val_main_v25, val_main_v42, val_main_v43, val_main_v45, val_main_cst, val_main_cst_0, val_main_cst_1, val_main_cst_3]
  have hs := scale_at m c t ht
  refine Fin.sum_fin_congr fun r => ?_
  have hx := x_at m c t ht r
  simp only [hs, hx]

theorem step7_A (c : Dev nD) (t : Fin cfg0.N) (h : t.val % 17 = 0) (j : S1x1024.Idx) :
    (outsAt0 m c t.val t.isLt).2.1 j = 0 + part7 m c t j := by
  have hN := lt_of_lt_of_eq t.isLt (show cfg0.N = 17 from N_0)
  rw [outsAt0_A m c t h h (by omega)]; frame_out
  have e : t.val = 0 := by omega
  simp only [part7, if_pos e]
  idx_vars j
  pointwise [k0_pay1]

theorem step7_B (c : Dev nD) (t : Fin cfg0.N) (h : ¬t.val % 17 = 0) (j : S1x1024.Idx) :
    (outsAt0 m c t.val t.isLt).2.1 j = (outsAt0 m c (t.val - 1) (Nat.lt_of_le_of_lt (Nat.sub_le _ _) t.isLt)).2.1 j + part7 m c t j := by
  have ht : 1 ≤ t.val := by omega
  rw [outsAt0_B m c t h h ht]; frame_out
  idx_vars j
  obtain rfl : j0 = 0 := Subsingleton.elim _ _
  rw [← point7 m c t ht, ← dh_eq m c t ht]
  pointwise [k0_pay18]
  rfl

theorem final7 (c : Dev nD) : (dats m 0 c).arrAt 7 (cfgs 0).N
    = val_main_v76 (F := Ideal) (a1 m c) (a2 m c) (a4 m c) (a6 m c) := by
  refine (dats m 0 c).arrAt_eq_of_covers 7 _ (by decide +kernel) fun t hf y => ?_
  blk_simp
  rw [after0_7, Pipeline.eq_sum_fin_of_reset_step_apply_of_flush (fun n h => (outsAt0 m c n h).2.1) 17 (fun _ => 0) (part7 m c)
    (step7_A m c) (step7_B m c) t ((flush0_7 t).mp hf) _, zero_add]
  have ht : t.val < 17 := lt_of_lt_of_eq t.isLt N_0
  have hs : ∀ s : Fin 17, 17 * (t.val / 17) + s.val = s.val := fun s => by omega
  idx_vars y
  have e : ((cfg0.win 7).blk t).view.emb (ix2 y0 y1) = ix2 0 y1 := by blk_ext [idx t]
  rw [e]
  obtain rfl : y0 = 0 := Subsingleton.elim _ _
  simp only [hs]
  pointwise [val_main_v76, val_main_v50, val_main_v47, val_main_v46, val_main_cst_8, val_main_cst_9]
  rw [Fin.sum_univ_one]
  exact (Fin.sum_fin_congr fun x => rfl).trans (Cert.Tiles.sum_late fun r => val_main_v45 (F := Ideal) (a1 m c) (a2 m c) (a4 m c) (a6 m c) (ix2 r y1))

end Cert.FfSkipIdeal.Hand

end
-- ==== Proof.FfSkipW.lean ====
module

public import proofs.«01_k».proof.Proof.FfSkip
public import proofs.«01_k».proof.Proof.Tiles
public import proofs.«01_k».proof.Proof.Gen.FfSkipIdeal.Value
public import proofs.«01_k».proof.Proof.Gen.FfSkipRefIdeal.Run
public import proofs.«01_k».proof.Proof.Gen.FfSkipRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfSkipIdeal.Hand
open Cert.FfSkipIdeal Cert.FfSkipIdeal.Gen Cert.FfSkipRefIdeal.Read

variable (m : (ℓ : Loc nD τ sig) → Buf (Elt Ideal) ℓ)

/-- The first tile is the one of the prefix's rows. -/
theorem isctx : ∀ t : Fin cfg0.N, 1 ≤ t.val → Scalar.cmpi CmpIPredicate.eq (BitVec.ofNat 32 (grid0.coords t 0).val) 0#32 = 0#1 :=
  (by decide +kernel : ∀ t : Fin grid0.N, _)

theorem hit4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h0 : j0.val = i) (h1 : j1.val = k) :
    View.canon ((⟨Rect.unit ![i, k, 0, 0] ![1, 1, 1, 1024] inb, w⟩ : View.Piece (Elt Ideal) S2x2x1x1024 .f32) :: L) (ix4 j0 j1 0 d) = w (ix4 0 0 0 d) := by
  refine Cert.Tiles.canon_hit (S := S2x2x1x1024) _ _ inb w L _ _ fun a => ?_
  match a with
  | 0 => exact h0
  | 1 => exact h1
  | 2 => rfl
  | 3 => exact (Nat.zero_add _).symm

theorem miss4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h : j0.val ≠ i ∨ j1.val ≠ k) :
    View.canon ((⟨Rect.unit ![i, k, 0, 0] ![1, 1, 1, 1024] inb, w⟩ : View.Piece (Elt Ideal) S2x2x1x1024 .f32) :: L) (ix4 j0 j1 0 d) = View.canon L (ix4 j0 j1 0 d) := by
  rcases h with h | h
  · refine Cert.Tiles.canon_miss (S := S2x2x1x1024) _ _ inb w L _ 0 ?_
    show j0.val < i ∨ i + 1 ≤ j0.val
    omega
  · refine Cert.Tiles.canon_miss (S := S2x2x1x1024) _ _ inb w L _ 1 ?_
    show j1.val < k ∨ k + 1 ≤ j1.val
    omega

/-- One tile's part of the third result: its rows' sums, in the half of the latent rows; the first tile has none. -/
def part8 (c : Dev nD) (t : Fin cfg0.N) (i k : Fin 2) (d : Fin 1024) : EReal :=
  if i.val = 0 then 0
  else if t.val = 0 then 0 else ∑ r : Fin 256, (if k.val = 0 then val_main_v35 (F := Ideal) (a2 m c) (a6 m c) else val_main_v39 (F := Ideal) (a1 m c) (a2 m c) (a5 m c) (a6 m c)) (ix2 (lrow t r) d)

theorem add00 (c : Dev nD) (t : Fin cfg0.N) (ht : 1 ≤ t.val) (x : Vec Ideal S1x1x1x1024 .f32) (d : Fin 1024) :
    k0_pay19 (F := Ideal) 0#1 (k0_pay13 (dh m c t)) x (ix4 0 0 0 d)
      = x (ix4 0 0 0 d) + part8 m c t 0 0 d := by
  have h : ¬t.val = 0 := by omega
  simp only [if_neg h, part8]
  pointwise [k0_pay19, k0_pay13]

theorem add01 (c : Dev nD) (t : Fin cfg0.N) (ht : 1 ≤ t.val) (x : Vec Ideal S1x1x1x1024 .f32) (d : Fin 1024) :
    k0_pay4 (F := Ideal) (k0_pay21 0#1 (k0_pay14 (dh m c t) (iblk m c 1 t) (k0_pay9 (iblk m c 4 t))) x) (ix4 0 0 0 d)
      = x (ix4 0 0 0 d) + part8 m c t 0 1 d := by
  have h : ¬t.val = 0 := by omega
  simp only [if_neg h, part8]
  pointwise [k0_pay4, k0_pay21, k0_pay14]

theorem add10 (c : Dev nD) (t : Fin cfg0.N) (ht : 1 ≤ t.val) (x : Vec Ideal S1x1x1x1024 .f32) (d : Fin 1024) :
    k0_pay20 (F := Ideal) 0#1 (k0_pay13 (dh m c t)) x (ix4 0 0 0 d)
      = x (ix4 0 0 0 d) + part8 m c t 1 0 d := by
  have h : ¬t.val = 0 := by omega
  simp only [if_neg h, part8]
  pointwise [k0_pay20, k0_pay13, dh]

theorem add11 (c : Dev nD) (t : Fin cfg0.N) (ht : 1 ≤ t.val) (x : Vec Ideal S1x1x1x1024 .f32) (d : Fin 1024) :
    k0_pay5 (F := Ideal) 0#1 (k0_pay14 (dh m c t) (iblk m c 1 t) (k0_pay9 (iblk m c 4 t))) x (ix4 0 0 0 d)
      = x (ix4 0 0 0 d) + part8 m c t 1 1 d := by
  have h : ¬t.val = 0 := by omega
  simp only [if_neg h, part8]
  pointwise [k0_pay5, k0_pay14, k0_pay12, k0_pay11, k0_pay10, k0_pay9, val_main_v6, val_main_v7, val_main_v8, val_main_v9, val_main_v10, val_main_v11, val_main_v12, val_main_v13, val_main_v14, val_main_v18, val_main_v19, val_main_v20, val_main_v21, val_main_v22, val_main_v39, val_main_cst, val_main_cst_0, val_main_cst_1, dh]
  have hx := x_at m c t ht
  have hn := nw_at m c t
  simp only [hx, hn]

theorem step8_B (c : Dev nD) (t : Fin cfg0.N) (h : ¬t.val % 17 = 0) (j : S2x2x1x1024.Idx) :
    (outsAt0 m c t.val t.isLt).2.2 j = (outsAt0 m c (t.val - 1) (Nat.lt_of_le_of_lt (Nat.sub_le _ _) t.isLt)).2.2 j + part8 m c t (j 0) (j 1) (j 3) := by
  have ht : 1 ≤ t.val := by omega
  rw [outsAt0_B m c t h h ht]; frame_out
  idx_vars j
  generalize hD : k0_pay8 (F := Ideal) _ _ _ _ _ _ _ _ _ = D
  obtain rfl : D = dh m c t := hD.symm.trans (dh_eq m c t ht)
  clear hD
  obtain rfl : j2 = 0 := Subsingleton.elim _ _
  have hw : Scalar.cmpi CmpIPredicate.eq (BitVec.ofNat 32 (grid0.coords t 0).val) 0#32 = 0#1 := isctx t ht
  rw [hw]
  clear hw
  generalize (outsAt0 m c (t.val - 1) (Nat.lt_of_le_of_lt (Nat.sub_le _ _) t.isLt)).2.2 = old
  have e0 : j0 = 0 ∨ j0 = 1 := by revert j0; decide
  have e1 : j1 = 0 ∨ j1 = 1 := by revert j1; decide
  rcases e0 with rfl | rfl <;> rcases e1 with rfl | rfl
  · rw [miss4 (h := by decide), miss4 (h := by decide), miss4 (h := by decide), hit4 (h0 := by decide) (h1 := by decide)]
    refine (add00 m c t ht _ j3).trans (congrArg (· + _) ?_)
    pointwise
  · rw [miss4 (h := by decide), hit4 (h0 := by decide) (h1 := by decide)]
    refine (add01 m c t ht _ j3).trans (congrArg (· + _) ?_)
    pointwise
  · rw [miss4 (h := by decide), miss4 (h := by decide), hit4 (h0 := by decide) (h1 := by decide)]
    refine (add10 m c t ht _ j3).trans (congrArg (· + _) ?_)
    pointwise
  · rw [hit4 (h0 := by decide) (h1 := by decide)]
    refine (add11 m c t ht _ j3).trans (congrArg (· + _) ?_)
    pointwise

theorem step8_A (c : Dev nD) (t : Fin cfg0.N) (h : t.val % 17 = 0) (j : S2x2x1x1024.Idx) :
    (outsAt0 m c t.val t.isLt).2.2 j = 0 + part8 m c t (j 0) (j 1) (j 3) := by
  have hN := lt_of_lt_of_eq t.isLt (show cfg0.N = 17 from N_0)
  rw [outsAt0_A m c t h h (by omega)]; frame_out
  have e : t.val = 0 := by omega
  simp only [part8, if_pos e, ite_self]
  idx_vars j
  pointwise [k0_pay2]

theorem final8 (c : Dev nD) : (dats m 0 c).arrAt 8 (cfgs 0).N
    = val_main_v77 (F := Ideal) (a1 m c) (a2 m c) (a5 m c) (a6 m c) := by
  refine (dats m 0 c).arrAt_eq_of_covers 8 _ (by decide +kernel) fun t hf y => ?_
  blk_simp
  rw [after0_8, Pipeline.eq_sum_fin_of_reset_step_apply_of_flush (fun n h => (outsAt0 m c n h).2.2) 17 (fun _ => 0) (fun t j => part8 m c t (j 0) (j 1) (j 3))
    (step8_A m c) (step8_B m c) t ((flush0_8 t).mp hf) _, zero_add]
  have ht : t.val < 17 := lt_of_lt_of_eq t.isLt N_0
  have hs : ∀ s : Fin 17, 17 * (t.val / 17) + s.val = s.val := fun s => by omega
  idx_vars y
  have e : ((cfg0.win 8).blk t).view.emb (ix4 y0 y1 y2 y3) = ix4 y0 y1 0 y3 := by blk_ext [idx t]
  rw [e]
  have e0 : y0 = 0 ∨ y0 = 1 := by clear e; revert y0; decide
  have e1 : y1 = 0 ∨ y1 = 1 := by clear e; revert y1; decide
  simp only [hs]
  rcases e0 with rfl | rfl
  · have z : ∀ x : Fin 17, part8 m c ⟨x.val, lt_of_lt_of_eq x.isLt N_0.symm⟩ 0 y1 y3 = 0 := fun x => if_pos rfl
    refine (Finset.sum_eq_zero fun x _ => z x).trans ?_
    clear z
    rcases e1 with rfl | rfl
    · pointwise [val_main_v77, val_main_v75, val_main_v74, val_main_v73, val_main_v72, val_main_v71, val_main_v70, val_main_v69, val_main_v44, val_main_v41, val_main_v40, val_main_v38, val_main_v37, val_main_v36, val_main_cst_4, val_main_cst_5, val_main_cst_6, val_main_cst_7, val_main_cst_14, Cert.FfSkipRefIdeal.Value.fn_main_v75, Cert.FfSkipRefIdeal.Value.fn_main_v72]
    · pointwise [val_main_v77, val_main_v75, val_main_v74, val_main_v73, val_main_v72, val_main_v71, val_main_v70, val_main_v69, val_main_v44, val_main_v41, val_main_v40, val_main_v38, val_main_v37, val_main_v36, val_main_cst_4, val_main_cst_5, val_main_cst_6, val_main_cst_7, val_main_cst_14, Cert.FfSkipRefIdeal.Value.fn_main_v75, Cert.FfSkipRefIdeal.Value.fn_main_v72]
  · rcases e1 with rfl | rfl
    · pointwise [val_main_v77, val_main_v75, val_main_v74, val_main_v73, val_main_v72, val_main_v71, val_main_v70, val_main_v69, val_main_v44, val_main_v41, val_main_v40, val_main_v38, val_main_v37, val_main_v36, val_main_cst_4, val_main_cst_5, val_main_cst_6, val_main_cst_7, val_main_cst_14, Cert.FfSkipRefIdeal.Value.fn_main_v75, Cert.FfSkipRefIdeal.Value.fn_main_v72]
      rw [Fin.sum_univ_one]
      exact (Fin.sum_fin_congr fun x => (by simp only [part8, if_pos, Fin.val_zero, Fin.val_one, one_ne_zero, if_false, if_true])).trans (Cert.Tiles.sum_late fun r => val_main_v35 (F := Ideal) (a2 m c) (a6 m c) (ix2 r y3))
    · pointwise [val_main_v77, val_main_v75, val_main_v74, val_main_v73, val_main_v72, val_main_v71, val_main_v70, val_main_v69, val_main_v44, val_main_v41, val_main_v40, val_main_v38, val_main_v37, val_main_v36, val_main_cst_4, val_main_cst_5, val_main_cst_6, val_main_cst_7, val_main_cst_14, Cert.FfSkipRefIdeal.Value.fn_main_v75, Cert.FfSkipRefIdeal.Value.fn_main_v72]
      rw [Fin.sum_univ_one]
      exact (Fin.sum_fin_congr fun x => (by simp only [part8, if_pos, Fin.val_zero, Fin.val_one, one_ne_zero, if_false, if_true])).trans (Cert.Tiles.sum_late fun r => val_main_v39 (F := Ideal) (a1 m c) (a2 m c) (a5 m c) (a6 m c) (ix2 r y3))

end Cert.FfSkipIdeal.Hand

end
-- ==== Proof.InLat.lean ====
module

public import proofs.«01_k».proof.Proof.InLatIdealValue
public import Idealize.ShloMosaic.Lib.Pipeline.ReadBack
public import proofs.«01_k».proof.Proof.Gen.InLatRefIdeal.Run
public import proofs.«01_k».proof.Proof.Gen.InLatRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InLatIdeal.Hand
open Cert.InLatIdeal Cert.InLatIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![min t.val 1, 0, 0, 0] ∧ win0_4.index t = ![0, 0] ∧ win0_5.index t = ![t.val - 1, 0]
    ∧ win0_6.index t = ![0, 0] ∧ win0_7.index t = ![0, 0, 0, 0] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-- Tile `t` of the gradient of the modulated input, as the reference computes it. -/
def dh (c : Dev nD) (t : Fin cfg0.N) : FVec Ideal S256x1024 .f32 := fun y =>
  Cert.InLatRefIdeal.Read.val_main_v41 (F := Ideal) (a2 m c) (a6 m c) (ix2 (row t (y 0)) (y 1))

/-- The row of the modulation that tile `t` reads its scale from. -/
def scl (c : Dev nD) (t : Fin cfg0.N) : FVec Ideal S1x1x1x1024 .f32 := View.ld (Val := Elt Ideal) (e' := .f32) (iblk m c 3 t) (Rect.unit ![0, 1, 0, 0] ![1, 1, 1, 1024] inb_S1x6x1x1024_S1x1x1x1024_0_1_0_0)

theorem dav_at (c : Dev nD) (t : Fin cfg0.N) (r : Fin 256) (k : Fin 9216) :
    iblk m c 2 t (ix2 r k) = a2 m c (ix2 (row t r) k) := by
  blk_point [iblk, V, idx t]

theorem slot_at (c : Dev nD) (s : Fin 8) (d : Fin 1024) (k : Fin 1152) :
    V m c main_v6 (ix3 s d k) = a6 m c (ix2 d ⟨s.val * 1152 + k.val, by omega⟩) := by
  blk_simp [V]
  entry_read
  pointwise
  blk_ext

/-- What the copy of slot `j` delivers. -/
theorem slot_read (c : Dev nD) (j : ℕ) (hj : j < 8) (inb : ∀ a, (![j, 0, 0] : Fin 3 → ℕ) a + (![1, 1024, 1152] : Fin 3 → ℕ) a ≤ S8x1024x1152.size a) (hn)
    (x : S1024x1152.Idx) (y : S1024x9216.Idx) (h0 : (y 0 : ℕ) = x 0) (h1 : (y 1 : ℕ) = j * 1152 + x 1) :
    View.read (Elt Ideal) (((View.whole main_v6).slice (Rect.unit (s := S8x1024x1152) ![j, 0, 0] ![1, 1024, 1152] inb)).reshape S1024x1152 hn) (V m c main_v6) x = a6 m c y := by
  have e : (Rect.unit (s := S8x1024x1152) ![j, 0, 0] ![1, 1024, 1152] inb).emb (Shape.reshapeEquiv hn x) = ix3 ⟨j, hj⟩ (x 0) (x 1) := by
    rw [show Shape.reshapeEquiv hn x = (Fin.cons ⟨0, Nat.one_pos⟩ x : (⟨3, ![1, 1024, 1152]⟩ : Shape).Idx) from Shape.reshapeEquiv_cons_one ..]
    blk_ext
    all_goals rfl
  refine (congrArg (V m c main_v6) e).trans ((slot_at m c ⟨j, hj⟩ (x 0) (x 1)).trans (congrArg (a6 m c) ?_))
  funext a
  fin_cases a
  · exact Fin.ext h0.symm
  · exact Fin.ext h1.symm

theorem sc_A (c : Dev nD) (t : Fin cfg0.N) (h : t.val % 17 = 0) : (outsAt0 m c t.val t.isLt).2.2.2 = a6 m c := by
  rw [outsAt0_A m c t h]; frame_out
  clear h
  funext y
  canon_tiles x h
  all_goals exact slot_read m c _ (by omega) _ _ x y h0 (by omega)

theorem sc_B (c : Dev nD) (t : Fin cfg0.N) (h : ¬t.val % 17 = 0) : (outsAt0 m c t.val t.isLt).2.2.2 = (outsAt0 m c (t.val - 1) (Nat.lt_of_le_of_lt (Nat.sub_le _ _) t.isLt)).2.2.2 := by
  rw [outsAt0_B m c t h]
  rfl

/-- After every point the scratch holds the weights. -/
theorem staged (c : Dev nD) (n : ℕ) (hn : n < cfg0.N) : (outsAt0 m c n hn).2.2.2 = a6 m c := by
  induction n with
  | zero => exact sc_A m c ⟨0, hn⟩ rfl
  | succ n ih =>
    by_cases h : (n + 1) % 17 = 0
    · exact sc_A m c ⟨n + 1, hn⟩ h
    · exact (sc_B m c ⟨n + 1, hn⟩ h).trans (ih (Nat.lt_of_succ_lt hn))

/-- What a later point finds in the scratch. -/
theorem kept (c : Dev nD) : View.read (Elt Ideal) (View.whole cc0_scratch0) ((Memref.isWhole_whole cc0_scratch0).unread (a6 m c)) = a6 m c :=
  (Memref.isWhole_whole cc0_scratch0).read_unread _

theorem dx_at (c : Dev nD) (t : Fin cfg0.N) (r : Fin 256) (d : Fin 1024) : a0 m c (ix2 (row t r) d) = iblk m c 0 t (ix2 r d) := by
  blk_point [iblk, V, idx t]

theorem x_at (c : Dev nD) (t : Fin cfg0.N) (r : Fin 256) (d : Fin 1024) : a1 m c (ix2 (row t r) d) = iblk m c 1 t (ix2 r d) := by
  blk_point [iblk, V, idx t]

theorem nw_at (c : Dev nD) (t : Fin cfg0.N) (d : Fin 1024) : a5 m c (ix1 d) = iblk m c 4 t (ix2 0 d) := by
  symm
  blk_simp [iblk]
  entry_read
  pointwise
  blk_ext [idx t]

theorem dh_eq (c : Dev nD) (t : Fin cfg0.N) :
    k0_pay5 (F := Ideal) (View.ld (Val := Elt Ideal) (e' := .bf16) (iblk m c 2 t) (Rect.unit ![0, 0] ![256, 2304] inb_S256x9216_S256x2304_0_0)) (View.ld (Val := Elt Ideal) (e' := .bf16) (a6 m c) (Rect.unit ![0, 0] ![1024, 2304] inb_S1024x9216_S1024x2304_0_0)) (View.ld (Val := Elt Ideal) (e' := .bf16) (iblk m c 2 t) (Rect.unit ![0, 2304] ![256, 2304] inb_S256x9216_S256x2304_0_2304)) (View.ld (Val := Elt Ideal) (e' := .bf16) (a6 m c) (Rect.unit ![0, 2304] ![1024, 2304] inb_S1024x9216_S1024x2304_0_2304)) (View.ld (Val := Elt Ideal) (e' := .bf16) (iblk m c 2 t) (Rect.unit ![0, 4608] ![256, 2304] inb_S256x9216_S256x2304_0_4608)) (View.ld (Val := Elt Ideal) (e' := .bf16) (a6 m c) (Rect.unit ![0, 4608] ![1024, 2304] inb_S1024x9216_S1024x2304_0_4608)) (View.ld (Val := Elt Ideal) (e' := .bf16) (iblk m c 2 t) (Rect.unit ![0, 6912] ![256, 2304] inb_S256x9216_S256x2304_0_6912)) (View.ld (Val := Elt Ideal) (e' := .bf16) (a6 m c) (Rect.unit ![0, 6912] ![1024, 2304] inb_S1024x9216_S1024x2304_0_6912))
      = dh m c t := by
  funext y
  idx_vars y
  pointwise [k0_pay5, dh, Cert.InLatRefIdeal.Read.val_main_v41, Cert.InLatRefIdeal.Read.val_main_v40, Cert.InLatRefIdeal.Read.val_main_v38]
  rw [Fin.sum_univ_tiles 4 2304 rfl]
  have hd := dav_at m c t
  simp only [hd]
  rw [Fin.sum_univ_four]
  simp only [show ((0 : Fin 4) : ℕ) * 2304 = 0 from rfl, show ((1 : Fin 4) : ℕ) * 2304 = 2304 from rfl, show ((2 : Fin 4) : ℕ) * 2304 = 4608 from rfl, show ((3 : Fin 4) : ℕ) * 2304 = 6912 from rfl, Nat.zero_add]

theorem ref_scale (c : Dev nD) (t : Fin cfg0.N) (r : Fin 256) (d : Fin 1024) :
    Cert.InLatRefIdeal.Read.val_main_v30 (F := Ideal) (a3 m c) (a4 m c) (ix2 (row t r) d)
      = if t.val = 0 then a3 m c (ix1 ⟨1024 + d.val, by omega⟩) else a4 m c (ix1 ⟨1024 + d.val, by omega⟩) := by
  pointwise [Cert.InLatRefIdeal.Read.val_main_v30, Cert.InLatRefIdeal.Read.val_main_v28, Cert.InLatRefIdeal.Read.val_main_v29, Cert.InLatRefIdeal.Read.val_main_v1, Cert.InLatRefIdeal.Read.val_main_v7, Cert.InLatRefIdeal.Value.fn_main_v30]
  by_cases h : t.val = 0
  · have h' : t.val * 256 + r.val < 256 := by omega
    simp only [dif_pos h', if_pos h]
  · have h' : ¬t.val * 256 + r.val < 256 := by omega
    simp only [dif_neg h', if_neg h]

theorem ker_scale (c : Dev nD) (t : Fin cfg0.N) (d : Fin 1024) :
    iblk m c 3 t (ix4 0 1 0 d)
      = if t.val = 0 then a3 m c (ix1 ⟨1024 + d.val, by omega⟩) else a4 m c (ix1 ⟨1024 + d.val, by omega⟩) := by
  blk_simp [iblk]
  entry_read
  pointwise
  split
  · rename_i h
    blk_simp [idx t] at h
    have h' : t.val = 0 := by omega
    simp only [if_pos h']
    blk_ext [idx t]
  · rename_i h
    blk_simp [idx t] at h
    have h' : ¬t.val = 0 := by omega
    simp only [if_neg h']
    blk_ext [idx t]

theorem scale_eq (c : Dev nD) (t : Fin cfg0.N) (r : Fin 256) (d : Fin 1024) :
    Cert.InLatRefIdeal.Read.val_main_v30 (F := Ideal) (a3 m c) (a4 m c) (ix2 (row t r) d) = iblk m c 3 t (ix4 0 1 0 d) := by
  rw [ref_scale, ker_scale]

end Cert.InLatIdeal.Hand

end
-- ==== Proof.InLatX.lean ====
module

public import proofs.«01_k».proof.Proof.InLat
public import proofs.«01_k».proof.Proof.InLatIdealValue
public import Idealize.ShloMosaic.Lib.Pipeline.ReadBack
public import proofs.«01_k».proof.Proof.Gen.InLatRefIdeal.Run
public import proofs.«01_k».proof.Proof.Gen.InLatRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InLatIdeal.Hand
open Cert.InLatIdeal Cert.InLatIdeal.Gen Cert.InLatRefIdeal.Read

variable (m : (ℓ : Loc nD τ sig) → Buf (Elt Ideal) ℓ)

/-- What tile `t` leaves in the first result's block. -/
theorem left5 (c : Dev nD) (t : Fin cfg0.N) : (outsAt0 m c t.val t.isLt).1 = k0_pay15 (F := Ideal) (dh m c t) (iblk m c 0 t) (iblk m c 1 t) (k0_pay6 (iblk m c 4 t)) (k0_pay7 (scl m c t)) := by
  by_cases h : t.val % 17 = 0
  · have e := sc_A m c t h
    rw [outsAt0_A m c t h] at e ⊢; frame_out at e ⊢
    simp only [View.readCov_eq_canon' (View.whole cc0_scratch0), e]
    clear e
    rw [← dh_eq m c t]
    rfl
  · rw [outsAt0_B m c t h]; frame_out
    have u := kept m c
    simp only [staged m c, u]
    clear u
    rw [← dh_eq m c t]
    rfl

theorem point5 (c : Dev nD) (t : Fin cfg0.N) (r : Fin 256) (d : Fin 1024) :
    k0_pay15 (F := Ideal) (dh m c t) (iblk m c 0 t) (iblk m c 1 t) (k0_pay6 (iblk m c 4 t)) (k0_pay7 (scl m c t)) (ix2 r d)
    = val_main_v81 (F := Ideal) (a0 m c) (a1 m c) (a2 m c) (a3 m c) (a4 m c) (a5 m c) (a6 m c) (ix2 (row t r) d) := by
  pointwise [k0_pay6, k0_pay7, k0_pay8, k0_pay9, k0_pay10, k0_pay13, k0_pay15, val_main_v12, val_main_v13, val_main_v14, val_main_v15, val_main_v16, val_main_v17, val_main_v18, val_main_v19, val_main_v20, val_main_v21, val_main_v22, val_main_v23, val_main_v24, val_main_v25, val_main_v26, val_main_v27, val_main_v31, val_main_v32, val_main_v47, val_main_v55, val_main_v56, val_main_v58, val_main_v59, val_main_v60, val_main_v61, val_main_v62, val_main_v63, val_main_v64, val_main_v65, val_main_v66, val_main_v67, val_main_v68, val_main_v69, val_main_v70, val_main_v71, val_main_v81, val_main_cst, val_main_cst_0, val_main_cst_1, val_main_cst_2, val_main_cst_3, val_main_cst_10, val_main_cst_11, val_main_cst_12, dh, scl]
  simp only [scale_eq]
  rw [dx_at m c t r d]
  have hx := x_at m c t r
  have hn := nw_at m c t
  simp only [hx, hn]

/-- The first tile is never written back: the second one has the same block. -/
theorem later : ∀ t : Fin cfg0.N, (cfg0.win 5).flush t = true → 1 ≤ t.val :=
  (by decide +kernel : ∀ t : Fin grid0.N, win0_5.flush t = true → 1 ≤ t.val)

/-- A latent row of the result is the row of the whole gradient, behind the prefix. -/
theorem behind (c : Dev nD) (t : Fin cfg0.N) (ht : 1 ≤ t.val) (r : Fin 256) (d : Fin 1024) :
    val_main_v84 (F := Ideal) (a0 m c) (a1 m c) (a2 m c) (a3 m c) (a4 m c) (a5 m c) (a6 m c) (ix2 ⟨(t.val - 1) * 256 + r.val, by have h := row_lt t r; omega⟩ d)
      = val_main_v81 (F := Ideal) (a0 m c) (a1 m c) (a2 m c) (a3 m c) (a4 m c) (a5 m c) (a6 m c) (ix2 (row t r) d) := by
  generalize hw : val_main_v81 (F := Ideal) (a0 m c) (a1 m c) (a2 m c) (a3 m c) (a4 m c) (a5 m c) (a6 m c) = w
  pointwise [val_main_v84]
  rw [hw]
  blk_ext

theorem final5 (c : Dev nD) : (dats m 0 c).arrAt 5 (cfgs 0).N
    = val_main_v84 (F := Ideal) (a0 m c) (a1 m c) (a2 m c) (a3 m c) (a4 m c) (a5 m c) (a6 m c) := by
  refine (dats m 0 c).arrAt_eq_of_covers 5 _ (by decide +kernel) fun t hf y => ?_
  have ht := later t hf
  blk_simp
  rw [after0_5, left5]
  idx_vars y
  rw [point5, ← behind m c t ht]
  blk_ext [idx t]

end Cert.InLatIdeal.Hand

end
-- ==== Proof.InLatZ.lean ====
module

public import proofs.«01_k».proof.Proof.InLat
public import proofs.«01_k».proof.Proof.InLatIdealValue
public import Idealize.ShloMosaic.Lib.Pipeline.ReadBack
public import proofs.«01_k».proof.Proof.Gen.InLatRefIdeal.Run
public import proofs.«01_k».proof.Proof.Gen.InLatRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InLatIdeal.Hand
open Cert.InLatIdeal Cert.InLatIdeal.Gen Cert.InLatRefIdeal.Read

variable (m : (ℓ : Loc nD τ sig) → Buf (Elt Ideal) ℓ)

/-- One tile's part of the second result. -/
def part6 (c : Dev nD) (t : Fin cfg0.N) : FVec Ideal S1x1024 .f32 := k0_pay14 (dh m c t) (iblk m c 1 t) (k0_pay7 (scl m c t))

theorem point6 (c : Dev nD) (t : Fin cfg0.N) (d : Fin 1024) :
    part6 m c t (ix2 0 d) = ∑ r : Fin 256, val_main_v52 (F := Ideal) (a1 m c) (a2 m c) (a3 m c) (a4 m c) (a6 m c) (ix2 (row t r) d) := by
  pointwise [part6, k0_pay14, k0_pay7, k0_pay13, k0_pay10, k0_pay9, k0_pay8, dh, scl, val_main_v12, val_main_v13, val_main_v14, val_main_v15, val_main_v16, val_main_v17, val_main_v18, val_main_v19, val_main_v23, val_main_v24, val_main_v31, val_main_v32, val_main_v47, val_main_v52, val_main_cst, val_main_cst_0, val_main_cst_1, val_main_cst_3]
  refine Fin.sum_fin_congr fun r => ?_
  have hs := scale_eq m c t r
  have hx := x_at m c t r
  simp only [hs, hx]

theorem step6_A (c : Dev nD) (t : Fin cfg0.N) (h : t.val % 17 = 0) (j : S1x1024.Idx) :
    (outsAt0 m c t.val t.isLt).2.1 j = 0 + part6 m c t j := by
  have e := sc_A m c t h
  rw [outsAt0_A m c t h] at e ⊢; frame_out at e ⊢
  simp only [View.readCov_eq_canon' (View.whole cc0_scratch0), e]
  clear e
  generalize hD : k0_pay5 (F := Ideal) _ _ _ _ _ _ _ _ = D
  obtain rfl : D = dh m c t := hD.symm.trans (dh_eq m c t)
  clear hD
  unfold part6
  idx_vars j
  pointwise [k0_pay16, k0_pay3]
  rfl

theorem step6_B (c : Dev nD) (t : Fin cfg0.N) (h : ¬t.val % 17 = 0) (j : S1x1024.Idx) :
    (outsAt0 m c t.val t.isLt).2.1 j = (outsAt0 m c (t.val - 1) (Nat.lt_of_le_of_lt (Nat.sub_le _ _) t.isLt)).2.1 j + part6 m c t j := by
  rw [outsAt0_B m c t h]; frame_out
  have u := kept m c
  simp only [staged m c, u]
  clear u
  generalize hD : k0_pay5 (F := Ideal) _ _ _ _ _ _ _ _ = D
  obtain rfl : D = dh m c t := hD.symm.trans (dh_eq m c t)
  clear hD
  unfold part6
  idx_vars j
  pointwise [k0_pay16]
  rfl

theorem final6 (c : Dev nD) : (dats m 0 c).arrAt 6 (cfgs 0).N
    = val_main_v82 (F := Ideal) (a1 m c) (a2 m c) (a3 m c) (a4 m c) (a6 m c) := by
  refine (dats m 0 c).arrAt_eq_of_covers 6 _ (by decide +kernel) fun t hf y => ?_
  blk_simp
  rw [after0_6, Pipeline.eq_sum_fin_of_reset_step_apply_of_flush (fun n h => (outsAt0 m c n h).2.1) 17 (fun _ => 0) (part6 m c)
    (step6_A m c) (step6_B m c) t ((flush0_6 t).mp hf) _, zero_add]
  idx_vars y
  have e : ((cfg0.win 6).blk t).view.emb (ix2 y0 y1) = ix2 0 y1 := by blk_ext [idx t]
  rw [e]
  obtain rfl : y0 = 0 := Subsingleton.elim _ _
  simp only [point6]
  pointwise [val_main_v82, val_main_v57, val_main_v54, val_main_v53, val_main_cst_8, val_main_cst_9]
  rw [Fin.sum_univ_one]
  refine Fin.sum_mul_add_congr fun s r hl => ?_
  have ht : t.val < 17 := lt_of_lt_of_eq t.isLt N_0
  congr 2
  exact Fin.ext (by show (17 * (t.val / 17) + s.val) * 256 + r.val = s.val * 256 + r.val; omega)

end Cert.InLatIdeal.Hand

end
-- ==== Proof.InLatW.lean ====
module

public import proofs.«01_k».proof.Proof.InLat
public import proofs.«01_k».proof.Proof.Tiles
public import proofs.«01_k».proof.Proof.InLatIdealValue
public import proofs.«01_k».proof.Proof.Gen.InLatRefIdeal.Run
public import proofs.«01_k».proof.Proof.Gen.InLatRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InLatIdeal.Hand
open Cert.InLatIdeal Cert.InLatIdeal.Gen Cert.InLatRefIdeal.Read

variable (m : (ℓ : Loc nD τ sig) → Buf (Elt Ideal) ℓ)

/-- The first tile is the one of the prefix's rows. -/
theorem isctx : ∀ t : Fin cfg0.N, Scalar.cmpi CmpIPredicate.slt (BitVec.ofNat 32 (grid0.coords t 0).val) 1#32 = if t.val = 0 then 1#1 else 0#1 :=
  (by decide +kernel : ∀ t : Fin grid0.N, _)

theorem hit4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h0 : j0.val = i) (h1 : j1.val = k) :
    View.canon ((⟨Rect.unit ![i, k, 0, 0] ![1, 1, 1, 1024] inb, w⟩ : View.Piece (Elt Ideal) S2x2x1x1024 .f32) :: L) (ix4 j0 j1 0 d) = w (ix4 0 0 0 d) := by
  refine Cert.Tiles.canon_hit (S := S2x2x1x1024) _ _ inb w L _ _ fun a => ?_
  match a with
  | 0 => exact h0
  | 1 => exact h1
  | 2 => rfl
  | 3 => exact (Nat.zero_add _).symm

theorem miss4 (i k : Nat) (inb) (w : (Rect.unit (s := S2x2x1x1024) ![i, k, 0, 0] ![1, 1, 1, 1024] inb).shape.Idx → Elt Ideal .f32)
    (L : List (View.Piece (Elt Ideal) S2x2x1x1024 .f32)) (j0 j1 : Fin 2) (d : Fin 1024) (h : j0.val ≠ i ∨ j1.val ≠ k) :
    View.canon ((⟨Rect.unit ![i, k, 0, 0] ![1, 1, 1, 1024] inb, w⟩ : View.Piece (Elt Ideal) S2x2x1x1024 .f32) :: L) (ix4 j0 j1 0 d) = View.canon L (ix4 j0 j1 0 d) := by
  rcases h with h | h
  · refine Cert.Tiles.canon_miss (S := S2x2x1x1024) _ _ inb w L _ 0 ?_
    show j0.val < i ∨ i + 1 ≤ j0.val
    omega
  · refine Cert.Tiles.canon_miss (S := S2x2x1x1024) _ _ inb w L _ 1 ?_
    show j1.val < k ∨ k + 1 ≤ j1.val
    omega

/-- One tile's part of the third result: its rows' sums, in the half of the prefix or in the other. -/
def part7 (c : Dev nD) (t : Fin cfg0.N) (i k : Fin 2) (d : Fin 1024) : EReal :=
  if i.val = 0 then
    (if t.val = 0 then ∑ r : Fin 256, (if k.val = 0 then val_main_v41 (F := Ideal) (a2 m c) (a6 m c) else val_main_v46 (F := Ideal) (a1 m c) (a2 m c) (a5 m c) (a6 m c)) (ix2 (row t r) d) else 0)
  else
    (if t.val = 0 then 0 else ∑ r : Fin 256, (if k.val = 0 then val_main_v41 (F := Ideal) (a2 m c) (a6 m c) else val_main_v46 (F := Ideal) (a1 m c) (a2 m c) (a5 m c) (a6 m c)) (ix2 (row t r) d))

theorem add00 (c : Dev nD) (t : Fin cfg0.N) (x : Vec Ideal S1x1x1x1024 .f32) (d : Fin 1024) :
    k0_pay17 (F := Ideal) (if t.val = 0 then 1#1 else 0#1) (k0_pay11 (dh m c t)) x (ix4 0 0 0 d)
      = x (ix4 0 0 0 d) + part7 m c t 0 0 d := by
  by_cases h : t.val = 0
  · simp only [if_pos h, part7]
    pointwise [k0_pay17, k0_pay11, dh]
  · simp only [if_neg h, part7]
    pointwise [k0_pay17, k0_pay11, dh]

theorem add01 (c : Dev nD) (t : Fin cfg0.N) (x : Vec Ideal S1x1x1x1024 .f32) (d : Fin 1024) :
    k0_pay1 (F := Ideal) (k0_pay19 (if t.val = 0 then 1#1 else 0#1) (k0_pay12 (dh m c t) (iblk m c 1 t) (k0_pay6 (iblk m c 4 t))) x) (ix4 0 0 0 d)
      = x (ix4 0 0 0 d) + part7 m c t 0 1 d := by
  by_cases h : t.val = 0
  · simp only [if_pos h, part7]
    pointwise [k0_pay1, k0_pay19, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
    have hx := x_at m c t
    have hn := nw_at m c t
    simp only [hx, hn]
  · simp only [if_neg h, part7]
    pointwise [k0_pay1, k0_pay19, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]

theorem add10 (c : Dev nD) (t : Fin cfg0.N) (x : Vec Ideal S1x1x1x1024 .f32) (d : Fin 1024) :
    k0_pay18 (F := Ideal) (if t.val = 0 then 1#1 else 0#1) (k0_pay11 (dh m c t)) x (ix4 0 0 0 d)
      = x (ix4 0 0 0 d) + part7 m c t 1 0 d := by
  by_cases h : t.val = 0
  · simp only [if_pos h, part7]
    pointwise [k0_pay18, k0_pay11, dh]
  · simp only [if_neg h, part7]
    pointwise [k0_pay18, k0_pay11, dh]

theorem add11 (c : Dev nD) (t : Fin cfg0.N) (x : Vec Ideal S1x1x1x1024 .f32) (d : Fin 1024) :
    k0_pay2 (F := Ideal) (if t.val = 0 then 1#1 else 0#1) (k0_pay12 (dh m c t) (iblk m c 1 t) (k0_pay6 (iblk m c 4 t))) x (ix4 0 0 0 d)
      = x (ix4 0 0 0 d) + part7 m c t 1 1 d := by
  by_cases h : t.val = 0
  · simp only [if_pos h, part7]
    pointwise [k0_pay2, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
  · simp only [if_neg h, part7]
    pointwise [k0_pay2, k0_pay12, k0_pay10, k0_pay9, k0_pay8, k0_pay6, val_main_v12, val_main_v13, val_main_v14, val_main_v15, val_main_v16, val_main_v17, val_main_v18, val_main_v19, val_main_v23, val_main_v24, val_main_v25, val_main_v26, val_main_v27, val_main_v46, val_main_cst, val_main_cst_0, val_main_cst_1, dh]
    have hx := x_at m c t
    have hn := nw_at m c t
    simp only [hx, hn]

theorem step7_B (c : Dev nD) (t : Fin cfg0.N) (h : ¬t.val % 17 = 0) (j : S2x2x1x1024.Idx) :
    (outsAt0 m c t.val t.isLt).2.2.1 j = (outsAt0 m c (t.val - 1) (Nat.lt_of_le_of_lt (Nat.sub_le _ _) t.isLt)).2.2.1 j + part7 m c t (j 0) (j 1) (j 3) := by
  rw [outsAt0_B m c t h]; frame_out
  have u := kept m c
  simp only [staged m c, u]
  clear u
  idx_vars j
  generalize hD : k0_pay5 (F := Ideal) _ _ _ _ _ _ _ _ = D
  obtain rfl : D = dh m c t := hD.symm.trans (dh_eq m c t)
  clear hD
  obtain rfl : j2 = 0 := Subsingleton.elim _ _
  have hw : Scalar.cmpi CmpIPredicate.slt (BitVec.ofNat 32 (grid0.coords t 0).val) 1#32 = if t.val = 0 then 1#1 else 0#1 := isctx t
  rw [hw]
  clear hw
  generalize (outsAt0 m c (t.val - 1) _).2.2.1 = old
  have e0 : j0 = 0 ∨ j0 = 1 := by revert j0; decide
  have e1 : j1 = 0 ∨ j1 = 1 := by revert j1; decide
  rcases e0 with rfl | rfl <;> rcases e1 with rfl | rfl
  · rw [miss4 (h := by decide), miss4 (h := by decide), miss4 (h := by decide), hit4 (h0 := by decide) (h1 := by decide)]
    refine (add00 m c t _ j3).trans (congrArg (· + _) ?_)
    pointwise
  · rw [miss4 (h := by decide), hit4 (h0 := by decide) (h1 := by decide)]
    refine (add01 m c t _ j3).trans (congrArg (· + _) ?_)
    pointwise
  · rw [miss4 (h := by decide), miss4 (h := by decide), hit4 (h0 := by decide) (h1 := by decide)]
    refine (add10 m c t _ j3).trans (congrArg (· + _) ?_)
    pointwise
  · rw [hit4 (h0 := by decide) (h1 := by decide)]
    refine (add11 m c t _ j3).trans (congrArg (· + _) ?_)
    pointwise

theorem step7_A (c : Dev nD) (t : Fin cfg0.N) (h : t.val % 17 = 0) (j : S2x2x1x1024.Idx) :
    (outsAt0 m c t.val t.isLt).2.2.1 j = 0 + part7 m c t (j 0) (j 1) (j 3) := by
  have e := sc_A m c t h
  rw [outsAt0_A m c t h] at e ⊢; frame_out at e ⊢
  simp only [View.readCov_eq_canon' (View.whole cc0_scratch0), e]
  clear e
  idx_vars j
  generalize hD : k0_pay5 (F := Ideal) _ _ _ _ _ _ _ _ = D
  obtain rfl : D = dh m c t := hD.symm.trans (dh_eq m c t)
  clear hD
  obtain rfl : j2 = 0 := Subsingleton.elim _ _
  have hw : Scalar.cmpi CmpIPredicate.slt (BitVec.ofNat 32 (grid0.coords t 0).val) 1#32 = if t.val = 0 then 1#1 else 0#1 := isctx t
  rw [hw]
  clear hw
  simp (disch := decide) only [Cert.Tiles.readCov_miss]
  have e0 : j0 = 0 ∨ j0 = 1 := by revert j0; decide
  have e1 : j1 = 0 ∨ j1 = 1 := by revert j1; decide
  rcases e0 with rfl | rfl <;> rcases e1 with rfl | rfl
  · rw [miss4 (h := by decide), miss4 (h := by decide), miss4 (h := by decide), hit4 (h0 := by decide) (h1 := by decide)]
    refine (add00 m c t _ j3).trans (congrArg (· + _) ?_)
    refine (congrFun (View.readCov_fill _ _ _ _ _ (by decide)) _).trans ?_
    pointwise [k0_pay4]
  · rw [miss4 (h := by decide), hit4 (h0 := by decide) (h1 := by decide)]
    refine (add01 m c t _ j3).trans (congrArg (· + _) ?_)
    refine (congrFun (View.readCov_fill _ _ _ _ _ (by decide)) _).trans ?_
    pointwise [k0_pay4]
  · rw [miss4 (h := by decide), miss4 (h := by decide), hit4 (h0 := by decide) (h1 := by decide)]
    refine (add10 m c t _ j3).trans (congrArg (· + _) ?_)
    refine (congrFun (View.readCov_fill _ _ _ _ _ (by decide)) _).trans ?_
    pointwise [k0_pay4]
  · rw [hit4 (h0 := by decide) (h1 := by decide)]
    refine (add11 m c t _ j3).trans (congrArg (· + _) ?_)
    refine (congrFun (View.readCov_fill _ _ _ _ _ (by decide)) _).trans ?_
    pointwise [k0_pay4]

theorem final7 (c : Dev nD) : (dats m 0 c).arrAt 7 (cfgs 0).N
    = val_main_v83 (F := Ideal) (a1 m c) (a2 m c) (a5 m c) (a6 m c) := by
  refine (dats m 0 c).arrAt_eq_of_covers 7 _ (by decide +kernel) fun t hf y => ?_
  blk_simp
  rw [after0_7, Pipeline.eq_sum_fin_of_reset_step_apply_of_flush (fun n h => (outsAt0 m c n h).2.2.1) 17 (fun _ => 0) (fun t j => part7 m c t (j 0) (j 1) (j 3))
    (step7_A m c) (step7_B m c) t ((flush0_7 t).mp hf) _, zero_add]
  have ht : t.val < 17 := lt_of_lt_of_eq t.isLt N_0
  have hs : ∀ s : Fin 17, 17 * (t.val / 17) + s.val = s.val := fun s => by omega
  idx_vars y
  have e : ((cfg0.win 7).blk t).view.emb (ix4 y0 y1 y2 y3) = ix4 y0 y1 0 y3 := by blk_ext [idx t]
  rw [e]
  have e0 : y0 = 0 ∨ y0 = 1 := by clear e; revert y0; decide
  have e1 : y1 = 0 ∨ y1 = 1 := by clear e; revert y1; decide
  simp only [hs]
  rcases e0 with rfl | rfl <;> rcases e1 with rfl | rfl
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InLatRefIdeal.Value.fn_main_v74, Cert.InLatRefIdeal.Value.fn_main_v77, Cert.InLatRefIdeal.Value.fn_main_v80]
    exact (Fin.sum_fin_congr fun x => (by simp only [part7, if_pos, Fin.val_zero, Fin.val_one, one_ne_zero, if_false, if_true])).trans (Cert.Tiles.sum_first fun r => val_main_v41 (F := Ideal) (a2 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InLatRefIdeal.Value.fn_main_v74, Cert.InLatRefIdeal.Value.fn_main_v77, Cert.InLatRefIdeal.Value.fn_main_v80]
    exact (Fin.sum_fin_congr fun x => (by simp only [part7, if_pos, Fin.val_zero, Fin.val_one, one_ne_zero, if_false, if_true])).trans (Cert.Tiles.sum_first fun r => val_main_v46 (F := Ideal) (a1 m c) (a2 m c) (a5 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InLatRefIdeal.Value.fn_main_v74, Cert.InLatRefIdeal.Value.fn_main_v77, Cert.InLatRefIdeal.Value.fn_main_v80]
    exact (Fin.sum_fin_congr fun x => (by simp only [part7, if_pos, Fin.val_zero, Fin.val_one, one_ne_zero, if_false, if_true])).trans (Cert.Tiles.sum_rest fun r => val_main_v41 (F := Ideal) (a2 m c) (a6 m c) (ix2 r y3))
  · pointwise [val_main_v83, val_main_v80, val_main_v78, val_main_v79, val_main_v74, val_main_v77, val_main_v72, val_main_v73, val_main_v75, val_main_v76, val_main_v45, val_main_v51, val_main_v44, val_main_v50, val_main_v42, val_main_v43, val_main_v48, val_main_v49, val_main_cst_4, val_main_cst_5, val_main_cst_6, val_main_cst_7, Cert.InLatRefIdeal.Value.fn_main_v74, Cert.InLatRefIdeal.Value.fn_main_v77, Cert.InLatRefIdeal.Value.fn_main_v80]
    exact (Fin.sum_fin_congr fun x => (by simp only [part7, if_pos, Fin.val_zero, Fin.val_one, one_ne_zero, if_false, if_true])).trans (Cert.Tiles.sum_rest fun r => val_main_v46 (F := Ideal) (a1 m c) (a2 m c) (a5 m c) (a6 m c) (ix2 r y3))

end Cert.InLatIdeal.Hand

end
-- ==== Proof.Adam.lean ====
/- The optimiser's calls: the sum of the devices' gradients and one step of the weights, element by element. -/
module

public import proofs.«01_k».proof.Proof.Gen.AdInIdeal.Value
public import proofs.«01_k».proof.Proof.Gen.AdInRefIdeal.Run
public import proofs.«01_k».proof.Proof.Gen.AdInRefIdeal.Read
public import proofs.«01_k».proof.Proof.Gen.AdUpIdeal.Value
public import proofs.«01_k».proof.Proof.Gen.AdUpRefIdeal.Run
public import proofs.«01_k».proof.Proof.Gen.AdUpRefIdeal.Read
public import proofs.«01_k».proof.Proof.Gen.AdMixIdeal.Value
public import proofs.«01_k».proof.Proof.Gen.AdMixRefIdeal.Run
public import proofs.«01_k».proof.Proof.Gen.AdMixRefIdeal.Read
public import proofs.«01_k».proof.Proof.Gen.AdDownIdeal.Value
public import proofs.«01_k».proof.Proof.Gen.AdDownRefIdeal.Run
public import proofs.«01_k».proof.Proof.Gen.AdDownRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdInIdeal.Hand
open Cert.AdInIdeal Cert.AdInIdeal.Gen Cert.AdInRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v1 (F := Ideal) (m (c.tc.loc main_arg3)) := by
  refine (dats m 0 c).arrAt_eq_of_covers 4 _ (by decide +kernel) fun t _ y => ?_
  blk_simp
  rw [after0_4]; frame_out
  rw [← val_main_v1_eq]
  pointwise [k0_pay5, k0_pay4, Fin.sum_univ_eight, zero_add]
  obtain ⟨e, he⟩ : ∃ e, e = ((View.whole main_v0_0).slice (win0_4.rect t)).emb y := ⟨_, rfl⟩
  rw [← he]
  have h3 : ∀ k, iblk m c 3 t (ix3 k (y 0) (y 1)) = m (c.tc.loc main_arg3) (ix3 k (e 0) (e 1)) := fun k => by subst he; blk_point [iblk, V, idx t]
  simp only [h3]

theorem final5 (c : Dev nD) : (dats m 0 c).arrAt 5 (cfgs 0).N
    = val_main_v25 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v25_eq]
  pointwise [k0_pay3, k0_pay1, k0_pay2, k0_pay5, k0_pay4, Fin.sum_univ_eight, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h1 : iblk m c 1 t y = m (c.tc.loc main_arg1) e := by subst he; blk_point [iblk, V, idx t]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h0, h1, h2, h3]

theorem final6 (c : Dev nD) : (dats m 0 c).arrAt 6 (cfgs 0).N
    = val_main_v6 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v6_eq]
  pointwise [k0_pay1, k0_pay5, k0_pay4, Fin.sum_univ_eight, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h1, h3]

theorem final7 (c : Dev nD) : (dats m 0 c).arrAt 7 (cfgs 0).N
    = val_main_v12 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v12_eq]
  pointwise [k0_pay2, k0_pay5, k0_pay4, Fin.sum_univ_eight, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h2, h3]

end Cert.AdInIdeal.Hand

namespace Cert.AdUpIdeal.Hand
open Cert.AdUpIdeal Cert.AdUpIdeal.Gen Cert.AdUpRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v1 (F := Ideal) (m (c.tc.loc main_arg3)) := by
  refine (dats m 0 c).arrAt_eq_of_covers 4 _ (by decide +kernel) fun t _ y => ?_
  blk_simp
  rw [after0_4]; frame_out
  rw [← val_main_v1_eq]
  pointwise [k0_pay5, k0_pay4, Fin.sum_univ_eight, zero_add]
  obtain ⟨e, he⟩ : ∃ e, e = ((View.whole main_v0_0).slice (win0_4.rect t)).emb y := ⟨_, rfl⟩
  rw [← he]
  have h3 : ∀ k, iblk m c 3 t (ix3 k (y 0) (y 1)) = m (c.tc.loc main_arg3) (ix3 k (e 0) (e 1)) := fun k => by subst he; blk_point [iblk, V, idx t]
  simp only [h3]

theorem final5 (c : Dev nD) : (dats m 0 c).arrAt 5 (cfgs 0).N
    = val_main_v25 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v25_eq]
  pointwise [k0_pay3, k0_pay1, k0_pay2, k0_pay5, k0_pay4, Fin.sum_univ_eight, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h1 : iblk m c 1 t y = m (c.tc.loc main_arg1) e := by subst he; blk_point [iblk, V, idx t]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h0, h1, h2, h3]

theorem final6 (c : Dev nD) : (dats m 0 c).arrAt 6 (cfgs 0).N
    = val_main_v6 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v6_eq]
  pointwise [k0_pay1, k0_pay5, k0_pay4, Fin.sum_univ_eight, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h1, h3]

theorem final7 (c : Dev nD) : (dats m 0 c).arrAt 7 (cfgs 0).N
    = val_main_v12 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v12_eq]
  pointwise [k0_pay2, k0_pay5, k0_pay4, Fin.sum_univ_eight, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h2, h3]

end Cert.AdUpIdeal.Hand

namespace Cert.AdMixIdeal.Hand
open Cert.AdMixIdeal Cert.AdMixIdeal.Gen Cert.AdMixRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v1 (F := Ideal) (m (c.tc.loc main_arg3)) := by
  refine (dats m 0 c).arrAt_eq_of_covers 4 _ (by decide +kernel) fun t _ y => ?_
  blk_simp
  rw [after0_4]; frame_out
  rw [← val_main_v1_eq]
  pointwise [k0_pay5, k0_pay4, Fin.sum_univ_eight, zero_add]
  obtain ⟨e, he⟩ : ∃ e, e = ((View.whole main_v0_0).slice (win0_4.rect t)).emb y := ⟨_, rfl⟩
  rw [← he]
  have h3 : ∀ k, iblk m c 3 t (ix3 k (y 0) (y 1)) = m (c.tc.loc main_arg3) (ix3 k (e 0) (e 1)) := fun k => by subst he; blk_point [iblk, V, idx t]
  simp only [h3]

theorem final5 (c : Dev nD) : (dats m 0 c).arrAt 5 (cfgs 0).N
    = val_main_v25 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v25_eq]
  pointwise [k0_pay3, k0_pay1, k0_pay2, k0_pay5, k0_pay4, Fin.sum_univ_eight, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h1 : iblk m c 1 t y = m (c.tc.loc main_arg1) e := by subst he; blk_point [iblk, V, idx t]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h0, h1, h2, h3]

theorem final6 (c : Dev nD) : (dats m 0 c).arrAt 6 (cfgs 0).N
    = val_main_v6 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v6_eq]
  pointwise [k0_pay1, k0_pay5, k0_pay4, Fin.sum_univ_eight, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h1, h3]

theorem final7 (c : Dev nD) : (dats m 0 c).arrAt 7 (cfgs 0).N
    = val_main_v12 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v12_eq]
  pointwise [k0_pay2, k0_pay5, k0_pay4, Fin.sum_univ_eight, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h2, h3]

end Cert.AdMixIdeal.Hand

namespace Cert.AdDownIdeal.Hand
open Cert.AdDownIdeal Cert.AdDownIdeal.Gen Cert.AdDownRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v1 (F := Ideal) (m (c.tc.loc main_arg3)) := by
  refine (dats m 0 c).arrAt_eq_of_covers 4 _ (by decide +kernel) fun t _ y => ?_
  blk_simp
  rw [after0_4]; frame_out
  rw [← val_main_v1_eq]
  pointwise [k0_pay5, k0_pay4, Fin.sum_univ_eight, zero_add]
  obtain ⟨e, he⟩ : ∃ e, e = ((View.whole main_v0_0).slice (win0_4.rect t)).emb y := ⟨_, rfl⟩
  rw [← he]
  have h3 : ∀ k, iblk m c 3 t (ix3 k (y 0) (y 1)) = m (c.tc.loc main_arg3) (ix3 k (e 0) (e 1)) := fun k => by subst he; blk_point [iblk, V, idx t]
  simp only [h3]

theorem final5 (c : Dev nD) : (dats m 0 c).arrAt 5 (cfgs 0).N
    = val_main_v25 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v25_eq]
  pointwise [k0_pay3, k0_pay1, k0_pay2, k0_pay5, k0_pay4, Fin.sum_univ_eight, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h1 : iblk m c 1 t y = m (c.tc.loc main_arg1) e := by subst he; blk_point [iblk, V, idx t]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h0, h1, h2, h3]

theorem final6 (c : Dev nD) : (dats m 0 c).arrAt 6 (cfgs 0).N
    = val_main_v6 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v6_eq]
  pointwise [k0_pay1, k0_pay5, k0_pay4, Fin.sum_univ_eight, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h1, h3]

theorem final7 (c : Dev nD) : (dats m 0 c).arrAt 7 (cfgs 0).N
    = val_main_v12 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v12_eq]
  pointwise [k0_pay2, k0_pay5, k0_pay4, Fin.sum_univ_eight, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h2, h3]

end Cert.AdDownIdeal.Hand

end
-- ==== Proof.AdamRep.lean ====
/- The optimiser on the replicated weights, whose gradients come as packed rows: their sum over the devices and one step. -/
module

public import proofs.«01_k».proof.Proof.Gen.AdRepIdeal.Value
public import proofs.«01_k».proof.Proof.Gen.AdRepRefIdeal.Run
public import proofs.«01_k».proof.Proof.Gen.AdRepRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdRepIdeal.Hand
open Cert.AdRepIdeal Cert.AdRepIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = Cert.AdRepRefIdeal.Read.val_main_v1 (F := Ideal) (m ((c : Thread nD τ).loc main_arg3)) := by
  refine (dats m 0 c).arrAt_eq_of_covers 4 _ (by decide +kernel) fun t _ y => ?_
  blk_simp
  rw [after0_4]; simp only [outsAt0]; frame_out
  rw [← Cert.AdRepRefIdeal.Read.val_main_v1_eq]
  pointwise [k0_pay4, k0_pay3, k0_pay2, k0_pay1, Fin.sum_univ_eight, zero_add]
  have h3 : ∀ k, X0_3 m c t (ix3 k (y 0) (y 1)) = m ((c : Thread nD τ).loc main_arg3) (ix3 k (⟨(((View.whole main_v0_0).slice (win0_4.rect t)).emb y 0).val, Nat.lt_of_lt_of_le (((View.whole main_v0_0).slice (win0_4.rect t)).emb y 0).isLt (by decide : 384 ≤ 480)⟩ : Fin 480) (((View.whole main_v0_0).slice (win0_4.rect t)).emb y 1)) := fun k => by unfold X0_3 Pipeline.Window.fill; rw [dif_pos (moved0_3 t _)]; blk_point [iblk, V, idx t]
  simp only [h3]

theorem final5 (c : Dev nD) : (dats m 0 c).arrAt 5 (cfgs 0).N
    = Cert.AdRepRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; simp only [outsAt0]; frame_out
  rw [← Cert.AdRepRefIdeal.Read.val_main_v25_eq]
  pointwise [k0_pay4, k0_pay3, k0_pay2, k0_pay1, Fin.sum_univ_eight, zero_add]
  have h0 : iblk m c 0 t y = m ((c : Thread nD τ).loc main_arg0) (((View.whole main_v0_1).slice (win0_5.rect t)).emb y) := by blk_point [iblk, V, idx t]
  have h1 : iblk m c 1 t y = m ((c : Thread nD τ).loc main_arg1) (((View.whole main_v0_1).slice (win0_5.rect t)).emb y) := by blk_point [iblk, V, idx t]
  have h2 : iblk m c 2 t y = m ((c : Thread nD τ).loc main_arg2) (((View.whole main_v0_1).slice (win0_5.rect t)).emb y) := by blk_point [iblk, V, idx t]
  have h3 : ∀ k, X0_3 m c t (ix3 k (y 0) (y 1)) = m ((c : Thread nD τ).loc main_arg3) (ix3 k (⟨(((View.whole main_v0_1).slice (win0_5.rect t)).emb y 0).val, Nat.lt_of_lt_of_le (((View.whole main_v0_1).slice (win0_5.rect t)).emb y 0).isLt (by decide : 384 ≤ 480)⟩ : Fin 480) (((View.whole main_v0_1).slice (win0_5.rect t)).emb y 1)) := fun k => by unfold X0_3 Pipeline.Window.fill; rw [dif_pos (moved0_3 t _)]; blk_point [iblk, V, idx t]
  simp only [h0, h1, h2, h3]

theorem final6 (c : Dev nD) : (dats m 0 c).arrAt 6 (cfgs 0).N
    = Cert.AdRepRefIdeal.Read.val_main_v6 (F := Ideal) (m ((c : Thread nD τ).loc main_arg1)) (m ((c : Thread nD τ).loc main_arg3)) := by
  refine (dats m 0 c).arrAt_eq_of_covers 6 _ (by decide +kernel) fun t _ y => ?_
  blk_simp
  rw [after0_6]; simp only [outsAt0]; frame_out
  rw [← Cert.AdRepRefIdeal.Read.val_main_v6_eq]
  pointwise [k0_pay4, k0_pay3, k0_pay2, k0_pay1, Fin.sum_univ_eight, zero_add]
  have h1 : iblk m c 1 t y = m ((c : Thread nD τ).loc main_arg1) (((View.whole main_v0_2).slice (win0_6.rect t)).emb y) := by blk_point [iblk, V, idx t]
  have h3 : ∀ k, X0_3 m c t (ix3 k (y 0) (y 1)) = m ((c : Thread nD τ).loc main_arg3) (ix3 k (⟨(((View.whole main_v0_2).slice (win0_6.rect t)).emb y 0).val, Nat.lt_of_lt_of_le (((View.whole main_v0_2).slice (win0_6.rect t)).emb y 0).isLt (by decide : 384 ≤ 480)⟩ : Fin 480) (((View.whole main_v0_2).slice (win0_6.rect t)).emb y 1)) := fun k => by unfold X0_3 Pipeline.Window.fill; rw [dif_pos (moved0_3 t _)]; blk_point [iblk, V, idx t]
  simp only [h1, h3]

theorem final7 (c : Dev nD) : (dats m 0 c).arrAt 7 (cfgs 0).N
    = Cert.AdRepRefIdeal.Read.val_main_v12 (F := Ideal) (m ((c : Thread nD τ).loc main_arg2)) (m ((c : Thread nD τ).loc main_arg3)) := by
  refine (dats m 0 c).arrAt_eq_of_covers 7 _ (by decide +kernel) fun t _ y => ?_
  blk_simp
  rw [after0_7]; simp only [outsAt0]; frame_out
  rw [← Cert.AdRepRefIdeal.Read.val_main_v12_eq]
  pointwise [k0_pay4, k0_pay3, k0_pay2, k0_pay1, Fin.sum_univ_eight, zero_add]
  have h2 : iblk m c 2 t y = m ((c : Thread nD τ).loc main_arg2) (((View.whole main_v0_3).slice (win0_7.rect t)).emb y) := by blk_point [iblk, V, idx t]
  have h3 : ∀ k, X0_3 m c t (ix3 k (y 0) (y 1)) = m ((c : Thread nD τ).loc main_arg3) (ix3 k (⟨(((View.whole main_v0_3).slice (win0_7.rect t)).emb y 0).val, Nat.lt_of_lt_of_le (((View.whole main_v0_3).slice (win0_7.rect t)).emb y 0).isLt (by decide : 384 ≤ 480)⟩ : Fin 480) (((View.whole main_v0_3).slice (win0_7.rect t)).emb y 1)) := fun k => by unfold X0_3 Pipeline.Window.fill; rw [dif_pos (moved0_3 t _)]; blk_point [iblk, V, idx t]
  simp only [h2, h3]

end Cert.AdRepIdeal.Hand

end
-- ==== Proof.AdamB.lean ====
/- The optimiser's calls for the small weights: the sum of the gradients' parts and one step of the weights, element by element. -/
module

public import proofs.«01_k».proof.Proof.Gen.AdConvIdeal.Value
public import proofs.«01_k».proof.Proof.Gen.AdConvRefIdeal.Run
public import proofs.«01_k».proof.Proof.Gen.AdConvRefIdeal.Read
public import proofs.«01_k».proof.Proof.Gen.AdBiasIdeal.Value
public import proofs.«01_k».proof.Proof.Gen.AdBiasRefIdeal.Run
public import proofs.«01_k».proof.Proof.Gen.AdBiasRefIdeal.Read
public import proofs.«01_k».proof.Proof.Gen.AdModIdeal.Value
public import proofs.«01_k».proof.Proof.Gen.AdModRefIdeal.Run
public import proofs.«01_k».proof.Proof.Gen.AdModRefIdeal.Read
public import proofs.«01_k».proof.Proof.Gen.AdCtxIdeal.Value
public import proofs.«01_k».proof.Proof.Gen.AdCtxRefIdeal.Run
public import proofs.«01_k».proof.Proof.Gen.AdCtxRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-- A sum over sixteen parts, from the first to the last. -/
theorem Cert.AdBiasIdeal.Hand.sum_sixteen (f : Fin 16 → EReal) :
    ∑ k, f k = f 0 + f 1 + f 2 + f 3 + f 4 + f 5 + f 6 + f 7 + f 8 + f 9 + f 10 + f 11 + f 12 + f 13 + f 14 + f 15 := by
  simp only [Fin.sum_univ_castSucc (M := EReal), Fin.sum_univ_zero, zero_add]; rfl

namespace Cert.AdConvIdeal.Hand
open Cert.AdConvIdeal Cert.AdConvIdeal.Gen Cert.AdConvRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v0 (F := Ideal) (m (c.tc.loc main_arg3)) := by
  refine (dats m 0 c).arrAt_eq_of_covers 4 _ (by decide +kernel) fun t _ y => ?_
  blk_simp
  rw [after0_4]; frame_out
  rw [← val_main_v0_eq]
  pointwise [k0_pay6, k0_pay5, k0_pay4, k0_pay3, k0_pay2, k0_pay1, Fin.sum_univ_eight, zero_add]
  obtain ⟨e, he⟩ : ∃ e, e = ((View.whole main_v0_0).slice (win0_4.rect t)).emb y := ⟨_, rfl⟩
  rw [← he]
  have h3 : ∀ k, iblk m c 3 t (ix3 k (y 0) (y 1)) = m (c.tc.loc main_arg3) (ix3 k (e 0) (e 1)) := fun k => by subst he; blk_point [iblk, V, idx t]
  simp only [h3]

theorem final5 (c : Dev nD) : (dats m 0 c).arrAt 5 (cfgs 0).N
    = val_main_v24 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v24_eq]
  pointwise [k0_pay6, k0_pay5, k0_pay4, k0_pay3, k0_pay2, k0_pay1, Fin.sum_univ_eight, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h1 : iblk m c 1 t y = m (c.tc.loc main_arg1) e := by subst he; blk_point [iblk, V, idx t]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h0, h1, h2, h3]

theorem final6 (c : Dev nD) : (dats m 0 c).arrAt 6 (cfgs 0).N
    = val_main_v5 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v5_eq]
  pointwise [k0_pay6, k0_pay5, k0_pay4, k0_pay3, k0_pay2, k0_pay1, Fin.sum_univ_eight, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h1, h3]

theorem final7 (c : Dev nD) : (dats m 0 c).arrAt 7 (cfgs 0).N
    = val_main_v11 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v11_eq]
  pointwise [k0_pay6, k0_pay5, k0_pay4, k0_pay3, k0_pay2, k0_pay1, Fin.sum_univ_eight, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h2, h3]

end Cert.AdConvIdeal.Hand

namespace Cert.AdBiasIdeal.Hand
open Cert.AdBiasIdeal Cert.AdBiasIdeal.Gen Cert.AdBiasRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v0 (F := Ideal) (m (c.tc.loc main_arg3)) := by
  refine (dats m 0 c).arrAt_eq_of_covers 4 _ (by decide +kernel) fun t _ y => ?_
  blk_simp
  rw [after0_4]; frame_out
  rw [← val_main_v0_eq]
  pointwise [k0_pay8, k0_pay7, k0_pay6, k0_pay5, k0_pay4, k0_pay3, k0_pay2, k0_pay1, sum_sixteen, zero_add]
  obtain ⟨e, he⟩ : ∃ e, e = ((View.whole main_v0_0).slice (win0_4.rect t)).emb y := ⟨_, rfl⟩
  rw [← he]
  have h3 : ∀ k, iblk m c 3 t (ix3 k (y 0) (y 1)) = m (c.tc.loc main_arg3) (ix3 k (e 0) (e 1)) := fun k => by subst he; blk_point [iblk, V, idx t]
  simp only [h3]

set_option maxHeartbeats 800000 in
theorem final5 (c : Dev nD) : (dats m 0 c).arrAt 5 (cfgs 0).N
    = val_main_v24 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v24_eq]
  pointwise [k0_pay8, k0_pay7, k0_pay6, k0_pay5, k0_pay4, k0_pay3, k0_pay2, k0_pay1, sum_sixteen, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h1 : iblk m c 1 t y = m (c.tc.loc main_arg1) e := by subst he; blk_point [iblk, V, idx t]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h0, h1, h2, h3]

theorem final6 (c : Dev nD) : (dats m 0 c).arrAt 6 (cfgs 0).N
    = val_main_v5 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v5_eq]
  pointwise [k0_pay8, k0_pay7, k0_pay6, k0_pay5, k0_pay4, k0_pay3, k0_pay2, k0_pay1, sum_sixteen, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h1, h3]

theorem final7 (c : Dev nD) : (dats m 0 c).arrAt 7 (cfgs 0).N
    = val_main_v11 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v11_eq]
  pointwise [k0_pay8, k0_pay7, k0_pay6, k0_pay5, k0_pay4, k0_pay3, k0_pay2, k0_pay1, sum_sixteen, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h2, h3]

end Cert.AdBiasIdeal.Hand

namespace Cert.AdModIdeal.Hand
open Cert.AdModIdeal Cert.AdModIdeal.Gen Cert.AdModRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v0 (F := Ideal) (m (c.tc.loc main_arg3)) := by
  refine (dats m 0 c).arrAt_eq_of_covers 4 _ (by decide +kernel) fun t _ y => ?_
  blk_simp
  rw [after0_4]; frame_out
  rw [← val_main_v0_eq]
  pointwise [k0_pay4, k0_pay3, k0_pay2, k0_pay1, Fin.sum_univ_one, zero_add]
  obtain ⟨e, he⟩ : ∃ e, e = ((View.whole main_v0_0).slice (win0_4.rect t)).emb y := ⟨_, rfl⟩
  rw [← he]
  have h3 : ∀ k, iblk m c 3 t (ix3 k (y 0) (y 1)) = m (c.tc.loc main_arg3) (ix3 k (e 0) (e 1)) := fun k => by subst he; blk_point [iblk, V, idx t]
  simp only [h3]

theorem final5 (c : Dev nD) : (dats m 0 c).arrAt 5 (cfgs 0).N
    = val_main_v24 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v24_eq]
  pointwise [k0_pay4, k0_pay3, k0_pay2, k0_pay1, Fin.sum_univ_one, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h1 : iblk m c 1 t y = m (c.tc.loc main_arg1) e := by subst he; blk_point [iblk, V, idx t]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h0, h1, h2, h3]

theorem final6 (c : Dev nD) : (dats m 0 c).arrAt 6 (cfgs 0).N
    = val_main_v5 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v5_eq]
  pointwise [k0_pay4, k0_pay3, k0_pay2, k0_pay1, Fin.sum_univ_one, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h1, h3]

theorem final7 (c : Dev nD) : (dats m 0 c).arrAt 7 (cfgs 0).N
    = val_main_v11 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v11_eq]
  pointwise [k0_pay4, k0_pay3, k0_pay2, k0_pay1, Fin.sum_univ_one, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h3 : ∀ k, iblk m c 3 t (ix3 k (y 0) (y 1)) = m (c.tc.loc main_arg3) (ix3 k (e 0) (e 1)) := fun k => by subst he; blk_point [iblk, V, idx t]
  simp only [h2, h3]

end Cert.AdModIdeal.Hand

namespace Cert.AdCtxIdeal.Hand
open Cert.AdCtxIdeal Cert.AdCtxIdeal.Gen Cert.AdCtxRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 (cfgs 0).N
    = val_main_v0 (F := Ideal) (m (c.tc.loc main_arg3)) := by
  refine (dats m 0 c).arrAt_eq_of_covers 4 _ (by decide +kernel) fun t _ y => ?_
  blk_simp
  rw [after0_4]; frame_out
  rw [← val_main_v0_eq]
  pointwise [k0_pay6, k0_pay5, k0_pay4, k0_pay3, k0_pay2, k0_pay1, Fin.sum_univ_eight, zero_add]
  obtain ⟨e, he⟩ : ∃ e, e = ((View.whole main_v0_0).slice (win0_4.rect t)).emb y := ⟨_, rfl⟩
  rw [← he]
  have h3 : ∀ k, iblk m c 3 t (ix3 k 0 (y 1)) = m (c.tc.loc main_arg3) (ix3 k 0 (e 1)) := fun k => by subst he; blk_point [iblk, V, idx t]
  simp only [h3]

theorem final5 (c : Dev nD) : (dats m 0 c).arrAt 5 (cfgs 0).N
    = val_main_v24 (F := Ideal) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]; frame_out
  rw [← val_main_v24_eq]
  pointwise [k0_pay6, k0_pay5, k0_pay4, k0_pay3, k0_pay2, k0_pay1, Fin.sum_univ_eight, zero_add]
  obtain ⟨e, he⟩ : ∃ e, e = ((View.whole main_v0_1).slice (win0_5.rect t)).emb y := ⟨_, rfl⟩
  rw [← he]
  have h0 : iblk m c 0 t y = m (c.tc.loc main_arg0) e := by subst he; blk_point [iblk, V, idx t]
  have h0' : iblk m c 0 t (ix2 0 (y 1)) = m (c.tc.loc main_arg0) e := by subst he; blk_point [iblk, V, idx t]
  have h1 : iblk m c 1 t y = m (c.tc.loc main_arg1) e := by subst he; blk_point [iblk, V, idx t]
  have h1' : iblk m c 1 t (ix2 0 (y 1)) = m (c.tc.loc main_arg1) e := by subst he; blk_point [iblk, V, idx t]
  have h2 : iblk m c 2 t y = m (c.tc.loc main_arg2) e := by subst he; blk_point [iblk, V, idx t]
  have h2' : iblk m c 2 t (ix2 0 (y 1)) = m (c.tc.loc main_arg2) e := by subst he; blk_point [iblk, V, idx t]
  have h3 : ∀ k, iblk m c 3 t (ix3 k 0 (y 1)) = m (c.tc.loc main_arg3) (ix3 k 0 (e 1)) := fun k => by subst he; blk_point [iblk, V, idx t]
  simp only [h0, h0', h1, h1', h2, h2', h3]

theorem final6 (c : Dev nD) : (dats m 0 c).arrAt 6 (cfgs 0).N
    = val_main_v5 (F := Ideal) (m (c.tc.loc main_arg1)) (m (c.tc.loc main_arg3)) := by
  refine (dats m 0 c).arrAt_eq_of_covers 6 _ (by decide +kernel) fun t _ y => ?_
  blk_simp
  rw [after0_6]; frame_out
  rw [← val_main_v5_eq]
  pointwise [k0_pay6, k0_pay5, k0_pay4, k0_pay3, k0_pay2, k0_pay1, Fin.sum_univ_eight, zero_add]
  obtain ⟨e, he⟩ : ∃ e, e = ((View.whole main_v0_2).slice (win0_6.rect t)).emb y := ⟨_, rfl⟩
  rw [← he]
  have h1 : iblk m c 1 t y = m (c.tc.loc main_arg1) e := by subst he; blk_point [iblk, V, idx t]
  have h1' : iblk m c 1 t (ix2 0 (y 1)) = m (c.tc.loc main_arg1) e := by subst he; blk_point [iblk, V, idx t]
  have h3 : ∀ k, iblk m c 3 t (ix3 k 0 (y 1)) = m (c.tc.loc main_arg3) (ix3 k 0 (e 1)) := fun k => by subst he; blk_point [iblk, V, idx t]
  simp only [h1, h1', h3]

theorem final7 (c : Dev nD) : (dats m 0 c).arrAt 7 (cfgs 0).N
    = val_main_v11 (F := Ideal) (m (c.tc.loc main_arg2)) (m (c.tc.loc main_arg3)) := by
  refine (dats m 0 c).arrAt_eq_of_covers 7 _ (by decide +kernel) fun t _ y => ?_
  blk_simp
  rw [after0_7]; frame_out
  rw [← val_main_v11_eq]
  pointwise [k0_pay6, k0_pay5, k0_pay4, k0_pay3, k0_pay2, k0_pay1, Fin.sum_univ_eight, zero_add]
  obtain ⟨e, he⟩ : ∃ e, e = ((View.whole main_v0_3).slice (win0_7.rect t)).emb y := ⟨_, rfl⟩
  rw [← he]
  have h2 : iblk m c 2 t y = m (c.tc.loc main_arg2) e := by subst he; blk_point [iblk, V, idx t]
  have h2' : iblk m c 2 t (ix2 0 (y 1)) = m (c.tc.loc main_arg2) e := by subst he; blk_point [iblk, V, idx t]
  have h3 : ∀ k, iblk m c 3 t (ix3 k 0 (y 1)) = m (c.tc.loc main_arg3) (ix3 k 0 (e 1)) := fun k => by subst he; blk_point [iblk, V, idx t]
  simp only [h2, h2', h3]

end Cert.AdCtxIdeal.Hand

end
-- ==== Proof.Loss.lean ====
/- The loss head: the loss, the gradient of the last stream and of the last norm's weight. -/
module

public import proofs.«01_k».proof.Proof.Gen.LossIdeal.Value
public import proofs.«01_k».proof.Proof.Gen.LossRefIdeal.Run
public import proofs.«01_k».proof.Proof.Gen.LossRefIdeal.Read
public import proofs.«01_k».proof.Proof.Tiles
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Hand
open Cert.LossIdeal Cert.LossIdeal.Gen Cert.LossRefIdeal.Read

variable (m : (ℓ : Loc nD τ sig) → Buf (Elt Ideal) ℓ)

theorem idx : ∀ t : Fin cfg0.N, win0_0.index t = ![t.val, 0] ∧ win0_1.index t = ![t.val - 1, 0] ∧ win0_2.index t = ![0, 0]
    ∧ win0_3.index t = ![0, 0] ∧ win0_4.index t = ![t.val, 0] ∧ win0_5.index t = ![0, 0] :=
  (by decide +kernel : ∀ t : Fin grid0.N, _)

theorem row_lt (t : Fin cfg0.N) (r : Fin 256) : t.val * 256 + r.val < 4352 := by
  have h : t.val < 17 := lt_of_lt_of_eq t.isLt N_0
  omega

/-- The row of the whole array that row `r` of tile `t` is. -/
abbrev row (t : Fin cfg0.N) (r : Fin 256) : Fin 4352 := ⟨t.val * 256 + r.val, row_lt t r⟩

/-- The latent row that row `r` of tile `t` is, for every tile but the first. -/
abbrev lrow (t : Fin cfg0.N) (r : Fin 256) : Fin 4096 := ⟨t.val * 256 + r.val - 256, by have h := row_lt t r; omega⟩

abbrev a0 (c : Dev nD) := m (c.tc.loc main_arg0)
abbrev a1 (c : Dev nD) := m (c.tc.loc main_arg1)
abbrev a2 (c : Dev nD) := m (c.tc.loc main_arg2)

theorem nw_at (c : Dev nD) (t : Fin cfg0.N) (d : Fin 1024) : a2 m c (ix1 d) = iblk m c 2 t (ix2 0 d) := by
  symm
  blk_simp [iblk]
  entry_read
  pointwise
  blk_ext [idx t]

theorem x_at (c : Dev nD) (t : Fin cfg0.N) (ht : 1 ≤ t.val) (r : Fin 256) (d : Fin 1024) :
    a0 m c (ix2 ⟨256 + (t.val * 256 + r.val - 256), by have h := row_lt t r; omega⟩ d) = iblk m c 0 t (ix2 r d) := by
  blk_point [iblk, V, idx t]

theorem t_at (c : Dev nD) (t : Fin cfg0.N) (ht : 1 ≤ t.val) (r : Fin 256) (d : Fin 1024) :
    a1 m c (ix2 (lrow t r) d) = iblk m c 1 t (ix2 r d) := by
  blk_point [iblk, V, idx t]

theorem bits_half : Ideal.ofBits .f32 0x3F000000#32 = (((1 : ℝ) / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_width : Ideal.ofBits .f32 0x44800000#32 = ((1024 : ℝ) : EReal) := by
  simp [Ideal.ofBits, Ideal.ieee, -EReal.coe_mul]; norm_num

/-- Half of a square's derivative, over the width, is the error over the width. -/
theorem half_two (e : EReal) : Ideal.div (Ideal.ofBits .f32 0x3F000000#32) (Ideal.ofBits .f32 0x44800000#32) * (Ideal.ofBits .f32 0x40000000#32 * e)
    = Ideal.div e (Ideal.ofBits .f32 0x44800000#32) := by
  have h : ((1024 : ℝ) : EReal) ≠ 0 := by exact_mod_cast (by norm_num : (1024 : ℝ) ≠ 0)
  rw [bits_half, bits_two, bits_width]
  simp only [Ideal.div, if_neg h]
  rw [← mul_assoc, mul_comm _ e]
  congr 1
  rw [← EReal.coe_inv, ← EReal.coe_mul, ← EReal.coe_mul]
  norm_num

/-- A half of a sum is the sum of the halves, whatever the terms are. -/
theorem half_sum {n : Nat} (f : Fin n → EReal) : Ideal.ofBits .f32 0x3F000000#32 * ∑ k, f k = ∑ k, Ideal.ofBits .f32 0x3F000000#32 * f k := by
  have h0 : (0 : EReal) ≤ (((1 : ℝ) / 2 : ℝ) : EReal) := by exact_mod_cast (by norm_num : (0 : ℝ) ≤ 1 / 2)
  rw [bits_half]
  induction n with
  | zero => simp
  | succ n ih => rw [Fin.sum_univ_succ, Fin.sum_univ_succ, EReal.left_distrib_of_nonneg_of_ne_top h0 (EReal.coe_ne_top _), ih]

theorem err_at (c : Dev nD) (t : Fin cfg0.N) (ht : 1 ≤ t.val) (r : Fin 256) (d : Fin 1024) :
    val_main_v17 (F := Ideal) (a0 m c) (a1 m c) (a2 m c) (ix2 (lrow t r) d)
      = k0_pay11 (F := Ideal) (iblk m c 0 t) (iblk m c 2 t) (iblk m c 1 t) (ix2 r d) := by
  have hx := x_at m c t ht r
  have hn := nw_at m c t
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, k0_pay11, k0_pay10, k0_pay8, k0_pay7, k0_pay6]
  rw [← t_at m c t ht r d]
  simp only [hx, hn]

theorem ct_at (c : Dev nD) (t : Fin cfg0.N) (ht : 1 ≤ t.val) (r : Fin 256) (d : Fin 1024) :
    val_main_v31 (F := Ideal) (a0 m c) (a1 m c) (a2 m c) (ix2 (lrow t r) d)
      = k0_pay13 (F := Ideal) (iblk m c 0 t) (iblk m c 2 t) (iblk m c 1 t) (ix2 r d) := by
  pointwise [val_main_v31, val_main_v30, val_main_v29, val_main_v28, val_main_v27, val_main_v26, val_main_v20, val_main_v19, val_main_cst_3, val_main_cst_8, val_main_cst_9, val_main_cst_10, k0_pay13]
  rw [err_at m c t ht r d]
  exact half_two _

theorem low (c : Dev nD) (t : Fin cfg0.N) (ht : ¬1 ≤ t.val) (r : Fin 256) (d : Fin 1024) :
    val_main_v54 (F := Ideal) (a0 m c) (a1 m c) (a2 m c) (ix2 (row t r) d) = 0 := by
  have h : t.val * 256 + r.val < 256 := by omega
  pointwise [val_main_v54, val_main_v53, val_main_cst_16, Cert.LossRefIdeal.Value.fn_main_v54]
  simp only [dif_pos h]

theorem high (c : Dev nD) (t : Fin cfg0.N) (ht : 1 ≤ t.val) (r : Fin 256) (d : Fin 1024) :
    val_main_v54 (F := Ideal) (a0 m c) (a1 m c) (a2 m c) (ix2 (row t r) d) = val_main_v51 (F := Ideal) (a0 m c) (a1 m c) (a2 m c) (ix2 (lrow t r) d) := by
  have h : ¬t.val * 256 + r.val < 256 := by omega
  pointwise [val_main_v54, Cert.LossRefIdeal.Value.fn_main_v54]
  simp only [dif_neg h]

theorem left4 (c : Dev nD) (t : Fin cfg0.N) (ht : 1 ≤ t.val) : (outsAt0 m c t.val t.isLt).2.1
    = k0_pay4 (F := Ideal) (iblk m c 0 t) (k0_pay6 (iblk m c 2 t)) (k0_pay8 (iblk m c 0 t)) (k0_pay9 (iblk m c 0 t)) (k0_pay13 (iblk m c 0 t) (iblk m c 2 t) (iblk m c 1 t)) := by
  have hN := lt_of_lt_of_eq t.isLt (show cfg0.N = 17 from N_0)
  rw [outsAt0_B m c t (by omega) ht]; frame_out

theorem left4_low (c : Dev nD) (t : Fin cfg0.N) (ht : ¬1 ≤ t.val) : (outsAt0 m c t.val t.isLt).2.1 = k0_pay3 (F := Ideal) := by
  rw [outsAt0_A m c t (by omega) ht]; frame_out

theorem point4 (c : Dev nD) (t : Fin cfg0.N) (ht : 1 ≤ t.val) (r : Fin 256) (d : Fin 1024) :
    k0_pay4 (F := Ideal) (iblk m c 0 t) (k0_pay6 (iblk m c 2 t)) (k0_pay8 (iblk m c 0 t)) (k0_pay9 (iblk m c 0 t)) (k0_pay13 (iblk m c 0 t) (iblk m c 2 t) (iblk m c 1 t)) (ix2 r d)
    = val_main_v51 (F := Ideal) (a0 m c) (a1 m c) (a2 m c) (ix2 (lrow t r) d) := by
  have hx := x_at m c t ht r
  have hn := nw_at m c t
  have hc := ct_at m c t ht r
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_cst_3, val_main_cst_4, val_main_cst_5, val_main_cst_6, val_main_cst_7, val_main_cst_8, val_main_cst_9, val_main_cst_10, val_main_cst_11, val_main_v35, val_main_v36, val_main_cst_12, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_cst_16, k0_pay4, k0_pay6, k0_pay7, k0_pay8, k0_pay9]
  simp only [hc, hx, hn]

theorem final4 (c : Dev nD) : (dats m 0 c).arrAt 4 (cfgs 0).N = val_main_v54 (F := Ideal) (a0 m c) (a1 m c) (a2 m c) := by
  refine (dats m 0 c).arrAt_eq_of_covers 4 _ (by decide +kernel) fun t _ y => ?_
  blk_simp
  rw [after0_4]
  idx_vars y
  by_cases ht : 1 ≤ t.val
  · rw [left4 m c t ht, point4 m c t ht, ← high m c t ht]
    blk_ext [idx t]
  · rw [left4_low m c t ht]
    refine Eq.trans ?_ ((low m c t ht y0 y1).symm.trans ?_)
    · pointwise [k0_pay3]
    · blk_ext [idx t]

/-- One tile's part of the loss; the first tile has none. -/
def part3 (c : Dev nD) (t : Fin cfg0.N) (j : S8x128.Idx) : EReal :=
  if t.val = 0 then 0 else ∑ r : Fin 256, Ideal.ofBits .f32 0x3F000000#32 * val_main_v23 (F := Ideal) (a0 m c) (a1 m c) (a2 m c) (ix1 (lrow t r))

/-- One tile's part of the gradient of the norm's weight; the first tile has none. -/
def part5 (c : Dev nD) (t : Fin cfg0.N) (j : S1x1024.Idx) : EReal :=
  if t.val = 0 then 0 else ∑ r : Fin 256, val_main_v32 (F := Ideal) (a0 m c) (a1 m c) (a2 m c) (ix2 (lrow t r) (j 1))

theorem point3 (c : Dev nD) (t : Fin cfg0.N) (ht : 1 ≤ t.val) (o : FVec Ideal S8x128 .f32) (i : Fin 8) (j : Fin 128) :
    k0_pay12 (F := Ideal) (iblk m c 0 t) (iblk m c 2 t) (iblk m c 1 t) o (ix2 i j) = o (ix2 i j) + part3 m c t (ix2 i j) := by
  have h : ¬t.val = 0 := by omega
  have he := err_at m c t ht
  simp only [part3, if_neg h]
  pointwise [k0_pay12, val_main_v23, val_main_v22, val_main_v21, val_main_v18, val_main_cst_4, val_main_cst_5]
  simp only [Fin.sum_univ_one, half_sum, he]

theorem point5 (c : Dev nD) (t : Fin cfg0.N) (ht : 1 ≤ t.val) (o : FVec Ideal S1x1024 .f32) (d : Fin 1024) :
    k0_pay5 (F := Ideal) (k0_pay14 (iblk m c 0 t) (iblk m c 2 t) (iblk m c 1 t)) o (ix2 0 d) = o (ix2 0 d) + part5 m c t (ix2 0 d) := by
  have h : ¬t.val = 0 := by omega
  have hc := ct_at m c t ht
  simp only [part5, if_neg h]
  have hx := x_at m c t ht
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, k0_pay5, k0_pay14, k0_pay10, k0_pay8, k0_pay7, val_main_v32]
  simp only [hc, hx]

theorem step3_A (c : Dev nD) (t : Fin cfg0.N) (h : t.val % 17 = 0) (j : S8x128.Idx) :
    (outsAt0 m c t.val t.isLt).1 j = 0 + part3 m c t j := by
  have hN := lt_of_lt_of_eq t.isLt (show cfg0.N = 17 from N_0)
  rw [outsAt0_A m c t h (by omega)]; frame_out
  have e : t.val = 0 := by omega
  simp only [part3, if_pos e]
  idx_vars j
  pointwise [k0_pay1]

theorem step3_B (c : Dev nD) (t : Fin cfg0.N) (h : ¬t.val % 17 = 0) (j : S8x128.Idx) :
    (outsAt0 m c t.val t.isLt).1 j = (outsAt0 m c (t.val - 1) (Nat.lt_of_le_of_lt (Nat.sub_le _ _) t.isLt)).1 j + part3 m c t j := by
  have ht : 1 ≤ t.val := by omega
  rw [outsAt0_B m c t h ht]; frame_out
  idx_vars j
  rw [point3 m c t ht]

theorem step5_A (c : Dev nD) (t : Fin cfg0.N) (h : t.val % 17 = 0) (j : S1x1024.Idx) :
    (outsAt0 m c t.val t.isLt).2.2 j = 0 + part5 m c t j := by
  have hN := lt_of_lt_of_eq t.isLt (show cfg0.N = 17 from N_0)
  rw [outsAt0_A m c t h (by omega)]; frame_out
  have e : t.val = 0 := by omega
  simp only [part5, if_pos e]
  idx_vars j
  pointwise [k0_pay2]

theorem step5_B (c : Dev nD) (t : Fin cfg0.N) (h : ¬t.val % 17 = 0) (j : S1x1024.Idx) :
    (outsAt0 m c t.val t.isLt).2.2 j = (outsAt0 m c (t.val - 1) (Nat.lt_of_le_of_lt (Nat.sub_le _ _) t.isLt)).2.2 j + part5 m c t j := by
  have ht : 1 ≤ t.val := by omega
  rw [outsAt0_B m c t h ht]; frame_out
  idx_vars j
  obtain rfl : j0 = 0 := Subsingleton.elim _ _
  rw [point5 m c t ht]

theorem final3 (c : Dev nD) : (dats m 0 c).arrAt 3 (cfgs 0).N = val_main_v52 (F := Ideal) (a0 m c) (a1 m c) (a2 m c) := by
  refine (dats m 0 c).arrAt_eq_of_covers 3 _ (by decide +kernel) fun t hf y => ?_
  blk_simp
  rw [after0_3, Pipeline.eq_sum_fin_of_reset_step_apply_of_flush (fun n h => (outsAt0 m c n h).1) 17 (fun _ => 0) (part3 m c)
    (step3_A m c) (step3_B m c) t ((flush0_3 t).mp hf) _, zero_add]
  have ht : t.val < 17 := lt_of_lt_of_eq t.isLt N_0
  have hs : ∀ s : Fin 17, 17 * (t.val / 17) + s.val = s.val := fun s => by omega
  simp only [hs]
  pointwise [val_main_v52, val_main_v25, val_main_v24, val_main_cst_6, val_main_cst_7]
  rw [half_sum]
  exact (Fin.sum_fin_congr fun x => rfl).trans (Cert.Tiles.sum_late fun r => Ideal.ofBits .f32 0x3F000000#32 * val_main_v23 (F := Ideal) (a0 m c) (a1 m c) (a2 m c) (ix1 r))

theorem final5 (c : Dev nD) : (dats m 0 c).arrAt 5 (cfgs 0).N = val_main_v55 (F := Ideal) (a0 m c) (a1 m c) (a2 m c) := by
  refine (dats m 0 c).arrAt_eq_of_covers 5 _ (by decide +kernel) fun t hf y => ?_
  blk_simp
  rw [after0_5, Pipeline.eq_sum_fin_of_reset_step_apply_of_flush (fun n h => (outsAt0 m c n h).2.2) 17 (fun _ => 0) (part5 m c)
    (step5_A m c) (step5_B m c) t ((flush0_5 t).mp hf) _, zero_add]
  have ht : t.val < 17 := lt_of_lt_of_eq t.isLt N_0
  have hs : ∀ s : Fin 17, 17 * (t.val / 17) + s.val = s.val := fun s => by omega
  idx_vars y
  have e : ((cfg0.win 5).blk t).view.emb (ix2 y0 y1) = ix2 0 y1 := by blk_ext [idx t]
  rw [e]
  obtain rfl : y0 = 0 := Subsingleton.elim _ _
  simp only [hs]
  pointwise [val_main_v55, val_main_v37, val_main_v34, val_main_v33, val_main_cst_10, val_main_cst_11, val_main_cst_12, val_main_cst_13, val_main_cst_14, val_main_cst_15, val_main_cst_16]
  rw [Fin.sum_univ_one]
  exact (Fin.sum_fin_congr fun x => rfl).trans (Cert.Tiles.sum_late fun r => val_main_v32 (F := Ideal) (a0 m c) (a1 m c) (a2 m c) (ix2 r y1))

end Cert.LossIdeal.Hand

end
-- ==== Proof.Ada.lean ====
/- The modulation of all devices from their conditioning, a device's columns of it, and its gradient. -/
module

public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Tiles
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaFwdIdeal.Hand
open Cert.AdaFwdIdeal Cert.AdaFwdIdeal.Gen Cert.AdaFwdRefIdeal.Read

variable (m : (ℓ : Loc nD τ sig) → Buf (Elt Ideal) ℓ)

theorem idx : ∀ t : Fin cfg0.N, win0_0.index t = ![0, 0] ∧ win0_1.index t = ![0, 0] ∧ win0_2.index t = ![0, 0, 0] ∧ win0_3.index t = ![0, 0, 0] ∧ win0_4.index t = ![0, 0, 0, 0] :=
  (by decide +kernel : ∀ t : Fin grid0.N, _)

theorem c_at (c : Dev nD) (t : Fin cfg0.N) (b : Fin 8) (d : Fin 1024) : iblk m c 0 t (ix2 b d) = m (c.tc.loc main_arg0) (ix2 b d) := by
  blk_point [iblk, V, idx t]

theorem cc_at (c : Dev nD) (t : Fin cfg0.N) (b : Fin 8) (d : Fin 1024) : iblk m c 1 t (ix2 b d) = m (c.tc.loc main_arg1) (ix1 d) := by
  blk_simp [iblk]
  entry_read
  pointwise
  blk_ext [idx t]

theorem w_at (c : Dev nD) (t : Fin cfg0.N) (l : Fin 2) (d : Fin 1024) (k : Fin 768) : iblk m c 2 t (ix3 l d k) = m (c.tc.loc main_arg2) (ix3 l d k) := by
  blk_point [iblk, V, idx t]

theorem b_at (c : Dev nD) (t : Fin cfg0.N) (l : Fin 2) (k : Fin 768) : iblk m c 3 t (ix3 l 0 k) = m (c.tc.loc main_arg3) (ix2 l k) := by
  blk_simp [iblk]
  entry_read
  pointwise
  blk_ext [idx t]

/-- The last of a list of stores of one device-by-column block each, read at a block's index. -/
theorem last (i k : Nat) (inb) (w : (Rect.unit (s := S2x2x8x768) ![i, k, 0, 0] S1x1x8x768.size inb).shape.Idx → Elt Ideal .f32)
    (L : List (View.Piece (Elt Ideal) S2x2x8x768 .f32)) (l s : Fin 2) (b : Fin 8) (j : Fin 768) :
    View.canon ((⟨Rect.unit ![i, k, 0, 0] S1x1x8x768.size inb, w⟩ : View.Piece (Elt Ideal) S2x2x8x768 .f32) :: L) (ix4 l s b j)
      = if l.val = i ∧ s.val = k then w (ix4 0 0 b j) else View.canon L (ix4 l s b j) := by
  split
  · rename_i h
    exact Cert.Tiles.canon_hit (S := S2x2x8x768) _ _ inb w L _ _ fun a => match a with
      | 0 => h.1
      | 1 => h.2
      | 2 => (Nat.zero_add _).symm
      | 3 => (Nat.zero_add _).symm
  · rename_i h
    by_cases hl : l.val = i
    · exact Cert.Tiles.canon_miss (S := S2x2x8x768) _ _ inb w L _ 1 (show s.val < k ∨ k + 1 ≤ s.val by omega)
    · exact Cert.Tiles.canon_miss (S := S2x2x8x768) _ _ inb w L _ 0 (show l.val < i ∨ i + 1 ≤ l.val by omega)

theorem final4 (c : Dev nD) : (dats m 0 c).arrAt 4 (cfgs 0).N
    = val_main_v45 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  idx_vars y
  have e : ((cfg0.win 4).blk t).view.emb (ix4 y0 y1 y2 y3) = ix4 y0 y1 y2 y3 := by blk_ext [idx t]
  rw [e, out0_4, last, last, last, last]
  have h2 : ∀ i : Fin 2, i = 0 ∨ i = 1 := by decide
  have hx := c_at m c t
  have hc := cc_at m c t
  have hw := w_at m c t
  have hb := b_at m c t
  obtain rfl | rfl := h2 y0 <;> obtain rfl | rfl := h2 y1
  all_goals
    repeat first | rw [if_neg (by decide)] | rw [if_pos (by decide)]
    pointwise [k0_pay1, k0_pay2, k0_pay3, k0_pay4, k0_pay5, k0_pay6, k0_pay7, k0_pay8, k0_pay9, k0_pay10, k0_pay11, k0_pay12, k0_pay13, val_main_v0, val_main_call0_v0, val_main_call0_v1, val_main_call0_cst, val_main_call0_v2, val_main_call0_v3, val_main_call0_cst_0, val_main_call0_v4, val_main_call0_v5, val_main_v1, val_main_v2, val_main_v3, val_main_v4, val_main_v5, val_main_v6, val_main_v7, val_main_v8, val_main_v9, val_main_call1_v0, val_main_call1_v1, val_main_call1_cst, val_main_call1_v2, val_main_call1_v3, val_main_call1_cst_0, val_main_call1_v4, val_main_call1_v5, val_main_v10, val_main_v11, val_main_v12, val_main_v13, val_main_v14, val_main_v15, val_main_v16, val_main_v17, val_main_v18, val_main_v19, val_main_v20, val_main_v21, val_main_call2_v0, val_main_call2_v1, val_main_call2_cst, val_main_call2_v2, val_main_call2_v3, val_main_call2_cst_0, val_main_call2_v4, val_main_call2_v5, val_main_v22, val_main_v23, val_main_v24, val_main_v25, val_main_v26, val_main_v27, val_main_v28, val_main_v29, val_main_v30, val_main_call3_v0, val_main_call3_v1, val_main_call3_cst, val_main_call3_v2, val_main_call3_v3, val_main_call3_cst_0, val_main_call3_v4, val_main_call3_v5, val_main_v31, val_main_v32, val_main_v33, val_main_v34, val_main_v35, val_main_v36, val_main_v37, val_main_v38, val_main_v39, val_main_v40, val_main_v41, val_main_v42, val_main_v43, val_main_v44, val_main_v45, Cert.AdaFwdRefIdeal.Value.fn_main_v21, Cert.AdaFwdRefIdeal.Value.fn_main_v42, Cert.AdaFwdRefIdeal.Value.fn_main_v45]
    simp only [hx, hc, hw, hb, Ideal.logistic]

end Cert.AdaFwdIdeal.Hand

namespace Cert.AdaBwdIdeal.Hand
open Cert.AdaBwdIdeal Cert.AdaBwdIdeal.Gen Cert.AdaBwdRefIdeal.Read

variable (m : (ℓ : Loc nD τ sig) → Buf (Elt Ideal) ℓ)

theorem idx : ∀ t : Fin cfg0.N, win0_0.index t = ![0, 0] ∧ win0_1.index t = ![0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0] :=
  (by decide +kernel : ∀ t : Fin grid0.N, _)

theorem c_at (c : Dev nD) (t : Fin cfg0.N) (b : Fin 8) (d : Fin 1024) : iblk m c 0 t (ix2 b d) = m (c.tc.loc main_arg0) (ix2 b d) := by
  blk_point [iblk, V, idx t]

theorem cc_at (c : Dev nD) (t : Fin cfg0.N) (b : Fin 8) (d : Fin 1024) : iblk m c 1 t (ix2 b d) = m (c.tc.loc main_arg1) (ix1 d) := by
  blk_simp [iblk]
  entry_read
  pointwise
  blk_ext [idx t]

theorem w_at (c : Dev nD) (t : Fin cfg0.N) (l : Fin 2) (d : Fin 1024) (k : Fin 768) : iblk m c 2 t (ix3 l d k) = m (c.tc.loc main_arg2) (ix3 l d k) := by
  blk_point [iblk, V, idx t]

theorem dx_at (c : Dev nD) (t : Fin cfg0.N) (l : Fin 2) (b : Fin 8) (k : Fin 768) : iblk m c 4 t (ix3 l b k) = m (c.tc.loc main_arg4) (ix3 l b k) := by
  blk_point [iblk, V, idx t]

theorem dc_at (c : Dev nD) (t : Fin cfg0.N) (l : Fin 2) (b : Fin 8) (k : Fin 768) : iblk m c 5 t (ix3 l b k) = m (c.tc.loc main_arg5) (ix3 l b k) := by
  blk_point [iblk, V, idx t]

/-- The last of a list of stores of one layer each, read at a layer's index. -/
theorem last (i : Nat) (inb) (w : (Rect.unit (s := S2x1024x768) ![i, 0, 0] S1x1024x768.size inb).shape.Idx → Elt Ideal .f32)
    (L : List (View.Piece (Elt Ideal) S2x1024x768 .f32)) (l : Fin 2) (d : Fin 1024) (j : Fin 768) :
    View.canon ((⟨Rect.unit ![i, 0, 0] S1x1024x768.size inb, w⟩ : View.Piece (Elt Ideal) S2x1024x768 .f32) :: L) (ix3 l d j)
      = if l.val = i then w (ix3 0 d j) else View.canon L (ix3 l d j) := by
  split
  · rename_i h
    exact Cert.Tiles.canon_hit (S := S2x1024x768) _ _ inb w L _ _ fun a => match a with
      | 0 => h
      | 1 => (Nat.zero_add _).symm
      | 2 => (Nat.zero_add _).symm
  · rename_i h
    exact Cert.Tiles.canon_miss (S := S2x1024x768) _ _ inb w L _ 0 (show l.val < i ∨ i + 1 ≤ l.val by omega)

theorem final6 (c : Dev nD) : (dats m 0 c).arrAt 6 (cfgs 0).N
    = val_main_v68 (F := Ideal) (m (c.tc.loc main_arg0)) (m (c.tc.loc main_arg1)) (m (c.tc.loc main_arg4)) (m (c.tc.loc main_arg5)) := by
  refine (dats m 0 c).arrAt_eq_of_covers 6 _ (by decide +kernel) fun t _ y => ?_
  blk_simp
  rw [after0_6]
  idx_vars y
  have e : ((cfg0.win 6).blk t).view.emb (ix3 y0 y1 y2) = ix3 y0 y1 y2 := by blk_ext [idx t]
  rw [e, out0_6, last, last]
  have h2 : ∀ i : Fin 2, i = 0 ∨ i = 1 := by decide
  have hx := c_at m c t
  have hc := cc_at m c t
  have hdx := dx_at m c t
  have hdc := dc_at m c t
  obtain rfl | rfl := h2 y0
  all_goals
    repeat first | rw [if_neg (by decide)] | rw [if_pos (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, val_main_v0, val_main_call0_v0, val_main_call0_v1, val_main_call0_cst, val_main_call0_v2, val_main_call0_v3, val_main_call0_cst_0, val_main_call0_v4, val_main_call0_v5, val_main_v1, val_main_v2, val_main_v3, val_main_v4, val_main_v5, val_main_v6, val_main_v7, val_main_v8, val_main_v9, val_main_call1_v0, val_main_call1_v1, val_main_call1_cst, val_main_call1_v2, val_main_call1_v3, val_main_call1_cst_0, val_main_call1_v4, val_main_call1_v5, val_main_v10, val_main_v11, val_main_v12, val_main_v13, val_main_v14, val_main_v15, val_main_v16, val_main_v17, val_main_v18, val_main_call2_v0, val_main_call2_v1, val_main_call2_cst, val_main_call2_v2, val_main_call2_v3, val_main_call2_cst_0, val_main_call2_v4, val_main_v19_2, val_main_call2_cst_1, val_main_call2_v6, val_main_call2_v7, val_main_v19_1, val_main_v19_0, val_main_v20, val_main_v21, val_main_v22, val_main_v23, val_main_v24, val_main_v25, val_main_v26, val_main_v27, val_main_call3_v0, val_main_call3_v1, val_main_call3_cst, val_main_call3_v2, val_main_call3_v3, val_main_call3_cst_0, val_main_call3_v4, val_main_v28_2, val_main_call3_cst_1, val_main_call3_v6, val_main_call3_v7, val_main_v28_1, val_main_v28_0, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst, val_main_v49, val_main_call4_v0, val_main_call4_v1, val_main_call4_v2, val_main_v50, val_main_v51, val_main_v52, val_main_v53, val_main_v54, val_main_cst_0, val_main_v55, val_main_v56, val_main_call5_v0, val_main_call5_v1, val_main_call5_v2, val_main_v57, val_main_v58, val_main_v59, val_main_v60, val_main_v61, val_main_cst_1, val_main_v62, val_main_v63, val_main_v64, val_main_v65, val_main_v66, val_main_cst_2, val_main_v67, val_main_v68, val_main_cst_3, val_main_v69, val_main_v70]
    simp only [hx, hc, hdx, hdc, Ideal.logistic]
    congr 1 <;> exact Fin.sum_fin_congr fun x => mul_comm _ _

theorem final7 (c : Dev nD) : (dats m 0 c).arrAt 7 (cfgs 0).N
    = val_main_v70 (F := Ideal) (m (c.tc.loc main_arg1)) (m (c.tc.loc main_arg2)) (m (c.tc.loc main_arg5)) := by
  refine (dats m 0 c).arrAt_eq_of_covers 7 _ (by decide +kernel) fun t _ y => ?_
  blk_simp
  rw [after0_7]
  idx_vars y
  have e : ((cfg0.win 7).blk t).view.emb (ix2 y0 y1) = ix2 y0 y1 := by blk_ext [idx t]
  rw [e, out0_7]
  have hc := cc_at m c t
  have hw := w_at m c t
  have hdc := dc_at m c t
  obtain rfl : y0 = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, val_main_v0, val_main_call0_v0, val_main_call0_v1, val_main_call0_cst, val_main_call0_v2, val_main_call0_v3, val_main_call0_cst_0, val_main_call0_v4, val_main_call0_v5, val_main_v1, val_main_v2, val_main_v3, val_main_v4, val_main_v5, val_main_v6, val_main_v7, val_main_v8, val_main_v9, val_main_call1_v0, val_main_call1_v1, val_main_call1_cst, val_main_call1_v2, val_main_call1_v3, val_main_call1_cst_0, val_main_call1_v4, val_main_call1_v5, val_main_v10, val_main_v11, val_main_v12, val_main_v13, val_main_v14, val_main_v15, val_main_v16, val_main_v17, val_main_v18, val_main_call2_v0, val_main_call2_v1, val_main_call2_cst, val_main_call2_v2, val_main_call2_v3, val_main_call2_cst_0, val_main_call2_v4, val_main_v19_2, val_main_call2_cst_1, val_main_call2_v6, val_main_call2_v7, val_main_v19_1, val_main_v19_0, val_main_v20, val_main_v21, val_main_v22, val_main_v23, val_main_v24, val_main_v25, val_main_v26, val_main_v27, val_main_call3_v0, val_main_call3_v1, val_main_call3_cst, val_main_call3_v2, val_main_call3_v3, val_main_call3_cst_0, val_main_call3_v4, val_main_v28_2, val_main_call3_cst_1, val_main_call3_v6, val_main_call3_v7, val_main_v28_1, val_main_v28_0, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst, val_main_v49, val_main_call4_v0, val_main_call4_v1, val_main_call4_v2, val_main_v50, val_main_v51, val_main_v52, val_main_v53, val_main_v54, val_main_cst_0, val_main_v55, val_main_v56, val_main_call5_v0, val_main_call5_v1, val_main_call5_v2, val_main_v57, val_main_v58, val_main_v59, val_main_v60, val_main_v61, val_main_cst_1, val_main_v62, val_main_v63, val_main_v64, val_main_v65, val_main_v66, val_main_cst_2, val_main_v67, val_main_v68, val_main_cst_3, val_main_v69, val_main_v70]
  simp only [hc, hw, hdc, Ideal.logistic]
  exact Fin.sum_fin_congr fun x => (add_assoc (G := EReal) _ _ _)

end Cert.AdaBwdIdeal.Hand

end
-- ==== Proof.Lb.lean ====
/- The scan's lower bounds of the second layer: the softmax of two rows, its running sum less its first row. -/
module

public import proofs.«01_k».proof.Proof.Gen.LbFwdIdeal.Value
public import proofs.«01_k».proof.Proof.Gen.LbFwdRefIdeal.Run
public import proofs.«01_k».proof.Proof.Gen.LbFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LbFwdIdeal.Hand
open Cert.LbFwdIdeal Cert.LbFwdIdeal.Gen Cert.LbFwdRefIdeal.Read

theorem exp_real (x : EReal) (h : x ≠ ⊤) : ∃ r : ℝ, 0 ≤ r ∧ Ideal.exp x = r := by
  induction x with
  | bot => exact ⟨0, le_rfl, rfl⟩
  | top => exact absurd rfl h
  | coe x => exact ⟨Real.exp x, (Real.exp_pos x).le, rfl⟩

theorem sub_max (a m : EReal) (h : a ≤ m) : a - m ≠ ⊤ := by
  induction m with
  | bot => rw [le_bot_iff.1 h]; decide
  | top => rw [EReal.sub_top]; exact bot_ne_top
  | coe m =>
    induction a with
    | bot => exact bot_ne_top
    | top => exact absurd h (not_le.2 (EReal.coe_lt_top m))
    | coe a => exact EReal.coe_ne_top (a - m)

theorem div_real (p q : ℝ) (h : q ≠ 0) : Ideal.div p q = ((p / q : ℝ) : EReal) := by
  rw [Ideal.div, if_neg (EReal.coe_ne_zero.2 h), div_eq_mul_inv, EReal.coe_mul, EReal.coe_inv]

/-- The second of two shares is what is left of their sum without the first, whatever the two are. -/
theorem share (a b m : EReal) (ha : a ≤ m) (hb : b ≤ m) :
    Ideal.div (Ideal.exp (b - m)) (Ideal.exp (a - m) + Ideal.exp (b - m))
      = Ideal.div (Ideal.exp (a - m)) (Ideal.exp (a - m) + Ideal.exp (b - m))
          + Ideal.div (Ideal.exp (b - m)) (Ideal.exp (a - m) + Ideal.exp (b - m))
        - Ideal.div (Ideal.exp (a - m)) (Ideal.exp (a - m) + Ideal.exp (b - m)) := by
  obtain ⟨p, hp, ep⟩ := exp_real _ (sub_max a m ha)
  obtain ⟨q, hq, eq⟩ := exp_real _ (sub_max b m hb)
  rw [ep, eq, ← EReal.coe_add]
  by_cases h : p + q = 0
  · have e0 : p = 0 := by linarith
    have e1 : q = 0 := by linarith
    simp [Ideal.div, e0, e1]
  · rw [div_real _ _ h, div_real _ _ h, ← EReal.coe_add, ← EReal.coe_sub]
    congr 1
    ring

theorem low : Ideal.ofBits .f32 0xFF800000#32 = ⊥ := by
  simp [Ideal.ofBits, Ideal.ieee]

theorem fold_max (f : Fin 2 → EReal) : Finset.univ.fold max ⊥ f = max (f 0) (f 1) := by
  rw [show (Finset.univ : Finset (Fin 2)) = {0, 1} from rfl, Finset.fold_insert (by decide), Finset.fold_singleton, max_bot_right]

theorem v11_at (x : (⟨S2x2048, .f32⟩ : BufTy).Contents (Elt Ideal)) (d : Fin 2048) :
    val_main_v11 (F := Ideal) x (ix2 1 d)
      = val_main_call0_call0_v0 (F := Ideal) (Shape.Idx.first Cert.LbFwdRefIdeal.Gen.h_S_) + val_main_v10 (F := Ideal) x (ix2 0 d) + val_main_v10 (F := Ideal) x (ix2 1 d) := by
  unfold val_main_v11
  generalize val_main_v10 (F := Ideal) x = y
  simp only [Host.reduceWindowAdd, Ideal.hostReduceWindowAdd_def, Ideal.hostReduceWindowAdd, Host.reduceWindow]
  generalize val_main_call0_call0_v0 (F := Ideal) _ = v
  have hW : List.finRange (⟨2, ![2, 1]⟩ : Shape).numel = [⟨0, by decide⟩, ⟨1, by decide⟩] := by decide
  rw [hW, List.foldl_cons, List.foldl_cons, List.foldl_nil]
  have s0 : ∀ a : Fin 2, ((⟨2, ![2, 1]⟩ : Shape).rowMajor.symm ⟨0, by decide⟩ a).val = 0 := by decide
  have s1 : ∀ a : Fin 2, ((⟨2, ![2, 1]⟩ : Shape).rowMajor.symm ⟨1, by decide⟩ a).val = ![1, 0] a := by decide
  have hd := d.isLt
  rw [dif_pos, dif_pos]
  · congr 2
    · congr 1
      funext a
      refine Fin.ext ?_
      match a with
      | 0 => exact congrArg (fun n => 1 * 1 + n - 1) (s0 0)
      | 1 => exact (congrArg (fun n => d.val * 1 + n - 0) (s0 1)).trans (by show d.val * 1 + 0 - 0 = d.val; omega)
    · funext a
      refine Fin.ext ?_
      match a with
      | 0 => exact congrArg (fun n => 1 * 1 + n - 1) (s1 0)
      | 1 => exact (congrArg (fun n => d.val * 1 + n - 0) (s1 1)).trans (by show d.val * 1 + 0 - 0 = d.val; omega)
  · intro a
    rw [s1 a]
    match a with
    | 0 => exact (by decide : 1 ≤ 1 * 1 + 1 ∧ 1 * 1 + 1 - 1 < 2)
    | 1 => exact ⟨Nat.zero_le _, by show d.val * 1 + 0 - 0 < 2048; omega⟩
  · intro a
    rw [s0 a]
    match a with
    | 0 => exact (by decide : 1 ≤ 1 * 1 + 0 ∧ 1 * 1 + 0 - 1 < 2)
    | 1 => exact ⟨Nat.zero_le _, by show d.val * 1 + 0 - 0 < 2048; omega⟩

variable (m : (ℓ : Loc nD τ sig) → Buf (Elt Ideal) ℓ)

theorem idx : ∀ t : Fin cfg0.N, win0_0.index t = ![0, 0] ∧ win0_1.index t = ![0, 0] :=
  (by decide +kernel : ∀ t : Fin grid0.N, _)

theorem h_at (c : Dev nD) (t : Fin cfg0.N) (l : Fin 2) (d : Fin 2048) : iblk m c 0 t (ix2 l d) = m (c.tc.loc main_arg0) (ix2 l d) := by
  blk_point [iblk, V, idx t]

theorem final1 (c : Dev nD) : (dats m 0 c).arrAt 1 (cfgs 0).N = val_main_v17 (F := Ideal) (m (c.tc.loc main_arg0)) := by
  refine (dats m 0 c).arrAt_eq_of_covers 1 _ (by decide +kernel) fun t _ y => ?_
  blk_simp
  rw [after0_1]
  idx_vars y
  have e : ((cfg0.win 1).blk t).view.emb (ix2 y0 y1) = ix2 y0 y1 := by blk_ext [idx t]
  rw [e, out0_1]
  obtain rfl : y0 = 0 := Subsingleton.elim _ _
  refine (congrFun (View.canon_unit_zero (S := S1x2048) (off := ![0, 0]) (by decide) _ _) _).trans ?_
  have hv := v11_at (m (c.tc.loc main_arg0)) y1
  pointwise [k0_pay1, val_main_v17, val_main_v16, val_main_v15, val_main_v14, val_main_v13, val_main_v12]
  rw [hv, h_at, h_at]
  pointwise [val_main_v10, val_main_v9, val_main_v8, val_main_v7, val_main_v6, val_main_v5, val_main_v4, val_main_v3, val_main_v2, val_main_v1, val_main_v0, val_main_cst, val_main_cst_0, val_main_cst_1, val_main_call0_call0_v0, val_main_call0_call0_cst]
  simp only [low, fold_max, max_bot_left, Fin.sum_univ_two]
  exact share _ _ _ (le_max_left _ _) (le_max_right _ _)

end Cert.LbFwdIdeal.Hand

end
-- ==== Proof.LbBwd.lean ====
/- The gradient of the scan's lower bounds of the second layer, for a finite gradient coming in. -/
module

public import proofs.«01_k».proof.Proof.Lb
public import proofs.«01_k».proof.Proof.Tiles
public import proofs.«01_k».proof.Proof.Gen.LbBwdIdeal.Value
public import proofs.«01_k».proof.Proof.Gen.LbBwdRefIdeal.Run
public import proofs.«01_k».proof.Proof.Gen.LbBwdRefIdeal.Read
public import proofs.«01_k».proof.Proof.Gen.Pre_finite
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.LbBwdIdeal.Hand
open LbBwdIdeal LbBwdIdeal.Gen LbBwdRefIdeal.Read
open LbFwdIdeal.Hand (exp_real sub_max div_real low fold_max)

/-- A value whose size is less than infinity is a real number. -/
theorem real_of_pre [Pre_finite.Facts] (x : FVec Ideal S2x2048 .f32) (d : FVec Ideal S1x2048 .f32) (h : Pre_finite.fn (F := Ideal) x d = fun _ => 1#1) (j : Fin 2048) :
    ∃ r : ℝ, d (ix2 0 j) = (r : EReal) := by
  have e : FloatOps.cmpf .olt (FloatOps.hostAbsf (d (ix2 0 j))) (FloatOps.ofBits (F := Ideal) .f32 0x7F800000#32) = 1#1 := congrFun h (ix2 0 j)
  rw [← Ideal.xori_weird_eq_hostAbsf_olt_inf] at e
  generalize d (ix2 0 j) = y at e
  induction y using EReal.rec with
  | coe r => exact ⟨r, rfl⟩
  | bot => exact absurd e (by simp [FloatOps.weird, IntOp.xori])
  | top => exact absurd e (by simp [FloatOps.weird, IntOp.xori])

/-- Both rows of the gradient: what the subtracted maximum gets is nothing, and what is left is the plain rule. -/
theorem grad (a b m : EReal) (ha : a ≤ m) (hb : b ≤ m) (D : ℝ) (k : EReal) :
    let p := Ideal.exp (a - m); let q := Ideal.exp (b - m); let s := p + q
    let u := 0 - D * Ideal.div 1 (s * s) * q
    let w := (Ideal.div D s + u) * q
    let z := (0 - w) + (0 - u * p)
    let n := -(0 * Ideal.div 1 (s * s) * p + D * Ideal.div 1 (s * s) * q)
    w + z * k = (Ideal.div D s + n) * q ∧ u * p + z * k = (Ideal.div 0 s + n) * p := by
  obtain ⟨p, hp, ep⟩ := exp_real _ (sub_max a m ha)
  obtain ⟨q, hq, eq⟩ := exp_real _ (sub_max b m hb)
  intro p' q' s u w z n
  have es : s = ((p + q : ℝ) : EReal) := by simp only [s, p', q', ep, eq, EReal.coe_add]
  by_cases h : p + q = 0
  · have e0 : p = 0 := by linarith
    have e1 : q = 0 := by linarith
    simp [z, w, u, n, p', q', ep, eq, e0, e1]
  · have h2 : (p + q) * (p + q) ≠ 0 := mul_ne_zero h h
    have i : Ideal.div 1 (s * s) = ((1 / ((p + q) * (p + q)) : ℝ) : EReal) := by
      rw [es, ← EReal.coe_mul, ← EReal.coe_one, div_real _ _ h2]
    have eu : u = ((-(D * q / ((p + q) * (p + q))) : ℝ) : EReal) := by
      simp only [u, i, q', eq, ← EReal.coe_mul, ← EReal.coe_zero, ← EReal.coe_sub]
      congr 1; ring
    have ew : w = (((D / (p + q) - D * q / ((p + q) * (p + q))) * q : ℝ) : EReal) := by
      simp only [w, eu, es, q', eq, div_real _ _ h, ← EReal.coe_mul, ← EReal.coe_add]
      congr 1
    have en : n = u := by
      simp only [n, i, eu, p', q', ep, eq, ← EReal.coe_zero, ← EReal.coe_mul, ← EReal.coe_add, ← EReal.coe_neg]
      congr 1; ring
    have ez : z = 0 := by
      simp only [z, eu, ew, p', ep, ← EReal.coe_zero, ← EReal.coe_mul, ← EReal.coe_sub, ← EReal.coe_add]
      congr 1; field_simp; ring
    rw [ez, en, zero_mul, add_zero, add_zero]
    refine ⟨rfl, ?_⟩
    have e0 : Ideal.div 0 s = 0 := by rw [es, ← EReal.coe_zero, div_real _ _ h, zero_div]
    rw [e0, zero_add]

variable (x1 : (⟨S1x2048, .f32⟩ : BufTy).Contents (Elt Ideal))

theorem v35_at (d : Fin 2048) : val_main_v35 (F := Ideal) x1 (ix2 0 d) = 0 ∧ val_main_v35 (F := Ideal) x1 (ix2 1 d) = x1 (ix2 0 d) := by
  unfold val_main_v35
  constructor
  · refine (pad_apply_of_not_inside _ _ _ x1 _ _ _ (ix2 0 d) 0 (fun h => absurd h.1 (by show ¬ 1 ≤ 0; decide))).trans ?_
    simp [val_main_cst_9, constant, Ideal.ofBits, Ideal.ieee]
  · exact pad_apply_of_inside _ _ _ x1 _ _ _ (ix2 1 d) (ix2 0 d) fun a => match a with
      | 0 => rfl
      | 1 => by show d.val = 0 + d.val * 1; omega

theorem v41_at (d : Fin 2048) : val_main_v41 (F := Ideal) x1 (ix2 0 d) = val_main_v40 (F := Ideal) x1 (ix2 0 d) ∧ val_main_v41 (F := Ideal) x1 (ix2 1 d) = 0 := by
  unfold val_main_v41
  constructor
  · exact pad_apply_of_inside _ _ _ _ _ _ _ (ix2 0 d) (ix2 0 d) fun a => match a with
      | 0 => rfl
      | 1 => by show d.val = 0 + d.val * 1; omega
  · refine (pad_apply_of_not_inside _ _ _ _ _ _ _ (ix2 1 d) 0 (fun h => absurd h.2.2 (by show ¬ (1 - 0) / 1 < 1; decide))).trans ?_
    simp [val_main_cst_12, constant, Ideal.ofBits, Ideal.ieee]

theorem v42_at (d : Fin 2048) : val_main_v42 (F := Ideal) x1 (ix2 0 d) = x1 (ix2 0 d) ∧ val_main_v42 (F := Ideal) x1 (ix2 1 d) = x1 (ix2 0 d) := by
  obtain ⟨e0, e1⟩ := v35_at x1 d
  unfold val_main_v42
  generalize val_main_v35 (F := Ideal) x1 = y at e0 e1
  simp only [Host.reduceWindowAdd, Ideal.hostReduceWindowAdd_def, Ideal.hostReduceWindowAdd, Host.reduceWindow]
  have hv : ∀ i, val_main_call1_call0_v0 (F := Ideal) i = 0 := fun i => by
    rw [val_main_call1_call0_v0_apply]; simp [val_main_call1_call0_cst, constant, Ideal.ofBits, Ideal.ieee]
  simp only [hv]
  have hW : List.finRange (⟨2, ![2, 1]⟩ : Shape).numel = [⟨0, by decide⟩, ⟨1, by decide⟩] := by decide
  have s0 : ∀ a : Fin 2, ((⟨2, ![2, 1]⟩ : Shape).rowMajor.symm ⟨0, by decide⟩ a).val = 0 := by decide
  have s1 : ∀ a : Fin 2, ((⟨2, ![2, 1]⟩ : Shape).rowMajor.symm ⟨1, by decide⟩ a).val = ![1, 0] a := by decide
  have hd := d.isLt
  have at' : ∀ (j : S2x2048.Idx) (r : Fin 2), (j 0).val = r.val → (j 1).val = d.val → y j = y (ix2 r d) := fun j r h0 h1 =>
    congrArg y (funext fun a => Fin.ext (match a with | 0 => h0 | 1 => h1))
  have c : ∀ n, n = 0 → d.val * 1 + n - 0 = d.val := by omega
  have l : ∀ n, n = 0 → 0 ≤ d.val * 1 + n ∧ d.val * 1 + n - 0 < 2048 := by omega
  have k : ∀ r n i : Nat, n = i → r * 1 + n - 0 = r + i := by omega
  have u : ∀ r n i : Nat, n = i → r + i < 2 → 0 ≤ r * 1 + n ∧ r * 1 + n - 0 < 2 := by omega
  constructor
  · rw [hW, List.foldl_cons, List.foldl_cons, List.foldl_nil, dif_pos, dif_pos]
    · refine (congrArg₂ (· + ·) (congrArg₂ (· + ·) rfl ((at' _ 0 (k 0 _ 0 (s0 0)) (c _ (s0 1))).trans e0)) ((at' _ 1 (k 0 _ 1 (s1 0)) (c _ (s1 1))).trans e1)).trans ?_
      rw [zero_add, zero_add]
    · exact fun a => match a with
        | 0 => u 0 _ 1 (s1 0) (by decide)
        | 1 => l _ (s1 1)
    · exact fun a => match a with
        | 0 => u 0 _ 0 (s0 0) (by decide)
        | 1 => l _ (s0 1)
  · rw [hW, List.foldl_cons, List.foldl_cons, List.foldl_nil, dif_pos, dif_neg]
    · refine (congrArg₂ (· + ·) (congrArg₂ (· + ·) rfl ((at' _ 1 (k 1 _ 0 (s0 0)) (c _ (s0 1))).trans e1)) rfl).trans ?_
      rw [zero_add, add_zero]
    · intro h
      have h0 := (h 0).2
      rw [s1 0] at h0
      exact absurd h0 (by show ¬ (1 * 1 + 1 - 0 < 2); decide)
    · exact fun a => match a with
        | 0 => u 1 _ 0 (s0 0) (by decide)
        | 1 => l _ (s0 1)

/-- What reaches the two shares: nothing the first, the whole the second. -/
theorem v43_at (d : Fin 2048) (D : ℝ) (h : x1 (ix2 0 d) = (D : EReal)) :
    val_main_v43 (F := Ideal) x1 (ix2 0 d) = (0 : EReal) ∧ val_main_v43 (F := Ideal) x1 (ix2 1 d) = (D : EReal) := by
  obtain ⟨e0, e1⟩ := v35_at x1 d
  rw [val_main_v43_apply, val_main_v43_apply, (v41_at x1 d).1, (v41_at x1 d).2, (v42_at x1 d).1, (v42_at x1 d).2, h]
  refine ⟨?_, zero_add (M := EReal) _⟩
  have e : val_main_v40 (F := Ideal) x1 (ix2 0 d) = ((-D : ℝ) : EReal) := by
    pointwise [val_main_v40, val_main_v39, val_main_v38, val_main_v37, val_main_v36, val_main_cst_10, val_main_cst_11]
    simp only [Fin.sum_univ_two, Fin.sum_univ_one, e0, e1, h]
    rw [neg_zero, zero_add, EReal.coe_neg]
  rw [e]
  show ((-D : ℝ) : EReal) + (D : EReal) = 0
  rw [← EReal.coe_add, neg_add_cancel, EReal.coe_zero]

variable (m : (ℓ : Loc nD τ sig) → Buf (Elt Ideal) ℓ)

theorem grad2 (c : Dev nD) (hD : ∀ d : Fin 2048, ∃ r : ℝ, m (c.tc.loc main_arg1) (ix2 0 d) = (r : EReal)) :
    (dats m 0 c).arrAt 2 (cfgs 0).N = val_main_v55 (F := Ideal) (m (c.tc.loc main_arg0)) (m (c.tc.loc main_arg1)) := by
  refine (Value.final2 m c).trans ?_
  generalize m (c.tc.loc main_arg0) = x, m (c.tc.loc main_arg1) = x1 at hD
  funext y
  idx_vars y
  obtain ⟨D, h⟩ := hD y1
  obtain ⟨g0, g1⟩ := v43_at x1 y1 D h
  have e := grad (x (ix2 0 y1)) (x (ix2 1 y1)) _ (le_max_left _ _) (le_max_right _ _) D
  rcases (show y0 = 0 ∨ y0 = 1 by omega) with rfl | rfl
  refine (Tiles.canon_miss (S := S2x2048) ![1, 0] S1x2048.size _ _ _ (ix2 0 y1) 0 (.inl Nat.zero_lt_one)).trans ?_
  refine (Tiles.canon_hit (S := S2x2048) ![0, 0] S1x2048.size _ _ _ (ix2 0 y1) (ix2 0 y1) fun a => match a with
    | 0 => rfl
    | 1 => (Nat.zero_add _).symm).trans ?_
  rotate_left
  refine (Tiles.canon_hit (S := S2x2048) ![1, 0] S1x2048.size _ _ _ (ix2 1 y1) (ix2 0 y1) fun a => match a with
    | 0 => rfl
    | 1 => (Nat.zero_add _).symm).trans ?_
  all_goals
    pointwise [k0_pay10, k0_pay9, k0_pay8, k0_pay7, k0_pay6, k0_pay5, k0_pay4, k0_pay3, k0_pay2, k0_pay1, val_main_v55, val_main_v54, val_main_v53, val_main_v52, val_main_v51, val_main_v50, val_main_v49, val_main_v48, val_main_v47, val_main_v46, val_main_v45, val_main_v44, val_main_v27, val_main_v26, val_main_v25, val_main_v22, val_main_v21, val_main_v20, val_main_v19, val_main_v18, val_main_v17, val_main_v7, val_main_v6, val_main_v0, val_main_cst, val_main_cst_1, val_main_cst_7, val_main_cst_8, val_main_cst_13, val_main_cst_14]
    simp only [low, fold_max, max_bot_left, Fin.sum_univ_two, Fin.sum_univ_one]
    rw [g0, g1, h]
  exacts [(e _).1, (e _).2]

end Cert.LbBwdIdeal.Hand

end
-- ==== Proof.lean ====
module

public import proofs.«01_k».proof.Defs
public import proofs.«01_k».proof.Proof.Gen.WIn.Frame
public import proofs.«01_k».proof.Proof.Gen.WInIdeal.Value
public import proofs.«01_k».proof.Proof.Gen.WInRefIdeal.Run
public import proofs.«01_k».proof.Proof.Gen.WInRefIdeal.Read
public import proofs.«01_k».proof.Proof.Gen.WUp.Frame
public import proofs.«01_k».proof.Proof.Gen.WUpIdeal.Value
public import proofs.«01_k».proof.Proof.Gen.WUpRefIdeal.Run
public import proofs.«01_k».proof.Proof.Gen.WUpRefIdeal.Read
public import proofs.«01_k».proof.Proof.Gen.WDown.Frame
public import proofs.«01_k».proof.Proof.Gen.WDownIdeal.Value
public import proofs.«01_k».proof.Proof.Gen.WDownRefIdeal.Run
public import proofs.«01_k».proof.Proof.Gen.WDownRefIdeal.Read
public import proofs.«01_k».proof.Proof.Gen.WMix.Frame
public import proofs.«01_k».proof.Proof.Gen.WMixIdeal.Value
public import proofs.«01_k».proof.Proof.Gen.WMixRefIdeal.Run
public import proofs.«01_k».proof.Proof.Gen.WMixRefIdeal.Read
public import proofs.«01_k».proof.Proof.Gen.FfUp.Frame
public import proofs.«01_k».proof.Proof.Gen.FfUpIdeal.Value
public import proofs.«01_k».proof.Proof.Gen.FfUpRefIdeal.Run
public import proofs.«01_k».proof.Proof.Gen.FfUpRefIdeal.Read
public import proofs.«01_k».proof.Proof.InProjFrame
public import proofs.«01_k».proof.Proof.InProjIdealValue
public import proofs.«01_k».proof.Proof.Gen.InProjRefIdeal.Run
public import proofs.«01_k».proof.Proof.Gen.InProjRefIdeal.Read
public import proofs.«01_k».proof.Proof.InFwdFrame
public import proofs.«01_k».proof.Proof.InFwdIdealValue
public import proofs.«01_k».proof.Proof.Gen.InFwdRefIdeal.Run
public import proofs.«01_k».proof.Proof.Gen.InFwdRefIdeal.Read
public import proofs.«01_k».proof.Proof.Gen.UpFwd.Frame
public import proofs.«01_k».proof.Proof.Gen.UpFwdIdeal.Value
public import proofs.«01_k».proof.Proof.Gen.UpFwdRefIdeal.Run
public import proofs.«01_k».proof.Proof.Gen.UpFwdRefIdeal.Read
public import proofs.«01_k».proof.Proof.Gen.UpLast.Frame
public import proofs.«01_k».proof.Proof.Gen.UpLastIdeal.Value
public import proofs.«01_k».proof.Proof.Gen.UpLastRefIdeal.Run
public import proofs.«01_k».proof.Proof.Gen.UpLastRefIdeal.Read
public import proofs.«01_k».proof.Proof.Gen.FfSkip.Frame
public import proofs.«01_k».proof.Proof.Gen.FfSkipIdeal.Value
public import proofs.«01_k».proof.Proof.Gen.FfSkipRefIdeal.Run
public import proofs.«01_k».proof.Proof.Gen.FfSkipRefIdeal.Read
public import proofs.«01_k».proof.Proof.InLatFrame
public import proofs.«01_k».proof.Proof.InLatIdealValue
public import proofs.«01_k».proof.Proof.Gen.InLatRefIdeal.Run
public import proofs.«01_k».proof.Proof.Gen.InLatRefIdeal.Read
public import proofs.«01_k».proof.Proof.Gen.AdIn.Frame
public import proofs.«01_k».proof.Proof.Gen.AdInIdeal.Value
public import proofs.«01_k».proof.Proof.Gen.AdInRefIdeal.Run
public import proofs.«01_k».proof.Proof.Gen.AdInRefIdeal.Read
public import proofs.«01_k».proof.Proof.Gen.AdUp.Frame
public import proofs.«01_k».proof.Proof.Gen.AdUpIdeal.Value
public import proofs.«01_k».proof.Proof.Gen.AdUpRefIdeal.Run
public import proofs.«01_k».proof.Proof.Gen.AdUpRefIdeal.Read
public import proofs.«01_k».proof.Proof.Gen.AdMix.Frame
public import proofs.«01_k».proof.Proof.Gen.AdMixIdeal.Value
public import proofs.«01_k».proof.Proof.Gen.AdMixRefIdeal.Run
public import proofs.«01_k».proof.Proof.Gen.AdMixRefIdeal.Read
public import proofs.«01_k».proof.Proof.Gen.AdDown.Frame
public import proofs.«01_k».proof.Proof.Gen.AdDownIdeal.Value
public import proofs.«01_k».proof.Proof.Gen.AdDownRefIdeal.Run
public import proofs.«01_k».proof.Proof.Gen.AdDownRefIdeal.Read
public import proofs.«01_k».proof.Proof.Gen.AdRep.Frame
public import proofs.«01_k».proof.Proof.Gen.AdRepIdeal.Value
public import proofs.«01_k».proof.Proof.Gen.AdRepRefIdeal.Run
public import proofs.«01_k».proof.Proof.Gen.AdRepRefIdeal.Read
public import proofs.«01_k».proof.Proof.Gen.AdConv.Frame
public import proofs.«01_k».proof.Proof.Gen.AdConvIdeal.Value
public import proofs.«01_k».proof.Proof.Gen.AdConvRefIdeal.Run
public import proofs.«01_k».proof.Proof.Gen.AdConvRefIdeal.Read
public import proofs.«01_k».proof.Proof.Gen.AdBias.Frame
public import proofs.«01_k».proof.Proof.Gen.AdBiasIdeal.Value
public import proofs.«01_k».proof.Proof.Gen.AdBiasRefIdeal.Run
public import proofs.«01_k».proof.Proof.Gen.AdBiasRefIdeal.Read
public import proofs.«01_k».proof.Proof.Gen.AdMod.Frame
public import proofs.«01_k».proof.Proof.Gen.AdModIdeal.Value
public import proofs.«01_k».proof.Proof.Gen.AdModRefIdeal.Run
public import proofs.«01_k».proof.Proof.Gen.AdModRefIdeal.Read
public import proofs.«01_k».proof.Proof.Gen.AdCtx.Frame
public import proofs.«01_k».proof.Proof.Gen.AdCtxIdeal.Value
public import proofs.«01_k».proof.Proof.Gen.AdCtxRefIdeal.Run
public import proofs.«01_k».proof.Proof.Gen.AdCtxRefIdeal.Read
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.AdaFwd.Frame
public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Proof.Gen.AdaBwd.Frame
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Gen.LbFwd.Frame
public import proofs.«01_k».proof.Proof.Gen.LbFwdIdeal.Value
public import proofs.«01_k».proof.Proof.Gen.LbFwdRefIdeal.Run
public import proofs.«01_k».proof.Proof.Gen.LbFwdRefIdeal.Read
public import proofs.«01_k».proof.Proof.Gen.LbBwd.Frame
public import proofs.«01_k».proof.Proof.Gen.LbBwdIdeal.Value
public import proofs.«01_k».proof.Proof.Gen.LbBwdRefIdeal.Run
public import proofs.«01_k».proof.Proof.Gen.LbBwdRefIdeal.Read
public import proofs.«01_k».proof.Proof.Gen.Pre_finite
public import proofs.«01_k».proof.Proof.WeightGrads
public import proofs.«01_k».proof.Proof.FfUp
public import proofs.«01_k».proof.Proof.FfUpX
public import proofs.«01_k».proof.Proof.FfUpZ
public import proofs.«01_k».proof.Proof.FfUpW
public import proofs.«01_k».proof.Proof.InProj
public import proofs.«01_k».proof.Proof.InProjX
public import proofs.«01_k».proof.Proof.InProjZ
public import proofs.«01_k».proof.Proof.InProjW
public import proofs.«01_k».proof.Proof.InFwd
public import proofs.«01_k».proof.Proof.InFwdX
public import proofs.«01_k».proof.Proof.InFwdY
public import proofs.«01_k».proof.Proof.InFwdZ
public import proofs.«01_k».proof.Proof.UpFwd
public import proofs.«01_k».proof.Proof.UpLast
public import proofs.«01_k».proof.Proof.FfSkip
public import proofs.«01_k».proof.Proof.FfSkipX
public import proofs.«01_k».proof.Proof.FfSkipZ
public import proofs.«01_k».proof.Proof.FfSkipW
public import proofs.«01_k».proof.Proof.InLat
public import proofs.«01_k».proof.Proof.InLatX
public import proofs.«01_k».proof.Proof.InLatZ
public import proofs.«01_k».proof.Proof.InLatW
public import proofs.«01_k».proof.Proof.Adam
public import proofs.«01_k».proof.Proof.AdamRep
public import proofs.«01_k».proof.Proof.AdamB
public import proofs.«01_k».proof.Proof.Loss
public import proofs.«01_k».proof.Proof.Ada
public import proofs.«01_k».proof.Proof.Lb
public import proofs.«01_k».proof.Proof.LbBwd
public import Idealize.ShloMosaic.Adequacy
public import Idealize.ShloMosaic.Init
public import Idealize.ShloMosaic.Lib.Pipeline.ValueKit
public import Idealize.ShloMosaic.Lib.Claim

@[expose] public section

set_option maxRecDepth 16384

noncomputable section

namespace Cert.Proof

open Idealize.ShloMosaic Idealize.SL.Sem
/-! The references run at the bit-exact instance and declare no semaphore. Every call's arrays are its reference's, element by element. -/

theorem frame_WIn : quiescent_WInRefIdeal (hWInRefIdeal := WInRefIdeal.Gen.facts) := fun m ρ _ =>
  (θ_run WInRefIdeal.defs _ _).mono (fun r h => ⟨fun c => (h c).2, sem_eq_zero_of_no_sems (by decide) r.2⟩)
    (WInRefIdeal.Value.run m ρ)

theorem value_WIn : algebraic_WInIdeal_WInRefIdeal (hWInIdeal := WInIdeal.Gen.facts) (hWInRefIdeal := WInRefIdeal.Gen.facts) := by
  pair_intro
  · run_from WInIdeal.Value.run_blocks m g
  · run_from WInRefIdeal.Value.run m' g'
    rw [WInIdeal.Hand.final m c]
    rfl

theorem frame_WUp : quiescent_WUpRefIdeal (hWUpRefIdeal := WUpRefIdeal.Gen.facts) := fun m ρ _ =>
  (θ_run WUpRefIdeal.defs _ _).mono (fun r h => ⟨fun c => (h c).2, sem_eq_zero_of_no_sems (by decide) r.2⟩)
    (WUpRefIdeal.Value.run m ρ)

theorem value_WUp : algebraic_WUpIdeal_WUpRefIdeal (hWUpIdeal := WUpIdeal.Gen.facts) (hWUpRefIdeal := WUpRefIdeal.Gen.facts) := by
  pair_intro
  · run_from WUpIdeal.Value.run_blocks m g
  · run_from WUpRefIdeal.Value.run m' g'
    rw [WUpIdeal.Hand.final m c]
    rfl

theorem frame_WDown : quiescent_WDownRefIdeal (hWDownRefIdeal := WDownRefIdeal.Gen.facts) := fun m ρ _ =>
  (θ_run WDownRefIdeal.defs _ _).mono (fun r h => ⟨fun c => (h c).2, sem_eq_zero_of_no_sems (by decide) r.2⟩)
    (WDownRefIdeal.Value.run m ρ)

theorem value_WDown : algebraic_WDownIdeal_WDownRefIdeal (hWDownIdeal := WDownIdeal.Gen.facts) (hWDownRefIdeal := WDownRefIdeal.Gen.facts) := by
  pair_intro
  · run_from WDownIdeal.Value.run_blocks m g
  · run_from WDownRefIdeal.Value.run m' g'
    rw [WDownIdeal.Hand.final m c]
    rfl

theorem frame_WMix : quiescent_WMixRefIdeal (hWMixRefIdeal := WMixRefIdeal.Gen.facts) := fun m ρ _ =>
  (θ_run WMixRefIdeal.defs _ _).mono (fun r h => ⟨fun c => (h c).2, sem_eq_zero_of_no_sems (by decide) r.2⟩)
    (WMixRefIdeal.Value.run m ρ)

theorem value_WMix : algebraic_WMixIdeal_WMixRefIdeal (hWMixIdeal := WMixIdeal.Gen.facts) (hWMixRefIdeal := WMixRefIdeal.Gen.facts) := by
  pair_intro
  · run_from WMixIdeal.Value.run_blocks m g
  · run_from WMixRefIdeal.Value.run m' g'
    rw [WMixIdeal.Hand.final m c]
    rfl

theorem frame_FfUp : quiescent_FfUpRefIdeal (hFfUpRefIdeal := FfUpRefIdeal.Gen.facts) := fun m ρ _ =>
  (θ_run FfUpRefIdeal.defs _ _).mono (fun r h => ⟨fun c => (h c).2.2.2, sem_eq_zero_of_no_sems (by decide) r.2⟩)
    (FfUpRefIdeal.Value.run m ρ)

theorem value_FfUp : algebraic_FfUpIdeal_FfUpRefIdeal (hFfUpIdeal := FfUpIdeal.Gen.facts) (hFfUpRefIdeal := FfUpRefIdeal.Gen.facts) := by
  pair_intro
  · run_from FfUpIdeal.Value.run_blocks m g
  · run_from FfUpRefIdeal.Value.run m' g'
    · rw [FfUpIdeal.Hand.final6 m c]
      refine (FfUpRefIdeal.Read.val_main_v81_eq m' c).trans ?_
      simp only [hagree c]
    · rw [FfUpIdeal.Hand.final7 m c]
      rw [(hagree c).2.2.2.1, (hagree c).2.2.2.2.1]
      exact FfUpRefIdeal.Read.val_main_v82_eq ..
    · rw [FfUpIdeal.Hand.final8 m c]
      rw [(hagree c).2.1, (hagree c).2.2.1, (hagree c).2.2.2.2.2.1, (hagree c).2.2.2.2.2.2]
      exact FfUpRefIdeal.Read.val_main_v83_eq ..

theorem frame_InProj : quiescent_InProjRefIdeal (hInProjRefIdeal := InProjRefIdeal.Gen.facts) := fun m ρ _ =>
  (θ_run InProjRefIdeal.defs _ _).mono (fun r h => ⟨fun c => (h c).2.2.2, sem_eq_zero_of_no_sems (by decide) r.2⟩)
    (InProjRefIdeal.Value.run m ρ)

theorem value_InProj : algebraic_InProjIdeal_InProjRefIdeal (hInProjIdeal := InProjIdeal.Gen.facts) (hInProjRefIdeal := InProjRefIdeal.Gen.facts) := by
  pair_intro
  · run_from InProjIdeal.Value.run_blocks m g
  · run_from InProjRefIdeal.Value.run m' g'
    · rw [InProjIdeal.Hand.final5 m c]
      refine (InProjRefIdeal.Read.val_main_v81_eq m' c).trans ?_
      simp only [hagree c]
    · rw [InProjIdeal.Hand.final6 m c]
      rw [(hagree c).2.2.2.1, (hagree c).2.2.2.2.1]
      exact InProjRefIdeal.Read.val_main_v82_eq ..
    · rw [InProjIdeal.Hand.final7 m c]
      rw [(hagree c).2.1, (hagree c).2.2.1, (hagree c).2.2.2.2.2.1, (hagree c).2.2.2.2.2.2]
      exact InProjRefIdeal.Read.val_main_v83_eq ..

theorem frame_InFwd : quiescent_InFwdRefIdeal (hInFwdRefIdeal := InFwdRefIdeal.Gen.facts) := fun m ρ _ =>
  (θ_run InFwdRefIdeal.defs _ _).mono (fun r h => ⟨fun c => (h c).2.2.2.2, sem_eq_zero_of_no_sems (by decide) r.2⟩)
    (InFwdRefIdeal.Value.run m ρ)

theorem value_InFwd : algebraic_InFwdIdeal_InFwdRefIdeal (hInFwdIdeal := InFwdIdeal.Gen.facts) (hInFwdRefIdeal := InFwdRefIdeal.Gen.facts) := by
  pair_intro
  · run_from InFwdIdeal.Value.run_blocks m g
  · run_from InFwdRefIdeal.Value.run m' g'
    · rw [InFwdIdeal.Hand.final3 m c]
      rw [(hagree c).2.1, (hagree c).2.2.1]
      exact InFwdRefIdeal.Read.val_main_v37_eq ..
    · rw [InFwdIdeal.Hand.final4 m c]
      rw [(hagree c).2.1, (hagree c).2.2.1]
      exact InFwdRefIdeal.Read.val_main_v39_eq ..
    · rw [InFwdIdeal.Hand.final5 m c]
      rw [(hagree c).2.1, (hagree c).2.2.1]
      exact InFwdRefIdeal.Read.val_main_v41_eq ..
    · rw [InFwdIdeal.Hand.final6 m c]
      rw [(hagree c).2.1, (hagree c).2.2.1]
      exact InFwdRefIdeal.Read.val_main_v43_eq ..

theorem frame_UpFwd : quiescent_UpFwdRefIdeal (hUpFwdRefIdeal := UpFwdRefIdeal.Gen.facts) := fun m ρ _ =>
  (θ_run UpFwdRefIdeal.defs _ _).mono (fun r h => ⟨fun c => (h c).2.2, sem_eq_zero_of_no_sems (by decide) r.2⟩)
    (UpFwdRefIdeal.Value.run m ρ)

theorem value_UpFwd : algebraic_UpFwdIdeal_UpFwdRefIdeal (hUpFwdIdeal := UpFwdIdeal.Gen.facts) (hUpFwdRefIdeal := UpFwdRefIdeal.Gen.facts) := by
  pair_intro
  · run_from UpFwdIdeal.Value.run_blocks m g
  · run_from UpFwdRefIdeal.Value.run m' g'
    · rw [UpFwdIdeal.Hand.final4 m c]
      rw [(hagree c).2.1, (hagree c).2.2.1]
      exact UpFwdRefIdeal.Read.val_main_v38_eq ..
    · rw [UpFwdIdeal.Hand.final5 m c]
      rw [(hagree c).2.1, (hagree c).2.2.1]
      exact UpFwdRefIdeal.Read.val_main_v40_eq ..

theorem frame_UpLast : quiescent_UpLastRefIdeal (hUpLastRefIdeal := UpLastRefIdeal.Gen.facts) := fun m ρ _ =>
  (θ_run UpLastRefIdeal.defs _ _).mono (fun r h => ⟨fun c => (h c).2.2, sem_eq_zero_of_no_sems (by decide) r.2⟩)
    (UpLastRefIdeal.Value.run m ρ)

theorem value_UpLast : algebraic_UpLastIdeal_UpLastRefIdeal (hUpLastIdeal := UpLastIdeal.Gen.facts) (hUpLastRefIdeal := UpLastRefIdeal.Gen.facts) := by
  pair_intro
  · run_from UpLastIdeal.Value.run_blocks m g
  · run_from UpLastRefIdeal.Value.run m' g'
    · rw [UpLastIdeal.Hand.final4 m c]
      rw [(hagree c).2.2.1, (hagree c).2.2.2.1]
      exact UpLastRefIdeal.Read.val_main_v33_eq ..
    · rw [UpLastIdeal.Hand.final5 m c]
      rw [(hagree c).2.2.1, (hagree c).2.2.2.1]
      exact UpLastRefIdeal.Read.val_main_v35_eq ..

theorem frame_FfSkip : quiescent_FfSkipRefIdeal (hFfSkipRefIdeal := FfSkipRefIdeal.Gen.facts) := fun m ρ _ =>
  (θ_run FfSkipRefIdeal.defs _ _).mono (fun r h => ⟨fun c => (h c).2.2.2, sem_eq_zero_of_no_sems (by decide) r.2⟩)
    (FfSkipRefIdeal.Value.run m ρ)

theorem value_FfSkip : algebraic_FfSkipIdeal_FfSkipRefIdeal (hFfSkipIdeal := FfSkipIdeal.Gen.facts) (hFfSkipRefIdeal := FfSkipRefIdeal.Gen.facts) := by
  pair_intro
  · run_from FfSkipIdeal.Value.run_blocks m g
  · run_from FfSkipRefIdeal.Value.run m' g'
    · rw [FfSkipIdeal.Hand.final6 m c]
      refine (FfSkipRefIdeal.Read.val_main_v68_eq m' c).trans ?_
      simp only [hagree c]
    · rw [FfSkipIdeal.Hand.final7 m c]
      exact FfSkipRefIdeal.Read.val_main_v76_eq ..
    · rw [FfSkipIdeal.Hand.final8 m c]
      rw [(hagree c).2.1, (hagree c).2.2.1, (hagree c).2.2.2.2.2.1, (hagree c).2.2.2.2.2.2]
      exact FfSkipRefIdeal.Read.val_main_v77_eq ..

theorem frame_InLat : quiescent_InLatRefIdeal (hInLatRefIdeal := InLatRefIdeal.Gen.facts) := fun m ρ _ =>
  (θ_run InLatRefIdeal.defs _ _).mono (fun r h => ⟨fun c => (h c).2.2.2, sem_eq_zero_of_no_sems (by decide) r.2⟩)
    (InLatRefIdeal.Value.run m ρ)

theorem value_InLat : algebraic_InLatIdeal_InLatRefIdeal (hInLatIdeal := InLatIdeal.Gen.facts) (hInLatRefIdeal := InLatRefIdeal.Gen.facts) := by
  pair_intro
  · run_from InLatIdeal.Value.run_blocks m g
  · run_from InLatRefIdeal.Value.run m' g'
    · rw [InLatIdeal.Hand.final5 m c]
      refine (InLatRefIdeal.Read.val_main_v84_eq m' c).trans ?_
      simp only [hagree c]
    · rw [InLatIdeal.Hand.final6 m c]
      rw [(hagree c).2.2.2.1, (hagree c).2.2.2.2.1]
      exact InLatRefIdeal.Read.val_main_v82_eq ..
    · rw [InLatIdeal.Hand.final7 m c]
      rw [(hagree c).2.1, (hagree c).2.2.1, (hagree c).2.2.2.2.2.1, (hagree c).2.2.2.2.2.2]
      exact InLatRefIdeal.Read.val_main_v83_eq ..

theorem frame_AdIn : quiescent_AdInRefIdeal (hAdInRefIdeal := AdInRefIdeal.Gen.facts) := fun m ρ _ =>
  (θ_run AdInRefIdeal.defs _ _).mono (fun r h => ⟨fun c => (h c).2.2.2.2, sem_eq_zero_of_no_sems (by decide) r.2⟩)
    (AdInRefIdeal.Value.run m ρ)

theorem value_AdIn : algebraic_AdInIdeal_AdInRefIdeal (hAdInIdeal := AdInIdeal.Gen.facts) (hAdInRefIdeal := AdInRefIdeal.Gen.facts) := by
  pair_intro
  · run_from AdInIdeal.Value.run_blocks m g
  · refine θ_run_mono (AdInRefIdeal.Value.run m' g') fun r hr c => ?_
    have hc := hr c
    refine ⟨?_, ?_, ?_, ?_, hc.2.2.2.2⟩
    · rw [hc.1, AdInIdeal.Hand.final4 m c, (hagree c).2.2.2]
      exact AdInRefIdeal.Read.val_main_v1_eq (F := Ideal) ..
    · rw [hc.2.1, AdInIdeal.Hand.final5 m c, (hagree c).1, (hagree c).2.1, (hagree c).2.2.1, (hagree c).2.2.2]
      exact AdInRefIdeal.Read.val_main_v25_eq (F := Ideal) ..
    · rw [hc.2.2.1, AdInIdeal.Hand.final6 m c, (hagree c).2.1, (hagree c).2.2.2]
      exact AdInRefIdeal.Read.val_main_v6_eq (F := Ideal) ..
    · rw [hc.2.2.2.1, AdInIdeal.Hand.final7 m c, (hagree c).2.2.1, (hagree c).2.2.2]
      exact AdInRefIdeal.Read.val_main_v12_eq (F := Ideal) ..

theorem frame_AdUp : quiescent_AdUpRefIdeal (hAdUpRefIdeal := AdUpRefIdeal.Gen.facts) := fun m ρ _ =>
  (θ_run AdUpRefIdeal.defs _ _).mono (fun r h => ⟨fun c => (h c).2.2.2.2, sem_eq_zero_of_no_sems (by decide) r.2⟩)
    (AdUpRefIdeal.Value.run m ρ)

theorem value_AdUp : algebraic_AdUpIdeal_AdUpRefIdeal (hAdUpIdeal := AdUpIdeal.Gen.facts) (hAdUpRefIdeal := AdUpRefIdeal.Gen.facts) := by
  pair_intro
  · run_from AdUpIdeal.Value.run_blocks m g
  · refine θ_run_mono (AdUpRefIdeal.Value.run m' g') fun r hr c => ?_
    have hc := hr c
    refine ⟨?_, ?_, ?_, ?_, hc.2.2.2.2⟩
    · rw [hc.1, AdUpIdeal.Hand.final4 m c, (hagree c).2.2.2]
      exact AdUpRefIdeal.Read.val_main_v1_eq (F := Ideal) ..
    · rw [hc.2.1, AdUpIdeal.Hand.final5 m c, (hagree c).1, (hagree c).2.1, (hagree c).2.2.1, (hagree c).2.2.2]
      exact AdUpRefIdeal.Read.val_main_v25_eq (F := Ideal) ..
    · rw [hc.2.2.1, AdUpIdeal.Hand.final6 m c, (hagree c).2.1, (hagree c).2.2.2]
      exact AdUpRefIdeal.Read.val_main_v6_eq (F := Ideal) ..
    · rw [hc.2.2.2.1, AdUpIdeal.Hand.final7 m c, (hagree c).2.2.1, (hagree c).2.2.2]
      exact AdUpRefIdeal.Read.val_main_v12_eq (F := Ideal) ..

theorem frame_AdMix : quiescent_AdMixRefIdeal (hAdMixRefIdeal := AdMixRefIdeal.Gen.facts) := fun m ρ _ =>
  (θ_run AdMixRefIdeal.defs _ _).mono (fun r h => ⟨fun c => (h c).2.2.2.2, sem_eq_zero_of_no_sems (by decide) r.2⟩)
    (AdMixRefIdeal.Value.run m ρ)

theorem value_AdMix : algebraic_AdMixIdeal_AdMixRefIdeal (hAdMixIdeal := AdMixIdeal.Gen.facts) (hAdMixRefIdeal := AdMixRefIdeal.Gen.facts) := by
  pair_intro
  · run_from AdMixIdeal.Value.run_blocks m g
  · refine θ_run_mono (AdMixRefIdeal.Value.run m' g') fun r hr c => ?_
    have hc := hr c
    refine ⟨?_, ?_, ?_, ?_, hc.2.2.2.2⟩
    · rw [hc.1, AdMixIdeal.Hand.final4 m c, (hagree c).2.2.2]
      exact AdMixRefIdeal.Read.val_main_v1_eq (F := Ideal) ..
    · rw [hc.2.1, AdMixIdeal.Hand.final5 m c, (hagree c).1, (hagree c).2.1, (hagree c).2.2.1, (hagree c).2.2.2]
      exact AdMixRefIdeal.Read.val_main_v25_eq (F := Ideal) ..
    · rw [hc.2.2.1, AdMixIdeal.Hand.final6 m c, (hagree c).2.1, (hagree c).2.2.2]
      exact AdMixRefIdeal.Read.val_main_v6_eq (F := Ideal) ..
    · rw [hc.2.2.2.1, AdMixIdeal.Hand.final7 m c, (hagree c).2.2.1, (hagree c).2.2.2]
      exact AdMixRefIdeal.Read.val_main_v12_eq (F := Ideal) ..

theorem frame_AdDown : quiescent_AdDownRefIdeal (hAdDownRefIdeal := AdDownRefIdeal.Gen.facts) := fun m ρ _ =>
  (θ_run AdDownRefIdeal.defs _ _).mono (fun r h => ⟨fun c => (h c).2.2.2.2, sem_eq_zero_of_no_sems (by decide) r.2⟩)
    (AdDownRefIdeal.Value.run m ρ)

theorem value_AdDown : algebraic_AdDownIdeal_AdDownRefIdeal (hAdDownIdeal := AdDownIdeal.Gen.facts) (hAdDownRefIdeal := AdDownRefIdeal.Gen.facts) := by
  pair_intro
  · run_from AdDownIdeal.Value.run_blocks m g
  · refine θ_run_mono (AdDownRefIdeal.Value.run m' g') fun r hr c => ?_
    have hc := hr c
    refine ⟨?_, ?_, ?_, ?_, hc.2.2.2.2⟩
    · rw [hc.1, AdDownIdeal.Hand.final4 m c, (hagree c).2.2.2]
      exact AdDownRefIdeal.Read.val_main_v1_eq (F := Ideal) ..
    · rw [hc.2.1, AdDownIdeal.Hand.final5 m c, (hagree c).1, (hagree c).2.1, (hagree c).2.2.1, (hagree c).2.2.2]
      exact AdDownRefIdeal.Read.val_main_v25_eq (F := Ideal) ..
    · rw [hc.2.2.1, AdDownIdeal.Hand.final6 m c, (hagree c).2.1, (hagree c).2.2.2]
      exact AdDownRefIdeal.Read.val_main_v6_eq (F := Ideal) ..
    · rw [hc.2.2.2.1, AdDownIdeal.Hand.final7 m c, (hagree c).2.2.1, (hagree c).2.2.2]
      exact AdDownRefIdeal.Read.val_main_v12_eq (F := Ideal) ..

theorem frame_AdRep : quiescent_AdRepRefIdeal (hAdRepRefIdeal := AdRepRefIdeal.Gen.facts) := fun m ρ _ =>
  (θ_run AdRepRefIdeal.defs _ _).mono (fun r h => ⟨fun c => (h c).2.2.2.2, sem_eq_zero_of_no_sems (by decide) r.2⟩)
    (AdRepRefIdeal.Value.run m ρ)

theorem value_AdRep : algebraic_AdRepIdeal_AdRepRefIdeal (hAdRepIdeal := AdRepIdeal.Gen.facts) (hAdRepRefIdeal := AdRepRefIdeal.Gen.facts) := by
  pair_intro
  · run_from AdRepIdeal.Value.run_blocks m g
  · run_from AdRepRefIdeal.Value.run m' g'
    · rw [AdRepIdeal.Hand.final4 m c]
      exact AdRepRefIdeal.Read.val_main_v1_eq ..
    · rw [AdRepIdeal.Hand.final5 m c]
      exact AdRepRefIdeal.Read.val_main_v25_eq ..
    · rw [AdRepIdeal.Hand.final6 m c]
      exact AdRepRefIdeal.Read.val_main_v6_eq ..
    · rw [AdRepIdeal.Hand.final7 m c]
      exact AdRepRefIdeal.Read.val_main_v12_eq ..

theorem frame_AdConv : quiescent_AdConvRefIdeal (hAdConvRefIdeal := AdConvRefIdeal.Gen.facts) := fun m ρ _ =>
  (θ_run AdConvRefIdeal.defs _ _).mono (fun r h => ⟨fun c => (h c).2.2.2.2, sem_eq_zero_of_no_sems (by decide) r.2⟩)
    (AdConvRefIdeal.Value.run m ρ)

theorem value_AdConv : algebraic_AdConvIdeal_AdConvRefIdeal (hAdConvIdeal := AdConvIdeal.Gen.facts) (hAdConvRefIdeal := AdConvRefIdeal.Gen.facts) := by
  pair_intro
  · run_from AdConvIdeal.Value.run_blocks m g
  · refine θ_run_mono (AdConvRefIdeal.Value.run m' g') fun r hr c => ?_
    have hc := hr c
    refine ⟨?_, ?_, ?_, ?_, hc.2.2.2.2⟩
    · rw [hc.1, AdConvIdeal.Hand.final4 m c, (hagree c).2.2.2]
      exact AdConvRefIdeal.Read.val_main_v0_eq (F := Ideal) ..
    · rw [hc.2.1, AdConvIdeal.Hand.final5 m c, (hagree c).1, (hagree c).2.1, (hagree c).2.2.1, (hagree c).2.2.2]
      exact AdConvRefIdeal.Read.val_main_v24_eq (F := Ideal) ..
    · rw [hc.2.2.1, AdConvIdeal.Hand.final6 m c, (hagree c).2.1, (hagree c).2.2.2]
      exact AdConvRefIdeal.Read.val_main_v5_eq (F := Ideal) ..
    · rw [hc.2.2.2.1, AdConvIdeal.Hand.final7 m c, (hagree c).2.2.1, (hagree c).2.2.2]
      exact AdConvRefIdeal.Read.val_main_v11_eq (F := Ideal) ..

theorem frame_AdBias : quiescent_AdBiasRefIdeal (hAdBiasRefIdeal := AdBiasRefIdeal.Gen.facts) := fun m ρ _ =>
  (θ_run AdBiasRefIdeal.defs _ _).mono (fun r h => ⟨fun c => (h c).2.2.2.2, sem_eq_zero_of_no_sems (by decide) r.2⟩)
    (AdBiasRefIdeal.Value.run m ρ)

theorem value_AdBias : algebraic_AdBiasIdeal_AdBiasRefIdeal (hAdBiasIdeal := AdBiasIdeal.Gen.facts) (hAdBiasRefIdeal := AdBiasRefIdeal.Gen.facts) := by
  pair_intro
  · run_from AdBiasIdeal.Value.run_blocks m g
  · refine θ_run_mono (AdBiasRefIdeal.Value.run m' g') fun r hr c => ?_
    have hc := hr c
    refine ⟨?_, ?_, ?_, ?_, hc.2.2.2.2⟩
    · rw [hc.1, AdBiasIdeal.Hand.final4 m c, (hagree c).2.2.2]
      exact AdBiasRefIdeal.Read.val_main_v0_eq (F := Ideal) ..
    · rw [hc.2.1, AdBiasIdeal.Hand.final5 m c, (hagree c).1, (hagree c).2.1, (hagree c).2.2.1, (hagree c).2.2.2]
      exact AdBiasRefIdeal.Read.val_main_v24_eq (F := Ideal) ..
    · rw [hc.2.2.1, AdBiasIdeal.Hand.final6 m c, (hagree c).2.1, (hagree c).2.2.2]
      exact AdBiasRefIdeal.Read.val_main_v5_eq (F := Ideal) ..
    · rw [hc.2.2.2.1, AdBiasIdeal.Hand.final7 m c, (hagree c).2.2.1, (hagree c).2.2.2]
      exact AdBiasRefIdeal.Read.val_main_v11_eq (F := Ideal) ..

theorem frame_AdMod : quiescent_AdModRefIdeal (hAdModRefIdeal := AdModRefIdeal.Gen.facts) := fun m ρ _ =>
  (θ_run AdModRefIdeal.defs _ _).mono (fun r h => ⟨fun c => (h c).2.2.2.2, sem_eq_zero_of_no_sems (by decide) r.2⟩)
    (AdModRefIdeal.Value.run m ρ)

theorem value_AdMod : algebraic_AdModIdeal_AdModRefIdeal (hAdModIdeal := AdModIdeal.Gen.facts) (hAdModRefIdeal := AdModRefIdeal.Gen.facts) := by
  pair_intro
  · run_from AdModIdeal.Value.run_blocks m g
  · refine θ_run_mono (AdModRefIdeal.Value.run m' g') fun r hr c => ?_
    have hc := hr c
    refine ⟨?_, ?_, ?_, ?_, hc.2.2.2.2⟩
    · rw [hc.1, AdModIdeal.Hand.final4 m c, (hagree c).2.2.2]
      exact AdModRefIdeal.Read.val_main_v0_eq (F := Ideal) ..
    · rw [hc.2.1, AdModIdeal.Hand.final5 m c, (hagree c).1, (hagree c).2.1, (hagree c).2.2.1, (hagree c).2.2.2]
      exact AdModRefIdeal.Read.val_main_v24_eq (F := Ideal) ..
    · rw [hc.2.2.1, AdModIdeal.Hand.final6 m c, (hagree c).2.1, (hagree c).2.2.2]
      exact AdModRefIdeal.Read.val_main_v5_eq (F := Ideal) ..
    · rw [hc.2.2.2.1, AdModIdeal.Hand.final7 m c, (hagree c).2.2.1, (hagree c).2.2.2]
      exact AdModRefIdeal.Read.val_main_v11_eq (F := Ideal) ..

theorem frame_AdCtx : quiescent_AdCtxRefIdeal (hAdCtxRefIdeal := AdCtxRefIdeal.Gen.facts) := fun m ρ _ =>
  (θ_run AdCtxRefIdeal.defs _ _).mono (fun r h => ⟨fun c => (h c).2.2.2.2, sem_eq_zero_of_no_sems (by decide) r.2⟩)
    (AdCtxRefIdeal.Value.run m ρ)

theorem value_AdCtx : algebraic_AdCtxIdeal_AdCtxRefIdeal (hAdCtxIdeal := AdCtxIdeal.Gen.facts) (hAdCtxRefIdeal := AdCtxRefIdeal.Gen.facts) := by
  pair_intro
  · run_from AdCtxIdeal.Value.run_blocks m g
  · refine θ_run_mono (AdCtxRefIdeal.Value.run m' g') fun r hr c => ?_
    have hc := hr c
    refine ⟨?_, ?_, ?_, ?_, hc.2.2.2.2⟩
    · rw [hc.1, AdCtxIdeal.Hand.final4 m c, (hagree c).2.2.2]
      exact AdCtxRefIdeal.Read.val_main_v0_eq (F := Ideal) ..
    · rw [hc.2.1, AdCtxIdeal.Hand.final5 m c, (hagree c).1, (hagree c).2.1, (hagree c).2.2.1, (hagree c).2.2.2]
      exact AdCtxRefIdeal.Read.val_main_v24_eq (F := Ideal) ..
    · rw [hc.2.2.1, AdCtxIdeal.Hand.final6 m c, (hagree c).2.1, (hagree c).2.2.2]
      exact AdCtxRefIdeal.Read.val_main_v5_eq (F := Ideal) ..
    · rw [hc.2.2.2.1, AdCtxIdeal.Hand.final7 m c, (hagree c).2.2.1, (hagree c).2.2.2]
      exact AdCtxRefIdeal.Read.val_main_v11_eq (F := Ideal) ..

theorem frame_Loss : quiescent_LossRefIdeal (hLossRefIdeal := LossRefIdeal.Gen.facts) := fun m ρ _ =>
  (θ_run LossRefIdeal.defs _ _).mono (fun r h => ⟨fun c => (h c).2.2.2, sem_eq_zero_of_no_sems (by decide) r.2⟩)
    (LossRefIdeal.Value.run m ρ)

theorem value_Loss : algebraic_LossIdeal_LossRefIdeal (hLossIdeal := LossIdeal.Gen.facts) (hLossRefIdeal := LossRefIdeal.Gen.facts) := by
  pair_intro
  · run_from LossIdeal.Value.run_blocks m g
  · run_from LossRefIdeal.Value.run m' g'
    · rw [LossIdeal.Hand.final3 m c]
      exact LossRefIdeal.Read.val_main_v52_eq ..
    · rw [LossIdeal.Hand.final4 m c]
      refine (LossRefIdeal.Read.val_main_v54_eq m' c).trans ?_
      simp only [hagree c]
    · rw [LossIdeal.Hand.final5 m c]
      exact LossRefIdeal.Read.val_main_v55_eq ..

theorem frame_AdaFwd : quiescent_AdaFwdRefIdeal (hAdaFwdRefIdeal := AdaFwdRefIdeal.Gen.facts) := fun m ρ _ =>
  (θ_run AdaFwdRefIdeal.defs _ _).mono (fun r h => ⟨fun c => (h c).2, sem_eq_zero_of_no_sems (by decide) r.2⟩)
    (AdaFwdRefIdeal.Value.run m ρ)

theorem value_AdaFwd : algebraic_AdaFwdIdeal_AdaFwdRefIdeal (hAdaFwdIdeal := AdaFwdIdeal.Gen.facts) (hAdaFwdRefIdeal := AdaFwdRefIdeal.Gen.facts) := by
  pair_intro
  · run_from AdaFwdIdeal.Value.run_blocks m g
  · refine θ_run_mono (AdaFwdRefIdeal.Value.run m' g') fun r hr c => ?_
    have hc := hr c
    refine ⟨?_, hc.2⟩
    · rw [hc.1, AdaFwdIdeal.Hand.final4 m c, (hagree c).1, (hagree c).2.1, (hagree c).2.2.1, (hagree c).2.2.2]
      exact AdaFwdRefIdeal.Read.val_main_v45_eq (F := Ideal) ..

theorem frame_AdaBwd : quiescent_AdaBwdRefIdeal (hAdaBwdRefIdeal := AdaBwdRefIdeal.Gen.facts) := fun m ρ _ =>
  (θ_run AdaBwdRefIdeal.defs _ _).mono (fun r h => ⟨fun c => (h c).2.2, sem_eq_zero_of_no_sems (by decide) r.2⟩)
    (AdaBwdRefIdeal.Value.run m ρ)

theorem value_AdaBwd : algebraic_AdaBwdIdeal_AdaBwdRefIdeal (hAdaBwdIdeal := AdaBwdIdeal.Gen.facts) (hAdaBwdRefIdeal := AdaBwdRefIdeal.Gen.facts) := by
  pair_intro
  · run_from AdaBwdIdeal.Value.run_blocks m g
  · run_from AdaBwdRefIdeal.Value.run m' g'
    · rw [AdaBwdIdeal.Hand.final6 m c]
      exact AdaBwdRefIdeal.Read.val_main_v68_eq ..
    · rw [AdaBwdIdeal.Hand.final7 m c]
      exact AdaBwdRefIdeal.Read.val_main_v70_eq ..

theorem frame_LbFwd : quiescent_LbFwdRefIdeal (hLbFwdRefIdeal := LbFwdRefIdeal.Gen.facts) := fun m ρ _ =>
  (θ_run LbFwdRefIdeal.defs _ _).mono (fun r h => ⟨fun c => (h c).2, sem_eq_zero_of_no_sems (by decide) r.2⟩)
    (LbFwdRefIdeal.Value.run m ρ)

theorem value_LbFwd : algebraic_LbFwdIdeal_LbFwdRefIdeal (hLbFwdIdeal := LbFwdIdeal.Gen.facts) (hLbFwdRefIdeal := LbFwdRefIdeal.Gen.facts) := by
  pair_intro
  · run_from LbFwdIdeal.Value.run_blocks m g
  · refine θ_run_mono (LbFwdRefIdeal.Value.run m' g') fun r hr c => ?_
    have hc := hr c
    refine ⟨?_, hc.2⟩
    · rw [hc.1, LbFwdIdeal.Hand.final1 m c, (hagree c)]
      exact LbFwdRefIdeal.Read.val_main_v17_eq (F := Ideal) ..

theorem frame_LbBwd : quiescent_LbBwdRefIdeal (hLbBwdRefIdeal := LbBwdRefIdeal.Gen.facts) := fun m ρ _ =>
  (θ_run LbBwdRefIdeal.defs _ _).mono (fun r h => ⟨fun c => (h c).2, sem_eq_zero_of_no_sems (by decide) r.2⟩)
    (LbBwdRefIdeal.Value.run m ρ)

theorem value_LbBwd : algebraic_LbBwdIdeal_LbBwdRefIdeal_pre_finite (hLbBwdIdeal := LbBwdIdeal.Gen.facts) (hLbBwdRefIdeal := LbBwdRefIdeal.Gen.facts) (hPre_finite := Pre_finite.Gen.facts) := by
  pair_intro
  · run_from LbBwdIdeal.Value.run_blocks m g
  · refine θ_run_mono (LbBwdRefIdeal.Value.run m' g') fun r hr c => ?_
    have hc := hr c
    refine ⟨?_, hc.2⟩
    · rw [hc.1, LbBwdIdeal.Hand.grad2 m c (LbBwdIdeal.Hand.real_of_pre _ _ (hpre c)), ← (hagree c).1, ← (hagree c).2]
      exact LbBwdRefIdeal.Read.val_main_v55_eq (F := Ideal) ..

theorem claim : Claim := ⟨WIn.Gen.facts, WInIdeal.Gen.facts, WInRefIdeal.Gen.facts, WUp.Gen.facts, WUpIdeal.Gen.facts, WUpRefIdeal.Gen.facts, WDown.Gen.facts, WDownIdeal.Gen.facts, WDownRefIdeal.Gen.facts, WMix.Gen.facts, WMixIdeal.Gen.facts, WMixRefIdeal.Gen.facts, FfUp.Gen.facts, FfUpIdeal.Gen.facts, FfUpRefIdeal.Gen.facts, InProj.Gen.facts, InProjIdeal.Gen.facts, InProjRefIdeal.Gen.facts, InFwd.Gen.facts, InFwdIdeal.Gen.facts, InFwdRefIdeal.Gen.facts, UpFwd.Gen.facts, UpFwdIdeal.Gen.facts, UpFwdRefIdeal.Gen.facts, UpLast.Gen.facts, UpLastIdeal.Gen.facts, UpLastRefIdeal.Gen.facts, FfSkip.Gen.facts, FfSkipIdeal.Gen.facts, FfSkipRefIdeal.Gen.facts, InLat.Gen.facts, InLatIdeal.Gen.facts, InLatRefIdeal.Gen.facts, AdIn.Gen.facts, AdInIdeal.Gen.facts, AdInRefIdeal.Gen.facts, AdUp.Gen.facts, AdUpIdeal.Gen.facts, AdUpRefIdeal.Gen.facts, AdMix.Gen.facts, AdMixIdeal.Gen.facts, AdMixRefIdeal.Gen.facts, AdDown.Gen.facts, AdDownIdeal.Gen.facts, AdDownRefIdeal.Gen.facts, AdRep.Gen.facts, AdRepIdeal.Gen.facts, AdRepRefIdeal.Gen.facts, AdConv.Gen.facts, AdConvIdeal.Gen.facts, AdConvRefIdeal.Gen.facts, AdBias.Gen.facts, AdBiasIdeal.Gen.facts, AdBiasRefIdeal.Gen.facts, AdMod.Gen.facts, AdModIdeal.Gen.facts, AdModRefIdeal.Gen.facts, AdCtx.Gen.facts, AdCtxIdeal.Gen.facts, AdCtxRefIdeal.Gen.facts, Loss.Gen.facts, LossIdeal.Gen.facts, LossRefIdeal.Gen.facts, AdaFwd.Gen.facts, AdaFwdIdeal.Gen.facts, AdaFwdRefIdeal.Gen.facts, AdaBwd.Gen.facts, AdaBwdIdeal.Gen.facts, AdaBwdRefIdeal.Gen.facts, LbFwd.Gen.facts, LbFwdIdeal.Gen.facts, LbFwdRefIdeal.Gen.facts, LbBwd.Gen.facts, LbBwdIdeal.Gen.facts, LbBwdRefIdeal.Gen.facts, Pre_finite.Gen.facts,
  fun m ρ _ => WIn.Gen.frame m ρ,
  fun m ρ _ => WInIdeal.Gen.frame m ρ,
  frame_WIn,
  fun m ρ _ => WUp.Gen.frame m ρ,
  fun m ρ _ => WUpIdeal.Gen.frame m ρ,
  frame_WUp,
  fun m ρ _ => WDown.Gen.frame m ρ,
  fun m ρ _ => WDownIdeal.Gen.frame m ρ,
  frame_WDown,
  fun m ρ _ => WMix.Gen.frame m ρ,
  fun m ρ _ => WMixIdeal.Gen.frame m ρ,
  frame_WMix,
  fun m ρ _ => FfUp.Gen.frame m ρ,
  fun m ρ _ => FfUpIdeal.Gen.frame m ρ,
  frame_FfUp,
  fun m ρ _ => InProj.Gen.frame m ρ,
  fun m ρ _ => InProjIdeal.Gen.frame m ρ,
  frame_InProj,
  fun m ρ _ => InFwd.Gen.frame m ρ,
  fun m ρ _ => InFwdIdeal.Gen.frame m ρ,
  frame_InFwd,
  fun m ρ _ => UpFwd.Gen.frame m ρ,
  fun m ρ _ => UpFwdIdeal.Gen.frame m ρ,
  frame_UpFwd,
  fun m ρ _ => UpLast.Gen.frame m ρ,
  fun m ρ _ => UpLastIdeal.Gen.frame m ρ,
  frame_UpLast,
  fun m ρ _ => FfSkip.Gen.frame m ρ,
  fun m ρ _ => FfSkipIdeal.Gen.frame m ρ,
  frame_FfSkip,
  fun m ρ _ => InLat.Gen.frame m ρ,
  fun m ρ _ => InLatIdeal.Gen.frame m ρ,
  frame_InLat,
  fun m ρ _ => AdIn.Gen.frame m ρ,
  fun m ρ _ => AdInIdeal.Gen.frame m ρ,
  frame_AdIn,
  fun m ρ _ => AdUp.Gen.frame m ρ,
  fun m ρ _ => AdUpIdeal.Gen.frame m ρ,
  frame_AdUp,
  fun m ρ _ => AdMix.Gen.frame m ρ,
  fun m ρ _ => AdMixIdeal.Gen.frame m ρ,
  frame_AdMix,
  fun m ρ _ => AdDown.Gen.frame m ρ,
  fun m ρ _ => AdDownIdeal.Gen.frame m ρ,
  frame_AdDown,
  fun m ρ _ => AdRep.Gen.frame m ρ,
  fun m ρ _ => AdRepIdeal.Gen.frame m ρ,
  frame_AdRep,
  fun m ρ _ => AdConv.Gen.frame m ρ,
  fun m ρ _ => AdConvIdeal.Gen.frame m ρ,
  frame_AdConv,
  fun m ρ _ => AdBias.Gen.frame m ρ,
  fun m ρ _ => AdBiasIdeal.Gen.frame m ρ,
  frame_AdBias,
  fun m ρ _ => AdMod.Gen.frame m ρ,
  fun m ρ _ => AdModIdeal.Gen.frame m ρ,
  frame_AdMod,
  fun m ρ _ => AdCtx.Gen.frame m ρ,
  fun m ρ _ => AdCtxIdeal.Gen.frame m ρ,
  frame_AdCtx,
  fun m ρ _ => Loss.Gen.frame m ρ,
  fun m ρ _ => LossIdeal.Gen.frame m ρ,
  frame_Loss,
  fun m ρ _ => AdaFwd.Gen.frame m ρ,
  fun m ρ _ => AdaFwdIdeal.Gen.frame m ρ,
  frame_AdaFwd,
  fun m ρ _ => AdaBwd.Gen.frame m ρ,
  fun m ρ _ => AdaBwdIdeal.Gen.frame m ρ,
  frame_AdaBwd,
  fun m ρ _ => LbFwd.Gen.frame m ρ,
  fun m ρ _ => LbFwdIdeal.Gen.frame m ρ,
  frame_LbFwd,
  fun m ρ _ => LbBwd.Gen.frame m ρ,
  fun m ρ _ => LbBwdIdeal.Gen.frame m ρ,
  fun m ρ _ => LbBwdIdeal.Gen.frame m ρ,
  frame_LbBwd,
  fun m ρ _ => frame_LbBwd m ρ trivial,
  trivial,
  value_WIn,
  trivial,
  value_WUp,
  trivial,
  value_WDown,
  trivial,
  value_WMix,
  trivial,
  value_FfUp,
  trivial,
  value_InProj,
  trivial,
  value_InFwd,
  trivial,
  value_UpFwd,
  trivial,
  value_UpLast,
  trivial,
  value_FfSkip,
  trivial,
  value_InLat,
  trivial,
  value_AdIn,
  trivial,
  value_AdUp,
  trivial,
  value_AdMix,
  trivial,
  value_AdDown,
  trivial,
  value_AdRep,
  trivial,
  value_AdConv,
  trivial,
  value_AdBias,
  trivial,
  value_AdMod,
  trivial,
  value_AdCtx,
  trivial,
  value_Loss,
  trivial,
  value_AdaFwd,
  trivial,
  value_AdaBwd,
  trivial,
  value_LbFwd,
  trivial,
  value_LbBwd⟩

end Cert.Proof

end
